-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((((Real.log 2)⁻¹)⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)) (v4 : (c : Dev Cert.KernelIdeal.nD) → Buf (Elt Ideal) ((c.tc : Thread Cert.KernelIdeal.nD Cert.KernelIdeal.τ).loc Cert.KernelIdeal.main_v48_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_v48_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v74) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  IdealRules.named_const.Statement Cert.Kernel29Ideal.κ "qscale" .f32 0x3E0293EE#32 (((Real.sqrt 128)⁻¹ * (Real.log 2)⁻¹ : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v13) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)) (v2 : (c : Dev Cert.Kernel30Ideal.nD) → Buf (Elt Ideal) ((c.tc : Thread Cert.Kernel30Ideal.nD Cert.Kernel30Ideal.τ).loc Cert.Kernel30Ideal.main_v4_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_v4_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v32) = v0 c
          ∧ r.2.mem ((c.tc : Thread Cert.Reference30Ideal.nD Cert.Reference30Ideal.τ).loc Cert.Reference30Ideal.main_v33) = v1 c
          ∧ r.2.mem ((c.tc : Thread Cert.Reference30Ideal.nD Cert.Reference30Ideal.τ).loc Cert.Reference30Ideal.main_v34) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v2_0)) (v1 : (c : Dev Cert.Kernel31Ideal.nD) → Buf (Elt Ideal) ((c.tc : Thread Cert.Kernel31Ideal.nD Cert.Kernel31Ideal.τ).loc Cert.Kernel31Ideal.main_v2_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v2_0) = v0 c
          ∧ r.2.mem ((c.tc : Thread Cert.Kernel31Ideal.nD Cert.Kernel31Ideal.τ).loc Cert.Kernel31Ideal.main_v2_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v17) = v0 c
          ∧ r.2.mem ((c.tc : Thread Cert.Reference31Ideal.nD Cert.Reference31Ideal.τ).loc Cert.Reference31Ideal.main_v18) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v3) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v17) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v2) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v7) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite.lean ====
abbrev S8192x1024 : Shape := ⟨2, ![8192, 1024]⟩
abbrev S8x8192 : Shape := ⟨2, ![8, 8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn_part1 {F : FTy → Type} [FloatOps F] (main_arg4 : FVec F S8192x1024 .f32) (main_v13 : IVec S_ 1) (main_v16 : IVec S8x8192 1) : IVec S_ 1 :=
  let main_c_5 : IVec S_ 1 := constantI S_ 1 1#1
  let main_v17 : IVec S_ 1 := (fun x v => Host.reduce IntOp.andi x v reducesTo_S8x8192_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S8x8192 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8x8192 .f32 := Host.absf main_arg3
  let main_cst_4 : FVec F S_ .f32 := constant S_ .f32 0x7F800000#32
  let main_v15 : FVec F S8x8192 .f32 := broadcastInDim S8x8192 ![] bcast_S_S8x8192 main_cst_4
  let main_v16 : IVec S8x8192 1 := cmpf .olt main_v14 main_v15
  fn_part1 (F := F) main_arg4 main_v13 main_v16
-- ==== Pre_finite6.lean ====
abbrev S8192x11264 : Shape := ⟨2, ![8192, 11264]⟩
abbrev S8192x5632 : Shape := ⟨2, ![8192, 5632]⟩
abbrev S_ : Shape := ⟨0, ![]⟩

class Facts : Prop where
  bcast_S_S8192x11264 : S_.BroadcastsInDim S8192x11264 (![] : Fin 0 → Fin S8192x11264.rank)
  reducesTo_S8192x11264_S_d0_1 : S8192x11264.ReducesTo [0, 1] S_
  h_S_ : 0 < S_.numel
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x11264 .f32) (main_arg1 : FVec F S8192x5632 .f32) : IVec S_ 1 :=
  let main_v0 : FVec F S8192x11264 .f32 := Host.absf main_arg0
  let main_cst : FVec F S_ .f32 := constant S_ .f32 0x7F800000#32
  let main_v1 : FVec F S8192x11264 .f32 := broadcastInDim S8192x11264 ![] bcast_S_S8192x11264 main_cst
  let main_v2 : IVec S8192x11264 1 := cmpf .olt main_v0 main_v1
  let main_c : IVec S_ 1 := constantI S_ 1 1#1
  let main_v3 : IVec S_ 1 := (fun x v => Host.reduce IntOp.andi x v reducesTo_S8192x11264_S_d0_1 h_S_) main_v2 main_c
  let main_v4 : FVec F S8192x5632 .f32 := Host.absf main_arg1
  let main_cst_0 : FVec F S_ .f32 := constant S_ .f32 0x7F800000#32
  let main_v5 : FVec F S8192x5632 .f32 := broadcastInDim S8192x5632 ![] bcast_S_S8192x5632 main_cst_0
  let main_v6 : IVec S8192x5632 1 := cmpf .olt main_v4 main_v5
  let main_c_1 : IVec S_ 1 := constantI S_ 1 1#1
  let main_v7 : IVec S_ 1 := (fun x v => Host.reduce IntOp.andi x v reducesTo_S8192x5632_S_d0_1 h_S_) main_v6 main_c_1
  let main_v8 : IVec S_ 1 := andi main_v3 main_v7
  main_v8
-- ==== Kernel.lean ====
abbrev S8192x1024 : Shape := ⟨2, ![8192, 1024]⟩
abbrev S8x8192 : Shape := ⟨2, ![8, 8192]⟩
abbrev S_ : Shape := ⟨0, ![]⟩
abbrev S8192 : Shape := ⟨1, ![8192]⟩
abbrev S8192x8x128 : Shape := ⟨3, ![8192, 8, 128]⟩
abbrev S8x8192x8192 : Shape := ⟨3, ![8, 8192, 8192]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x8192x1 : Shape := ⟨3, ![8, 8192, 1]⟩
abbrev S8x128x8192 : Shape := ⟨3, ![8, 128, 8192]⟩
abbrev S8192x8 : Shape := ⟨2, ![8192, 8]⟩
abbrev S8x8192x6 : Shape := ⟨3, ![8, 8192, 6]⟩
abbrev S8x8192x8 : Shape := ⟨3, ![8, 8192, 8]⟩
abbrev S8192x3072 : Shape := ⟨2, ![8192, 3072]⟩
abbrev S8192x128 : Shape := ⟨2, ![8192, 128]⟩
abbrev S1024x128 : Shape := ⟨2, ![1024, 128]⟩
abbrev S1x8192x8 : Shape := ⟨3, ![1, 8192, 8]⟩
abbrev S1x1x1024 : Shape := ⟨3, ![1, 1, 1024]⟩
abbrev S1x8192x1 : Shape := ⟨3, ![1, 8192, 1]⟩
abbrev S1x1024 : Shape := ⟨2, ![1, 1024]⟩
abbrev S512x128 : Shape := ⟨2, ![512, 128]⟩
abbrev S1x512x8 : Shape := ⟨3, ![1, 512, 8]⟩
abbrev S512x8 : Shape := ⟨2, ![512, 8]⟩
abbrev S512x1024 : Shape := ⟨2, ![512, 1024]⟩
abbrev S512x1 : Shape := ⟨2, ![512, 1]⟩
abbrev S1024 : Shape := ⟨1, ![1024]⟩
abbrev S1x512x1 : Shape := ⟨3, ![1, 512, 1]⟩
abbrev S512 : Shape := ⟨1, ![512]⟩

abbrev nBuf : Space → Nat
  | .hbm => 70
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x8192, .f32⟩
  | .hbm, ⟨4, _⟩ => ⟨S8192x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192, .i32⟩
  | .hbm, ⟨14, _⟩ => ⟨S8192x8x128, .f32⟩
  | .hbm, ⟨15, _⟩ => ⟨S8192x8x128, .f32⟩
  | .hbm, ⟨16, _⟩ => ⟨S8x8192x8192, .f32⟩
  | .hbm, ⟨17, _⟩ => ⟨S8x8192x8192, .f32⟩
  | .hbm, ⟨18, _⟩ => ⟨S8x8192x8192, .f32⟩
  | .hbm, ⟨19, _⟩ => ⟨S8x1x8192, .f32⟩
  | .hbm, ⟨20, _⟩ => ⟨S8x8192x8192, .f32⟩
  | .hbm, ⟨21, _⟩ => ⟨S8x8192x8192, .f32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x1, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8192x8x128, .f32⟩
  | .hbm, ⟨46, _⟩ => ⟨S8x128x8192, .f32⟩
  | .hbm, ⟨47, _⟩ => ⟨S8192x8x128, .f32⟩
  | .hbm, ⟨48, _⟩ => ⟨S8192x8x128, .f32⟩
  | .hbm, ⟨49, _⟩ => ⟨S8192x8x128, .f32⟩
  | .hbm, ⟨50, _⟩ => ⟨S_, .f32⟩
  | .hbm, ⟨51, _⟩ => ⟨S8192x8, .f32⟩
  | .hbm, ⟨52, _⟩ => ⟨S8x8192, .f32⟩
  | .hbm, ⟨53, _⟩ => ⟨S8x8192x1, .f32⟩
  | .hbm, ⟨54, _⟩ => ⟨S8x8192x1, .f32⟩
  | .hbm, ⟨55, _⟩ => ⟨S_, .f32⟩
  | .hbm, ⟨56, _⟩ => ⟨S8x8192x6, .f32⟩
  | .hbm, ⟨57, _⟩ => ⟨S8x8192x8, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x3072, .f32⟩
  | .hbm, ⟨62, _⟩ => ⟨S8192x3072, .bf16⟩
  | .hbm, ⟨63, _⟩ => ⟨S8192x1024, .bf16⟩
  | .hbm, ⟨64, _⟩ => ⟨S8x1x8192, .f32⟩
  | .hbm, ⟨65, _⟩ => ⟨S8192x1024, .bf16⟩
  | .hbm, ⟨66, _⟩ => ⟨S8192x1024, .bf16⟩
  | .hbm, ⟨67, _⟩ => ⟨S8192x1024, .bf16⟩
  | .hbm, ⟨68, _⟩ => ⟨S8x1x8192, .f32⟩
  | .hbm, ⟨69, _⟩ => ⟨S8x8192x1, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x8192x8, .f32⟩
  | .local _ .vmem, ⟨9, _⟩ => ⟨S1x8192x8, .f32⟩
  | .local _ .vmem, ⟨10, _⟩ => ⟨S1x1x1024, .f32⟩
  | .local _ .vmem, ⟨11, _⟩ => ⟨S1x1x1024, .f32⟩
  | .local _ .vmem, ⟨12, _⟩ => ⟨S8192x128, .bf16⟩
  | .local _ .vmem, ⟨13, _⟩ => ⟨S8192x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1x1x1024, .f32⟩
  | .local _ .vmem, ⟨19, _⟩ => ⟨S1x1x1024, .f32⟩
  | .local _ .vmem, ⟨20, _⟩ => ⟨S1x8192x1, .f32⟩
  | .local _ .vmem, ⟨21, _⟩ => ⟨S1x8192x1, .f32⟩
  | .local _ .vmem, ⟨22, _⟩ => ⟨S8192x128, .f32⟩
  | .local _ .vmem, ⟨23, _⟩ => ⟨S1024x128, .f32⟩
  | .local _ .vmem, ⟨24, _⟩ => ⟨S1024x128, .f32⟩
  | .local _ .vmem, ⟨25, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48_0 : Ref sig .tc := ⟨.hbm, 65, rfl⟩
abbrev main_v48_1 : Ref sig .tc := ⟨.hbm, 66, rfl⟩
abbrev main_v48_2 : Ref sig .tc := ⟨.hbm, 67, rfl⟩
abbrev main_v48_3 : Ref sig .tc := ⟨.hbm, 68, rfl⟩
abbrev main_v48_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2_i32 : BitVec 32 := 2#32
  let v23 : BitVec 32 := Scalar.muli arg1 c2_i32
  let c0_i32_16 : BitVec 32 := 0#32
  let v24 : BitVec 32 := Scalar.addi v23 c0_i32_16
  let c512_i32 : BitVec 32 := 512#32
  let v25 : BitVec 32 := Scalar.muli v24 c512_i32
  v25
def k0_off1 (i : grid0.Coords) (c0_i32_16 : BitVec 32) : Fin 2 → Nat :=
  let arg1 : BitVec 32 := BitVec.ofNat 32 (i 1).val
  let c2_i32 : BitVec 32 := 2#32
  let v23 : BitVec 32 := Scalar.muli arg1 c2_i32
  let v24 : BitVec 32 := Scalar.addi v23 c0_i32_16
  let c512_i32 : BitVec 32 := 512#32
  let v25 : BitVec 32 := Scalar.muli v24 c512_i32
  let v26 : BitVec 32 := v25
  let v27 : Index := Scalar.indexCast v26
  let c0_17 : Index := 0#32
  ![v27.toNat, 0]
def k0_off2 (i : grid0.Coords) (c0_i32_16 : BitVec 32) : Fin 3 → Nat :=
  let c0_19 : Index := 0#32
  let arg1 : BitVec 32 := BitVec.ofNat 32 (i 1).val
  let c2_i32 : BitVec 32 := 2#32
  let v23 : BitVec 32 := Scalar.muli arg1 c2_i32
  let v24 : BitVec 32 := Scalar.addi v23 c0_i32_16
  let c512_i32 : BitVec 32 := 512#32
  let v25 : BitVec 32 := Scalar.muli v24 c512_i32
  let v26 : BitVec 32 := v25
  let v33 : Index := Scalar.indexCast v26
  let c0_20 : Index := 0#32
  ![0, v33.toNat, 0]
def k0_off3 (i : grid0.Coords) (c0_i32_16 : BitVec 32) : Fin 3 → Nat :=
  let c0_44 : Index := 0#32
  let arg1 : BitVec 32 := BitVec.ofNat 32 (i 1).val
  let c2_i32 : BitVec 32 := 2#32
  let v23 : BitVec 32 := Scalar.muli arg1 c2_i32
  let v24 : BitVec 32 := Scalar.addi v23 c0_i32_16
  let c512_i32 : BitVec 32 := 512#32
  let v25 : BitVec 32 := Scalar.muli v24 c512_i32
  let v26 : BitVec 32 := v25
  let v86 : Index := Scalar.indexCast v26
  let c0_45 : Index := 0#32
  ![0, v86.toNat, 0]
def k0_mult2 (i : grid0.Coords) : BitVec 32 :=
  let arg1 : BitVec 32 := BitVec.ofNat 32 (i 1).val
  let c2_i32_49 : BitVec 32 := 2#32
  let v96 : BitVec 32 := Scalar.muli arg1 c2_i32_49
  let c1_i32 : BitVec 32 := 1#32
  let v97 : BitVec 32 := Scalar.addi v96 c1_i32
  let c512_i32_50 : BitVec 32 := 512#32
  let v98 : BitVec 32 := Scalar.muli v97 c512_i32_50
  v98
@[reducible] def k0_t1_loop (i : grid0.Coords) : Scf.Loop 32 :=
  let arg1 : BitVec 32 := BitVec.ofNat 32 (i 1).val
  let c1_i32_83 : BitVec 32 := 1#32
  let v169 : BitVec 32 := Scalar.addi arg1 c1_i32_83
  let c2_i32_84 : BitVec 32 := 2#32
  let v170 : BitVec 32 := Scalar.muli v169 c2_i32_84
  let c16_i32 : BitVec 32 := 16#32
  let v171 : BitVec 32 := Scalar.subi c16_i32 v170
  let c1_i32_86 : BitVec 32 := 1#32
  let v173 : BitVec 32 := Scalar.divsi v171 c1_i32_86
  let v174 : BitVec 32 := Scalar.muli v173 c1_i32_86
  let v175 : BitVec 32 := Scalar.addi v170 v174
  let c1_i32_87 : BitVec 32 := 1#32
  ⟨v170, v175, c1_i32_87⟩
def k0_mult3 (i : grid0.Coords) (k0_t1 : Fin (k0_t1_loop i).trips) : BitVec 32 :=
  let arg1 : BitVec 32 := BitVec.ofNat 32 (i 1).val
  let c1_i32_83 : BitVec 32 := 1#32
  let v169 : BitVec 32 := Scalar.addi arg1 c1_i32_83
  let c2_i32_84 : BitVec 32 := 2#32
  let v170 : BitVec 32 := Scalar.muli v169 c2_i32_84
  let c1_i32_87 : BitVec 32 := 1#32
  let arg17 : BitVec 32 := Scf.iv v170 c1_i32_87 k0_t1
  let c512_i32_104 : BitVec 32 := 512#32
  let v191 : BitVec 32 := Scalar.muli arg17 c512_i32_104
  v191
def k0_off4 (i : grid0.Coords) (k0_t1 : Fin (k0_t1_loop i).trips) : Fin 2 → Nat :=
  let arg1 : BitVec 32 := BitVec.ofNat 32 (i 1).val
  let c1_i32_83 : BitVec 32 := 1#32
  let v169 : BitVec 32 := Scalar.addi arg1 c1_i32_83
  let c2_i32_84 : BitVec 32 := 2#32
  let v170 : BitVec 32 := Scalar.muli v169 c2_i32_84
  let c1_i32_87 : BitVec 32 := 1#32
  let arg17 : BitVec 32 := Scf.iv v170 c1_i32_87 k0_t1
  let c512_i32_104 : BitVec 32 := 512#32
  let v191 : BitVec 32 := Scalar.muli arg17 c512_i32_104
  let v192 : BitVec 32 := v191
  let v193 : Index := Scalar.indexCast v192
  let c0_105 : Index := 0#32
  ![v193.toNat, 0]
def k0_off5 (i : grid0.Coords) (k0_t1 : Fin (k0_t1_loop i).trips) : Fin 3 → Nat :=
  let c0_107 : Index := 0#32
  let arg1 : BitVec 32 := BitVec.ofNat 32 (i 1).val
  let c1_i32_83 : BitVec 32 := 1#32
  let v169 : BitVec 32 := Scalar.addi arg1 c1_i32_83
  let c2_i32_84 : BitVec 32 := 2#32
  let v170 : BitVec 32 := Scalar.muli v169 c2_i32_84
  let c1_i32_87 : BitVec 32 := 1#32
  let arg17 : BitVec 32 := Scf.iv v170 c1_i32_87 k0_t1
  let c512_i32_104 : BitVec 32 := 512#32
  let v191 : BitVec 32 := Scalar.muli arg17 c512_i32_104
  let v192 : BitVec 32 := v191
  let v199 : Index := Scalar.indexCast v192
  let c0_108 : Index := 0#32
  ![0, v199.toNat, 0]
def k0_off6 (i : grid0.Coords) (k0_t1 : Fin (k0_t1_loop i).trips) : Fin 3 → Nat :=
  let c0_130 : Index := 0#32
  let arg1 : BitVec 32 := BitVec.ofNat 32 (i 1).val
  let c1_i32_83 : BitVec 32 := 1#32
  let v169 : BitVec 32 := Scalar.addi arg1 c1_i32_83
  let c2_i32_84 : BitVec 32 := 2#32
  let v170 : BitVec 32 := Scalar.muli v169 c2_i32_84
  let c1_i32_87 : BitVec 32 := 1#32
  let arg17 : BitVec 32 := Scf.iv v170 c1_i32_87 k0_t1
  let c512_i32_104 : BitVec 32 := 512#32
  let v191 : BitVec 32 := Scalar.muli arg17 c512_i32_104
  let v192 : BitVec 32 := v191
  let v245 : Index := Scalar.indexCast v192
  let c0_131 : Index := 0#32
  ![0, v245.toNat, 0]
@[reducible] def k0_t2_loop (i : grid0.Coords) : Scf.Loop 32 :=
  let arg1 : BitVec 32 := BitVec.ofNat 32 (i 1).val
  let c1_i32_83 : BitVec 32 := 1#32
  let v169 : BitVec 32 := Scalar.addi arg1 c1_i32_83
  let c2_i32_84 : BitVec 32 := 2#32
  let v170 : BitVec 32 := Scalar.muli v169 c2_i32_84
  let c16_i32 : BitVec 32 := 16#32
  let v171 : BitVec 32 := Scalar.subi c16_i32 v170
  let c1_i32_86 : BitVec 32 := 1#32
  let v173 : BitVec 32 := Scalar.divsi v171 c1_i32_86
  let v174 : BitVec 32 := Scalar.muli v173 c1_i32_86
  let v175 : BitVec 32 := Scalar.addi v170 v174
  let v172 : BitVec 32 := Scalar.addi v170 v171
  let c1_i32_88 : BitVec 32 := 1#32
  ⟨v175, v172, c1_i32_88⟩
def k0_mult4 (i : grid0.Coords) (k0_t2 : Fin (k0_t2_loop i).trips) : BitVec 32 :=
  let arg1 : BitVec 32 := BitVec.ofNat 32 (i 1).val
  let c1_i32_83 : BitVec 32 := 1#32
  let v169 : BitVec 32 := Scalar.addi arg1 c1_i32_83
  let c2_i32_84 : BitVec 32 := 2#32
  let v170 : BitVec 32 := Scalar.muli v169 c2_i32_84
  let c16_i32 : BitVec 32 := 16#32
  let v171 : BitVec 32 := Scalar.subi c16_i32 v170
  let c1_i32_86 : BitVec 32 := 1#32
  let v173 : BitVec 32 := Scalar.divsi v171 c1_i32_86
  let v174 : BitVec 32 := Scalar.muli v173 c1_i32_86
  let v175 : BitVec 32 := Scalar.addi v170 v174
  let c1_i32_88 : BitVec 32 := 1#32
  let arg17 : BitVec 32 := Scf.iv v175 c1_i32_88 k0_t2
  let c512_i32_104 : BitVec 32 := 512#32
  let v191 : BitVec 32 := Scalar.muli arg17 c512_i32_104
  v191
def k0_off7 (i : grid0.Coords) (k0_t2 : Fin (k0_t2_loop i).trips) : Fin 2 → Nat :=
  let arg1 : BitVec 32 := BitVec.ofNat 32 (i 1).val
  let c1_i32_83 : BitVec 32 := 1#32
  let v169 : BitVec 32 := Scalar.addi arg1 c1_i32_83
  let c2_i32_84 : BitVec 32 := 2#32
  let v170 : BitVec 32 := Scalar.muli v169 c2_i32_84
  let c16_i32 : BitVec 32 := 16#32
  let v171 : BitVec 32 := Scalar.subi c16_i32 v170
  let c1_i32_86 : BitVec 32 := 1#32
  let v173 : BitVec 32 := Scalar.divsi v171 c1_i32_86
  let v174 : BitVec 32 := Scalar.muli v173 c1_i32_86
  let v175 : BitVec 32 := Scalar.addi v170 v174
  let c1_i32_88 : BitVec 32 := 1#32
  let arg17 : BitVec 32 := Scf.iv v175 c1_i32_88 k0_t2
  let c512_i32_104 : BitVec 32 := 512#32
  let v191 : BitVec 32 := Scalar.muli arg17 c512_i32_104
  let v192 : BitVec 32 := v191
  let v193 : Index := Scalar.indexCast v192
  let c0_105 : Index := 0#32
  ![v193.toNat, 0]
def k0_off8 (i : grid0.Coords) (k0_t2 : Fin (k0_t2_loop i).trips) : Fin 3 → Nat :=
  let c0_107 : Index := 0#32
  let arg1 : BitVec 32 := BitVec.ofNat 32 (i 1).val
  let c1_i32_83 : BitVec 32 := 1#32
  let v169 : BitVec 32 := Scalar.addi arg1 c1_i32_83
  let c2_i32_84 : BitVec 32 := 2#32
  let v170 : BitVec 32 := Scalar.muli v169 c2_i32_84
  let c16_i32 : BitVec 32 := 16#32
  let v171 : BitVec 32 := Scalar.subi c16_i32 v170
  let c1_i32_86 : BitVec 32 := 1#32
  let v173 : BitVec 32 := Scalar.divsi v171 c1_i32_86
  let v174 : BitVec 32 := Scalar.muli v173 c1_i32_86
  let v175 : BitVec 32 := Scalar.addi v170 v174
  let c1_i32_88 : BitVec 32 := 1#32
  let arg17 : BitVec 32 := Scf.iv v175 c1_i32_88 k0_t2
  let c512_i32_104 : BitVec 32 := 512#32
  let v191 : BitVec 32 := Scalar.muli arg17 c512_i32_104
  let v192 : BitVec 32 := v191
  let v199 : Index := Scalar.indexCast v192
  let c0_108 : Index := 0#32
  ![0, v199.toNat, 0]
def k0_off9 (i : grid0.Coords) (k0_t2 : Fin (k0_t2_loop i).trips) : Fin 3 → Nat :=
  let c0_130 : Index := 0#32
  let arg1 : BitVec 32 := BitVec.ofNat 32 (i 1).val
  let c1_i32_83 : BitVec 32 := 1#32
  let v169 : BitVec 32 := Scalar.addi arg1 c1_i32_83
  let c2_i32_84 : BitVec 32 := 2#32
  let v170 : BitVec 32 := Scalar.muli v169 c2_i32_84
  let c16_i32 : BitVec 32 := 16#32
  let v171 : BitVec 32 := Scalar.subi c16_i32 v170
  let c1_i32_86 : BitVec 32 := 1#32
  let v173 : BitVec 32 := Scalar.divsi v171 c1_i32_86
  let v174 : BitVec 32 := Scalar.muli v173 c1_i32_86
  let v175 : BitVec 32 := Scalar.addi v170 v174
  let c1_i32_88 : BitVec 32 := 1#32
  let arg17 : BitVec 32 := Scf.iv v175 c1_i32_88 k0_t2
  let c512_i32_104 : BitVec 32 := 512#32
  let v191 : BitVec 32 := Scalar.muli arg17 c512_i32_104
  let v192 : BitVec 32 := v191
  let v245 : Index := Scalar.indexCast v192
  let c0_131 : Index := 0#32
  ![0, v245.toNat, 0]
def k0_cond2 (i : grid0.Coords) : BitVec 1 :=
  let arg1 : BitVec 32 := BitVec.ofNat 32 (i 1).val
  let c7_i32 : BitVec 32 := 7#32
  let v188 : BitVec 1 := Scalar.cmpi .eq arg1 c7_i32
  let v189 : BitVec 32 := Scalar.extui v188
  let c0_i32_103 : BitVec 32 := 0#32
  let v190 : BitVec 1 := Scalar.cmpi .ne v189 c0_i32_103
  v190

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8192x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "ln2" => some ((((Real.log 2)⁻¹)⁻¹ : ℝ) : EReal)
  | "log2e" => some (((Real.log 2)⁻¹ : ℝ) : EReal)
  | "scale" => some (((Real.sqrt 128)⁻¹ : ℝ) : EReal)
  | _ => none
-- ==== ReferenceIdeal.lean ====
abbrev S8192x1024 : Shape := ⟨2, ![8192, 1024]⟩
abbrev S8x8192 : Shape := ⟨2, ![8, 8192]⟩
abbrev S8x8192x1 : Shape := ⟨3, ![8, 8192, 1]⟩
abbrev S8x1x8192 : Shape := ⟨3, ![8, 1, 8192]⟩
abbrev S_ : Shape := ⟨0, ![]⟩
abbrev S8192x8x128 : Shape := ⟨3, ![8192, 8, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x128 : Shape := ⟨3, ![8, 8192, 128]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x8192, .f32⟩
  | .hbm, ⟨4, _⟩ => ⟨S8192x1024, .f32⟩
  | .hbm, ⟨5, _⟩ => ⟨S8x8192x1, .f32⟩
  | .hbm, ⟨6, _⟩ => ⟨S8x1x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x8x128, .f32⟩
  | .hbm, ⟨12, _⟩ => ⟨S8192x8x128, .f32⟩
  | .hbm, ⟨13, _⟩ => ⟨S8192x8x128, .f32⟩
  | .hbm, ⟨14, _⟩ => ⟨S8x8192x8192, .f32⟩
  | .hbm, ⟨15, _⟩ => ⟨S8x8192x8192, .f32⟩
  | .hbm, ⟨16, _⟩ => ⟨S8x8192x8192, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .i1⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .i1⟩
  | .hbm, ⟨48, _⟩ => ⟨S_, .f32⟩
  | .hbm, ⟨49, _⟩ => ⟨S8x8192, .f32⟩
  | .hbm, ⟨50, _⟩ => ⟨S8x8192, .i1⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S_, .f32⟩
  | .hbm, ⟨56, _⟩ => ⟨S8x8192, .f32⟩
  | .hbm, ⟨57, _⟩ => ⟨S8x8192, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S8x8192x8192, .f32⟩
  | .hbm, ⟨67, _⟩ => ⟨S8x8192x8192, .f32⟩
  | .hbm, ⟨68, _⟩ => ⟨S8x8192x1, .f32⟩
  | .hbm, ⟨69, _⟩ => ⟨S_, .f32⟩
  | .hbm, ⟨70, _⟩ => ⟨S8x8192x1, .f32⟩
  | .hbm, ⟨71, _⟩ => ⟨S8x8192x1, .f32⟩
  | .hbm, ⟨72, _⟩ => ⟨S8x128x8192, .f32⟩
  | .hbm, ⟨73, _⟩ => ⟨S8192x8x128, .f32⟩
  | .hbm, ⟨74, _⟩ => ⟨S8192x1024, .f32⟩
  | .hbm, ⟨75, _⟩ => ⟨S8192x8x128, .f32⟩
  | .hbm, ⟨76, _⟩ => ⟨S8x128x8192, .f32⟩
  | .hbm, ⟨77, _⟩ => ⟨S8x8192x8192, .f32⟩
  | .hbm, ⟨78, _⟩ => ⟨S8x128x8192, .f32⟩
  | .hbm, ⟨79, _⟩ => ⟨S8192x8x128, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192, .f32⟩
  | .hbm, ⟨85, _⟩ => ⟨S8x8192x1, .f32⟩
  | .hbm, ⟨86, _⟩ => ⟨S8x8192x1, .f32⟩
  | .hbm, ⟨87, _⟩ => ⟨S8x8192x8192, .f32⟩
  | .hbm, ⟨88, _⟩ => ⟨S8x8192x8192, .f32⟩
  | .hbm, ⟨89, _⟩ => ⟨S_, .f32⟩
  | .hbm, ⟨90, _⟩ => ⟨S8x8192, .f32⟩
  | .hbm, ⟨91, _⟩ => ⟨S8x8192x8192, .f32⟩
  | .hbm, ⟨92, _⟩ => ⟨S8x8192x8192, .f32⟩
  | .hbm, ⟨93, _⟩ => ⟨S8x8192x8192, .f32⟩
  | .hbm, ⟨94, _⟩ => ⟨S_, .f32⟩
  | .hbm, ⟨95, _⟩ => ⟨S8x8192x8192, .f32⟩
  | .hbm, ⟨96, _⟩ => ⟨S8x8192x8192, .f32⟩
  | .hbm, ⟨97, _⟩ => ⟨S8x8192x8192, .f32⟩
  | .hbm, ⟨98, _⟩ => ⟨S_, .f32⟩
  | .hbm, ⟨99, _⟩ => ⟨S8x8192, .f32⟩
  | .hbm, ⟨100, _⟩ => ⟨S8x1x8192, .f32⟩
  | .hbm, ⟨101, _⟩ => ⟨S_, .f32⟩
  | .hbm, ⟨102, _⟩ => ⟨S8x8192, .f32⟩
  | .hbm, ⟨103, _⟩ => ⟨S8x8192x1, .f32⟩
  | .hbm, ⟨104, _⟩ => ⟨S8x8192x8192, .f32⟩
  | .hbm, ⟨105, _⟩ => ⟨S8x8192x8192, .f32⟩
  | .hbm, ⟨106, _⟩ => ⟨S8x8192x128, .f32⟩
  | .hbm, ⟨107, _⟩ => ⟨S8192x8x128, .f32⟩
  | .hbm, ⟨108, _⟩ => ⟨S8x8192x128, .f32⟩
  | .hbm, ⟨109, _⟩ => ⟨S8192x8x128, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .bf16⟩
  | .hbm, ⟨114, _⟩ => ⟨S8192x1024, .bf16⟩
  | .hbm, ⟨115, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_call0_v0 : Ref sig .tc := ⟨.hbm, 28, rfl⟩
abbrev main_v20_1 : Ref sig .tc := ⟨.hbm, 29, rfl⟩
abbrev main_call0_v2 : Ref sig .tc := ⟨.hbm, 30, rfl⟩
abbrev main_v20_0 : Ref sig .tc := ⟨.hbm, 31, rfl⟩
abbrev main_call0_cst : Ref sig .tc := ⟨.hbm, 32, rfl⟩
abbrev main_v20_2 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call1_cst : Ref sig .tc := ⟨.hbm, 94, rfl⟩
abbrev main_call1_v0 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]
-- ==== Kernel2.lean ====
abbrev S8192x2048 : Shape := ⟨2, ![8192, 2048]⟩
abbrev S8192x11264 : Shape := ⟨2, ![8192, 11264]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S8192x2048, .bf16⟩
  | .hbm, ⟨3, _⟩ => ⟨S8192x11264, .bf16⟩
  | .hbm, ⟨4, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S_, .f32⟩
  | .hbm, ⟨3, _⟩ => ⟨S2048x11264, .f32⟩
  | .hbm, ⟨4, _⟩ => ⟨S8192x11264, .f32⟩
  | .hbm, ⟨5, _⟩ => ⟨S11264x2048, .f32⟩
  | .hbm, ⟨6, _⟩ => ⟨S2048x11264, .f32⟩
  | .hbm, ⟨7, _⟩ => ⟨S8192x2048, .f32⟩
  | .hbm, ⟨8, _⟩ => ⟨S2048x8x1408, .f32⟩
  | .hbm, ⟨9, _⟩ => ⟨S8x2048x1408, .f32⟩
  | .hbm, ⟨10, _⟩ => ⟨S8x2048x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x11264 : Shape := ⟨2, ![8192, 11264]⟩
abbrev S2048x11264 : Shape := ⟨2, ![2048, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x11264, .f32⟩
  | .hbm, ⟨1, _⟩ => ⟨S2048x11264, .f32⟩
  | .hbm, ⟨2, _⟩ => ⟨S8192x11264, .bf16⟩
  | .hbm, ⟨3, _⟩ => ⟨S2048x11264, .bf16⟩
  | .hbm, ⟨4, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩
abbrev S11264x2048 : Shape := ⟨2, ![11264, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S2048x11264, .f32⟩
  | .hbm, ⟨2, _⟩ => ⟨S_, .f32⟩
  | .hbm, ⟨3, _⟩ => ⟨S8192x2048, .f32⟩
  | .hbm, ⟨4, _⟩ => ⟨S8192x11264, .f32⟩
  | .hbm, ⟨5, _⟩ => ⟨S11264x2048, .f32⟩
  | .hbm, ⟨6, _⟩ => ⟨S2048x11264, .f32⟩
  | .hbm, ⟨7, _⟩ => ⟨S8192x2048, .f32⟩
  | .hbm, ⟨8, _⟩ => ⟨S8192x2048, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S8192x5632, .f32⟩
  | .hbm, ⟨8, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x2048, .bf16⟩
  | .hbm, ⟨3, _⟩ => ⟨S5632x2048, .bf16⟩
  | .hbm, ⟨4, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S_, .f32⟩
  | .hbm, ⟨3, _⟩ => ⟨S8192x5632, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S8192x5632, .f32⟩
  | .hbm, ⟨8, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x11264 : Shape := ⟨2, ![8192, 11264]⟩
abbrev S8192x5632 : Shape := ⟨2, ![8192, 5632]⟩
abbrev S256x11264 : Shape := ⟨2, ![256, 11264]⟩
abbrev S256x5632 : Shape := ⟨2, ![256, 5632]⟩

abbrev nBuf : Space → Nat
  | .hbm => 5
  | .vmem => 6
  | .smem => 0
  | _ => 0

abbrev bufTy : (tb : Table) → Fin (tcTables nBuf tb) → BufTy
  | .hbm, ⟨0, _⟩ => ⟨S8192x11264, .f32⟩
  | .hbm, ⟨1, _⟩ => ⟨S8192x5632, .f32⟩
  | .hbm, ⟨2, _⟩ => ⟨S8192x11264, .bf16⟩
  | .hbm, ⟨3, _⟩ => ⟨S8192x5632, .bf16⟩
  | .hbm, ⟨4, _⟩ => ⟨S8192x11264, .bf16⟩
  | .local _ .vmem, ⟨0, _⟩ => ⟨S256x11264, .bf16⟩
  | .local _ .vmem, ⟨1, _⟩ => ⟨S256x11264, .bf16⟩
  | .local _ .vmem, ⟨2, _⟩ => ⟨S256x5632, .bf16⟩
  | .local _ .vmem, ⟨3, _⟩ => ⟨S256x5632, .bf16⟩
  | .local _ .vmem, ⟨4, _⟩ => ⟨S256x11264, .bf16⟩
  | .local _ .vmem, ⟨5, _⟩ => ⟨S256x11264, .bf16⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x11264 : Shape := ⟨2, ![8192, 11264]⟩
abbrev S8192x5632 : Shape := ⟨2, ![8192, 5632]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x11264, .f32⟩
  | .hbm, ⟨25, _⟩ => ⟨S8192x11264, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Kernel7.lean ====
abbrev S8192x2048 : Shape := ⟨2, ![8192, 2048]⟩
abbrev S8192x4096 : Shape := ⟨2, ![8192, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .bf16⟩
  | .hbm, ⟨3, _⟩ => ⟨S8192x4096, .bf16⟩
  | .hbm, ⟨4, _⟩ => ⟨S2048x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S_, .f32⟩
  | .hbm, ⟨3, _⟩ => ⟨S2048x4096, .f32⟩
  | .hbm, ⟨4, _⟩ => ⟨S8192x4096, .f32⟩
  | .hbm, ⟨5, _⟩ => ⟨S4096x2048, .f32⟩
  | .hbm, ⟨6, _⟩ => ⟨S2048x4096, .f32⟩
  | .hbm, ⟨7, _⟩ => ⟨S8192x2048, .f32⟩
  | .hbm, ⟨8, _⟩ => ⟨S2048x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x2048 : Shape := ⟨2, ![8192, 2048]⟩
abbrev S8192x3072 : Shape := ⟨2, ![8192, 3072]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x2048, .bf16⟩
  | .hbm, ⟨3, _⟩ => ⟨S8192x3072, .bf16⟩
  | .hbm, ⟨4, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S_, .f32⟩
  | .hbm, ⟨3, _⟩ => ⟨S2048x3072, .f32⟩
  | .hbm, ⟨4, _⟩ => ⟨S8192x3072, .f32⟩
  | .hbm, ⟨5, _⟩ => ⟨S3072x2048, .f32⟩
  | .hbm, ⟨6, _⟩ => ⟨S2048x3072, .f32⟩
  | .hbm, ⟨7, _⟩ => ⟨S8192x2048, .f32⟩
  | .hbm, ⟨8, _⟩ => ⟨S2048x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S8192x2048, .f32⟩
  | .hbm, ⟨8, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S8192x1024, .f32⟩
  | .hbm, ⟨8, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x256 : Shape := ⟨2, ![8192, 256]⟩
abbrev S8192x2048 : Shape := ⟨2, ![8192, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S8192x2048, .bf16⟩
  | .hbm, ⟨3, _⟩ => ⟨S256x2048, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S2048x256, .f32⟩
  | .hbm, ⟨6, _⟩ => ⟨S256x2048, .f32⟩
  | .hbm, ⟨7, _⟩ => ⟨S8192x256, .f32⟩
  | .hbm, ⟨8, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S8192x2048, .f32⟩
  | .hbm, ⟨8, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S8192x1024, .f32⟩
  | .hbm, ⟨8, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel16.lean ====
abbrev S8192x3072 : Shape := ⟨2, ![8192, 3072]⟩
abbrev S2048x3072 : Shape := ⟨2, ![2048, 3072]⟩
abbrev S8192x2048 : Shape := ⟨2, ![8192, 2048]⟩
abbrev S1024x1536 : Shape := ⟨2, ![1024, 1536]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x3072, .f32⟩
  | .hbm, ⟨1, _⟩ => ⟨S2048x3072, .f32⟩
  | .hbm, ⟨2, _⟩ => ⟨S8192x2048, .f32⟩
  | .hbm, ⟨3, _⟩ => ⟨S8192x3072, .bf16⟩
  | .hbm, ⟨4, _⟩ => ⟨S2048x3072, .bf16⟩
  | .hbm, ⟨5, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x3072 : Shape := ⟨2, ![8192, 3072]⟩
abbrev S2048x3072 : Shape := ⟨2, ![2048, 3072]⟩
abbrev S8192x2048 : Shape := ⟨2, ![8192, 2048]⟩
abbrev S_ : Shape := ⟨0, ![]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S2048x3072, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x3072, .f32⟩
  | .hbm, ⟨6, _⟩ => ⟨S3072x2048, .f32⟩
  | .hbm, ⟨7, _⟩ => ⟨S2048x3072, .f32⟩
  | .hbm, ⟨8, _⟩ => ⟨S8192x2048, .f32⟩
  | .hbm, ⟨9, _⟩ => ⟨S8192x2048, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel17.lean ====
abbrev S8192x4096 : Shape := ⟨2, ![8192, 4096]⟩
abbrev S2048x4096 : Shape := ⟨2, ![2048, 4096]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S8192x2048, .f32⟩
  | .hbm, ⟨3, _⟩ => ⟨S8192x4096, .bf16⟩
  | .hbm, ⟨4, _⟩ => ⟨S2048x4096, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8192x4096 : Shape := ⟨2, ![8192, 4096]⟩
abbrev S2048x4096 : Shape := ⟨2, ![2048, 4096]⟩
abbrev S8192x2048 : Shape := ⟨2, ![8192, 2048]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x4096, .f32⟩
  | .hbm, ⟨6, _⟩ => ⟨S4096x2048, .f32⟩
  | .hbm, ⟨7, _⟩ => ⟨S2048x4096, .f32⟩
  | .hbm, ⟨8, _⟩ => ⟨S8192x2048, .f32⟩
  | .hbm, ⟨9, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel18.lean ====
abbrev S8192x2048 : Shape := ⟨2, ![8192, 2048]⟩
abbrev S8192x128 : Shape := ⟨2, ![8192, 128]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S8192x2048, .bf16⟩
  | .hbm, ⟨3, _⟩ => ⟨S8192x128, .bf16⟩
  | .hbm, ⟨4, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S8192x128 : Shape := ⟨2, ![8192, 128]⟩
abbrev S_ : Shape := ⟨0, ![]⟩
abbrev S2048x128 : Shape := ⟨2, ![2048, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S_, .f32⟩
  | .hbm, ⟨3, _⟩ => ⟨S2048x128, .f32⟩
  | .hbm, ⟨4, _⟩ => ⟨S8192x128, .f32⟩
  | .hbm, ⟨5, _⟩ => ⟨S128x2048, .f32⟩
  | .hbm, ⟨6, _⟩ => ⟨S2048x128, .f32⟩
  | .hbm, ⟨7, _⟩ => ⟨S8192x2048, .f32⟩
  | .hbm, ⟨8, _⟩ => ⟨S2048x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8192x128 : Shape := ⟨2, ![8192, 128]⟩
abbrev S2048x128 : Shape := ⟨2, ![2048, 128]⟩
abbrev S8192x2048 : Shape := ⟨2, ![8192, 2048]⟩
abbrev S1024x128 : Shape := ⟨2, ![1024, 128]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S2048x128, .f32⟩
  | .hbm, ⟨2, _⟩ => ⟨S8192x128, .bf16⟩
  | .hbm, ⟨3, _⟩ => ⟨S2048x128, .bf16⟩
  | .hbm, ⟨4, _⟩ => ⟨S8192x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x128 : Shape := ⟨2, ![8192, 128]⟩
abbrev S2048x128 : Shape := ⟨2, ![2048, 128]⟩
abbrev S_ : Shape := ⟨0, ![]⟩
abbrev S8192x2048 : Shape := ⟨2, ![8192, 2048]⟩
abbrev S128x2048 : Shape := ⟨2, ![128, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2048x128, .f32⟩
  | .hbm, ⟨2, _⟩ => ⟨S_, .f32⟩
  | .hbm, ⟨3, _⟩ => ⟨S8192x2048, .f32⟩
  | .hbm, ⟨4, _⟩ => ⟨S8192x128, .f32⟩
  | .hbm, ⟨5, _⟩ => ⟨S128x2048, .f32⟩
  | .hbm, ⟨6, _⟩ => ⟨S2048x128, .f32⟩
  | .hbm, ⟨7, _⟩ => ⟨S8192x2048, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x2048, .bf16⟩
  | .hbm, ⟨3, _⟩ => ⟨S2048x11264, .bf16⟩
  | .hbm, ⟨4, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x11264, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S5632x2048, .bf16⟩
  | .hbm, ⟨5, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel22.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel23.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference24Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel25.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel26.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel27.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S256x2048, .bf16⟩
  | .hbm, ⟨3, _⟩ => ⟨S8192x2048, .bf16⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel28.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x128, .f32⟩
  | .hbm, ⟨2, _⟩ => ⟨S8192x2048, .bf16⟩
  | .hbm, ⟨3, _⟩ => ⟨S2048x128, .bf16⟩
  | .hbm, ⟨4, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x128, .f32⟩
  | .hbm, ⟨2, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x2048, .bf16⟩
  | .hbm, ⟨3, _⟩ => ⟨S2048x3072, .bf16⟩
  | .hbm, ⟨4, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel29Ideal.lean ====
variable {F : FTy → Type} [FloatOps F] [Named F]
def κ : String → Option EReal := fun
  | "qscale" => some (((Real.sqrt 128)⁻¹ * (Real.log 2)⁻¹ : ℝ) : EReal)
  | _ => none
-- ==== Reference29Ideal.lean ====
abbrev S8192x2048 : Shape := ⟨2, ![8192, 2048]⟩
abbrev S2048x3072 : Shape := ⟨2, ![2048, 3072]⟩
abbrev S_ : Shape := ⟨0, ![]⟩
abbrev S8192x3072 : Shape := ⟨2, ![8192, 3072]⟩
abbrev S3072 : Shape := ⟨1, ![3072]⟩
abbrev S1x3072 : Shape := ⟨2, ![1, 3072]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x3072, .f32⟩
  | .hbm, ⟨11, _⟩ => ⟨S3072, .i32⟩
  | .hbm, ⟨12, _⟩ => ⟨S_, .i32⟩
  | .hbm, ⟨13, _⟩ => ⟨S3072, .i32⟩
  | .hbm, ⟨14, _⟩ => ⟨S3072, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S3072, .f32⟩
  | .hbm, ⟨19, _⟩ => ⟨S3072, .f32⟩
  | .hbm, ⟨20, _⟩ => ⟨S3072, .f32⟩
  | .hbm, ⟨21, _⟩ => ⟨S1x3072, .f32⟩
  | .hbm, ⟨22, _⟩ => ⟨S8192x3072, .f32⟩
  | .hbm, ⟨23, _⟩ => ⟨S8192x3072, .f32⟩
  | .hbm, ⟨24, _⟩ => ⟨S8192x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Kernel30.lean ====
abbrev S8192x4096 : Shape := ⟨2, ![8192, 4096]⟩
abbrev S8192x2048 : Shape := ⟨2, ![8192, 2048]⟩
abbrev S512x4096 : Shape := ⟨2, ![512, 4096]⟩
abbrev S512x2048 : Shape := ⟨2, ![512, 2048]⟩

abbrev nBuf : Space → Nat
  | .hbm => 11
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x4096, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x4096, .bf16⟩
  | .local _ .vmem, ⟨13, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x4096, .f32⟩
  | .hbm, ⟨42, _⟩ => ⟨S8192x2048, .bf16⟩
  | .hbm, ⟨43, _⟩ => ⟨S8192x2048, .bf16⟩
  | .hbm, ⟨44, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel31.lean ====
abbrev S8192x2048 : Shape := ⟨2, ![8192, 2048]⟩
abbrev S512x2048 : Shape := ⟨2, ![512, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference31Ideal.lean ====
abbrev S8192x2048 : Shape := ⟨2, ![8192, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | .hbm, ⟨25, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel32.lean ====
abbrev S8192x11264 : Shape := ⟨2, ![8192, 11264]⟩
abbrev S8192x5632 : Shape := ⟨2, ![8192, 5632]⟩
abbrev S256x11264 : Shape := ⟨2, ![256, 11264]⟩
abbrev S256x5632 : Shape := ⟨2, ![256, 5632]⟩

abbrev nBuf : Space → Nat
  | .hbm => 3
  | .vmem => 4
  | .smem => 0
  | _ => 0

abbrev bufTy : (tb : Table) → Fin (tcTables nBuf tb) → BufTy
  | .hbm, ⟨0, _⟩ => ⟨S8192x11264, .f32⟩
  | .hbm, ⟨1, _⟩ => ⟨S8192x11264, .bf16⟩
  | .hbm, ⟨2, _⟩ => ⟨S8192x5632, .bf16⟩
  | .local _ .vmem, ⟨0, _⟩ => ⟨S256x11264, .bf16⟩
  | .local _ .vmem, ⟨1, _⟩ => ⟨S256x11264, .bf16⟩
  | .local _ .vmem, ⟨2, _⟩ => ⟨S256x5632, .bf16⟩
  | .local _ .vmem, ⟨3, _⟩ => ⟨S256x5632, .bf16⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference32Ideal.lean ====
abbrev S8192x11264 : Shape := ⟨2, ![8192, 11264]⟩
abbrev S8192x5632 : Shape := ⟨2, ![8192, 5632]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x5632, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel33.lean ====
abbrev S8192x4096 : Shape := ⟨2, ![8192, 4096]⟩
abbrev S8192x2048 : Shape := ⟨2, ![8192, 2048]⟩
abbrev S512x4096 : Shape := ⟨2, ![512, 4096]⟩
abbrev S512x2048 : Shape := ⟨2, ![512, 2048]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x4096, .bf16⟩
  | .hbm, ⟨4, _⟩ => ⟨S8192x2048, .bf16⟩
  | .hbm, ⟨5, _⟩ => ⟨S8192x2048, .bf16⟩
  | .hbm, ⟨6, _⟩ => ⟨S8192x2048, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference33Ideal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel34.lean ====
abbrev S8192x2048 : Shape := ⟨2, ![8192, 2048]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference34Ideal.lean ====
abbrev S8192x2048 : Shape := ⟨2, ![8192, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Block.lean ====
/-
  What one row block of the attention's backward kernel does to the kernel's five accumulators, as pure functions of
  the arrays. A grid point `(h, j)` holds head `h`'s queries, output gradients and row statistics, and key tile `j`; it goes
  through the sixteen blocks of 512 query rows from the diagonal on. The two blocks that the diagonal crosses are masked.
-/
module

public import proofs.«01_k».proof.Proof.Gen.KernelIdeal.Skeleton
public import Idealize.ShloMosaic.Lib.VecWindow
public import Idealize.ShloMosaic.Lib.LaneScatter.Fold

@[expose] public section

noncomputable section

namespace Cert.Proof.Block

open Cert.KernelIdeal Cert.KernelIdeal.Gen
open Idealize.ShloMosaic Idealize.SL.Sem
open Idealize.ShloMosaic.VecWindow

variable (F : FTy → Type) [FloatOps F] [Named F]

/-- The accumulators: the query gradient of the head (before its scale), the key and value gradients of the tile, the
    column sums (negated) and the row sums of the score gradient. -/
@[ext] structure St where
  dq : Vec F S8192x128 .f32
  dk : Vec F S1024x128 .f32
  dv : Vec F S1024x128 .f32
  cr : Vec F S1x1024 .f32
  cc : Vec F S1x8192x1 .f32

variable {F}

theorem inbQ (r : Fin 16) : ∀ a, (![512 * r.val, 0] : Fin 2 → ℕ) a + S512x128.size a ≤ S8192x128.size a := by
  intro a; have := r.isLt; fin_cases a
  · show 512 * r.val + 512 ≤ 8192; omega
  · show 0 + 128 ≤ 128; omega
theorem inbS (r : Fin 16) : ∀ a, (![0, 512 * r.val, 0] : Fin 3 → ℕ) a + S1x512x8.size a ≤ S1x8192x8.size a := by
  intro a; have := r.isLt; fin_cases a
  · show 0 + 1 ≤ 1; omega
  · show 512 * r.val + 512 ≤ 8192; omega
  · show 0 + 8 ≤ 8; omega
theorem inbC (r : Fin 16) : ∀ a, (![0, 512 * r.val, 0] : Fin 3 → ℕ) a + S1x512x1.size a ≤ S1x8192x1.size a := by
  intro a; have := r.isLt; fin_cases a
  · show 0 + 1 ≤ 1; omega
  · show 512 * r.val + 512 ≤ 8192; omega
  · show 0 + 1 ≤ 1; omega

/-- Row block `r` of a head's array, of its statistics, and of its row sums. -/
def rowsQ {e : EltTy} (x : Vec F S8192x128 e) (r : Fin 16) : Vec F S512x128 e := window x ![512 * r.val, 0] S512x128.size (inbQ r)
def rowsS (x : Vec F S1x8192x8 .f32) (r : Fin 16) : Vec F S1x512x8 .f32 := window x ![0, 512 * r.val, 0] S1x512x8.size (inbS r)
def rowsC (x : Vec F S1x8192x1 .f32) (r : Fin 16) : Vec F S1x512x1 .f32 := window x ![0, 512 * r.val, 0] S1x512x1.size (inbC r)

/-- The probabilities of a row block against the key tile, from the queries, the keys, and the row statistics. -/
def probs (k : FVec F S1024x128 .bf16) (cr : FVec F S1x1024 .f32) (q : Vec F S512x128 .bf16) (st : Vec F S1x512x8 .f32) :
    FVec F S512x1024 .f32 := k0_pay7 k cr q st

/-- The causal mask inside a key tile: zero where the key's place in the tile exceeds the row's, the block beginning at row `row0` of the tile. -/
def causal (row0 : BitVec 32) (p : FVec F S512x1024 .f32) : FVec F S512x1024 .f32 :=
  select (cmpi .sle (iota .tc S512x1024 32 [1] iota_S512x1024_d1_w32)
    (addi (broadcast S512x1024 row0) (iota .tc S512x1024 32 [0] iota_S512x1024_d0_w32))) p
    (broadcast S512x1024 (Scalar.ofBits .f32 0x00000000#32 : F .f32))

/-- The score gradient of a row block: the probabilities times (value products less the row's delta). -/
def dsOf (v : FVec F S1024x128 .bf16) (dov : Vec F S512x128 .bf16) (st : Vec F S1x512x8 .f32) (p : FVec F S512x1024 .f32) :
    FVec F S512x1024 .f32 :=
  mulf p (subf (matmul dot_S512x128_S1024x128_S512x1024_1_1_0_0_n_n none (k0_pay5 dov) v (constant S512x1024 .f32 0x00000000#32))
    (broadcastTo S512x1024 (extractStridedSlice S512x1 ![0, 1] (k0_pay6 st) slices_S512x8_o0_1_S512x1) broadcasts_S512x1_S512x1024))

/-- The value gradient with a row block's share added. -/
def addDv (dov : Vec F S512x128 .bf16) (p : FVec F S512x1024 .f32) (a : Vec F S1024x128 .f32) : FVec F S1024x128 .f32 :=
  shapeCast S1024x128 (addf a (matmul dot_S512x1024_S512x128_S1024x128_0_0_1_1_n_n none (truncf .bf16 p bitsLt_bf16_f32) (k0_pay5 dov)
    (constant S1024x128 .f32 0x00000000#32))) shapeCasts_S1024x128_S1024x128

/-- The key gradient with a row block's share added. -/
def addDk (q : Vec F S512x128 .bf16) (ds : FVec F S512x1024 .f32) (a : Vec F S1024x128 .f32) : FVec F S1024x128 .f32 :=
  shapeCast S1024x128 (addf a (matmul dot_S512x1024_S512x128_S1024x128_0_0_1_1_n_n none (truncf .bf16 ds bitsLt_bf16_f32) (k0_pay4 q)
    (constant S1024x128 .f32 0x00000000#32))) shapeCasts_S1024x128_S1024x128

/-- The rows' query gradient with the key tile's share added. -/
def addDq (k : FVec F S1024x128 .bf16) (ds : FVec F S512x1024 .f32) (a : Vec F S512x128 .f32) : FVec F S512x128 .f32 :=
  k0_pay51 k (truncf .bf16 ds bitsLt_bf16_f32) a

/-- One row block: every accumulator with the block's share, from the block's probabilities `p`. -/
def upd (k v : FVec F S1024x128 .bf16) (q dov : Vec F S512x128 .bf16) (st : Vec F S1x512x8 .f32) (p : FVec F S512x1024 .f32)
    (r : Fin 16) (s : St F) : St F where
  dq := put s.dq ![512 * r.val, 0] S512x128.size (addDq k (dsOf v dov st p) (rowsQ s.dq r))
  dk := addDk q (dsOf v dov st p) s.dk
  dv := addDv dov p s.dv
  cr := k0_pay52 (dsOf v dov st p) s.cr
  cc := put s.cc ![0, 512 * r.val, 0] S1x512x1.size (k0_pay53 (dsOf v dov st p) (rowsC s.cc r))

/-- Row block `r` at a grid point: its rows cut out of the head's arrays, its probabilities through `mk` (the mask, or nothing). -/
def blk (q dov : Vec F S8192x128 .bf16) (st : Vec F S1x8192x8 .f32) (k v : FVec F S1024x128 .bf16) (cr : FVec F S1x1024 .f32)
    (mk : FVec F S512x1024 .f32 → FVec F S512x1024 .f32) (r : Fin 16) (s : St F) : St F :=
  upd k v (rowsQ q r) (rowsQ dov r) (rowsS st r) (mk (probs k cr (rowsQ q r) (rowsS st r))) r s

/-- Row block number `n`, counted round the sixteen. -/
def rb (n : ℕ) : Fin 16 := Fin.ofNat 16 n
theorem rb_val {n : ℕ} (h : n < 16) : (rb n).val = n := Nat.mod_eq_of_lt h

/-- The blocks below the diagonal: `n` of them from block `2j + 2` on. -/
def below (q dov : Vec F S8192x128 .bf16) (st : Vec F S1x8192x8 .f32) (k v : FVec F S1024x128 .bf16) (cr : FVec F S1x1024 .f32)
    (j : ℕ) : ℕ → St F → St F
  | 0, s => s
  | n + 1, s => blk q dov st k v cr id (rb (2 * j + 2 + n)) (below q dov st k v cr j n s)

/-- The accumulators that a grid point starts from: the head's query gradient and row sums as they stand (cleared at the first key
    tile), the rest cleared. -/
def start (j : ℕ) (dq : Vec F S8192x128 .f32) (cc : Vec F S1x8192x1 .f32) : St F where
  dq := if j = 0 then k0_pay20 else dq
  dk := k0_pay22
  dv := k0_pay23
  cr := k0_pay24
  cc := if j = 0 then k0_pay21 else cc

/-- What a grid point at key tile `j` leaves in the accumulators. -/
def point (q dov : Vec F S8192x128 .bf16) (k v : Vec F S1024x128 .bf16) (st : Vec F S1x8192x8 .f32) (c : Vec F S1x1x1024 .f32)
    (j : ℕ) (dq : Vec F S8192x128 .f32) (cc : Vec F S1x8192x1 .f32) : St F :=
  below q dov st (k0_pay25 k) (k0_pay26 v) (k0_pay27 c) j (14 - 2 * j)
    (blk q dov st (k0_pay25 k) (k0_pay26 v) (k0_pay27 c) (causal 512#32) (rb (2 * j + 1))
      (blk q dov st (k0_pay25 k) (k0_pay26 v) (k0_pay27 c) (causal 0#32) (rb (2 * j)) (start j dq cc)))

/-! The printed payloads are these functions. -/

theorem pay8_eq (k v : FVec F S1024x128 .bf16) (cr : FVec F S1x1024 .f32) (q dov : Vec F S512x128 .bf16) (st : Vec F S1x512x8 .f32) :
    k0_pay8 k v cr q dov st = dsOf v dov st (probs k cr q st) := rfl
theorem pay9_eq (k v : FVec F S1024x128 .bf16) (cr : FVec F S1x1024 .f32) (q dov : Vec F S512x128 .bf16) (st : Vec F S1x512x8 .f32) :
    k0_pay9 k v cr q dov st = truncf .bf16 (dsOf v dov st (probs k cr q st)) bitsLt_bf16_f32 := rfl
theorem pay10_eq (k : FVec F S1024x128 .bf16) (cr : FVec F S1x1024 .f32) (q dov : Vec F S512x128 .bf16) (st : Vec F S1x512x8 .f32)
    (a : Vec F S1024x128 .f32) : k0_pay10 k cr q dov st a = addDv dov (probs k cr q st) a := rfl
theorem pay11_eq (k v : FVec F S1024x128 .bf16) (cr : FVec F S1x1024 .f32) (q dov : Vec F S512x128 .bf16) (st : Vec F S1x512x8 .f32)
    (a : Vec F S1024x128 .f32) : k0_pay11 k v cr q dov st a = addDk q (dsOf v dov st (probs k cr q st)) a := rfl
theorem pay32_eq (k v : FVec F S1024x128 .bf16) (cr : FVec F S1x1024 .f32) (q dov : Vec F S512x128 .bf16) (st : Vec F S1x512x8 .f32) :
    k0_pay32 k v cr (k0_pay28 q) dov st = dsOf v dov st (causal 0#32 (probs k cr q st)) := rfl
theorem pay33_eq (k v : FVec F S1024x128 .bf16) (cr : FVec F S1x1024 .f32) (q dov : Vec F S512x128 .bf16) (st : Vec F S1x512x8 .f32) :
    k0_pay33 k v cr (k0_pay28 q) dov st = truncf .bf16 (dsOf v dov st (causal 0#32 (probs k cr q st))) bitsLt_bf16_f32 := rfl
theorem pay34_eq (k : FVec F S1024x128 .bf16) (cr : FVec F S1x1024 .f32) (q dov : Vec F S512x128 .bf16) (st : Vec F S1x512x8 .f32)
    (a : Vec F S1024x128 .f32) : k0_pay34 k cr (k0_pay28 q) dov st a = addDv dov (causal 0#32 (probs k cr q st)) a := rfl
theorem pay35_eq (k v : FVec F S1024x128 .bf16) (cr : FVec F S1x1024 .f32) (q dov : Vec F S512x128 .bf16) (st : Vec F S1x512x8 .f32)
    (a : Vec F S1024x128 .f32) :
    k0_pay35 k v cr (k0_pay28 q) dov st a = addDk q (dsOf v dov st (causal 0#32 (probs k cr q st))) a := rfl
theorem pay36_eq (k : FVec F S1024x128 .bf16) (ds : FVec F S512x1024 .f32) (a : Vec F S512x128 .f32) :
    k0_pay36 k (truncf .bf16 ds bitsLt_bf16_f32) a = addDq k ds a := rfl
theorem pay37_eq (ds : FVec F S512x1024 .f32) (a : Vec F S1x1024 .f32) : k0_pay37 ds a = k0_pay52 ds a := rfl
theorem pay38_eq (ds : FVec F S512x1024 .f32) (a : Vec F S1x512x1 .f32) : k0_pay38 ds a = k0_pay53 ds a := rfl
theorem pay43_eq (k v : FVec F S1024x128 .bf16) (cr : FVec F S1x1024 .f32) (q dov : Vec F S512x128 .bf16) (st : Vec F S1x512x8 .f32) :
    k0_pay43 k v cr (k0_pay39 q) (k0_pay40 dov) st = dsOf v dov st (causal 512#32 (probs k cr q st)) := rfl
theorem pay45_eq (k : FVec F S1024x128 .bf16) (cr : FVec F S1x1024 .f32) (q dov : Vec F S512x128 .bf16) (st : Vec F S1x512x8 .f32)
    (a : Vec F S1024x128 .f32) :
    k0_pay45 k cr (k0_pay39 q) (k0_pay40 dov) st a = addDv dov (causal 512#32 (probs k cr q st)) a := rfl
theorem pay46_eq (k v : FVec F S1024x128 .bf16) (cr : FVec F S1x1024 .f32) (q dov : Vec F S512x128 .bf16) (st : Vec F S1x512x8 .f32)
    (a : Vec F S1024x128 .f32) :
    k0_pay46 k v cr (k0_pay39 q) (k0_pay40 dov) st a = addDk q (dsOf v dov st (causal 512#32 (probs k cr q st))) a := rfl
theorem pay47_eq (k v : FVec F S1024x128 .bf16) (cr : FVec F S1x1024 .f32) (q dov : Vec F S512x128 .bf16) (st : Vec F S1x512x8 .f32)
    (a : Vec F S512x128 .f32) :
    k0_pay48 (k0_pay47 k v cr (k0_pay39 q) (k0_pay40 dov) st a) = addDq k (dsOf v dov st (causal 512#32 (probs k cr q st))) a := rfl
theorem pay49_eq (ds : FVec F S512x1024 .f32) (a : Vec F S1x1024 .f32) : k0_pay49 ds a = k0_pay52 ds a := rfl
theorem pay50_eq (ds : FVec F S512x1024 .f32) (a : Vec F S1x512x1 .f32) : k0_pay50 ds a = k0_pay53 ds a := rfl

end Cert.Proof.Block
-- ==== Proof.Trip.lean ====
/-
  The loop over the query blocks below the diagonal: one trip takes the accumulators through one row block, so the loop
  leaves them as `Block.below` says.
-/
module

public import proofs.«01_k».proof.Proof.Block
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Proof.Trip

open Cert.KernelIdeal Cert.KernelIdeal.Gen Cert.Proof.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Where trip `t` of the loop lies: row block `2j + 2 + t`. -/
theorem trips_eq (i : grid0.Coords) : (k0_t1_loop i).trips = 14 - 2 * (i 1).val := by
  have h : ∀ i : grid0.Coords, (k0_t1_loop i).trips = 14 - 2 * (i 1).val := by decide +kernel
  exact h i
theorem trips2_eq (i : grid0.Coords) : (k0_t2_loop i).trips = 0 := Nat.le_zero.1 (k0_t2_abs i).2.1

theorem rb_trip (i : grid0.Coords) (k : Fin (k0_t1_loop i).trips) : (rb (2 * (i 1).val + 2 + k.val)).val = 2 * (i 1).val + 2 + k.val := by
  have h := Nat.lt_of_lt_of_eq k.isLt (trips_eq i)
  exact rb_val (by omega)

theorem off4_rb (i : grid0.Coords) (k : Fin (k0_t1_loop i).trips) : k0_off4 i k = ![512 * (rb (2 * (i 1).val + 2 + k.val)).val, 0] := by
  rw [k0_off4_eq, rb_trip]; congr 1; omega
theorem off5_rb (i : grid0.Coords) (k : Fin (k0_t1_loop i).trips) : k0_off5 i k = ![0, 512 * (rb (2 * (i 1).val + 2 + k.val)).val, 0] := by
  rw [k0_off5_eq, rb_trip, show 1024 * (i 1).val + 512 * k.val + 1024 = 512 * (2 * (i 1).val + 2 + k.val) by omega]
theorem off6_rb (i : grid0.Coords) (k : Fin (k0_t1_loop i).trips) : k0_off6 i k = ![0, 512 * (rb (2 * (i 1).val + 2 + k.val)).val, 0] := by
  rw [k0_off6_eq, rb_trip, show 1024 * (i 1).val + 512 * k.val + 1024 = 512 * (2 * (i 1).val + 2 + k.val) by omega]

section Loop
variable (𝒱 : Variants) (c : Dev nD) (bd : Option 𝒱.V) (E : Set ℕ) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S1x8192x8 .f32) (harg6 : arg6.IsWhole)
  (arg7 : Memref sig .tc .vmem S1x1x1024 .f32) (harg7 : arg7.IsWhole)
  (arg8 : Memref sig .tc .vmem S8192x128 .bf16) (harg8 : arg8.IsWhole)
  (arg9 : Memref sig .tc .vmem S1024x128 .bf16) (harg9 : arg9.IsWhole)
  (arg10 : Memref sig .tc .vmem S1024x128 .bf16) (harg10 : arg10.IsWhole)
  (arg11 : Memref sig .tc .vmem S1x1x1024 .f32) (harg11 : arg11.IsWhole)
  (arg12 : Memref sig .tc .vmem S1x8192x1 .f32) (harg12 : arg12.IsWhole)
  (arg13 : Memref sig .tc .vmem S8192x128 .f32) (harg13 : arg13.IsWhole)
  (arg14 : Memref sig .tc .vmem S1024x128 .f32) (harg14 : arg14.IsWhole)
  (arg15 : Memref sig .tc .vmem S1024x128 .f32) (harg15 : arg15.IsWhole)
  (arg16 : Memref sig .tc .vmem S1x1024 .f32) (harg16 : arg16.IsWhole)
  (arg1 : BitVec 32) (v16 v18 : FVec F S1024x128 .bf16) (v22 : FVec F S1x1024 .f32) (v99 : BitVec 32) (v129 : FVec F S512x1024 .f32)
  (v147 : FVec F S512x128 .f32) (v170 : BitVec 32)
  (X2 : BufTy.Contents (Elt F) arg2.view.ty) (X3 : BufTy.Contents (Elt F) arg3.view.ty) (X6 : BufTy.Contents (Elt F) arg6.view.ty)

/-- Before trip `n`: the inputs as they were, the accumulators after the first `n` blocks. -/
abbrev inv (s12 : Vec F S1x8192x1 .f32) (s13 : Vec F S8192x128 .f32) (s14 s15 : Vec F S1024x128 .f32) (s16 : Vec F S1x1024 .f32)
    (n : ℕ) (_ : Unit) : sProp 𝕄 :=
  iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6)
    ∗ (∃ f, (arg12.view.loc (c : Thread nD τ) ↦[arg12.view.set]{fullShare} f) ∗ ⌜arg12.view.read (Elt F) f = (below (arg2.view.read (Elt F) X2) (arg3.view.read (Elt F) X3) (arg6.view.read (Elt F) X6) v16 v18 v22 (i 1).val n ⟨s13, s14, s15, s16, s12⟩).cc⌝)
    ∗ (∃ f, (arg13.view.loc (c : Thread nD τ) ↦[arg13.view.set]{fullShare} f) ∗ ⌜arg13.view.read (Elt F) f = (below (arg2.view.read (Elt F) X2) (arg3.view.read (Elt F) X3) (arg6.view.read (Elt F) X6) v16 v18 v22 (i 1).val n ⟨s13, s14, s15, s16, s12⟩).dq⌝)
    ∗ (∃ f, (arg14.view.loc (c : Thread nD τ) ↦[arg14.view.set]{fullShare} f) ∗ ⌜arg14.view.read (Elt F) f = (below (arg2.view.read (Elt F) X2) (arg3.view.read (Elt F) X3) (arg6.view.read (Elt F) X6) v16 v18 v22 (i 1).val n ⟨s13, s14, s15, s16, s12⟩).dk⌝)
    ∗ (∃ f, (arg15.view.loc (c : Thread nD τ) ↦[arg15.view.set]{fullShare} f) ∗ ⌜arg15.view.read (Elt F) f = (below (arg2.view.read (Elt F) X2) (arg3.view.read (Elt F) X3) (arg6.view.read (Elt F) X6) v16 v18 v22 (i 1).val n ⟨s13, s14, s15, s16, s12⟩).dv⌝)
    ∗ (∃ f, (arg16.view.loc (c : Thread nD τ) ↦[arg16.view.set]{fullShare} f) ∗ ⌜arg16.view.read (Elt F) f = (below (arg2.view.read (Elt F) X2) (arg3.view.read (Elt F) X3) (arg6.view.read (Elt F) X6) v16 v18 v22 (i 1).val n ⟨s13, s14, s15, s16, s12⟩).cr⌝))

/-- One trip. -/
theorem trip (s12 : Vec F S1x8192x1 .f32) (s13 : Vec F S8192x128 .f32) (s14 s15 : Vec F S1024x128 .f32) (s16 : Vec F S1x1024 .f32)
    (k : Fin (k0_t1_loop i).trips) (a : Unit) :
    inv c i arg2 arg3 arg6 arg12 arg13 arg14 arg15 arg16 v16 v18 v22 X2 X3 X6 s12 s13 s14 s15 s16 k.val a
      ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v16 v18 v22 v99 v129 v147 v170 k a)
        (inv c i arg2 arg3 arg6 arg12 arg13 arg14 arg15 arg16 v16 v18 v22 X2 X3 X6 s12 s13 s14 s15 s16 (k.val + 1)) := by
  unfold k0_t1_body inv
  iintro ⟨H2, H3, H6, ⟨%f12, H12, %h12⟩, ⟨%f13, H13, %h13⟩, ⟨%f14, H14, %h14⟩, ⟨%f15, H15, %h15⟩, ⟨%f16, H16, %h16⟩⟩
  sl_exec
  sl_step
  isplitl [H2]; · iexact H2
  isplitl [H3]; · iexact H3
  isplitl [H6]; · iexact H6
  have e2 := View.readAt_unit arg2.view X2 (k0_off4_inb i k) (off4_rb i k) (inbQ _)
  have e3 := View.readAt_unit arg3.view X3 (k0_off4_inb i k) (off4_rb i k) (inbQ _)
  have e6 := View.readAt_unit arg6.view X6 (k0_off5_inb i k) (off5_rb i k) (inbS _)
  have ed : trip.sl.r i arg2 arg3 arg6 v16 v18 v22 X2 X3 X6 k
      = dsOf v18 (rowsQ (arg3.view.read (Elt F) X3) (rb (2 * (i 1).val + 2 + k.val))) (rowsS (arg6.view.read (Elt F) X6) (rb (2 * (i 1).val + 2 + k.val)))
          (probs v16 v22 (rowsQ (arg2.view.read (Elt F) X2) (rb (2 * (i 1).val + 2 + k.val))) (rowsS (arg6.view.read (Elt F) X6) (rb (2 * (i 1).val + 2 + k.val)))) := by
    unfold trip.sl.r
    rw [pay8_eq, e2, e3, e6]; rfl
  isplitl [H12]
  · iexists _
    isplitl [H12]; · iexact H12
    ipureintro
    rw [View.read_writes_cons_put _ _ _ _ _ (off6_rb i k), View.writes_nil, View.readAt_unit _ _ _ (off6_rb i k) (inbC _), h12, ed]
    rfl
  isplitl [H13]
  · iexists _
    isplitl [H13]; · iexact H13
    ipureintro
    rw [View.read_writes_cons_put _ _ _ _ _ (off4_rb i k), View.writes_nil, View.readAt_unit _ _ _ (off4_rb i k) (inbQ _), h13]
    unfold trip.sl.r_1
    rw [pay9_eq, e2, e3, e6]
    rfl
  isplitl [H14]
  · iexists _
    isplitl [H14]; · iexact H14
    ipureintro
    rw [View.read_writes_full, View.readAt_full, h14, pay11_eq, e2, e3, e6]
    rfl
  isplitl [H15]
  · iexists _
    isplitl [H15]; · iexact H15
    ipureintro
    rw [View.read_writes_full, View.readAt_full, h15, pay10_eq, e2, e3, e6]
    rfl
  · iexists _
    isplitl [H16]; · iexact H16
    ipureintro
    rw [View.read_writes_full, View.readAt_full, h16, ed]
    rfl
set_option warn.classDefReducibility false in
/-- The loop by its invariant. -/
@[sl_loop] def loopInv (s12 : Vec F S1x8192x1 .f32) (s13 : Vec F S8192x128 .f32) (s14 s15 : Vec F S1024x128 .f32) (s16 : Vec F S1x1024 .f32) :
    LoopInv (M := 𝕄) Idealize.ShloMosaic.frame (wpE (defs₀ (F := F)) 𝒱 (c : Thread nD τ) bd) E
      (k0_t1_loop i).lb (k0_t1_loop i).ub (k0_t1_loop i).st (k0_t1_ok i) ()
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v16 v18 v22 v99 v129 v147 v170) where
  inv := inv c i arg2 arg3 arg6 arg12 arg13 arg14 arg15 arg16 v16 v18 v22 X2 X3 X6 s12 s13 s14 s15 s16
  step k a := trip 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v16 v18 v22 v99 v129 v147 v170 X2 X3 X6 s12 s13 s14 s15 s16 k a

end Loop

end Cert.Proof.Trip
-- ==== Proof.Run.lean ====
/-
  The body of the attention's backward kernel at one grid point: from the staged blocks and the carried accumulators to
  the output blocks and the accumulators that `Block.point` describes.
-/
module

public import proofs.«01_k».proof.Proof.Trip
public import Idealize.ShloMosaic.Lib.Exec
public import Idealize.ShloMosaic.Lib.Tactic
public import Idealize.ShloMosaic.Lib.Pipeline.FrameBody

@[expose] public section

set_option maxRecDepth 16384
set_option maxHeartbeats 4000000

noncomputable section

namespace Cert.Proof.Run

open Cert.KernelIdeal Cert.KernelIdeal.Gen Cert.Proof.Block Cert.Proof.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's first branch, taken at the first key tile. -/
abbrev cond1 (i : grid0.Coords) : BitVec 1 := Scalar.cmpi .ne (Scalar.extui (Scalar.cmpi .eq (BitVec.ofNat 32 (i 1).val) 0#32) : BitVec 32) 0#32
theorem cond1_iff (i : grid0.Coords) : cond1 i = 1#1 ↔ (i 1).val = 0 := by
  have h : ∀ i : grid0.Coords, cond1 i = 1#1 ↔ (i 1).val = 0 := by decide +kernel
  exact h i
/-- The body's last branch, taken at the last key tile. -/
theorem cond2_iff (i : grid0.Coords) : k0_cond2 i = 1#1 ↔ (i 1).val = 7 := by
  have h : ∀ i : grid0.Coords, k0_cond2 i = 1#1 ↔ (i 1).val = 7 := by decide +kernel
  exact h i

theorem rb_diag (i : grid0.Coords) (r : Fin 2) : 512 * (rb (2 * (i 1).val + r.val)).val = 1024 * (i 1).val + 512 * r.val := by
  have h : (i 1).val < 8 := (i 1).isLt
  have := r.isLt
  rw [rb_val (by omega)]; omega
theorem off1_rb (i : grid0.Coords) (r : Fin 2) : k0_off1 i (BitVec.ofNat 32 r.val) = ![512 * (rb (2 * (i 1).val + r.val)).val, 0] := by
  rw [k0_off1_eq, rb_diag]
theorem off2_rb (i : grid0.Coords) (r : Fin 2) : k0_off2 i (BitVec.ofNat 32 r.val) = ![0, 512 * (rb (2 * (i 1).val + r.val)).val, 0] := by
  rw [k0_off2_eq, rb_diag]
theorem off3_rb (i : grid0.Coords) (r : Fin 2) : k0_off3 i (BitVec.ofNat 32 r.val) = ![0, 512 * (rb (2 * (i 1).val + r.val)).val, 0] := by
  rw [k0_off3_eq, rb_diag]

theorem off1_0 (i : grid0.Coords) : k0_off1 i 0#32 = ![512 * (rb (2 * (i 1).val)).val, 0] := off1_rb i 0
theorem off1_1 (i : grid0.Coords) : k0_off1 i 1#32 = ![512 * (rb (2 * (i 1).val + 1)).val, 0] := off1_rb i 1
theorem off2_0 (i : grid0.Coords) : k0_off2 i 0#32 = ![0, 512 * (rb (2 * (i 1).val)).val, 0] := off2_rb i 0
theorem off2_1 (i : grid0.Coords) : k0_off2 i 1#32 = ![0, 512 * (rb (2 * (i 1).val + 1)).val, 0] := off2_rb i 1
theorem off3_0 (i : grid0.Coords) : k0_off3 i 0#32 = ![0, 512 * (rb (2 * (i 1).val)).val, 0] := off3_rb i 0
theorem off3_1 (i : grid0.Coords) : k0_off3 i 1#32 = ![0, 512 * (rb (2 * (i 1).val + 1)).val, 0] := off3_rb i 1

/-! What a load of a row block reads, and what a store of one leaves, at the two blocks on the diagonal. -/

theorem ldQ0 {e : EltTy} (i : grid0.Coords) (a : Memref sig .tc .vmem S8192x128 e) (f : a.view.ty.Contents (Elt F)) (inb) :
    a.view.readAt (Elt F) (Rect.unit (s := S8192x128) (k0_off1 i 0#32) ![512, 128] inb).toLoadRect f
      = rowsQ (a.view.read (Elt F) f) (rb (2 * (i 1).val)) := View.readAt_unit a.view f inb (off1_0 i) (inbQ _)
theorem ldQ1 {e : EltTy} (i : grid0.Coords) (a : Memref sig .tc .vmem S8192x128 e) (f : a.view.ty.Contents (Elt F)) (inb) :
    a.view.readAt (Elt F) (Rect.unit (s := S8192x128) (k0_off1 i 1#32) ![512, 128] inb).toLoadRect f
      = rowsQ (a.view.read (Elt F) f) (rb (2 * (i 1).val + 1)) := View.readAt_unit a.view f inb (off1_1 i) (inbQ _)
theorem ldS0 (i : grid0.Coords) (a : Memref sig .tc .vmem S1x8192x8 .f32) (f : a.view.ty.Contents (Elt F)) (inb) :
    a.view.readAt (Elt F) (Rect.unit (s := S1x8192x8) (k0_off2 i 0#32) ![1, 512, 8] inb).toLoadRect f
      = rowsS (a.view.read (Elt F) f) (rb (2 * (i 1).val)) := View.readAt_unit a.view f inb (off2_0 i) (inbS _)
theorem ldS1 (i : grid0.Coords) (a : Memref sig .tc .vmem S1x8192x8 .f32) (f : a.view.ty.Contents (Elt F)) (inb) :
    a.view.readAt (Elt F) (Rect.unit (s := S1x8192x8) (k0_off2 i 1#32) ![1, 512, 8] inb).toLoadRect f
      = rowsS (a.view.read (Elt F) f) (rb (2 * (i 1).val + 1)) := View.readAt_unit a.view f inb (off2_1 i) (inbS _)
theorem ldC0 (i : grid0.Coords) (a : Memref sig .tc .vmem S1x8192x1 .f32) (f : a.view.ty.Contents (Elt F)) (inb) :
    a.view.readAt (Elt F) (Rect.unit (s := S1x8192x1) (k0_off3 i 0#32) ![1, 512, 1] inb).toLoadRect f
      = rowsC (a.view.read (Elt F) f) (rb (2 * (i 1).val)) := View.readAt_unit a.view f inb (off3_0 i) (inbC _)
theorem ldC1 (i : grid0.Coords) (a : Memref sig .tc .vmem S1x8192x1 .f32) (f : a.view.ty.Contents (Elt F)) (inb) :
    a.view.readAt (Elt F) (Rect.unit (s := S1x8192x1) (k0_off3 i 1#32) ![1, 512, 1] inb).toLoadRect f
      = rowsC (a.view.read (Elt F) f) (rb (2 * (i 1).val + 1)) := View.readAt_unit a.view f inb (off3_1 i) (inbC _)
theorem stQ0 (i : grid0.Coords) (a : Memref sig .tc .vmem S8192x128 .f32) (f : a.view.ty.Contents (Elt F)) (inb) (w) (L) :
    a.view.read (Elt F) (a.view.writes (Elt F) f (⟨Rect.unit (s := S8192x128) (k0_off1 i 0#32) ![512, 128] inb, w⟩ :: L))
      = VecWindow.put (a.view.read (Elt F) (a.view.writes (Elt F) f L)) ![512 * (rb (2 * (i 1).val)).val, 0] S512x128.size w :=
  View.read_writes_cons_put a.view f inb w L (off1_0 i)
theorem stQ1 (i : grid0.Coords) (a : Memref sig .tc .vmem S8192x128 .f32) (f : a.view.ty.Contents (Elt F)) (inb) (w) (L) :
    a.view.read (Elt F) (a.view.writes (Elt F) f (⟨Rect.unit (s := S8192x128) (k0_off1 i 1#32) ![512, 128] inb, w⟩ :: L))
      = VecWindow.put (a.view.read (Elt F) (a.view.writes (Elt F) f L)) ![512 * (rb (2 * (i 1).val + 1)).val, 0] S512x128.size w :=
  View.read_writes_cons_put a.view f inb w L (off1_1 i)
theorem stC0 (i : grid0.Coords) (a : Memref sig .tc .vmem S1x8192x1 .f32) (f : a.view.ty.Contents (Elt F)) (inb) (w) (L) :
    a.view.read (Elt F) (a.view.writes (Elt F) f (⟨Rect.unit (s := S1x8192x1) (k0_off3 i 0#32) ![1, 512, 1] inb, w⟩ :: L))
      = VecWindow.put (a.view.read (Elt F) (a.view.writes (Elt F) f L)) ![0, 512 * (rb (2 * (i 1).val)).val, 0] S1x512x1.size w :=
  View.read_writes_cons_put a.view f inb w L (off3_0 i)
theorem stC1 (i : grid0.Coords) (a : Memref sig .tc .vmem S1x8192x1 .f32) (f : a.view.ty.Contents (Elt F)) (inb) (w) (L) :
    a.view.read (Elt F) (a.view.writes (Elt F) f (⟨Rect.unit (s := S1x8192x1) (k0_off3 i 1#32) ![1, 512, 1] inb, w⟩ :: L))
      = VecWindow.put (a.view.read (Elt F) (a.view.writes (Elt F) f L)) ![0, 512 * (rb (2 * (i 1).val + 1)).val, 0] S1x512x1.size w :=
  View.read_writes_cons_put a.view f inb w L (off3_1 i)

theorem cvQ0 (i : grid0.Coords) (a : Memref sig .tc .vmem S8192x128 .f32) (L) (inb) :
    a.view.readCov (Val := Elt F) L (Rect.unit (s := S8192x128) (k0_off1 i 0#32) ![512, 128] inb).toLoadRect
      = rowsQ (a.view.read (Elt F) (a.view.writes (Elt F) a.view.junk L)) (rb (2 * (i 1).val)) := ldQ0 i a _ inb
theorem cvQ1 (i : grid0.Coords) (a : Memref sig .tc .vmem S8192x128 .f32) (L) (inb) :
    a.view.readCov (Val := Elt F) L (Rect.unit (s := S8192x128) (k0_off1 i 1#32) ![512, 128] inb).toLoadRect
      = rowsQ (a.view.read (Elt F) (a.view.writes (Elt F) a.view.junk L)) (rb (2 * (i 1).val + 1)) := ldQ1 i a _ inb
theorem cvC0 (i : grid0.Coords) (a : Memref sig .tc .vmem S1x8192x1 .f32) (L) (inb) :
    a.view.readCov (Val := Elt F) L (Rect.unit (s := S1x8192x1) (k0_off3 i 0#32) ![1, 512, 1] inb).toLoadRect
      = rowsC (a.view.read (Elt F) (a.view.writes (Elt F) a.view.junk L)) (rb (2 * (i 1).val)) := ldC0 i a _ inb
theorem cvC1 (i : grid0.Coords) (a : Memref sig .tc .vmem S1x8192x1 .f32) (L) (inb) :
    a.view.readCov (Val := Elt F) L (Rect.unit (s := S1x8192x1) (k0_off3 i 1#32) ![1, 512, 1] inb).toLoadRect
      = rowsC (a.view.read (Elt F) (a.view.writes (Elt F) a.view.junk L)) (rb (2 * (i 1).val + 1)) := ldC1 i a _ inb

/-! The two diagonal row blocks are disjoint. -/

theorem rowsQ_put (i : grid0.Coords) (x : Vec F S8192x128 .f32) (w : Vec F S512x128 .f32) :
    rowsQ (VecWindow.put (s := S8192x128) x ![512 * (rb (2 * (i 1).val)).val, 0] ![512, 128] w) (rb (2 * (i 1).val + 1))
      = rowsQ x (rb (2 * (i 1).val + 1)) := by
  have h0 := rb_diag i 0
  have h1 := rb_diag i 1
  simp only [Fin.val_zero, Fin.val_one, Nat.add_zero] at h0 h1
  exact VecWindow.window_put_of_disjoint (s := S8192x128) x _ _ _ _ _ w 0 (Or.inr (by
    show 512 * _ + 512 ≤ 512 * _
    omega))
theorem rowsC_put (i : grid0.Coords) (x : Vec F S1x8192x1 .f32) (w : Vec F S1x512x1 .f32) :
    rowsC (VecWindow.put (s := S1x8192x1) x ![0, 512 * (rb (2 * (i 1).val)).val, 0] ![1, 512, 1] w) (rb (2 * (i 1).val + 1))
      = rowsC x (rb (2 * (i 1).val + 1)) := by
  have h0 := rb_diag i 0
  have h1 := rb_diag i 1
  simp only [Fin.val_zero, Fin.val_one, Nat.add_zero] at h0 h1
  exact VecWindow.window_put_of_disjoint (s := S1x8192x1) x _ _ _ _ _ w 1 (Or.inr (by
    show 512 * _ + 512 ≤ 512 * _
    omega))

theorem ldK {e : EltTy} (a : Memref sig .tc .vmem S1024x128 e) (f : a.view.ty.Contents (Elt F)) (inb) :
    a.view.readAt (Elt F) (Rect.unit (s := S1024x128) ![0, 0] ![1024, 128] inb).toLoadRect f = a.view.read (Elt F) f := View.readAt_full a.view f inb
theorem cvK {e : EltTy} (a : Memref sig .tc .vmem S1024x128 e) (inb) (inb') (w) (L) :
    a.view.readCov (Val := Elt F) (⟨Rect.unit (s := S1024x128) ![0, 0] ![1024, 128] inb', w⟩ :: L) (Rect.unit (s := S1024x128) ![0, 0] ![1024, 128] inb).toLoadRect = w :=
  View.readCov_full a.view inb inb' w L
theorem wrK {e : EltTy} (a : Memref sig .tc .vmem S1024x128 e) (f : a.view.ty.Contents (Elt F)) (inb) (w) (L) :
    a.view.read (Elt F) (a.view.writes (Elt F) f (⟨Rect.unit (s := S1024x128) ![0, 0] ![1024, 128] inb, w⟩ :: L)) = w := View.read_writes_full a.view f inb w L

theorem ldR {e : EltTy} (a : Memref sig .tc .vmem S1x1024 e) (f : a.view.ty.Contents (Elt F)) (inb) :
    a.view.readAt (Elt F) (Rect.unit (s := S1x1024) ![0, 0] ![1, 1024] inb).toLoadRect f = a.view.read (Elt F) f := View.readAt_full a.view f inb
theorem cvR {e : EltTy} (a : Memref sig .tc .vmem S1x1024 e) (inb) (inb') (w) (L) :
    a.view.readCov (Val := Elt F) (⟨Rect.unit (s := S1x1024) ![0, 0] ![1, 1024] inb', w⟩ :: L) (Rect.unit (s := S1x1024) ![0, 0] ![1, 1024] inb).toLoadRect = w :=
  View.readCov_full a.view inb inb' w L
theorem wrR {e : EltTy} (a : Memref sig .tc .vmem S1x1024 e) (f : a.view.ty.Contents (Elt F)) (inb) (w) (L) :
    a.view.read (Elt F) (a.view.writes (Elt F) f (⟨Rect.unit (s := S1x1024) ![0, 0] ![1, 1024] inb, w⟩ :: L)) = w := View.read_writes_full a.view f inb w L

theorem ldT {e : EltTy} (a : Memref sig .tc .vmem S1x1x1024 e) (f : a.view.ty.Contents (Elt F)) (inb) :
    a.view.readAt (Elt F) (Rect.unit (s := S1x1x1024) ![0, 0, 0] ![1, 1, 1024] inb).toLoadRect f = a.view.read (Elt F) f := View.readAt_full a.view f inb
theorem cvT {e : EltTy} (a : Memref sig .tc .vmem S1x1x1024 e) (inb) (inb') (w) (L) :
    a.view.readCov (Val := Elt F) (⟨Rect.unit (s := S1x1x1024) ![0, 0, 0] ![1, 1, 1024] inb', w⟩ :: L) (Rect.unit (s := S1x1x1024) ![0, 0, 0] ![1, 1, 1024] inb).toLoadRect = w :=
  View.readCov_full a.view inb inb' w L
theorem wrT {e : EltTy} (a : Memref sig .tc .vmem S1x1x1024 e) (f : a.view.ty.Contents (Elt F)) (inb) (w) (L) :
    a.view.read (Elt F) (a.view.writes (Elt F) f (⟨Rect.unit (s := S1x1x1024) ![0, 0, 0] ![1, 1, 1024] inb, w⟩ :: L)) = w := View.read_writes_full a.view f inb w L

theorem ldA {e : EltTy} (a : Memref sig .tc .vmem S8192x128 e) (f : a.view.ty.Contents (Elt F)) (inb) :
    a.view.readAt (Elt F) (Rect.unit (s := S8192x128) ![0, 0] ![8192, 128] inb).toLoadRect f = a.view.read (Elt F) f := View.readAt_full a.view f inb
theorem cvA {e : EltTy} (a : Memref sig .tc .vmem S8192x128 e) (inb) (inb') (w) (L) :
    a.view.readCov (Val := Elt F) (⟨Rect.unit (s := S8192x128) ![0, 0] ![8192, 128] inb', w⟩ :: L) (Rect.unit (s := S8192x128) ![0, 0] ![8192, 128] inb).toLoadRect = w :=
  View.readCov_full a.view inb inb' w L
theorem wrA {e : EltTy} (a : Memref sig .tc .vmem S8192x128 e) (f : a.view.ty.Contents (Elt F)) (inb) (w) (L) :
    a.view.read (Elt F) (a.view.writes (Elt F) f (⟨Rect.unit (s := S8192x128) ![0, 0] ![8192, 128] inb, w⟩ :: L)) = w := View.read_writes_full a.view f inb w L

theorem ldB {e : EltTy} (a : Memref sig .tc .vmem S1x8192x1 e) (f : a.view.ty.Contents (Elt F)) (inb) :
    a.view.readAt (Elt F) (Rect.unit (s := S1x8192x1) ![0, 0, 0] ![1, 8192, 1] inb).toLoadRect f = a.view.read (Elt F) f := View.readAt_full a.view f inb
theorem cvB {e : EltTy} (a : Memref sig .tc .vmem S1x8192x1 e) (inb) (inb') (w) (L) :
    a.view.readCov (Val := Elt F) (⟨Rect.unit (s := S1x8192x1) ![0, 0, 0] ![1, 8192, 1] inb', w⟩ :: L) (Rect.unit (s := S1x8192x1) ![0, 0, 0] ![1, 8192, 1] inb).toLoadRect = w :=
  View.readCov_full a.view inb inb' w L
theorem wrB {e : EltTy} (a : Memref sig .tc .vmem S1x8192x1 e) (f : a.view.ty.Contents (Elt F)) (inb) (w) (L) :
    a.view.read (Elt F) (a.view.writes (Elt F) f (⟨Rect.unit (s := S1x8192x1) ![0, 0, 0] ![1, 8192, 1] inb, w⟩ :: L)) = w := View.read_writes_full a.view f inb w L

section Run
variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S1x8192x8 .f32) (harg6 : arg6.IsWhole)
  (arg7 : Memref sig .tc .vmem S1x1x1024 .f32) (harg7 : arg7.IsWhole)
  (arg8 : Memref sig .tc .vmem S8192x128 .bf16) (harg8 : arg8.IsWhole)
  (arg9 : Memref sig .tc .vmem S1024x128 .bf16) (harg9 : arg9.IsWhole)
  (arg10 : Memref sig .tc .vmem S1024x128 .bf16) (harg10 : arg10.IsWhole)
  (arg11 : Memref sig .tc .vmem S1x1x1024 .f32) (harg11 : arg11.IsWhole)
  (arg12 : Memref sig .tc .vmem S1x8192x1 .f32) (harg12 : arg12.IsWhole)
  (arg13 : Memref sig .tc .vmem S8192x128 .f32) (harg13 : arg13.IsWhole)
  (arg14 : Memref sig .tc .vmem S1024x128 .f32) (harg14 : arg14.IsWhole)
  (arg15 : Memref sig .tc .vmem S1024x128 .f32) (harg15 : arg15.IsWhole)
  (arg16 : Memref sig .tc .vmem S1x1024 .f32) (harg16 : arg16.IsWhole)

/-- A key tile between the first and the last. -/
theorem run_mid (h0 : ¬ cond1 i = 1#1) (h7 : ¬ k0_cond2 i = 1#1)
    (x2 x3 : Vec F S8192x128 .bf16) (x4 x5 : Vec F S1024x128 .bf16) (x6 : Vec F S1x8192x8 .f32) (x7 : Vec F S1x1x1024 .f32)
    (x8 : Vec F S8192x128 .bf16) (x12 : Vec F S1x8192x1 .f32) (x13 : Vec F S8192x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay57 (point x2 x3 x4 x5 x6 x7 (i 1).val x13 x12).dk) ∗ owns (c : Thread nD τ) arg10 fullShare (k0_pay1 (point x2 x3 x4 x5 x6 x7 (i 1).val x13 x12).dv) ∗ owns (c : Thread nD τ) arg11 fullShare (k0_pay2 (point x2 x3 x4 x5 x6 x7 (i 1).val x13 x12).cr) ∗ owns (c : Thread nD τ) arg12 fullShare (point x2 x3 x4 x5 x6 x7 (i 1).val x13 x12).cc ∗ owns (c : Thread nD τ) arg13 fullShare (point x2 x3 x4 x5 x6 x7 (i 1).val x13 x12).dq ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have htr := trips2_eq i
  simp only [cc0_attn_bwd_eq_skeleton]; unfold cc0_attn_bwd_skel
  simp only [k0_part3_eq_skeleton, k0_part4_eq_skeleton, k0_part5_eq_skeleton, k0_part6_eq_skeleton, k0_part7_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7', H7⟩, ⟨%f8, %h8, H8⟩, ⟨%d9, %f9, -, H9⟩, ⟨%d10, %f10, -, H10⟩, ⟨%d11, %f11, -, H11⟩, ⟨%f12, %h12, H12⟩, ⟨%f13, %h13, H13⟩, ⟨%d14, %f14, -, H14⟩, ⟨%d15, %f15, -, H15⟩, ⟨%d16, %f16, -, H16⟩, Hk⟩
  sl_exec (disch := first | sl_exact h0 | sl_exact h7)
  sl_step
  iapply Hk
  have hj : ¬ (i 1).val = 0 := fun h => h0 ((cond1_iff i).2 h)
  subst h2 h3 h4 h5 h6 h7' h8 h12 h13
  obtain ⟨S0, kk, vv, cv, hS, hk, hv, hc, g12, g13, g14, g15, g16⟩ : ∃ (S0 : St F) (kk vv : FVec F S1024x128 .bf16) (cv : FVec F S1x1024 .f32),
      S0 = blk (arg2.view.read (Elt F) f2) (arg3.view.read (Elt F) f3) (arg6.view.read (Elt F) f6) (k0_pay25 (arg4.view.read (Elt F) f4))
        (k0_pay26 (arg5.view.read (Elt F) f5)) (k0_pay27 (arg7.view.read (Elt F) f7)) (causal 512#32) (rb (2 * (i 1).val + 1))
        (blk (arg2.view.read (Elt F) f2) (arg3.view.read (Elt F) f3) (arg6.view.read (Elt F) f6) (k0_pay25 (arg4.view.read (Elt F) f4))
          (k0_pay26 (arg5.view.read (Elt F) f5)) (k0_pay27 (arg7.view.read (Elt F) f7)) (causal 0#32) (rb (2 * (i 1).val))
          (start (i 1).val (arg13.view.read (Elt F) f13) (arg12.view.read (Elt F) f12)))
      ∧ kk = k0_pay25 (arg4.view.read (Elt F) f4) ∧ vv = k0_pay26 (arg5.view.read (Elt F) f5) ∧ cv = k0_pay27 (arg7.view.read (Elt F) f7)
      ∧ arg12.view.read (Elt F) fL0 = (below (arg2.view.read (Elt F) f2) (arg3.view.read (Elt F) f3) (arg6.view.read (Elt F) f6) kk vv cv (i 1).val (k0_t1_loop i).trips S0).cc
      ∧ arg13.view.read (Elt F) fL1 = (below (arg2.view.read (Elt F) f2) (arg3.view.read (Elt F) f3) (arg6.view.read (Elt F) f6) kk vv cv (i 1).val (k0_t1_loop i).trips S0).dq
      ∧ arg14.view.read (Elt F) fL2 = (below (arg2.view.read (Elt F) f2) (arg3.view.read (Elt F) f3) (arg6.view.read (Elt F) f6) kk vv cv (i 1).val (k0_t1_loop i).trips S0).dk
      ∧ arg15.view.read (Elt F) fL3 = (below (arg2.view.read (Elt F) f2) (arg3.view.read (Elt F) f3) (arg6.view.read (Elt F) f6) kk vv cv (i 1).val (k0_t1_loop i).trips S0).dv
      ∧ arg16.view.read (Elt F) fL4 = (below (arg2.view.read (Elt F) f2) (arg3.view.read (Elt F) f3) (arg6.view.read (Elt F) f6) kk vv cv (i 1).val (k0_t1_loop i).trips S0).cr := by
    refine ⟨_, _, _, _, ?_, ?_, ?_, ?_, by assumption, by assumption, by assumption, by assumption, by assumption⟩
    · apply St.ext
      · show arg13.view.read (Elt F) (arg13.view.writes (Elt F) f13 _) = _
        delta run_mid.sl.H16_1 run_mid.sl.r_8 run_mid.sl.H14_2 run_mid.sl.v131 run_mid.sl.H14_1 run_mid.sl.r_3 run_mid.sl.r_5 run_mid.sl.r_10 run_mid.sl.r_6 run_mid.sl.r_7 run_mid.sl.r_1 run_mid.sl.v152 run_mid.sl.H16_2 run_mid.sl.H15_3 run_mid.sl.r_2 run_mid.sl.v58 run_mid.sl.v138 run_mid.sl.r_9 run_mid.sl.H15_2 run_mid.sl.H16_3 run_mid.sl.r_11 run_mid.sl.v65 run_mid.sl.r_4 run_mid.sl.H15_1 run_mid.sl.v79 run_mid.sl.v145 run_mid.sl.r run_mid.sl.H14_3 run_mid.sl.v160
        simp only [stQ0, stQ1, ldQ0, ldQ1, ldS0, ldS1, View.writes_nil, ldK, cvK, wrK, ldR, cvR, wrR, ldT, cvT, wrT, ldA, cvA, wrA, ldB, cvB, wrB,
          pay33_eq, pay36_eq, pay47_eq, blk, upd, start, rowsQ_put, rowsC_put, if_neg hj]
        exact congrArg (VecWindow.put (s := S8192x128) _ _ _) (congrArg (addDq _ _) (rowsQ_put i _ _).symm)
      · show arg14.view.read (Elt F) (arg14.view.writes (Elt F) _ _) = _
        delta run_mid.sl.H16_1 run_mid.sl.r_8 run_mid.sl.H14_2 run_mid.sl.v131 run_mid.sl.H14_1 run_mid.sl.r_3 run_mid.sl.r_5 run_mid.sl.r_10 run_mid.sl.r_6 run_mid.sl.r_7 run_mid.sl.r_1 run_mid.sl.v152 run_mid.sl.H16_2 run_mid.sl.H15_3 run_mid.sl.r_2 run_mid.sl.v58 run_mid.sl.v138 run_mid.sl.r_9 run_mid.sl.H15_2 run_mid.sl.H16_3 run_mid.sl.r_11 run_mid.sl.v65 run_mid.sl.r_4 run_mid.sl.H15_1 run_mid.sl.v79 run_mid.sl.v145 run_mid.sl.r run_mid.sl.H14_3 run_mid.sl.v160
        simp only [ldQ0, ldQ1, ldS0, ldS1, ldK, cvK, wrK, ldR, cvR, wrR, ldT, cvT, wrT, ldA, cvA, wrA, ldB, cvB, wrB, pay35_eq, pay46_eq, blk, upd, start]
      · show arg15.view.read (Elt F) (arg15.view.writes (Elt F) _ _) = _
        delta run_mid.sl.H16_1 run_mid.sl.r_8 run_mid.sl.H14_2 run_mid.sl.v131 run_mid.sl.H14_1 run_mid.sl.r_3 run_mid.sl.r_5 run_mid.sl.r_10 run_mid.sl.r_6 run_mid.sl.r_7 run_mid.sl.r_1 run_mid.sl.v152 run_mid.sl.H16_2 run_mid.sl.H15_3 run_mid.sl.r_2 run_mid.sl.v58 run_mid.sl.v138 run_mid.sl.r_9 run_mid.sl.H15_2 run_mid.sl.H16_3 run_mid.sl.r_11 run_mid.sl.v65 run_mid.sl.r_4 run_mid.sl.H15_1 run_mid.sl.v79 run_mid.sl.v145 run_mid.sl.r run_mid.sl.H14_3 run_mid.sl.v160
        simp only [ldQ0, ldQ1, ldS0, ldS1, ldK, cvK, wrK, ldR, cvR, wrR, ldT, cvT, wrT, ldA, cvA, wrA, ldB, cvB, wrB, pay34_eq, pay45_eq, blk, upd, start]
      · show arg16.view.read (Elt F) (arg16.view.writes (Elt F) _ _) = _
        delta run_mid.sl.H16_1 run_mid.sl.r_8 run_mid.sl.H14_2 run_mid.sl.v131 run_mid.sl.H14_1 run_mid.sl.r_3 run_mid.sl.r_5 run_mid.sl.r_10 run_mid.sl.r_6 run_mid.sl.r_7 run_mid.sl.r_1 run_mid.sl.v152 run_mid.sl.H16_2 run_mid.sl.H15_3 run_mid.sl.r_2 run_mid.sl.v58 run_mid.sl.v138 run_mid.sl.r_9 run_mid.sl.H15_2 run_mid.sl.H16_3 run_mid.sl.r_11 run_mid.sl.v65 run_mid.sl.r_4 run_mid.sl.H15_1 run_mid.sl.v79 run_mid.sl.v145 run_mid.sl.r run_mid.sl.H14_3 run_mid.sl.v160
        simp only [ldQ0, ldQ1, ldS0, ldS1, ldK, cvK, wrK, ldR, cvR, wrR, ldT, cvT, wrT, ldA, cvA, wrA, ldB, cvB, wrB, pay32_eq, pay43_eq, pay37_eq, pay49_eq, blk, upd, start]
      · show arg12.view.read (Elt F) (arg12.view.writes (Elt F) f12 _) = _
        delta run_mid.sl.H16_1 run_mid.sl.r_8 run_mid.sl.H14_2 run_mid.sl.v131 run_mid.sl.H14_1 run_mid.sl.r_3 run_mid.sl.r_5 run_mid.sl.r_10 run_mid.sl.r_6 run_mid.sl.r_7 run_mid.sl.r_1 run_mid.sl.v152 run_mid.sl.H16_2 run_mid.sl.H15_3 run_mid.sl.r_2 run_mid.sl.v58 run_mid.sl.v138 run_mid.sl.r_9 run_mid.sl.H15_2 run_mid.sl.H16_3 run_mid.sl.r_11 run_mid.sl.v65 run_mid.sl.r_4 run_mid.sl.H15_1 run_mid.sl.v79 run_mid.sl.v145 run_mid.sl.r run_mid.sl.H14_3 run_mid.sl.v160
        simp only [stC0, stC1, ldC0, ldC1, ldQ0, ldQ1, ldS0, ldS1, View.writes_nil, ldK, cvK, wrK, ldR, cvR, wrR, ldT, cvT, wrT, ldA, cvA, wrA, ldB, cvB, wrB,
          pay32_eq, pay43_eq, pay38_eq, pay50_eq, blk, upd, start, rowsQ_put, rowsC_put, if_neg hj]
        exact congrArg (VecWindow.put (s := S1x8192x1) _ _ _) (congrArg (k0_pay53 _) (rowsC_put i _ _).symm)
    · delta run_mid.sl.H16_1 run_mid.sl.r_8 run_mid.sl.H14_2 run_mid.sl.v131 run_mid.sl.H14_1 run_mid.sl.r_3 run_mid.sl.r_5 run_mid.sl.r_10 run_mid.sl.r_6 run_mid.sl.r_7 run_mid.sl.r_1 run_mid.sl.v152 run_mid.sl.H16_2 run_mid.sl.H15_3 run_mid.sl.r_2 run_mid.sl.v58 run_mid.sl.v138 run_mid.sl.r_9 run_mid.sl.H15_2 run_mid.sl.H16_3 run_mid.sl.r_11 run_mid.sl.v65 run_mid.sl.r_4 run_mid.sl.H15_1 run_mid.sl.v79 run_mid.sl.v145 run_mid.sl.r run_mid.sl.H14_3 run_mid.sl.v160
      simp only [ldK, cvK, wrK, ldR, cvR, wrR, ldT, cvT, wrT, ldA, cvA, wrA, ldB, cvB, wrB]
    · delta run_mid.sl.H16_1 run_mid.sl.r_8 run_mid.sl.H14_2 run_mid.sl.v131 run_mid.sl.H14_1 run_mid.sl.r_3 run_mid.sl.r_5 run_mid.sl.r_10 run_mid.sl.r_6 run_mid.sl.r_7 run_mid.sl.r_1 run_mid.sl.v152 run_mid.sl.H16_2 run_mid.sl.H15_3 run_mid.sl.r_2 run_mid.sl.v58 run_mid.sl.v138 run_mid.sl.r_9 run_mid.sl.H15_2 run_mid.sl.H16_3 run_mid.sl.r_11 run_mid.sl.v65 run_mid.sl.r_4 run_mid.sl.H15_1 run_mid.sl.v79 run_mid.sl.v145 run_mid.sl.r run_mid.sl.H14_3 run_mid.sl.v160
      simp only [ldK, cvK, wrK, ldR, cvR, wrR, ldT, cvT, wrT, ldA, cvA, wrA, ldB, cvB, wrB]
    · delta run_mid.sl.H16_1 run_mid.sl.r_8 run_mid.sl.H14_2 run_mid.sl.v131 run_mid.sl.H14_1 run_mid.sl.r_3 run_mid.sl.r_5 run_mid.sl.r_10 run_mid.sl.r_6 run_mid.sl.r_7 run_mid.sl.r_1 run_mid.sl.v152 run_mid.sl.H16_2 run_mid.sl.H15_3 run_mid.sl.r_2 run_mid.sl.v58 run_mid.sl.v138 run_mid.sl.r_9 run_mid.sl.H15_2 run_mid.sl.H16_3 run_mid.sl.r_11 run_mid.sl.v65 run_mid.sl.r_4 run_mid.sl.H15_1 run_mid.sl.v79 run_mid.sl.v145 run_mid.sl.r run_mid.sl.H14_3 run_mid.sl.v160
      simp only [ldK, cvK, wrK, ldR, cvR, wrR, ldT, cvT, wrT, ldA, cvA, wrA, ldB, cvB, wrB]
  subst hS hk hv hc
  rw [trips_eq] at g12 g13 g14 g15 g16
  isplitl [H2]
  · iexists f2
    isplitl []; rotate_left; · iexact H2
    ipureintro; rfl
  isplitl [H3]
  · iexists f3
    isplitl []; rotate_left; · iexact H3
    ipureintro; rfl
  isplitl [H4]
  · iexists f4
    isplitl []; rotate_left; · iexact H4
    ipureintro; rfl
  isplitl [H5]
  · iexists f5
    isplitl []; rotate_left; · iexact H5
    ipureintro; rfl
  isplitl [H6]
  · iexists f6
    isplitl []; rotate_left; · iexact H6
    ipureintro; rfl
  isplitl [H7]
  · iexists f7
    isplitl []; rotate_left; · iexact H7
    ipureintro; rfl
  isplitl [H8]
  · iexists f8
    isplitl []; rotate_left; · iexact H8
    ipureintro; rfl
  isplitl [H9]
  · iexists _
    isplitl []; rotate_left; · iexact H9
    ipureintro
    exact (View.read_writes_full arg9.view f9 _ _ _).trans (congrArg k0_pay57 ((View.readAt_full arg14.view fL2 _).trans g14))
  isplitl [H10]
  · iexists _
    isplitl []; rotate_left; · iexact H10
    ipureintro
    exact (View.read_writes_full arg10.view f10 _ _ _).trans (congrArg k0_pay1 ((View.readAt_full arg15.view fL3 _).trans g15))
  isplitl [H11]
  · iexists _
    isplitl []; rotate_left; · iexact H11
    ipureintro
    exact (View.read_writes_full arg11.view f11 _ _ _).trans (congrArg k0_pay2 ((View.readAt_full arg16.view fL4 _).trans g16))
  isplitl [H12]
  · iexists _
    isplitl []; rotate_left; · iexact H12
    ipureintro
    exact g12
  isplitl [H13]
  · iexists _
    isplitl []; rotate_left; · iexact H13
    ipureintro
    exact g13
  isplitl [H14]
  · iexists arg14.view.read (Elt F) fL2, fL2
    isplitl []; rotate_left; · iexact H14
    ipureintro; rfl
  isplitl [H15]
  · iexists arg15.view.read (Elt F) fL3, fL3
    isplitl []; rotate_left; · iexact H15
    ipureintro; rfl
  · iexists arg16.view.read (Elt F) fL4, fL4
    isplitl []; rotate_left; · iexact H16
    ipureintro; rfl

end Run

end Cert.Proof.Run
-- ==== Proof.RunFirst.lean ====
/-
  The body at the first key tile.
-/
module

public import proofs.«01_k».proof.Proof.Run
public import Idealize.ShloMosaic.Lib.Exec
public import Idealize.ShloMosaic.Lib.Tactic
public import Idealize.ShloMosaic.Lib.Pipeline.FrameBody

@[expose] public section

set_option maxRecDepth 16384
set_option maxHeartbeats 4000000

noncomputable section

namespace Cert.Proof.Run

open Cert.KernelIdeal Cert.KernelIdeal.Gen Cert.Proof.Block Cert.Proof.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Run
variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S1x8192x8 .f32) (harg6 : arg6.IsWhole)
  (arg7 : Memref sig .tc .vmem S1x1x1024 .f32) (harg7 : arg7.IsWhole)
  (arg8 : Memref sig .tc .vmem S8192x128 .bf16) (harg8 : arg8.IsWhole)
  (arg9 : Memref sig .tc .vmem S1024x128 .bf16) (harg9 : arg9.IsWhole)
  (arg10 : Memref sig .tc .vmem S1024x128 .bf16) (harg10 : arg10.IsWhole)
  (arg11 : Memref sig .tc .vmem S1x1x1024 .f32) (harg11 : arg11.IsWhole)
  (arg12 : Memref sig .tc .vmem S1x8192x1 .f32) (harg12 : arg12.IsWhole)
  (arg13 : Memref sig .tc .vmem S8192x128 .f32) (harg13 : arg13.IsWhole)
  (arg14 : Memref sig .tc .vmem S1024x128 .f32) (harg14 : arg14.IsWhole)
  (arg15 : Memref sig .tc .vmem S1024x128 .f32) (harg15 : arg15.IsWhole)
  (arg16 : Memref sig .tc .vmem S1x1024 .f32) (harg16 : arg16.IsWhole)

/-- The first key tile, where the queries' accumulators are cleared. -/
theorem run_first (h0 : cond1 i = 1#1) (h7 : ¬ k0_cond2 i = 1#1)
    (x2 x3 : Vec F S8192x128 .bf16) (x4 x5 : Vec F S1024x128 .bf16) (x6 : Vec F S1x8192x8 .f32) (x7 : Vec F S1x1x1024 .f32)
    (x8 : Vec F S8192x128 .bf16) (x12 : Vec F S1x8192x1 .f32) (x13 : Vec F S8192x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay57 (point x2 x3 x4 x5 x6 x7 (i 1).val x13 x12).dk) ∗ owns (c : Thread nD τ) arg10 fullShare (k0_pay1 (point x2 x3 x4 x5 x6 x7 (i 1).val x13 x12).dv) ∗ owns (c : Thread nD τ) arg11 fullShare (k0_pay2 (point x2 x3 x4 x5 x6 x7 (i 1).val x13 x12).cr) ∗ owns (c : Thread nD τ) arg12 fullShare (point x2 x3 x4 x5 x6 x7 (i 1).val x13 x12).cc ∗ owns (c : Thread nD τ) arg13 fullShare (point x2 x3 x4 x5 x6 x7 (i 1).val x13 x12).dq ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have htr := trips2_eq i
  simp only [cc0_attn_bwd_eq_skeleton]; unfold cc0_attn_bwd_skel
  simp only [k0_part3_eq_skeleton, k0_part4_eq_skeleton, k0_part5_eq_skeleton, k0_part6_eq_skeleton, k0_part7_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7', H7⟩, ⟨%f8, %h8, H8⟩, ⟨%d9, %f9, -, H9⟩, ⟨%d10, %f10, -, H10⟩, ⟨%d11, %f11, -, H11⟩, ⟨%f12, %h12, H12⟩, ⟨%f13, %h13, H13⟩, ⟨%d14, %f14, -, H14⟩, ⟨%d15, %f15, -, H15⟩, ⟨%d16, %f16, -, H16⟩, Hk⟩
  sl_exec (disch := first | sl_exact h0 | sl_exact h7)
  sl_step
  iapply Hk
  have hj : (i 1).val = 0 := (cond1_iff i).1 h0
  subst h2 h3 h4 h5 h6 h7' h8 h12 h13
  obtain ⟨S0, kk, vv, cv, hS, hk, hv, hc, g12, g13, g14, g15, g16⟩ : ∃ (S0 : St F) (kk vv : FVec F S1024x128 .bf16) (cv : FVec F S1x1024 .f32),
      S0 = blk (arg2.view.read (Elt F) f2) (arg3.view.read (Elt F) f3) (arg6.view.read (Elt F) f6) (k0_pay25 (arg4.view.read (Elt F) f4))
        (k0_pay26 (arg5.view.read (Elt F) f5)) (k0_pay27 (arg7.view.read (Elt F) f7)) (causal 512#32) (rb (2 * (i 1).val + 1))
        (blk (arg2.view.read (Elt F) f2) (arg3.view.read (Elt F) f3) (arg6.view.read (Elt F) f6) (k0_pay25 (arg4.view.read (Elt F) f4))
          (k0_pay26 (arg5.view.read (Elt F) f5)) (k0_pay27 (arg7.view.read (Elt F) f7)) (causal 0#32) (rb (2 * (i 1).val))
          (start (i 1).val (arg13.view.read (Elt F) f13) (arg12.view.read (Elt F) f12)))
      ∧ kk = k0_pay25 (arg4.view.read (Elt F) f4) ∧ vv = k0_pay26 (arg5.view.read (Elt F) f5) ∧ cv = k0_pay27 (arg7.view.read (Elt F) f7)
      ∧ arg12.view.read (Elt F) fL0 = (below (arg2.view.read (Elt F) f2) (arg3.view.read (Elt F) f3) (arg6.view.read (Elt F) f6) kk vv cv (i 1).val (k0_t1_loop i).trips S0).cc
      ∧ arg13.view.read (Elt F) fL1 = (below (arg2.view.read (Elt F) f2) (arg3.view.read (Elt F) f3) (arg6.view.read (Elt F) f6) kk vv cv (i 1).val (k0_t1_loop i).trips S0).dq
      ∧ arg14.view.read (Elt F) fL2 = (below (arg2.view.read (Elt F) f2) (arg3.view.read (Elt F) f3) (arg6.view.read (Elt F) f6) kk vv cv (i 1).val (k0_t1_loop i).trips S0).dk
      ∧ arg15.view.read (Elt F) fL3 = (below (arg2.view.read (Elt F) f2) (arg3.view.read (Elt F) f3) (arg6.view.read (Elt F) f6) kk vv cv (i 1).val (k0_t1_loop i).trips S0).dv
      ∧ arg16.view.read (Elt F) fL4 = (below (arg2.view.read (Elt F) f2) (arg3.view.read (Elt F) f3) (arg6.view.read (Elt F) f6) kk vv cv (i 1).val (k0_t1_loop i).trips S0).cr := by
    refine ⟨_, _, _, _, ?_, ?_, ?_, ?_, by assumption, by assumption, by assumption, by assumption, by assumption⟩
    · apply St.ext
      · show arg13.view.read (Elt F) (arg13.view.writes (Elt F) _ _) = _
        delta run_first.sl.H16_1 run_first.sl.r_8 run_first.sl.H14_2 run_first.sl.v131 run_first.sl.H14_1 run_first.sl.r_3 run_first.sl.r_5 run_first.sl.r_10 run_first.sl.r_6 run_first.sl.r_7 run_first.sl.r_1 run_first.sl.v152 run_first.sl.H16_2 run_first.sl.H15_3 run_first.sl.r_2 run_first.sl.v58 run_first.sl.v138 run_first.sl.r_9 run_first.sl.H15_2 run_first.sl.H16_3 run_first.sl.r_11 run_first.sl.v65 run_first.sl.r_4 run_first.sl.H15_1 run_first.sl.v79 run_first.sl.v145 run_first.sl.r run_first.sl.H14_3 run_first.sl.v160 run_first.sl.H12_1 run_first.sl.H12_2 run_first.sl.H13_1 run_first.sl.H13_2 run_first.sl.v87 run_first.sl.v72
        simp only [stQ0, stQ1, ldQ0, ldQ1, ldS0, ldS1, cvQ0, cvQ1, cvC0, cvC1, View.writes_nil, ldK, cvK, wrK, ldR, cvR, wrR, ldT, cvT, wrT, ldA, cvA, wrA, ldB, cvB, wrB,
          pay33_eq, pay36_eq, pay47_eq, blk, upd, start, rowsQ_put, rowsC_put, if_pos hj]
      · show arg14.view.read (Elt F) (arg14.view.writes (Elt F) _ _) = _
        delta run_first.sl.H16_1 run_first.sl.r_8 run_first.sl.H14_2 run_first.sl.v131 run_first.sl.H14_1 run_first.sl.r_3 run_first.sl.r_5 run_first.sl.r_10 run_first.sl.r_6 run_first.sl.r_7 run_first.sl.r_1 run_first.sl.v152 run_first.sl.H16_2 run_first.sl.H15_3 run_first.sl.r_2 run_first.sl.v58 run_first.sl.v138 run_first.sl.r_9 run_first.sl.H15_2 run_first.sl.H16_3 run_first.sl.r_11 run_first.sl.v65 run_first.sl.r_4 run_first.sl.H15_1 run_first.sl.v79 run_first.sl.v145 run_first.sl.r run_first.sl.H14_3 run_first.sl.v160 run_first.sl.H12_1 run_first.sl.H12_2 run_first.sl.H13_1 run_first.sl.H13_2 run_first.sl.v87 run_first.sl.v72
        simp only [ldQ0, ldQ1, ldS0, ldS1, cvQ0, cvQ1, cvC0, cvC1, ldK, cvK, wrK, ldR, cvR, wrR, ldT, cvT, wrT, ldA, cvA, wrA, ldB, cvB, wrB, pay35_eq, pay46_eq, blk, upd, start]
      · show arg15.view.read (Elt F) (arg15.view.writes (Elt F) _ _) = _
        delta run_first.sl.H16_1 run_first.sl.r_8 run_first.sl.H14_2 run_first.sl.v131 run_first.sl.H14_1 run_first.sl.r_3 run_first.sl.r_5 run_first.sl.r_10 run_first.sl.r_6 run_first.sl.r_7 run_first.sl.r_1 run_first.sl.v152 run_first.sl.H16_2 run_first.sl.H15_3 run_first.sl.r_2 run_first.sl.v58 run_first.sl.v138 run_first.sl.r_9 run_first.sl.H15_2 run_first.sl.H16_3 run_first.sl.r_11 run_first.sl.v65 run_first.sl.r_4 run_first.sl.H15_1 run_first.sl.v79 run_first.sl.v145 run_first.sl.r run_first.sl.H14_3 run_first.sl.v160 run_first.sl.H12_1 run_first.sl.H12_2 run_first.sl.H13_1 run_first.sl.H13_2 run_first.sl.v87 run_first.sl.v72
        simp only [ldQ0, ldQ1, ldS0, ldS1, cvQ0, cvQ1, cvC0, cvC1, ldK, cvK, wrK, ldR, cvR, wrR, ldT, cvT, wrT, ldA, cvA, wrA, ldB, cvB, wrB, pay34_eq, pay45_eq, blk, upd, start]
      · show arg16.view.read (Elt F) (arg16.view.writes (Elt F) _ _) = _
        delta run_first.sl.H16_1 run_first.sl.r_8 run_first.sl.H14_2 run_first.sl.v131 run_first.sl.H14_1 run_first.sl.r_3 run_first.sl.r_5 run_first.sl.r_10 run_first.sl.r_6 run_first.sl.r_7 run_first.sl.r_1 run_first.sl.v152 run_first.sl.H16_2 run_first.sl.H15_3 run_first.sl.r_2 run_first.sl.v58 run_first.sl.v138 run_first.sl.r_9 run_first.sl.H15_2 run_first.sl.H16_3 run_first.sl.r_11 run_first.sl.v65 run_first.sl.r_4 run_first.sl.H15_1 run_first.sl.v79 run_first.sl.v145 run_first.sl.r run_first.sl.H14_3 run_first.sl.v160 run_first.sl.H12_1 run_first.sl.H12_2 run_first.sl.H13_1 run_first.sl.H13_2 run_first.sl.v87 run_first.sl.v72
        simp only [ldQ0, ldQ1, ldS0, ldS1, cvQ0, cvQ1, cvC0, cvC1, ldK, cvK, wrK, ldR, cvR, wrR, ldT, cvT, wrT, ldA, cvA, wrA, ldB, cvB, wrB, pay32_eq, pay43_eq, pay37_eq, pay49_eq, blk, upd, start]
      · show arg12.view.read (Elt F) (arg12.view.writes (Elt F) _ _) = _
        delta run_first.sl.H16_1 run_first.sl.r_8 run_first.sl.H14_2 run_first.sl.v131 run_first.sl.H14_1 run_first.sl.r_3 run_first.sl.r_5 run_first.sl.r_10 run_first.sl.r_6 run_first.sl.r_7 run_first.sl.r_1 run_first.sl.v152 run_first.sl.H16_2 run_first.sl.H15_3 run_first.sl.r_2 run_first.sl.v58 run_first.sl.v138 run_first.sl.r_9 run_first.sl.H15_2 run_first.sl.H16_3 run_first.sl.r_11 run_first.sl.v65 run_first.sl.r_4 run_first.sl.H15_1 run_first.sl.v79 run_first.sl.v145 run_first.sl.r run_first.sl.H14_3 run_first.sl.v160 run_first.sl.H12_1 run_first.sl.H12_2 run_first.sl.H13_1 run_first.sl.H13_2 run_first.sl.v87 run_first.sl.v72
        simp only [stC0, stC1, ldC0, ldC1, ldQ0, ldQ1, ldS0, ldS1, cvQ0, cvQ1, cvC0, cvC1, View.writes_nil, ldK, cvK, wrK, ldR, cvR, wrR, ldT, cvT, wrT, ldA, cvA, wrA, ldB, cvB, wrB,
          pay32_eq, pay43_eq, pay38_eq, pay50_eq, blk, upd, start, rowsQ_put, rowsC_put, if_pos hj]
    · delta run_first.sl.H16_1 run_first.sl.r_8 run_first.sl.H14_2 run_first.sl.v131 run_first.sl.H14_1 run_first.sl.r_3 run_first.sl.r_5 run_first.sl.r_10 run_first.sl.r_6 run_first.sl.r_7 run_first.sl.r_1 run_first.sl.v152 run_first.sl.H16_2 run_first.sl.H15_3 run_first.sl.r_2 run_first.sl.v58 run_first.sl.v138 run_first.sl.r_9 run_first.sl.H15_2 run_first.sl.H16_3 run_first.sl.r_11 run_first.sl.v65 run_first.sl.r_4 run_first.sl.H15_1 run_first.sl.v79 run_first.sl.v145 run_first.sl.r run_first.sl.H14_3 run_first.sl.v160 run_first.sl.H12_1 run_first.sl.H12_2 run_first.sl.H13_1 run_first.sl.H13_2 run_first.sl.v87 run_first.sl.v72
      simp only [ldK, cvK, wrK, ldR, cvR, wrR, ldT, cvT, wrT, ldA, cvA, wrA, ldB, cvB, wrB]
    · delta run_first.sl.H16_1 run_first.sl.r_8 run_first.sl.H14_2 run_first.sl.v131 run_first.sl.H14_1 run_first.sl.r_3 run_first.sl.r_5 run_first.sl.r_10 run_first.sl.r_6 run_first.sl.r_7 run_first.sl.r_1 run_first.sl.v152 run_first.sl.H16_2 run_first.sl.H15_3 run_first.sl.r_2 run_first.sl.v58 run_first.sl.v138 run_first.sl.r_9 run_first.sl.H15_2 run_first.sl.H16_3 run_first.sl.r_11 run_first.sl.v65 run_first.sl.r_4 run_first.sl.H15_1 run_first.sl.v79 run_first.sl.v145 run_first.sl.r run_first.sl.H14_3 run_first.sl.v160 run_first.sl.H12_1 run_first.sl.H12_2 run_first.sl.H13_1 run_first.sl.H13_2 run_first.sl.v87 run_first.sl.v72
      simp only [ldK, cvK, wrK, ldR, cvR, wrR, ldT, cvT, wrT, ldA, cvA, wrA, ldB, cvB, wrB]
    · delta run_first.sl.H16_1 run_first.sl.r_8 run_first.sl.H14_2 run_first.sl.v131 run_first.sl.H14_1 run_first.sl.r_3 run_first.sl.r_5 run_first.sl.r_10 run_first.sl.r_6 run_first.sl.r_7 run_first.sl.r_1 run_first.sl.v152 run_first.sl.H16_2 run_first.sl.H15_3 run_first.sl.r_2 run_first.sl.v58 run_first.sl.v138 run_first.sl.r_9 run_first.sl.H15_2 run_first.sl.H16_3 run_first.sl.r_11 run_first.sl.v65 run_first.sl.r_4 run_first.sl.H15_1 run_first.sl.v79 run_first.sl.v145 run_first.sl.r run_first.sl.H14_3 run_first.sl.v160 run_first.sl.H12_1 run_first.sl.H12_2 run_first.sl.H13_1 run_first.sl.H13_2 run_first.sl.v87 run_first.sl.v72
      simp only [ldK, cvK, wrK, ldR, cvR, wrR, ldT, cvT, wrT, ldA, cvA, wrA, ldB, cvB, wrB]
  subst hS hk hv hc
  rw [trips_eq] at g12 g13 g14 g15 g16
  isplitl [H2]
  · iexists f2
    isplitl []; rotate_left; · iexact H2
    ipureintro; rfl
  isplitl [H3]
  · iexists f3
    isplitl []; rotate_left; · iexact H3
    ipureintro; rfl
  isplitl [H4]
  · iexists f4
    isplitl []; rotate_left; · iexact H4
    ipureintro; rfl
  isplitl [H5]
  · iexists f5
    isplitl []; rotate_left; · iexact H5
    ipureintro; rfl
  isplitl [H6]
  · iexists f6
    isplitl []; rotate_left; · iexact H6
    ipureintro; rfl
  isplitl [H7]
  · iexists f7
    isplitl []; rotate_left; · iexact H7
    ipureintro; rfl
  isplitl [H8]
  · iexists f8
    isplitl []; rotate_left; · iexact H8
    ipureintro; rfl
  isplitl [H9]
  · iexists _
    isplitl []; rotate_left; · iexact H9
    ipureintro
    exact (View.read_writes_full arg9.view f9 _ _ _).trans (congrArg k0_pay57 ((View.readAt_full arg14.view fL2 _).trans g14))
  isplitl [H10]
  · iexists _
    isplitl []; rotate_left; · iexact H10
    ipureintro
    exact (View.read_writes_full arg10.view f10 _ _ _).trans (congrArg k0_pay1 ((View.readAt_full arg15.view fL3 _).trans g15))
  isplitl [H11]
  · iexists _
    isplitl []; rotate_left; · iexact H11
    ipureintro
    exact (View.read_writes_full arg11.view f11 _ _ _).trans (congrArg k0_pay2 ((View.readAt_full arg16.view fL4 _).trans g16))
  isplitl [H12]
  · iexists _
    isplitl []; rotate_left; · iexact H12
    ipureintro
    exact g12
  isplitl [H13]
  · iexists _
    isplitl []; rotate_left; · iexact H13
    ipureintro
    exact g13
  isplitl [H14]
  · iexists arg14.view.read (Elt F) fL2, fL2
    isplitl []; rotate_left; · iexact H14
    ipureintro; rfl
  isplitl [H15]
  · iexists arg15.view.read (Elt F) fL3, fL3
    isplitl []; rotate_left; · iexact H15
    ipureintro; rfl
  · iexists arg16.view.read (Elt F) fL4, fL4
    isplitl []; rotate_left; · iexact H16
    ipureintro; rfl

end Run

end Cert.Proof.Run
-- ==== Proof.RunLast.lean ====
/-
  The body at the last key tile.
-/
module

public import proofs.«01_k».proof.Proof.Run
public import Idealize.ShloMosaic.Lib.Exec
public import Idealize.ShloMosaic.Lib.Tactic
public import Idealize.ShloMosaic.Lib.Pipeline.FrameBody

@[expose] public section

set_option maxRecDepth 16384
set_option maxHeartbeats 4000000

noncomputable section

namespace Cert.Proof.Run

open Cert.KernelIdeal Cert.KernelIdeal.Gen Cert.Proof.Block Cert.Proof.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Run
variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S1x8192x8 .f32) (harg6 : arg6.IsWhole)
  (arg7 : Memref sig .tc .vmem S1x1x1024 .f32) (harg7 : arg7.IsWhole)
  (arg8 : Memref sig .tc .vmem S8192x128 .bf16) (harg8 : arg8.IsWhole)
  (arg9 : Memref sig .tc .vmem S1024x128 .bf16) (harg9 : arg9.IsWhole)
  (arg10 : Memref sig .tc .vmem S1024x128 .bf16) (harg10 : arg10.IsWhole)
  (arg11 : Memref sig .tc .vmem S1x1x1024 .f32) (harg11 : arg11.IsWhole)
  (arg12 : Memref sig .tc .vmem S1x8192x1 .f32) (harg12 : arg12.IsWhole)
  (arg13 : Memref sig .tc .vmem S8192x128 .f32) (harg13 : arg13.IsWhole)
  (arg14 : Memref sig .tc .vmem S1024x128 .f32) (harg14 : arg14.IsWhole)
  (arg15 : Memref sig .tc .vmem S1024x128 .f32) (harg15 : arg15.IsWhole)
  (arg16 : Memref sig .tc .vmem S1x1024 .f32) (harg16 : arg16.IsWhole)

/-- The last key tile, where the queries' gradient is scaled and stored. -/
theorem run_last (h0 : ¬ cond1 i = 1#1) (h7 : k0_cond2 i = 1#1)
    (x2 x3 : Vec F S8192x128 .bf16) (x4 x5 : Vec F S1024x128 .bf16) (x6 : Vec F S1x8192x8 .f32) (x7 : Vec F S1x1x1024 .f32)
    (x8 : Vec F S8192x128 .bf16) (x12 : Vec F S1x8192x1 .f32) (x13 : Vec F S8192x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay3 (point x2 x3 x4 x5 x6 x7 (i 1).val x13 x12).dq) ∗ owns (c : Thread nD τ) arg9 fullShare (k0_pay57 (point x2 x3 x4 x5 x6 x7 (i 1).val x13 x12).dk) ∗ owns (c : Thread nD τ) arg10 fullShare (k0_pay1 (point x2 x3 x4 x5 x6 x7 (i 1).val x13 x12).dv) ∗ owns (c : Thread nD τ) arg11 fullShare (k0_pay2 (point x2 x3 x4 x5 x6 x7 (i 1).val x13 x12).cr) ∗ owns (c : Thread nD τ) arg12 fullShare (point x2 x3 x4 x5 x6 x7 (i 1).val x13 x12).cc ∗ owns (c : Thread nD τ) arg13 fullShare (point x2 x3 x4 x5 x6 x7 (i 1).val x13 x12).dq ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have htr := trips2_eq i
  simp only [cc0_attn_bwd_eq_skeleton]; unfold cc0_attn_bwd_skel
  simp only [k0_part3_eq_skeleton, k0_part4_eq_skeleton, k0_part5_eq_skeleton, k0_part6_eq_skeleton, k0_part7_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7', H7⟩, ⟨%f8, %h8, H8⟩, ⟨%d9, %f9, -, H9⟩, ⟨%d10, %f10, -, H10⟩, ⟨%d11, %f11, -, H11⟩, ⟨%f12, %h12, H12⟩, ⟨%f13, %h13, H13⟩, ⟨%d14, %f14, -, H14⟩, ⟨%d15, %f15, -, H15⟩, ⟨%d16, %f16, -, H16⟩, Hk⟩
  sl_exec (disch := first | sl_exact h0 | sl_exact h7)
  sl_step
  iapply Hk
  have hj : ¬ (i 1).val = 0 := fun h => h0 ((cond1_iff i).2 h)
  subst h2 h3 h4 h5 h6 h7' h8 h12 h13
  obtain ⟨S0, kk, vv, cv, hS, hk, hv, hc, g12, g13, g14, g15, g16⟩ : ∃ (S0 : St F) (kk vv : FVec F S1024x128 .bf16) (cv : FVec F S1x1024 .f32),
      S0 = blk (arg2.view.read (Elt F) f2) (arg3.view.read (Elt F) f3) (arg6.view.read (Elt F) f6) (k0_pay25 (arg4.view.read (Elt F) f4))
        (k0_pay26 (arg5.view.read (Elt F) f5)) (k0_pay27 (arg7.view.read (Elt F) f7)) (causal 512#32) (rb (2 * (i 1).val + 1))
        (blk (arg2.view.read (Elt F) f2) (arg3.view.read (Elt F) f3) (arg6.view.read (Elt F) f6) (k0_pay25 (arg4.view.read (Elt F) f4))
          (k0_pay26 (arg5.view.read (Elt F) f5)) (k0_pay27 (arg7.view.read (Elt F) f7)) (causal 0#32) (rb (2 * (i 1).val))
          (start (i 1).val (arg13.view.read (Elt F) f13) (arg12.view.read (Elt F) f12)))
      ∧ kk = k0_pay25 (arg4.view.read (Elt F) f4) ∧ vv = k0_pay26 (arg5.view.read (Elt F) f5) ∧ cv = k0_pay27 (arg7.view.read (Elt F) f7)
      ∧ arg12.view.read (Elt F) fL0 = (below (arg2.view.read (Elt F) f2) (arg3.view.read (Elt F) f3) (arg6.view.read (Elt F) f6) kk vv cv (i 1).val (k0_t1_loop i).trips S0).cc
      ∧ arg13.view.read (Elt F) fL1 = (below (arg2.view.read (Elt F) f2) (arg3.view.read (Elt F) f3) (arg6.view.read (Elt F) f6) kk vv cv (i 1).val (k0_t1_loop i).trips S0).dq
      ∧ arg14.view.read (Elt F) fL2 = (below (arg2.view.read (Elt F) f2) (arg3.view.read (Elt F) f3) (arg6.view.read (Elt F) f6) kk vv cv (i 1).val (k0_t1_loop i).trips S0).dk
      ∧ arg15.view.read (Elt F) fL3 = (below (arg2.view.read (Elt F) f2) (arg3.view.read (Elt F) f3) (arg6.view.read (Elt F) f6) kk vv cv (i 1).val (k0_t1_loop i).trips S0).dv
      ∧ arg16.view.read (Elt F) fL4 = (below (arg2.view.read (Elt F) f2) (arg3.view.read (Elt F) f3) (arg6.view.read (Elt F) f6) kk vv cv (i 1).val (k0_t1_loop i).trips S0).cr := by
    refine ⟨_, _, _, _, ?_, ?_, ?_, ?_, by assumption, by assumption, by assumption, by assumption, by assumption⟩
    · apply St.ext
      · show arg13.view.read (Elt F) (arg13.view.writes (Elt F) f13 _) = _
        delta run_last.sl.H16_1 run_last.sl.r_8 run_last.sl.H14_2 run_last.sl.v131 run_last.sl.H14_1 run_last.sl.r_3 run_last.sl.r_5 run_last.sl.r_10 run_last.sl.r_6 run_last.sl.r_7 run_last.sl.r_1 run_last.sl.v152 run_last.sl.H16_2 run_last.sl.H15_3 run_last.sl.r_2 run_last.sl.v58 run_last.sl.v138 run_last.sl.r_9 run_last.sl.H15_2 run_last.sl.H16_3 run_last.sl.r_11 run_last.sl.v65 run_last.sl.r_4 run_last.sl.H15_1 run_last.sl.v79 run_last.sl.v145 run_last.sl.r run_last.sl.H14_3 run_last.sl.v160
        simp only [stQ0, stQ1, ldQ0, ldQ1, ldS0, ldS1, View.writes_nil, ldK, cvK, wrK, ldR, cvR, wrR, ldT, cvT, wrT, ldA, cvA, wrA, ldB, cvB, wrB,
          pay33_eq, pay36_eq, pay47_eq, blk, upd, start, rowsQ_put, rowsC_put, if_neg hj]
        exact congrArg (VecWindow.put (s := S8192x128) _ _ _) (congrArg (addDq _ _) (rowsQ_put i _ _).symm)
      · show arg14.view.read (Elt F) (arg14.view.writes (Elt F) _ _) = _
        delta run_last.sl.H16_1 run_last.sl.r_8 run_last.sl.H14_2 run_last.sl.v131 run_last.sl.H14_1 run_last.sl.r_3 run_last.sl.r_5 run_last.sl.r_10 run_last.sl.r_6 run_last.sl.r_7 run_last.sl.r_1 run_last.sl.v152 run_last.sl.H16_2 run_last.sl.H15_3 run_last.sl.r_2 run_last.sl.v58 run_last.sl.v138 run_last.sl.r_9 run_last.sl.H15_2 run_last.sl.H16_3 run_last.sl.r_11 run_last.sl.v65 run_last.sl.r_4 run_last.sl.H15_1 run_last.sl.v79 run_last.sl.v145 run_last.sl.r run_last.sl.H14_3 run_last.sl.v160
        simp only [ldQ0, ldQ1, ldS0, ldS1, ldK, cvK, wrK, ldR, cvR, wrR, ldT, cvT, wrT, ldA, cvA, wrA, ldB, cvB, wrB, pay35_eq, pay46_eq, blk, upd, start]
      · show arg15.view.read (Elt F) (arg15.view.writes (Elt F) _ _) = _
        delta run_last.sl.H16_1 run_last.sl.r_8 run_last.sl.H14_2 run_last.sl.v131 run_last.sl.H14_1 run_last.sl.r_3 run_last.sl.r_5 run_last.sl.r_10 run_last.sl.r_6 run_last.sl.r_7 run_last.sl.r_1 run_last.sl.v152 run_last.sl.H16_2 run_last.sl.H15_3 run_last.sl.r_2 run_last.sl.v58 run_last.sl.v138 run_last.sl.r_9 run_last.sl.H15_2 run_last.sl.H16_3 run_last.sl.r_11 run_last.sl.v65 run_last.sl.r_4 run_last.sl.H15_1 run_last.sl.v79 run_last.sl.v145 run_last.sl.r run_last.sl.H14_3 run_last.sl.v160
        simp only [ldQ0, ldQ1, ldS0, ldS1, ldK, cvK, wrK, ldR, cvR, wrR, ldT, cvT, wrT, ldA, cvA, wrA, ldB, cvB, wrB, pay34_eq, pay45_eq, blk, upd, start]
      · show arg16.view.read (Elt F) (arg16.view.writes (Elt F) _ _) = _
        delta run_last.sl.H16_1 run_last.sl.r_8 run_last.sl.H14_2 run_last.sl.v131 run_last.sl.H14_1 run_last.sl.r_3 run_last.sl.r_5 run_last.sl.r_10 run_last.sl.r_6 run_last.sl.r_7 run_last.sl.r_1 run_last.sl.v152 run_last.sl.H16_2 run_last.sl.H15_3 run_last.sl.r_2 run_last.sl.v58 run_last.sl.v138 run_last.sl.r_9 run_last.sl.H15_2 run_last.sl.H16_3 run_last.sl.r_11 run_last.sl.v65 run_last.sl.r_4 run_last.sl.H15_1 run_last.sl.v79 run_last.sl.v145 run_last.sl.r run_last.sl.H14_3 run_last.sl.v160
        simp only [ldQ0, ldQ1, ldS0, ldS1, ldK, cvK, wrK, ldR, cvR, wrR, ldT, cvT, wrT, ldA, cvA, wrA, ldB, cvB, wrB, pay32_eq, pay43_eq, pay37_eq, pay49_eq, blk, upd, start]
      · show arg12.view.read (Elt F) (arg12.view.writes (Elt F) f12 _) = _
        delta run_last.sl.H16_1 run_last.sl.r_8 run_last.sl.H14_2 run_last.sl.v131 run_last.sl.H14_1 run_last.sl.r_3 run_last.sl.r_5 run_last.sl.r_10 run_last.sl.r_6 run_last.sl.r_7 run_last.sl.r_1 run_last.sl.v152 run_last.sl.H16_2 run_last.sl.H15_3 run_last.sl.r_2 run_last.sl.v58 run_last.sl.v138 run_last.sl.r_9 run_last.sl.H15_2 run_last.sl.H16_3 run_last.sl.r_11 run_last.sl.v65 run_last.sl.r_4 run_last.sl.H15_1 run_last.sl.v79 run_last.sl.v145 run_last.sl.r run_last.sl.H14_3 run_last.sl.v160
        simp only [stC0, stC1, ldC0, ldC1, ldQ0, ldQ1, ldS0, ldS1, View.writes_nil, ldK, cvK, wrK, ldR, cvR, wrR, ldT, cvT, wrT, ldA, cvA, wrA, ldB, cvB, wrB,
          pay32_eq, pay43_eq, pay38_eq, pay50_eq, blk, upd, start, rowsQ_put, rowsC_put, if_neg hj]
        exact congrArg (VecWindow.put (s := S1x8192x1) _ _ _) (congrArg (k0_pay53 _) (rowsC_put i _ _).symm)
    · delta run_last.sl.H16_1 run_last.sl.r_8 run_last.sl.H14_2 run_last.sl.v131 run_last.sl.H14_1 run_last.sl.r_3 run_last.sl.r_5 run_last.sl.r_10 run_last.sl.r_6 run_last.sl.r_7 run_last.sl.r_1 run_last.sl.v152 run_last.sl.H16_2 run_last.sl.H15_3 run_last.sl.r_2 run_last.sl.v58 run_last.sl.v138 run_last.sl.r_9 run_last.sl.H15_2 run_last.sl.H16_3 run_last.sl.r_11 run_last.sl.v65 run_last.sl.r_4 run_last.sl.H15_1 run_last.sl.v79 run_last.sl.v145 run_last.sl.r run_last.sl.H14_3 run_last.sl.v160
      simp only [ldK, cvK, wrK, ldR, cvR, wrR, ldT, cvT, wrT, ldA, cvA, wrA, ldB, cvB, wrB]
    · delta run_last.sl.H16_1 run_last.sl.r_8 run_last.sl.H14_2 run_last.sl.v131 run_last.sl.H14_1 run_last.sl.r_3 run_last.sl.r_5 run_last.sl.r_10 run_last.sl.r_6 run_last.sl.r_7 run_last.sl.r_1 run_last.sl.v152 run_last.sl.H16_2 run_last.sl.H15_3 run_last.sl.r_2 run_last.sl.v58 run_last.sl.v138 run_last.sl.r_9 run_last.sl.H15_2 run_last.sl.H16_3 run_last.sl.r_11 run_last.sl.v65 run_last.sl.r_4 run_last.sl.H15_1 run_last.sl.v79 run_last.sl.v145 run_last.sl.r run_last.sl.H14_3 run_last.sl.v160
      simp only [ldK, cvK, wrK, ldR, cvR, wrR, ldT, cvT, wrT, ldA, cvA, wrA, ldB, cvB, wrB]
    · delta run_last.sl.H16_1 run_last.sl.r_8 run_last.sl.H14_2 run_last.sl.v131 run_last.sl.H14_1 run_last.sl.r_3 run_last.sl.r_5 run_last.sl.r_10 run_last.sl.r_6 run_last.sl.r_7 run_last.sl.r_1 run_last.sl.v152 run_last.sl.H16_2 run_last.sl.H15_3 run_last.sl.r_2 run_last.sl.v58 run_last.sl.v138 run_last.sl.r_9 run_last.sl.H15_2 run_last.sl.H16_3 run_last.sl.r_11 run_last.sl.v65 run_last.sl.r_4 run_last.sl.H15_1 run_last.sl.v79 run_last.sl.v145 run_last.sl.r run_last.sl.H14_3 run_last.sl.v160
      simp only [ldK, cvK, wrK, ldR, cvR, wrR, ldT, cvT, wrT, ldA, cvA, wrA, ldB, cvB, wrB]
  subst hS hk hv hc
  rw [trips_eq] at g12 g13 g14 g15 g16
  isplitl [H2]
  · iexists f2
    isplitl []; rotate_left; · iexact H2
    ipureintro; rfl
  isplitl [H3]
  · iexists f3
    isplitl []; rotate_left; · iexact H3
    ipureintro; rfl
  isplitl [H4]
  · iexists f4
    isplitl []; rotate_left; · iexact H4
    ipureintro; rfl
  isplitl [H5]
  · iexists f5
    isplitl []; rotate_left; · iexact H5
    ipureintro; rfl
  isplitl [H6]
  · iexists f6
    isplitl []; rotate_left; · iexact H6
    ipureintro; rfl
  isplitl [H7]
  · iexists f7
    isplitl []; rotate_left; · iexact H7
    ipureintro; rfl
  isplitl [H8]
  · iexists _
    isplitl []; rotate_left; · iexact H8
    ipureintro
    exact (View.read_writes_full arg8.view f8 _ _ _).trans (congrArg k0_pay3 ((View.readAt_full arg13.view fL1 _).trans g13))
  isplitl [H9]
  · iexists _
    isplitl []; rotate_left; · iexact H9
    ipureintro
    exact (View.read_writes_full arg9.view f9 _ _ _).trans (congrArg k0_pay57 ((View.readAt_full arg14.view fL2 _).trans g14))
  isplitl [H10]
  · iexists _
    isplitl []; rotate_left; · iexact H10
    ipureintro
    exact (View.read_writes_full arg10.view f10 _ _ _).trans (congrArg k0_pay1 ((View.readAt_full arg15.view fL3 _).trans g15))
  isplitl [H11]
  · iexists _
    isplitl []; rotate_left; · iexact H11
    ipureintro
    exact (View.read_writes_full arg11.view f11 _ _ _).trans (congrArg k0_pay2 ((View.readAt_full arg16.view fL4 _).trans g16))
  isplitl [H12]
  · iexists _
    isplitl []; rotate_left; · iexact H12
    ipureintro
    exact g12
  isplitl [H13]
  · iexists _
    isplitl []; rotate_left; · iexact H13
    ipureintro
    exact g13
  isplitl [H14]
  · iexists arg14.view.read (Elt F) fL2, fL2
    isplitl []; rotate_left; · iexact H14
    ipureintro; rfl
  isplitl [H15]
  · iexists arg15.view.read (Elt F) fL3, fL3
    isplitl []; rotate_left; · iexact H15
    ipureintro; rfl
  · iexists arg16.view.read (Elt F) fL4, fL4
    isplitl []; rotate_left; · iexact H16
    ipureintro; rfl

end Run

end Cert.Proof.Run
-- ==== Proof.RunAll.lean ====
/-
  The body at any grid point, from its three cases.
-/
module

public import proofs.«01_k».proof.Proof.RunFirst
public import proofs.«01_k».proof.Proof.RunLast
public import Idealize.ShloMosaic.Lib.Exec
public import Idealize.ShloMosaic.Lib.Tactic
public import Idealize.ShloMosaic.Lib.Pipeline.FrameBody

@[expose] public section

set_option maxRecDepth 16384
set_option maxHeartbeats 4000000

noncomputable section

namespace Cert.Proof.Run

open Cert.KernelIdeal Cert.KernelIdeal.Gen Cert.Proof.Block Cert.Proof.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Run
variable (c : Dev nD) (i : grid0.Coords)
  (arg2 : Memref sig .tc .vmem S8192x128 .bf16) (harg2 : arg2.IsWhole)
  (arg3 : Memref sig .tc .vmem S8192x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S1x8192x8 .f32) (harg6 : arg6.IsWhole)
  (arg7 : Memref sig .tc .vmem S1x1x1024 .f32) (harg7 : arg7.IsWhole)
  (arg8 : Memref sig .tc .vmem S8192x128 .bf16) (harg8 : arg8.IsWhole)
  (arg9 : Memref sig .tc .vmem S1024x128 .bf16) (harg9 : arg9.IsWhole)
  (arg10 : Memref sig .tc .vmem S1024x128 .bf16) (harg10 : arg10.IsWhole)
  (arg11 : Memref sig .tc .vmem S1x1x1024 .f32) (harg11 : arg11.IsWhole)
  (arg12 : Memref sig .tc .vmem S1x8192x1 .f32) (harg12 : arg12.IsWhole)
  (arg13 : Memref sig .tc .vmem S8192x128 .f32) (harg13 : arg13.IsWhole)
  (arg14 : Memref sig .tc .vmem S1024x128 .f32) (harg14 : arg14.IsWhole)
  (arg15 : Memref sig .tc .vmem S1024x128 .f32) (harg15 : arg15.IsWhole)
  (arg16 : Memref sig .tc .vmem S1x1024 .f32) (harg16 : arg16.IsWhole)

/-- The body at any grid point. -/
theorem run
    (x2 x3 : Vec F S8192x128 .bf16) (x4 x5 : Vec F S1024x128 .bf16) (x6 : Vec F S1x8192x8 .f32) (x7 : Vec F S1x1x1024 .f32)
    (x8 : Vec F S8192x128 .bf16) (x12 : Vec F S1x8192x1 .f32) (x13 : Vec F S8192x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (if (i 1).val = 7 then k0_pay3 (point x2 x3 x4 x5 x6 x7 (i 1).val x13 x12).dq else x8) ∗ owns (c : Thread nD τ) arg9 fullShare (k0_pay57 (point x2 x3 x4 x5 x6 x7 (i 1).val x13 x12).dk) ∗ owns (c : Thread nD τ) arg10 fullShare (k0_pay1 (point x2 x3 x4 x5 x6 x7 (i 1).val x13 x12).dv) ∗ owns (c : Thread nD τ) arg11 fullShare (k0_pay2 (point x2 x3 x4 x5 x6 x7 (i 1).val x13 x12).cr) ∗ owns (c : Thread nD τ) arg12 fullShare (point x2 x3 x4 x5 x6 x7 (i 1).val x13 x12).cc ∗ owns (c : Thread nD τ) arg13 fullShare (point x2 x3 x4 x5 x6 x7 (i 1).val x13 x12).dq ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hi : (i 1).val < 8 := (i 1).isLt
  by_cases h0 : cond1 i = 1#1
  · have h7 : ¬ (i 1).val = 7 := by have := (cond1_iff i).1 h0; omega
    rw [if_neg h7]
    exact run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 (fun h => h7 ((cond2_iff i).1 h)) x2 x3 x4 x5 x6 x7 x8 x12 x13 E K
  · by_cases h7 : (i 1).val = 7
    · rw [if_pos h7]
      exact run_last c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 ((cond2_iff i).2 h7) x2 x3 x4 x5 x6 x7 x8 x12 x13 E K
    · rw [if_neg h7]
      exact run_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 (fun h => h7 ((cond2_iff i).1 h)) x2 x3 x4 x5 x6 x7 x8 x12 x13 E K

end Run

end Cert.Proof.Run
-- ==== Proof.Launch.lean ====
/-
  The launch of the attention's backward kernel: what each staging buffer and the carried accumulators hold point by
  point, the body at every point, and the frame.
-/
module

public import proofs.«01_k».proof.Proof.RunAll
public import proofs.«01_k».proof.Proof.Gen.KernelIdeal.Frame
public import Idealize.ShloMosaic.Lib.Claim

@[expose] public section

set_option maxRecDepth 16384

noncomputable section

namespace Cert.Proof.Launch

open Cert.KernelIdeal Cert.KernelIdeal.Gen Cert.Proof.Block Cert.Proof.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Grid point `t` is head `t / 8` at key tile `t % 8`. -/
theorem coord0 (t : Fin cfg0.N) : ((grid0.coords t) 0).val = t.val / 8 := by
  have h : ∀ t : Fin grid0.N, ((grid0.coords t) 0).val = t.val / 8 := by decide +kernel
  exact h t
theorem coord1 (t : Fin cfg0.N) : ((grid0.coords t) 1).val = t.val % 8 := by
  have h : ∀ t : Fin grid0.N, ((grid0.coords t) 1).val = t.val % 8 := by decide +kernel
  exact h t

/-- At the first key tile what the accumulators held before plays no part. -/
theorem point_zero (q dov : Vec F S8192x128 .bf16) (k v : Vec F S1024x128 .bf16) (st : Vec F S1x8192x8 .f32) (c : Vec F S1x1x1024 .f32)
    (j : ℕ) (hj : j = 0) (dq dq' : Vec F S8192x128 .f32) (cc cc' : Vec F S1x8192x1 .f32) :
    point q dov k v st c j dq cc = point q dov k v st c j dq' cc' := by
  subst hj; rfl

/-- The accumulators after the body at grid point `t`, from what they held after the point before. -/
def step (c : Dev nD) (t : Fin cfg0.N) (dq : Vec F S8192x128 .f32) (cc : Vec F S1x8192x1 .f32) : St F :=
  point (iblk m c 0 t) (iblk m c 1 t) (iblk m c 2 t) (iblk m c 3 t) (iblk m c 4 t) (iblk m c 5 t) (t.val % 8) dq cc

/-- The accumulators after point `n`. -/
def stAt (c : Dev nD) : (n : ℕ) → n < cfg0.N → St F
  | 0, h => step m c ⟨0, h⟩ k0_pay20 k0_pay21
  | n + 1, h => step m c ⟨n + 1, h⟩ (stAt c n (Nat.lt_of_succ_lt h)).dq (stAt c n (Nat.lt_of_succ_lt h)).cc

theorem stAt_first (c : Dev nD) (t : Fin cfg0.N) (h : t.val % 8 = 0) (dq : Vec F S8192x128 .f32) (cc : Vec F S1x8192x1 .f32) :
    stAt m c t.val t.isLt = step m c t dq cc := by
  rcases t with ⟨_ | n, hn⟩
  · exact point_zero _ _ _ _ _ _ _ h _ _ _ _
  · exact point_zero _ _ _ _ _ _ _ h _ _ _ _

theorem stAt_pos (c : Dev nD) (t : Fin cfg0.N) (h : t.val ≠ 0) :
    stAt m c t.val t.isLt = step m c t (stAt m c (t.val - 1) (Nat.lt_of_le_of_lt (Nat.sub_le _ _) t.isLt)).dq
      (stAt m c (t.val - 1) (Nat.lt_of_le_of_lt (Nat.sub_le _ _) t.isLt)).cc := by
  rcases t with ⟨_ | n, hn⟩
  · exact absurd rfl h
  · rfl

/-! ## The scratch accumulators -/

abbrev sc0 : Memref sig .tc .vmem S8192x128 .f32 := Memref.whole cc0_scratch0
abbrev sc1 : Memref sig .tc .vmem S1024x128 .f32 := Memref.whole cc0_scratch1
abbrev sc2 : Memref sig .tc .vmem S1024x128 .f32 := Memref.whole cc0_scratch2
abbrev sc3 : Memref sig .tc .vmem S1x1024 .f32 := Memref.whole cc0_scratch3

/-- What the launch hands the region: every accumulator at some contents. -/
theorem phiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [owns_whole]; try rfl

/-- The invariant after point `n`: the queries' accumulator at what the point left. -/
def PhiS (c : Dev nD) : (n : ℕ) → n ≤ cfg0.N → sProp 𝕄
  | 0, _ => Pipeline.ΦA spec0 c
  | n + 1, hn => iprop(iprop(owns (c : Thread nD τ) sc0 fullShare (stAt m c n hn).dq ∗ (∃ d, owns (c : Thread nD τ) sc1 fullShare d)
          ∗ (∃ d, owns (c : Thread nD τ) sc2 fullShare d) ∗ (∃ d, owns (c : Thread nD τ) sc3 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare (stAt m c n hn).dq ∗ (∃ d, owns (c : Thread nD τ) sc1 fullShare d)
          ∗ (∃ d, owns (c : Thread nD τ) sc2 fullShare d) ∗ (∃ d, owns (c : Thread nD τ) sc3 fullShare d)) ∗ (∃ r, prngReg c r)) := rfl
theorem PhiS_pos (c : Dev nD) (n : ℕ) (h : n ≤ cfg0.N) (hz : n ≠ 0) :
    PhiS m c n h = iprop(iprop(owns (c : Thread nD τ) sc0 fullShare (stAt m c (n - 1) (by omega)).dq ∗ (∃ d, owns (c : Thread nD τ) sc1 fullShare d)
          ∗ (∃ d, owns (c : Thread nD τ) sc2 fullShare d) ∗ (∃ d, owns (c : Thread nD τ) sc3 fullShare d)) ∗ (∃ r, prngReg c r)) := by
  cases n with
  | zero => exact absurd rfl hz
  | succ n => rfl

/-! ## The pipeline's proof data -/

/-- After the body at `t` each input's buffer holds its block, and each output's the accumulator it is stored from. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (stAt m c t.val t.isLt).dq
    | ⟨7, _⟩ => k0_pay57 (stAt m c t.val t.isLt).dk
    | ⟨8, _⟩ => k0_pay1 (stAt m c t.val t.isLt).dv
    | ⟨9, _⟩ => k0_pay2 (stAt m c t.val t.isLt).cr
    | ⟨10, _⟩ => (stAt m c t.val t.isLt).cc
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay3 (stAt m c t.val t.isLt).dq := by dsimp only [dats]
theorem after0_7 (c : Dev nD) (t : Fin cfg0.N) : (dats m 0 c).after 7 t = k0_pay57 (stAt m c t.val t.isLt).dk := by dsimp only [dats]
theorem after0_8 (c : Dev nD) (t : Fin cfg0.N) : (dats m 0 c).after 8 t = k0_pay1 (stAt m c t.val t.isLt).dv := by dsimp only [dats]
theorem after0_9 (c : Dev nD) (t : Fin cfg0.N) : (dats m 0 c).after 9 t = k0_pay2 (stAt m c t.val t.isLt).cr := by dsimp only [dats]
theorem after0_10 (c : Dev nD) (t : Fin cfg0.N) : (dats m 0 c).after 10 t = (stAt m c t.val t.isLt).cc := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem hN (t : Fin cfg0.N) : t.val < 64 := lt_of_lt_of_eq t.isLt (show cfg0.N = 64 from N_0)

/-- The rows' part of the gate's gradient stays in its buffer from one key tile to the next. -/
theorem before0_10 (c : Dev nD) (t : Fin cfg0.N) (h0 : ¬t.val % 8 = 0) (d) :
    (dats m 0 c).before 10 t d = (stAt m c (t.val - 1) (Nat.lt_of_le_of_lt (Nat.sub_le _ _) t.isLt)).cc := by
  have hN := hN t
  rw [Dat.before_out_kept _ 10 rfl t (by omega) (Bool.eq_false_iff.mpr fun h => by have := (flush0_10 _).mp h; dsimp only at this; omega)
    (fun _ => rfl) (fun _ _ => rfl)]
  dsimp only [dats]

/-- The state after point `t` from what the accumulators hold when the body is called. -/
theorem stAt_before (c : Dev nD) (t : Fin cfg0.N) (d) (dq : Vec F S8192x128 .f32)
    (hdq : t.val % 8 = 0 ∨ ∃ h : t.val ≠ 0, dq = (stAt m c (t.val - 1) (Nat.lt_of_le_of_lt (Nat.sub_le _ _) t.isLt)).dq) :
    stAt m c t.val t.isLt = step m c t dq ((dats m 0 c).before 10 t d) := by
  by_cases h0 : t.val % 8 = 0
  · exact stAt_first m c t h0 _ _
  · rw [before0_10 m c t h0]
    rcases hdq with h | ⟨h, rfl⟩
    · exact absurd h h0
    · exact stAt_pos m c t h

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns: the queries' gradient's buffer untouched before the last key tile. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (match cfg0.idle 6 (cfg0.grid.coords t) with
        | true =>
          match (cfg0.win 6).flush t with
          | false => iprop(∃ d, owns (c : Thread nD τ) (st0_6 t) fullShare ((dats m 0 c).before 6 t d))
          | true => owns (c : Thread nD τ) (st0_6 t) fullShare ((dats m 0 c).after 6 t)
        | false => owns (c : Thread nD τ) (st0_6 t) fullShare ((dats m 0 c).after 6 t))
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The queries' gradient is handed back as found before the last key tile and stored at it. -/
theorem post6 (c : Dev nD) (t : Fin cfg0.N) (d) :
    (owns (c : Thread nD τ) (st0_6 t) fullShare (if t.val % 8 = 7 then k0_pay3 (stAt m c t.val t.isLt).dq else (dats m 0 c).before 6 t d) : sProp 𝕄)
      ⊢ (match cfg0.idle 6 (cfg0.grid.coords t) with
        | true =>
          match (cfg0.win 6).flush t with
          | false => iprop(∃ d, owns (c : Thread nD τ) (st0_6 t) fullShare ((dats m 0 c).before 6 t d))
          | true => owns (c : Thread nD τ) (st0_6 t) fullShare ((dats m 0 c).after 6 t)
        | false => owns (c : Thread nD τ) (st0_6 t) fullShare ((dats m 0 c).after 6 t)) := by
  have hc := cond2_iff (grid0.coords t)
  rw [coord1] at hc
  by_cases h7 : t.val % 8 = 7
  · have hi : cfg0.idle 6 (cfg0.grid.coords t) = false := by
      show (!(k0_cond2 (grid0.coords t) == 1#1)) = false
      rw [hc.2 h7]; rfl
    rw [hi, if_pos h7, after0_6]
  · have hi : cfg0.idle 6 (cfg0.grid.coords t) = true := by
      show (!(k0_cond2 (grid0.coords t) == 1#1)) = true
      rw [beq_false_of_ne (fun h => h7 (hc.1 h))]; rfl
    have hf : (cfg0.win 6).flush t = false := Bool.eq_false_iff.mpr fun h => h7 ((flush0_6 t).mp h)
    rw [hi, hf, if_neg h7]
    iintro H
    iexists d
    iexact H

set_option maxHeartbeats 3200000 in
theorem sound_body' (c : Dev nD) (t : Fin cfg0.N) (dq : Vec F S8192x128 .f32)
    (hdq : t.val % 8 = 0 ∨ ∃ h : t.val ≠ 0, dq = (stAt m c (t.val - 1) (Nat.lt_of_le_of_lt (Nat.sub_le _ _) t.isLt)).dq) :
    iprop(iprop(iprop(owns (c : Thread nD τ) sc0 fullShare dq ∗ (∃ d, owns (c : Thread nD τ) sc1 fullShare d)
          ∗ (∃ d, owns (c : Thread nD τ) sc2 fullShare d) ∗ (∃ d, owns (c : Thread nD τ) sc3 fullShare d)) ∗ (∃ r, prngReg c r))
      ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
    ⊢ wp frame (wpE (defs₀ (F := F)) Variants.none c none) Set.univ (bodyAt0 t) (fun _ => bodyPost m c t) := by
  unfold bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_7, after0_8, after0_9, after0_10]
  rw [show (dats m 0 c).Φ t.succ = PhiS m c (t.val + 1) t.isLt from rfl, PhiS_succ]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hst := stAt_before m c t d10 dq hdq
  iapply (run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t)
    ((dats m 0 c).before 6 t d6) ((dats m 0 c).before 10 t d10) dq Set.univ _)
  rw [coord1]
  rw [show point (iblk m c 0 t) (iblk m c 1 t) (iblk m c 2 t) (iblk m c 3 t) (iblk m c 4 t) (iblk m c 5 t) (t.val % 8) dq ((dats m 0 c).before 10 t d10) = stAt m c t.val t.isLt from hst.symm]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitr [Hg]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (post6 m c t d6); iexact H6
  isplitl [H7]; · iexact H7
  isplitl [H8]; · iexact H8
  isplitl [H9]; · iexact H9
  iexact H10

theorem sound_body (c : Dev nD) (t : Fin cfg0.N) :
    bodyPre m c t ⊢ wp frame (wpE (defs₀ (F := F)) Variants.none c none) Set.univ (bodyAt0 t) (fun _ => bodyPost m c t) := by
  unfold bodyPre
  rw [PhiS_castSucc m c t]
  by_cases hz : t.val = 0
  · rw [PhiS_zero m c _ _ hz, phiA_eq]
    iintro ⟨⟨⟨⟨%dq, HS0⟩, HS⟩, Hg⟩, H⟩
    iapply (sound_body' m c t dq (Or.inl (by rw [hz])))
    isplitr [H]
    · isplitr [Hg]
      · isplitl [HS0]; · iexact HS0
        iexact HS
      iexact Hg
    iexact H
  · rw [PhiS_pos m c _ _ hz]
    exact sound_body' m c t _ (Or.inr ⟨hz, rfl⟩)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, phiA_eq]
  iintro ⟨⟨HS0, HS⟩, Hg⟩
  isplitr [Hg]
  · isplitl [HS0]; · iexists _; iexact HS0
    iexact HS
  iexact Hg

set_option backward.isDefEq.respectTransparency.types false in
/-- The launch: every array of the pipeline ends at what the proof data says, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Launch
-- ==== Proof.Frames.lean ====
/- The frame claims of the programs with named constants and of the reference, and the claim that
   naming the constants keeps the kernel. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import Idealize.ShloMosaic.Lib.Quiescent

@[expose] public section

noncomputable section

namespace Cert.Proof

open Idealize.ShloMosaic Idealize.SL.Sem

/-- The kernel over the extended reals ends, with its arguments unchanged. -/
theorem frame_kernelIdeal : Cert.quiescent_KernelIdeal (hKernelIdeal := Cert.KernelIdeal.Gen.facts) :=
  fun m ρ _ => Launch.frame m ρ

/-- The reference over the extended reals ends, with its arguments unchanged: it has no semaphore. -/
theorem frame_referenceIdeal : Cert.quiescent_ReferenceIdeal (hReferenceIdeal := Cert.ReferenceIdeal.Gen.facts) :=
  fun m ρ _ =>
  (θ_run Cert.ReferenceIdeal.defs _ _).mono (fun r h => ⟨fun c => (h c).2.2.2.2.2,
      sem_eq_zero_of_no_sems (by decide) r.2⟩)
    (Cert.ReferenceIdeal.Value.run (F := Ideal) m ρ)

/-- Each named constant is its number's entry in the table. -/
theorem preserves_kernel : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "ln2" .f32 0x3F317218#32 ((((Real.log 2)⁻¹)⁻¹ : ℝ) : EReal) rfl,
   IdealRules.named_const.statement Cert.KernelIdeal.κ "scale" .f32 0x3DB504F3#32 (((Real.sqrt 128)⁻¹ : ℝ) : EReal) rfl⟩

end Cert.Proof
-- ==== Proof.FrameBits.lean ====
/-
  The kernel's frame, from the ideal program's run: at the machine's floats the two programs differ only in how a
  constant is written, and a named constant read as its own float word is that constant.
-/
module

public import proofs.«01_k».proof.Defs
public import proofs.«01_k».proof.Proof.Gen.Kernel
public import proofs.«01_k».proof.Proof.Launch

@[expose] public section

set_option maxRecDepth 16384

noncomputable section

namespace Cert.Proof

open Idealize.ShloMosaic Idealize.SL.Sem

/-- A named constant at the machine's floats: the word that the kernel has. -/
instance namedBits : Named Bits where
  named _ _ φ bits := Scalar.ofBits φ bits

set_option maxHeartbeats 4000000 in
/-- The two programs' body tables are one. -/
theorem defs₀_eq : Kernel.defs₀ (F := Bits) = KernelIdeal.defs₀ (F := Bits) := by
  unfold Kernel.defs₀ KernelIdeal.defs₀
  refine congrArg (Defs.onTc (nD := Kernel.nD) (τ := Kernel.τ) (sig := Kernel.sig) (Λ := Kernel.Λ₀)) (funext fun l => funext fun x => ?_)
  rcases l with ⟨_ | l, hl⟩
  · rcases x with ⟨t, s⟩
    rfl
  · exact absurd hl (Nat.not_lt.2 (Nat.le_add_left _ _))

set_option maxHeartbeats 4000000 in
theorem defs_eq : Kernel.defs (F := Bits) = KernelIdeal.defs (F := Bits) :=
  congrArg (Pipeline.defs (Kernel.pcfgs (F := Bits))) defs₀_eq

set_option maxHeartbeats 4000000 in
theorem main_eq : Kernel.main (F := Bits) = KernelIdeal.main (F := Bits) := rfl

set_option maxHeartbeats 4000000 in
/-- The kernel terminates, leaves its arguments unchanged and every counter at zero. -/
theorem frame_kernel : Cert.quiescent_Kernel (hKernel := Cert.Kernel.Gen.facts) := fun m ρ _ => by
  rw [defs_eq, main_eq]
  exact Launch.frame (F := Bits) m ρ

end Cert.Proof
-- ==== Proof.Spec.lean ====
/-
  The gradient of the forgetting attention as real numbers: what both programs compute. Rows and columns are counted by
  natural numbers; head `h` holds the columns `128 h` to `128 h + 127`.
-/
module

public import Mathlib.Analysis.SpecialFunctions.Log.Basic
public import Mathlib.Analysis.SpecialFunctions.Pow.Real
public import Mathlib.Data.EReal.Operations

@[expose] public section

noncomputable section

namespace Cert.Proof

/-- The five arguments as real numbers: queries, keys, values and output gradients by row and column, the gate's
    cumulative sum by head and row. -/
structure Args where
  q : ℕ → ℕ → ℝ
  k : ℕ → ℕ → ℝ
  v : ℕ → ℕ → ℝ
  c : ℕ → ℕ → ℝ
  o : ℕ → ℕ → ℝ

namespace Args

variable (A : Args)

/-- The score's scale, and the base-two logarithm of `e`. -/
def sc : ℝ := (Real.sqrt 128)⁻¹
def le : ℝ := (Real.log 2)⁻¹

/-- The score of row `r` against key `t`, without the part that all keys of a row share. -/
def score (h r t : ℕ) : ℝ := (∑ d ∈ Finset.range 128, A.q r (128 * h + d) * A.k t (128 * h + d)) * sc - A.c h t

/-- The sum of the exponentials of a row's scores, over the keys up to the row. -/
def mass (h r : ℕ) : ℝ := ∑ t ∈ Finset.range 8192, if t ≤ r then Real.exp (A.score h r t) else 0

/-- The attention's probability of key `t` in row `r`. -/
def prob (h r t : ℕ) : ℝ := if t ≤ r then Real.exp (A.score h r t) / A.mass h r else 0

/-- The output gradient of row `r` against the value of key `t`. -/
def dp (h r t : ℕ) : ℝ := ∑ d ∈ Finset.range 128, A.o r (128 * h + d) * A.v t (128 * h + d)

/-- The mean of `dp` over a row's probabilities. -/
def delta (h r : ℕ) : ℝ := ∑ t ∈ Finset.range 8192, A.prob h r t * A.dp h r t

/-- The gradient of the score. -/
def ds (h r t : ℕ) : ℝ := A.prob h r t * (A.dp h r t - A.delta h r)

/-- The results: the gradients in q, k, v and the two parts of the gradient in the gate's sum. -/
def gq (r x : ℕ) : ℝ := (∑ t ∈ Finset.range 8192, A.ds (x / 128) r t * A.k t x) * sc
def gk (t x : ℕ) : ℝ := (∑ r ∈ Finset.range 8192, A.ds (x / 128) r t * A.q r x) * sc
def gv (t x : ℕ) : ℝ := ∑ r ∈ Finset.range 8192, A.prob (x / 128) r t * A.o r x
def gr (h t : ℕ) : ℝ := -∑ r ∈ Finset.range 8192, A.ds h r t
def gc (h r : ℕ) : ℝ := ∑ t ∈ Finset.range 8192, A.ds h r t

theorem prob_of_lt {h r t : ℕ} (ht : r < t) : A.prob h r t = 0 := if_neg (by omega)
theorem ds_of_lt {h r t : ℕ} (ht : r < t) : A.ds h r t = 0 := by rw [ds, A.prob_of_lt ht, zero_mul]

theorem mass_pos (h r : ℕ) : 0 < A.mass h r := by
  unfold mass
  refine Finset.sum_pos' (fun t _ => ?_) ⟨0, by simp, ?_⟩
  · split_ifs <;> positivity
  · rw [if_pos (Nat.zero_le r)]; positivity

theorem le_pos : 0 < le := inv_pos.2 (Real.log_pos (by norm_num))

/-- Two to the power `x / log 2` is `eˣ`. -/
theorem two_rpow_le (x : ℝ) : Real.rpow 2 (x * le) = Real.exp x := by
  show (2 : ℝ) ^ (x * le) = _
  rw [Real.rpow_def_of_pos (by norm_num), le, mul_comm x, ← mul_assoc,
    mul_inv_cancel₀ (Real.log_pos (by norm_num)).ne', one_mul]

/-- The probability by the row's stored logarithm, at a key that the row reaches. -/
theorem prob_eq_exp {h r t : ℕ} (ht : t ≤ r) : A.prob h r t = Real.exp (A.score h r t - Real.log (A.mass h r)) := by
  rw [prob, if_pos ht, Real.exp_sub, Real.exp_log (A.mass_pos h r)]

end Args

end Cert.Proof
-- ==== Proof.Soft.lean ====
/-
  Facts on the row statistics that both programs' host operations use: the largest of a row's masked scores is a real number, and the
  exponentials' common factor cancels.
-/
module

public import proofs.«01_k».proof.Proof.Spec
public import Idealize.ShloMosaic.Lib.Pointwise

@[expose] public section

noncomputable section

namespace Cert.Proof

open Idealize.ShloMosaic

/-- The argument arrays hold the real numbers `A`. -/
structure Args.Of (A : Args) (q k v : (⟨2, ![8192, 1024]⟩ : Shape).Idx → EReal) (c : (⟨2, ![8, 8192]⟩ : Shape).Idx → EReal)
    (o : (⟨2, ![8192, 1024]⟩ : Shape).Idx → EReal) : Prop where
  q : ∀ (a : Fin 8192) (b : Fin 1024), q (ix2 a b) = ((A.q a.val b.val : ℝ) : EReal)
  k : ∀ (a : Fin 8192) (b : Fin 1024), k (ix2 a b) = ((A.k a.val b.val : ℝ) : EReal)
  v : ∀ (a : Fin 8192) (b : Fin 1024), v (ix2 a b) = ((A.v a.val b.val : ℝ) : EReal)
  c : ∀ (a : Fin 8) (b : Fin 8192), c (ix2 a b) = ((A.c a.val b.val : ℝ) : EReal)
  o : ∀ (a : Fin 8192) (b : Fin 1024), o (ix2 a b) = ((A.o a.val b.val : ℝ) : EReal)

/-- A sum of reals over the extended reals. -/
theorem sum_coe {n : ℕ} {f : Fin n → EReal} (g : ℕ → ℝ) (h : ∀ x : Fin n, f x = ((g x.val : ℝ) : EReal)) :
    ∑ x, f x = ((∑ x ∈ Finset.range n, g x : ℝ) : EReal) := by
  rw [← Fin.sum_univ_eq_sum_range, Finset.sum_congr rfl fun x _ => h x]
  exact (map_sum (⟨⟨Real.toEReal, EReal.coe_zero⟩, EReal.coe_add⟩ : ℝ →+ EReal) (fun x : Fin n => g x.val) Finset.univ).symm

/-- The quotient of two reals. -/
theorem div_coe_coe (x : ℝ) {y : ℝ} (hy : y ≠ 0) : Ideal.div ((x : ℝ) : EReal) ((y : ℝ) : EReal) = ((x / y : ℝ) : EReal) := by
  rw [Ideal.div_coe hy, ← EReal.coe_mul, mul_one_div]

/-- The largest of finitely many numbers below `∞`, one of them above `-∞`, is a real. -/
theorem fold_max_real {n : ℕ} (f : Fin n → EReal) (ht : ∀ x, f x ≠ ⊤) (hb : ∃ x, f x ≠ ⊥) :
    ∃ M : ℝ, Finset.univ.fold max ⊥ f = ((M : ℝ) : EReal) := by
  have e : Finset.univ.fold max ⊥ f = Finset.univ.sup f := rfl
  rw [e]
  have h1 : Finset.univ.sup f ≠ ⊤ := ((Finset.sup_lt_iff bot_lt_top).2 fun x _ => lt_top_iff_ne_top.2 (ht x)).ne
  have h2 : Finset.univ.sup f ≠ ⊥ := by
    obtain ⟨x, hx⟩ := hb
    exact fun h => hx (le_bot_iff.1 (h ▸ Finset.le_sup (Finset.mem_univ x)))
  exact ⟨_, (EReal.coe_toReal h1 h2).symm⟩

/-- The exponential of a masked score less a real. -/
theorem exp_masked (p : Prop) [Decidable p] (x N : ℝ) :
    Ideal.exp ((if p then ((x : ℝ) : EReal) else ⊥) - ((N : ℝ) : EReal)) = ((if p then Real.exp (x - N) else 0 : ℝ) : EReal) := by
  split_ifs
  · rw [← EReal.coe_sub, Ideal.exp_coe]
  · rw [EReal.bot_sub, Ideal.exp_bot]; rfl

namespace Args

variable (A : Args)

/-- The sum of the exponentials less a common `N`. -/
theorem mass_shift (h r : ℕ) (N : ℝ) :
    ∑ t ∈ Finset.range 8192, (if t ≤ r then Real.exp (A.score h r t - N) else 0) = A.mass h r * Real.exp (-N) := by
  rw [mass, Finset.sum_mul]
  refine Finset.sum_congr rfl fun t _ => ?_
  split_ifs
  · rw [sub_eq_add_neg, Real.exp_add]
  · rw [zero_mul]

theorem shift_pos (h r : ℕ) (N : ℝ) : 0 < A.mass h r * Real.exp (-N) := mul_pos (A.mass_pos h r) (Real.exp_pos _)

/-- The quotient by it is the probability. -/
theorem prob_shift (h r t : ℕ) (N : ℝ) :
    (if t ≤ r then Real.exp (A.score h r t - N) else 0) / (A.mass h r * Real.exp (-N)) = A.prob h r t := by
  rw [prob]
  split_ifs
  · rw [sub_eq_add_neg, Real.exp_add, mul_div_mul_right _ _ (Real.exp_pos _).ne']
  · rw [zero_div]

/-- The row's stored logarithm. -/
theorem log_shift (h r : ℕ) (N : ℝ) : N + Real.log (A.mass h r * Real.exp (-N)) = Real.log (A.mass h r) := by
  rw [Real.log_mul (A.mass_pos h r).ne' (Real.exp_pos _).ne', Real.log_exp]; ring

/-- The row's delta from the attention's output. -/
theorem delta_eq (h r : ℕ) :
    ∑ d ∈ Finset.range 128, (∑ t ∈ Finset.range 8192, A.v t (128 * h + d) * A.prob h r t) * A.o r (128 * h + d) = A.delta h r := by
  simp only [delta, dp, Finset.mul_sum, Finset.sum_mul]
  rw [Finset.sum_comm]
  exact Finset.sum_congr rfl fun t _ => Finset.sum_congr rfl fun d _ => by ring

end Args

end Cert.Proof
-- ==== Proof.BlockVal.lean ====
/-
  What one row block does to the accumulators, over the extended reals where every number is real: element by element.
-/
module

public import proofs.«01_k».proof.Proof.Block
public import proofs.«01_k».proof.Proof.Soft
public import Idealize.ShloMosaic.Lib.Pointwise
public import Idealize.ShloMosaic.Lib.WordCmp

@[expose] public section

set_option maxRecDepth 16384

noncomputable section

namespace Cert.Proof.Block

open Cert.KernelIdeal Cert.KernelIdeal.Gen
open Idealize.ShloMosaic Idealize.SL.Sem
open Idealize.ShloMosaic.VecWindow

/-- The blocks' named constant. -/
theorem named_log2e : Named.named (F := Ideal) κ "log2e" (φ := .f32) 0x3FB8AA3B#32 = ((Args.le : ℝ) : EReal) :=
  IdealRules.named_const.ideal_named_scalar _ _ _ _ rfl

/-! ## The operations at an index -/

theorem probs_apply (k : FVec Ideal S1024x128 .bf16) (cr : FVec Ideal S1x1024 .f32) (q : Vec Ideal S512x128 .bf16)
    (st : Vec Ideal S1x512x8 .f32) (a : Fin 512) (b : Fin 1024) :
    probs k cr q st (ix2 a b) = Ideal.exp2 (∑ x, q (ix2 a x) * k (ix2 b x) + (st (ix3 0 a 0) * ((Args.le : ℝ) : EReal) - cr (ix2 0 b))) := by
  pointwise [probs, k0_pay7, k0_pay4, k0_pay6]
  rw [named_log2e]; rfl

theorem dsOf_apply (v : FVec Ideal S1024x128 .bf16) (dov : Vec Ideal S512x128 .bf16) (st : Vec Ideal S1x512x8 .f32)
    (p : FVec Ideal S512x1024 .f32) (a : Fin 512) (b : Fin 1024) :
    dsOf v dov st p (ix2 a b) = p (ix2 a b) * (∑ x, dov (ix2 a x) * v (ix2 b x) - st (ix3 0 a 1)) := by
  pointwise [dsOf, k0_pay5, k0_pay6]

theorem addDv_apply (dov : Vec Ideal S512x128 .bf16) (p : FVec Ideal S512x1024 .f32) (s : Vec Ideal S1024x128 .f32) (a : Fin 1024)
    (b : Fin 128) : addDv dov p s (ix2 a b) = s (ix2 a b) + ∑ x, p (ix2 x a) * dov (ix2 x b) := by
  pointwise [addDv, k0_pay5]

theorem addDk_apply (q : Vec Ideal S512x128 .bf16) (p : FVec Ideal S512x1024 .f32) (s : Vec Ideal S1024x128 .f32) (a : Fin 1024)
    (b : Fin 128) : addDk q p s (ix2 a b) = s (ix2 a b) + ∑ x, p (ix2 x a) * q (ix2 x b) := by
  pointwise [addDk, k0_pay4]

theorem addDq_apply (k : FVec Ideal S1024x128 .bf16) (p : FVec Ideal S512x1024 .f32) (s : Vec Ideal S512x128 .f32) (a : Fin 512)
    (b : Fin 128) : addDq k p s (ix2 a b) = s (ix2 a b) + ∑ x, p (ix2 a x) * k (ix2 x b) := by
  pointwise [addDq, k0_pay51]

theorem pay52_apply (p : FVec Ideal S512x1024 .f32) (s : Vec Ideal S1x1024 .f32) (b : Fin 1024) :
    k0_pay52 p s (ix2 0 b) = s (ix2 0 b) - ∑ x, p (ix2 x b) := by
  pointwise [k0_pay52]

theorem pay53_apply (p : FVec Ideal S512x1024 .f32) (s : Vec Ideal S1x512x1 .f32) (b : Fin 512) :
    k0_pay53 p s (ix3 0 b 0) = s (ix3 0 b 0) + ∑ x, p (ix2 b x) := by
  pointwise [k0_pay53]

/-- The mask keeps the keys whose place in the tile does not exceed the row's. -/
theorem causal_apply (p : FVec Ideal S512x1024 .f32) (n : ℕ) (hn : n ≤ 512) (a : Fin 512) (b : Fin 1024) :
    causal (BitVec.ofNat 32 n) p (ix2 a b) = if b.val ≤ n + a.val then p (ix2 a b) else 0 := by
  pointwise [causal]
  have ha := a.isLt
  have hb := b.isLt
  rw [show IntOp.addi (BitVec.ofNat 32 n) (BitVec.ofNat 32 a.val) = BitVec.ofNat 32 (n + a.val) from (BitVec.ofNat_add n a.val).symm,
    WordCmp.cmpi_sle_ofNat (by omega) (by omega)]
  by_cases h : b.val ≤ n + a.val
  · rw [if_pos h, decide_eq_true h]; rfl
  · rw [if_neg h, decide_eq_false h]; rfl

theorem pay27_apply (c : Vec Ideal S1x1x1024 .f32) (b : Fin 1024) :
    k0_pay27 c (ix2 0 b) = c (ix3 0 0 b) * ((Args.le : ℝ) : EReal) := by
  pointwise [k0_pay27]
  rw [named_log2e]
theorem pay25_apply (k : Vec Ideal S1024x128 .bf16) (a : Fin 1024) (b : Fin 128) : k0_pay25 k (ix2 a b) = k (ix2 a b) := by
  pointwise [k0_pay25]
theorem pay26_apply (k : Vec Ideal S1024x128 .bf16) (a : Fin 1024) (b : Fin 128) : k0_pay26 k (ix2 a b) = k (ix2 a b) := by
  pointwise [k0_pay26]
theorem pay20_apply (a : Fin 8192) (b : Fin 128) : (k0_pay20 : FVec Ideal S8192x128 .f32) (ix2 a b) = 0 := by pointwise [k0_pay20]
theorem pay21_apply (a : Fin 8192) : (k0_pay21 : FVec Ideal S1x8192x1 .f32) (ix3 0 a 0) = 0 := by pointwise [k0_pay21]
theorem pay22_apply (a : Fin 1024) (b : Fin 128) : (k0_pay22 : FVec Ideal S1024x128 .f32) (ix2 a b) = 0 := by pointwise [k0_pay22]
theorem pay23_apply (a : Fin 1024) (b : Fin 128) : (k0_pay23 : FVec Ideal S1024x128 .f32) (ix2 a b) = 0 := by pointwise [k0_pay23]
theorem pay24_apply (b : Fin 1024) : (k0_pay24 : FVec Ideal S1x1024 .f32) (ix2 0 b) = 0 := by pointwise [k0_pay24]

/-! ## Rows of a block, cut out and put back -/

theorem row_lt (r : Fin 16) (a : Fin 512) : 512 * r.val + a.val < 8192 := by have := r.isLt; have := a.isLt; omega

theorem rowsQ_apply {e : EltTy} (x : Vec Ideal S8192x128 e) (r : Fin 16) (a : Fin 512) (b : Fin 128) :
    rowsQ x r (ix2 a b) = x (ix2 ⟨512 * r.val + a.val, row_lt r a⟩ b) := by
  refine congrArg x (funext fun d => Fin.ext ?_)
  match d with
  | ⟨0, _⟩ => exact congrArg (512 * r.val + ·) (one_mul a.val)
  | ⟨1, _⟩ => exact (Nat.zero_add _).trans (one_mul b.val)
theorem rowsS_apply (x : Vec Ideal S1x8192x8 .f32) (r : Fin 16) (a : Fin 512) (b : Fin 8) :
    rowsS x r (ix3 0 a b) = x (ix3 0 ⟨512 * r.val + a.val, row_lt r a⟩ b) := by
  refine congrArg x (funext fun d => Fin.ext ?_)
  match d with
  | ⟨0, _⟩ => rfl
  | ⟨1, _⟩ => exact congrArg (512 * r.val + ·) (one_mul a.val)
  | ⟨2, _⟩ => exact (Nat.zero_add _).trans (one_mul b.val)
theorem rowsC_apply (x : Vec Ideal S1x8192x1 .f32) (r : Fin 16) (a : Fin 512) :
    rowsC x r (ix3 0 a 0) = x (ix3 0 ⟨512 * r.val + a.val, row_lt r a⟩ 0) := by
  refine congrArg x (funext fun d => Fin.ext ?_)
  match d with
  | ⟨0, _⟩ => rfl
  | ⟨1, _⟩ => exact congrArg (512 * r.val + ·) (one_mul a.val)
  | ⟨2, _⟩ => rfl

theorem putQ_in (x : Vec Ideal S8192x128 .f32) (r : Fin 16) (w : FVec Ideal S512x128 .f32) (a : Fin 8192) (b : Fin 128)
    (h : 512 * r.val ≤ a.val ∧ a.val < 512 * r.val + 512) :
    put x ![512 * r.val, 0] S512x128.size w (ix2 a b) = w (ix2 ⟨a.val - 512 * r.val, by omega⟩ b) := by
  unfold put
  rw [dif_pos (fun d => by
    match d with
    | ⟨0, _⟩ => exact h
    | ⟨1, _⟩ => exact ⟨Nat.zero_le _, (b.isLt.trans_le (Nat.zero_add 128).ge)⟩)]
  refine congrArg w (funext fun d => Fin.ext ?_)
  match d with
  | ⟨0, _⟩ => rfl
  | ⟨1, _⟩ => exact Nat.sub_zero _
theorem putQ_out (x : Vec Ideal S8192x128 .f32) (r : Fin 16) (w : FVec Ideal S512x128 .f32) (a : Fin 8192) (b : Fin 128)
    (h : ¬(512 * r.val ≤ a.val ∧ a.val < 512 * r.val + 512)) :
    put x ![512 * r.val, 0] S512x128.size w (ix2 a b) = x (ix2 a b) := by
  unfold put
  rw [dif_neg (fun hd => h (hd 0))]
theorem putC_in (x : Vec Ideal S1x8192x1 .f32) (r : Fin 16) (w : FVec Ideal S1x512x1 .f32) (a : Fin 8192)
    (h : 512 * r.val ≤ a.val ∧ a.val < 512 * r.val + 512) :
    put x ![0, 512 * r.val, 0] S1x512x1.size w (ix3 0 a 0) = w (ix3 0 ⟨a.val - 512 * r.val, by omega⟩ 0) := by
  unfold put
  rw [dif_pos (fun d => by
    match d with
    | ⟨0, _⟩ => exact ⟨le_rfl, Nat.one_pos⟩
    | ⟨1, _⟩ => exact h
    | ⟨2, _⟩ => exact ⟨le_rfl, Nat.one_pos⟩)]
  refine congrArg w (funext fun d => Fin.ext ?_)
  match d with
  | ⟨0, _⟩ => rfl
  | ⟨1, _⟩ => rfl
  | ⟨2, _⟩ => rfl
theorem putC_out (x : Vec Ideal S1x8192x1 .f32) (r : Fin 16) (w : FVec Ideal S1x512x1 .f32) (a : Fin 8192)
    (h : ¬(512 * r.val ≤ a.val ∧ a.val < 512 * r.val + 512)) :
    put x ![0, 512 * r.val, 0] S1x512x1.size w (ix3 0 a 0) = x (ix3 0 a 0) := by
  unfold put
  rw [dif_neg (fun hd => h (hd 1))]

end Cert.Proof.Block
-- ==== Proof.Consts.lean ====
/-
  The float constants of the two host programs as extended reals.
-/
module

public import Idealize.ShloMosaic.PureOps.Ideal

@[expose] public section

noncomputable section

namespace Cert.Proof

open Idealize.ShloMosaic

/-- `128.0`, whose root the score's scale is the reciprocal of. -/
theorem ofBits_128 : Ideal.ofBits .f32 0x43000000#32 = ((128 : ℝ) : EReal) := by
  simp [Ideal.ofBits, Ideal.ieee, -EReal.coe_mul]; norm_num
/-- `2.0`, the base of the kernel's exponentials. -/
theorem ofBits_2 : Ideal.ofBits .f32 0x40000000#32 = ((2 : ℝ) : EReal) := by
  simp [Ideal.ofBits, Ideal.ieee, -EReal.coe_mul]; norm_num
/-- The masked scores' `-∞`. -/
theorem ofBits_neg_inf : Ideal.ofBits .f32 0xFF800000#32 = ⊥ := by
  simp [Ideal.ofBits, Ideal.ieee]

end Cert.Proof
-- ==== Proof.HostVal.lean ====
/-
  The kernel program's host operations before its launch, stage by stage, over the extended reals where every argument is real: the
  scaled queries, the row statistics.
-/
module

public import proofs.«01_k».proof.Proof.BlockVal
public import proofs.«01_k».proof.Proof.Consts
public import proofs.«01_k».proof.Proof.Gen.KernelIdeal.Frame

@[expose] public section

set_option maxRecDepth 16384

noncomputable section

namespace Cert.Proof.Host

open Cert.KernelIdeal Cert.KernelIdeal.Gen
open Idealize.ShloMosaic Idealize.SL.Sem
open Idealize.ShloMosaic.VecWindow

abbrev T2 := FVec Ideal S8192x1024 .f32
abbrev TC := FVec Ideal S8x8192 .f32
abbrev T3 := FVec Ideal S8x8192x8192 .f32

/-- The score's scale and the base-two logarithm of `e`, as computed. -/
def scaleH : FVec Ideal S_ .f32 := Host.divf (constant S_ .f32 0x3F800000#32) (Host.sqrt (constant S_ .f32 0x43000000#32))
def log2eH : FVec Ideal S_ .f32 := Host.divf (constant S_ .f32 0x3F800000#32) (Host.log (constant S_ .f32 0x40000000#32))

/-- Key up to row. -/
def maskH : IVec S8192x8192 1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The masked scores. -/
def scoreH (q k : T2) (c : TC) : T3 :=
  select (broadcastInDim S8x8192x8192 ![1, 2] bcast_S8192x8192_S8x8192x8192_1_2 maskH)
    (subf (mulf (Host.dotGeneral dot_S8192x8x128_S8192x8x128_S8x8192x8192_2_2_0_0_1_1 none
        (shapeCast S8192x8x128 q shapeCasts_S8192x1024_S8192x8x128) (shapeCast S8192x8x128 k shapeCasts_S8192x1024_S8192x8x128))
      (broadcastInDim S8x8192x8192 ![] bcast_S_S8x8192x8192 scaleH))
      (broadcastInDim S8x8192x8192 ![0, 1, 2] bcast_S8x1x8192_S8x8192x8192_0_1_2 (broadcastInDim S8x1x8192 ![0, 2] bcast_S8x8192_S8x1x8192_0_2 c)))
    (broadcastInDim S8x8192x8192 ![] bcast_S_S8x8192x8192 (constant S_ .f32 0xFF800000#32))

/-- A row's largest score. -/
def maxH (s : T3) : FVec Ideal S8x8192x1 .f32 :=
  broadcastInDim S8x8192x1 ![0, 1] bcast_S8x8192_S8x8192x1_0_1
    (Host.reduce FloatOps.maximumf s (constant S_ .f32 0xFF800000#32) reducesTo_S8x8192x8192_S8x8192_d2 h_S_)
/-- The exponentials of the scores less the row's largest, and a row's sum of them. -/
def expH (s : T3) (m : FVec Ideal S8x8192x1 .f32) : T3 :=
  Host.exp (subf s (broadcastInDim S8x8192x8192 ![0, 1, 2] bcast_S8x8192x1_S8x8192x8192_0_1_2 m))
def sumH (e : T3) : FVec Ideal S8x8192x1 .f32 :=
  broadcastInDim S8x8192x1 ![0, 1] bcast_S8x8192_S8x8192x1_0_1
    (Host.reduceAdd e (constant S_ .f32 0x00000000#32) reducesTo_S8x8192x8192_S8x8192_d2 h_S_)
/-- The logarithm of a row's mass. -/
def lseH (m l : FVec Ideal S8x8192x1 .f32) : FVec Ideal S8x8192x1 .f32 := addf m (Host.log l)
/-- The attention's output, and its product with the output gradient summed over the head's columns. -/
def outH (e : T3) (l : FVec Ideal S8x8192x1 .f32) (v : T2) : FVec Ideal S8192x8x128 .f32 :=
  transpose S8192x8x128 [2, 0, 1] (Host.dotGeneral dot_S8192x8x128_S8x8192x8192_S8x128x8192_0_2_2_1_1_0 none
    (shapeCast S8192x8x128 v shapeCasts_S8192x1024_S8192x8x128)
    (Host.divf e (broadcastInDim S8x8192x8192 ![0, 1, 2] bcast_S8x8192x1_S8x8192x8192_0_1_2 l))) transposes_S8x128x8192_S8192x8x128_2_0_1
def deltaH (o : FVec Ideal S8192x8x128 .f32) (g : T2) : FVec Ideal S8x8192x1 .f32 :=
  broadcastInDim S8x8192x1 ![0, 1] bcast_S8x8192_S8x8192x1_0_1 (transpose S8x8192 [1, 0]
    (Host.reduceAdd (mulf o (shapeCast S8192x8x128 g shapeCasts_S8192x1024_S8192x8x128)) (constant S_ .f32 0x00000000#32)
      reducesTo_S8192x8x128_S8192x8_d2 h_S_) transposes_S8192x8_S8x8192_1_0)
/-- The kernel's statistics operand. -/
def statsH (l d : FVec Ideal S8x8192x1 .f32) : FVec Ideal S8x8192x8 .f32 :=
  concatenate S8x8192x8 2 [⟨S8x8192x1, Host.negf l⟩, ⟨S8x8192x1, d⟩,
    ⟨S8x8192x6, broadcastInDim S8x8192x6 ![] bcast_S_S8x8192x6 (constant (F := Ideal) S_ .f32 0x00000000#32)⟩] concatenates_S8x8192x1_S8x8192x1_S8x8192x6_S8x8192x8_d2
/-- The kernel's operand of scaled queries, keys and values, side by side. -/
def qkvH (q k v : T2) : FVec Ideal S8192x3072 .bf16 :=
  truncf .bf16 (concatenate S8192x3072 1 [⟨S8192x1024, mulf q (broadcastInDim S8192x1024 ![] bcast_S_S8192x1024 (mulf scaleH log2eH))⟩,
    ⟨S8192x1024, k⟩, ⟨S8192x1024, v⟩] concatenates_S8192x1024_S8192x1024_S8192x1024_S8192x3072_d1) bitsLt_bf16_f32

/-! ## Their values -/

theorem scaleH_val : scaleH ix0 = ((Args.sc : ℝ) : EReal) := by
  pointwise [scaleH]
  rw [ofBits_128, Ideal.sqrt_coe, if_neg (by norm_num), ← EReal.coe_one,
    div_coe_coe _ (Real.sqrt_pos.2 (by norm_num : (0 : ℝ) < 128)).ne', one_div]
  rfl
theorem log2eH_val : log2eH ix0 = ((Args.le : ℝ) : EReal) := by
  pointwise [log2eH]
  rw [ofBits_2, Ideal.log_coe, if_neg (by norm_num), ← EReal.coe_one,
    div_coe_coe _ (Real.log_pos (by norm_num : (1 : ℝ) < 2)).ne', one_div]
  rfl

variable {A : Args} {q k v o : T2} {c : TC}

theorem scoreH_val (H : A.Of q k v c o) (h : Fin 8) (r t : Fin 8192) :
    scoreH q k c (ix3 h r t) = if t.val ≤ r.val then ((A.score h.val r.val t.val : ℝ) : EReal) else ⊥ := by
  pointwise [scoreH, maskH]
  rw [ofBits_neg_inf, scaleH_val, H.c, sum_coe (fun x => A.q r.val (128 * h.val + x) * A.k t.val (128 * h.val + x))
    (fun x => by rw [H.q, H.k, ← EReal.coe_mul]; simp only [Nat.mul_comm h.val 128]), ← EReal.coe_mul, ← EReal.coe_sub,
    WordCmp.cmpi_sle_ofNat (by have := t.isLt; omega) (by have := r.isLt; omega)]
  by_cases ht : t.val ≤ r.val
  · rw [if_pos ht, decide_eq_true ht]; rfl
  · rw [if_neg ht, decide_eq_false ht]; rfl

theorem maxH_val (H : A.Of q k v c o) :
    ∃ M : ℕ → ℕ → ℝ, ∀ (h : Fin 8) (r : Fin 8192), maxH (scoreH q k c) (ix3 h r 0) = ((M h.val r.val : ℝ) : EReal) := by
  have key : ∀ (h : Fin 8) (r : Fin 8192), ∃ M : ℝ, maxH (scoreH q k c) (ix3 h r 0) = ((M : ℝ) : EReal) := by
    intro h r
    pointwise [maxH]
    rw [ofBits_neg_inf]
    refine fold_max_real _ (fun x => ?_) ⟨⟨0, by norm_num⟩, ?_⟩
    · rw [scoreH_val H]; split_ifs
      · exact EReal.coe_ne_top _
      · exact bot_ne_top
    · rw [scoreH_val H, if_pos (Nat.zero_le _)]; exact EReal.coe_ne_bot _
  choose M hM using key
  exact ⟨fun h r => M (Fin.ofNat 8 h) (Fin.ofNat 8192 r), fun h r => by
    rw [hM]; simp only [Fin.ofNat_val_eq_self]⟩

theorem expH_val (H : A.Of q k v c o) {m : FVec Ideal S8x8192x1 .f32} {M : ℕ → ℕ → ℝ}
    (hM : ∀ (h : Fin 8) (r : Fin 8192), m (ix3 h r 0) = ((M h.val r.val : ℝ) : EReal)) (h : Fin 8) (r t : Fin 8192) :
    expH (scoreH q k c) m (ix3 h r t)
      = ((if t.val ≤ r.val then Real.exp (A.score h.val r.val t.val - M h.val r.val) else 0 : ℝ) : EReal) := by
  pointwise [expH]
  rw [hM, scoreH_val H, exp_masked]

theorem sumH_val (H : A.Of q k v c o) {m : FVec Ideal S8x8192x1 .f32} {M : ℕ → ℕ → ℝ}
    (hM : ∀ (h : Fin 8) (r : Fin 8192), m (ix3 h r 0) = ((M h.val r.val : ℝ) : EReal)) (h : Fin 8) (r : Fin 8192) :
    sumH (expH (scoreH q k c) m) (ix3 h r 0) = ((A.mass h.val r.val * Real.exp (-M h.val r.val) : ℝ) : EReal) := by
  pointwise [sumH]
  rw [sum_coe (fun t => if t ≤ r.val then Real.exp (A.score h.val r.val t - M h.val r.val) else 0) (fun t => expH_val H hM h r t),
    A.mass_shift]

theorem outH_val (H : A.Of q k v c o) {m : FVec Ideal S8x8192x1 .f32} {M : ℕ → ℕ → ℝ}
    (hM : ∀ (h : Fin 8) (r : Fin 8192), m (ix3 h r 0) = ((M h.val r.val : ℝ) : EReal)) (r : Fin 8192) (h : Fin 8) (d : Fin 128) :
    outH (expH (scoreH q k c) m) (sumH (expH (scoreH q k c) m)) v (ix3 r h d)
      = ((∑ t ∈ Finset.range 8192, A.v t (128 * h.val + d.val) * A.prob h.val r.val t : ℝ) : EReal) := by
  pointwise [outH]
  refine sum_coe (fun t => A.v t (128 * h.val + d.val) * A.prob h.val r.val t) (fun t => ?_)
  rw [H.v, expH_val H hM, sumH_val H hM, div_coe_coe _ (A.shift_pos _ _ _).ne', A.prob_shift, ← EReal.coe_mul]
  simp only [Nat.mul_comm h.val 128]

/-- The statistics operand as the program computes it. -/
def statsOf (q k v : T2) (c : TC) (o : T2) : FVec Ideal S8x8192x8 .f32 :=
  statsH (lseH (maxH (scoreH q k c)) (sumH (expH (scoreH q k c) (maxH (scoreH q k c)))))
    (deltaH (outH (expH (scoreH q k c) (maxH (scoreH q k c))) (sumH (expH (scoreH q k c) (maxH (scoreH q k c)))) v) o)

theorem statsH_0 (l d : FVec Ideal S8x8192x1 .f32) (h : Fin 8) (r : Fin 8192) : statsH l d (ix3 h r 0) = -l (ix3 h r 0) := by
  pointwise [statsH]
theorem statsH_1 (l d : FVec Ideal S8x8192x1 .f32) (h : Fin 8) (r : Fin 8192) : statsH l d (ix3 h r 1) = d (ix3 h r 0) := by
  pointwise [statsH]
theorem lseH_apply (m l : FVec Ideal S8x8192x1 .f32) (h : Fin 8) (r : Fin 8192) :
    lseH m l (ix3 h r 0) = m (ix3 h r 0) + Ideal.log (l (ix3 h r 0)) := by
  pointwise [lseH]
theorem deltaH_apply (x : FVec Ideal S8192x8x128 .f32) (g : T2) (h : Fin 8) (r : Fin 8192) :
    deltaH x g (ix3 h r 0) = ∑ d : Fin 128, x (ix3 r h d) * g (ix2 r ⟨h.val * 128 + d.val, by have := h.isLt; have := d.isLt; omega⟩) := by
  pointwise [deltaH]

theorem stats_lse (H : A.Of q k v c o) (h : Fin 8) (r : Fin 8192) :
    statsOf q k v c o (ix3 h r 0) = ((-Real.log (A.mass h.val r.val) : ℝ) : EReal) := by
  obtain ⟨M, hM⟩ := maxH_val H
  refine (statsH_0 _ _ h r).trans ?_
  rw [lseH_apply, sumH_val H hM, hM, Ideal.log_coe, if_neg (A.shift_pos _ _ _).not_ge, ← EReal.coe_add, A.log_shift, ← EReal.coe_neg]

theorem stats_delta (H : A.Of q k v c o) (h : Fin 8) (r : Fin 8192) :
    statsOf q k v c o (ix3 h r 1) = ((A.delta h.val r.val : ℝ) : EReal) := by
  obtain ⟨M, hM⟩ := maxH_val H
  refine (statsH_1 _ _ h r).trans ?_
  rw [deltaH_apply, sum_coe (fun d => (∑ t ∈ Finset.range 8192, A.v t (128 * h.val + d) * A.prob h.val r.val t) * A.o r.val (128 * h.val + d))
    (fun d => by rw [outH_val H hM, H.o, ← EReal.coe_mul]; simp only [Nat.mul_comm h.val 128]), A.delta_eq]

theorem qkv_q (H : A.Of q k v c o) (r : Fin 8192) (x : Fin 3072) (hx : x.val < 1024) :
    qkvH q k v (ix2 r x) = ((A.q r.val x.val * (Args.sc * Args.le) : ℝ) : EReal) := by
  pointwise [qkvH]
  rw [dif_pos hx, H.q, scaleH_val, log2eH_val, ← EReal.coe_mul, ← EReal.coe_mul]
theorem qkv_k (H : A.Of q k v c o) (r : Fin 8192) (x : Fin 3072) (hx : 1024 ≤ x.val) (hx' : x.val < 2048) :
    qkvH q k v (ix2 r x) = ((A.k r.val (x.val - 1024) : ℝ) : EReal) := by
  pointwise [qkvH]
  rw [dif_neg (by omega), dif_pos (by omega), H.k]
theorem qkv_v (H : A.Of q k v c o) (r : Fin 8192) (x : Fin 3072) (hx : 2048 ≤ x.val) :
    qkvH q k v (ix2 r x) = ((A.v r.val (x.val - 2048) : ℝ) : EReal) := by
  pointwise [qkvH]
  rw [dif_neg (by omega), dif_neg (by omega), H.v]
  simp only [Nat.sub_sub]

end Cert.Proof.Host
-- ==== Proof.HostRun.lean ====
/-
  What the kernel's launch finds in its operands: the host operations' results, as the stages of `HostVal.lean`.
-/
module

public import proofs.«01_k».proof.Proof.HostVal

@[expose] public section

set_option maxRecDepth 16384

noncomputable section

namespace Cert.Proof.Host

open Cert.KernelIdeal Cert.KernelIdeal.Gen
open Idealize.ShloMosaic Idealize.SL.Sem

variable (m : (ℓ : Loc nD τ sig) → Buf (Elt Ideal) ℓ)

theorem V_qkv (d : Dev nD) : V m d main_v45 = qkvH (m ((d.tc : Thread nD τ).loc main_arg0)) (m ((d.tc : Thread nD τ).loc main_arg1))
    (m ((d.tc : Thread nD τ).loc main_arg2)) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem V_do (d : Dev nD) : V m d main_v46 = (m ((d.tc : Thread nD τ).loc main_arg4) : FVec Ideal S8192x1024 .f32) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem V_c (d : Dev nD) : V m d main_v47 = broadcastInDim S8x1x8192 ![0, 2] bcast_S8x8192_S8x1x8192_0_2
    (m ((d.tc : Thread nD τ).loc main_arg3) : FVec Ideal S8x8192 .f32) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
/-- Three pieces that are the statistics and the padding, put side by side. -/
theorem statsH_of {x y l d : FVec Ideal S8x8192x1 .f32} {z : FVec Ideal S8x8192x6 .f32} (hx : x = Host.negf l) (hy : y = d)
    (hz : z = broadcastInDim S8x8192x6 ![] bcast_S_S8x8192x6 (constant (F := Ideal) S_ .f32 0x00000000#32)) :
    concatenate S8x8192x8 2 [⟨S8x8192x1, x⟩, ⟨S8x8192x1, y⟩, ⟨S8x8192x6, z⟩]
      concatenates_S8x8192x1_S8x8192x1_S8x8192x6_S8x8192x8_d2 = statsH l d := by
  subst hx hy hz; rfl

theorem V_stats (d : Dev nD) : V m d main_v40 = statsOf (m ((d.tc : Thread nD τ).loc main_arg0)) (m ((d.tc : Thread nD τ).loc main_arg1))
    (m ((d.tc : Thread nD τ).loc main_arg2)) (m ((d.tc : Thread nD τ).loc main_arg3)) (m ((d.tc : Thread nD τ).loc main_arg4)) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  refine statsH_of ?_ ?_ ?_
  · beta_reduce
    dsimp only [Matrix.cons_val]
    after_results_simp <;> rfl
  · beta_reduce
    dsimp only [Matrix.cons_val]
    after_results_simp <;> rfl
  · beta_reduce
    dsimp only [Matrix.cons_val]
    after_results_simp <;> rfl

end Cert.Proof.Host
-- ==== Proof.PointVal.lean ====
/-
  What a grid point leaves in the accumulators, over the extended reals where every number is real: the sums of `Spec.lean` over
  the rows and keys gone through so far.
-/
module

public import proofs.«01_k».proof.Proof.BlockVal

@[expose] public section

set_option maxRecDepth 16384

noncomputable section

namespace Cert.Proof.Block

open Cert.KernelIdeal Cert.KernelIdeal.Gen
open Idealize.ShloMosaic Idealize.SL.Sem
open Idealize.ShloMosaic.VecWindow

/-- A grid point's operands hold head `h`'s rows and key tile `j` of the arguments: the queries scaled, the statistics the negated
    logarithm of each row's mass and its delta. -/
structure Ins (A : Args) (h j : ℕ) (q dov : Vec Ideal S8192x128 .bf16) (k v : Vec Ideal S1024x128 .bf16) (st : Vec Ideal S1x8192x8 .f32)
    (c : Vec Ideal S1x1x1024 .f32) : Prop where
  q : ∀ (a : Fin 8192) (b : Fin 128), q (ix2 a b) = ((A.q a.val (128 * h + b.val) * (Args.sc * Args.le) : ℝ) : EReal)
  o : ∀ (a : Fin 8192) (b : Fin 128), dov (ix2 a b) = ((A.o a.val (128 * h + b.val) : ℝ) : EReal)
  k : ∀ (a : Fin 1024) (b : Fin 128), k (ix2 a b) = ((A.k (1024 * j + a.val) (128 * h + b.val) : ℝ) : EReal)
  v : ∀ (a : Fin 1024) (b : Fin 128), v (ix2 a b) = ((A.v (1024 * j + a.val) (128 * h + b.val) : ℝ) : EReal)
  c : ∀ a : Fin 1024, c (ix3 0 0 a) = ((A.c h (1024 * j + a.val) : ℝ) : EReal)
  l : ∀ a : Fin 8192, st (ix3 0 a 0) = ((-Real.log (A.mass h a.val) : ℝ) : EReal)
  d : ∀ a : Fin 8192, st (ix3 0 a 1) = ((A.delta h a.val : ℝ) : EReal)

/-- The accumulators after the rows below `n`, at key tile `j`. -/
structure Acc (A : Args) (h j n : ℕ) (s : St Ideal) : Prop where
  dq : ∀ (a : Fin 8192) (b : Fin 128), s.dq (ix2 a b)
    = ((∑ t ∈ Finset.range (if a.val < n then 1024 * (j + 1) else 1024 * j), A.ds h a.val t * A.k t (128 * h + b.val) : ℝ) : EReal)
  dk : ∀ (a : Fin 1024) (b : Fin 128), s.dk (ix2 a b)
    = ((∑ r ∈ Finset.range n, A.ds h r (1024 * j + a.val) * (A.q r (128 * h + b.val) * (Args.sc * Args.le)) : ℝ) : EReal)
  dv : ∀ (a : Fin 1024) (b : Fin 128), s.dv (ix2 a b)
    = ((∑ r ∈ Finset.range n, A.prob h r (1024 * j + a.val) * A.o r (128 * h + b.val) : ℝ) : EReal)
  cr : ∀ a : Fin 1024, s.cr (ix2 0 a) = ((-∑ r ∈ Finset.range n, A.ds h r (1024 * j + a.val) : ℝ) : EReal)
  cc : ∀ a : Fin 8192, s.cc (ix3 0 a 0)
    = ((∑ t ∈ Finset.range (if a.val < n then 1024 * (j + 1) else 1024 * j), A.ds h a.val t : ℝ) : EReal)

variable {A : Args} {h j : ℕ} {q dov : Vec Ideal S8192x128 .bf16} {k v : Vec Ideal S1024x128 .bf16} {st : Vec Ideal S1x8192x8 .f32}
  {c : Vec Ideal S1x1x1024 .f32}

/-- The unmasked probabilities of a row block. -/
theorem probs_val (I : Ins A h j q dov k v st c) (r : Fin 16) (a : Fin 512) (b : Fin 1024) :
    probs (k0_pay25 k) (k0_pay27 c) (rowsQ q r) (rowsS st r) (ix2 a b)
      = ((Real.exp (A.score h (512 * r.val + a.val) (1024 * j + b.val) - Real.log (A.mass h (512 * r.val + a.val))) : ℝ) : EReal) := by
  rw [probs_apply, rowsS_apply, pay27_apply, I.l, I.c,
    sum_coe (fun x => A.q (512 * r.val + a.val) (128 * h + x) * (Args.sc * Args.le) * A.k (1024 * j + b.val) (128 * h + x))
      (fun x => by rw [rowsQ_apply, pay25_apply, I.q, I.k, ← EReal.coe_mul]),
    ← EReal.coe_mul, ← EReal.coe_mul, ← EReal.coe_sub, ← EReal.coe_add, Ideal.exp2_coe, ← Args.two_rpow_le]
  refine congrArg (fun x : ℝ => ((Real.rpow 2 x : ℝ) : EReal)) ?_
  rw [Args.score, show ∑ x ∈ Finset.range 128, A.q (512 * r.val + a.val) (128 * h + x) * (Args.sc * Args.le) * A.k (1024 * j + b.val) (128 * h + x)
    = (∑ x ∈ Finset.range 128, A.q (512 * r.val + a.val) (128 * h + x) * A.k (1024 * j + b.val) (128 * h + x)) * (Args.sc * Args.le) by
      rw [Finset.sum_mul]; exact Finset.sum_congr rfl fun x _ => by ring]
  ring

/-- The score gradient of a row block from its probabilities. -/
theorem ds_val (I : Ins A h j q dov k v st c) (r : Fin 16) (p : FVec Ideal S512x1024 .f32)
    (hp : ∀ (a : Fin 512) (b : Fin 1024), p (ix2 a b) = ((A.prob h (512 * r.val + a.val) (1024 * j + b.val) : ℝ) : EReal))
    (a : Fin 512) (b : Fin 1024) :
    dsOf (k0_pay26 v) (rowsQ dov r) (rowsS st r) p (ix2 a b) = ((A.ds h (512 * r.val + a.val) (1024 * j + b.val) : ℝ) : EReal) := by
  rw [dsOf_apply, rowsS_apply, I.d, hp,
    sum_coe (fun x => A.o (512 * r.val + a.val) (128 * h + x) * A.v (1024 * j + b.val) (128 * h + x))
      (fun x => by rw [rowsQ_apply, pay26_apply, I.o, I.v, ← EReal.coe_mul]),
    ← EReal.coe_sub, ← EReal.coe_mul]
  rfl

/-- A sum over the rows below a block, and the block's. -/
theorem range_block (f : ℕ → ℝ) (n m : ℕ) : ∑ x ∈ Finset.range (n + m), f x = ∑ x ∈ Finset.range n, f x + ∑ x ∈ Finset.range m, f (n + x) :=
  Finset.sum_range_add f n m

/-- One row block: its share of every sum. -/
theorem upd_val (I : Ins A h j q dov k v st c) (r : Fin 16) (p : FVec Ideal S512x1024 .f32)
    (hp : ∀ (a : Fin 512) (b : Fin 1024), p (ix2 a b) = ((A.prob h (512 * r.val + a.val) (1024 * j + b.val) : ℝ) : EReal))
    (s : St Ideal) (S : Acc A h j (512 * r.val) s) :
    Acc A h j (512 * r.val + 512) (upd (k0_pay25 k) (k0_pay26 v) (rowsQ q r) (rowsQ dov r) (rowsS st r) p r s) where
  dq a b := by
    show put s.dq ![512 * r.val, 0] S512x128.size _ (ix2 a b) = _
    by_cases ha : 512 * r.val ≤ a.val ∧ a.val < 512 * r.val + 512
    · rw [putQ_in _ _ _ _ _ ha, addDq_apply, rowsQ_apply]
      have e : 512 * r.val + (a.val - 512 * r.val) = a.val := by omega
      rw [sum_coe (fun x => A.ds h a.val (1024 * j + x) * A.k (1024 * j + x) (128 * h + b.val)) (fun x => by
          rw [ds_val I r p hp, pay25_apply, I.k, ← EReal.coe_mul]; simp only [e])]
      simp only [e]
      rw [S.dq]
      dsimp only
      rw [← EReal.coe_add, if_neg (by omega), if_pos ha.2, Nat.mul_succ, range_block]
    · rw [putQ_out _ _ _ _ _ ha, S.dq]
      congr 3
      have : (a.val < 512 * r.val) = (a.val < 512 * r.val + 512) := propext ⟨fun _ => by omega, fun _ => by omega⟩
      simp only [this]
  dk a b := by
    show addDk _ _ s.dk (ix2 a b) = _
    rw [addDk_apply, S.dk, sum_coe (fun x => A.ds h (512 * r.val + x) (1024 * j + a.val) * (A.q (512 * r.val + x) (128 * h + b.val) * (Args.sc * Args.le)))
      (fun x => by rw [ds_val I r p hp, rowsQ_apply, I.q, ← EReal.coe_mul]), ← EReal.coe_add, range_block]
  dv a b := by
    show addDv _ _ s.dv (ix2 a b) = _
    rw [addDv_apply, S.dv, sum_coe (fun x => A.prob h (512 * r.val + x) (1024 * j + a.val) * A.o (512 * r.val + x) (128 * h + b.val))
      (fun x => by rw [hp, rowsQ_apply, I.o, ← EReal.coe_mul]), ← EReal.coe_add, range_block]
  cr a := by
    show k0_pay52 _ s.cr (ix2 0 a) = _
    rw [pay52_apply, S.cr, sum_coe (fun x => A.ds h (512 * r.val + x) (1024 * j + a.val)) (fun x => ds_val I r p hp x a),
      ← EReal.coe_sub, range_block, neg_add, sub_eq_add_neg]
  cc a := by
    show put s.cc ![0, 512 * r.val, 0] S1x512x1.size _ (ix3 0 a 0) = _
    by_cases ha : 512 * r.val ≤ a.val ∧ a.val < 512 * r.val + 512
    · rw [putC_in _ _ _ _ ha, pay53_apply, rowsC_apply]
      have e : 512 * r.val + (a.val - 512 * r.val) = a.val := by omega
      rw [sum_coe (fun x => A.ds h a.val (1024 * j + x)) (fun x => by rw [ds_val I r p hp]; simp only [e])]
      simp only [e]
      rw [S.cc]
      dsimp only
      rw [← EReal.coe_add, if_neg (by omega), if_pos ha.2, Nat.mul_succ, range_block]
    · rw [putC_out _ _ _ _ ha, S.cc]
      congr 3
      have : (a.val < 512 * r.val) = (a.val < 512 * r.val + 512) := propext ⟨fun _ => by omega, fun _ => by omega⟩
      simp only [this]

/-- A masked block, on the diagonal. -/
theorem blk_diag (I : Ins A h j q dov k v st c) (hj : j < 8) (i : ℕ) (hi : i < 2) (s : St Ideal) (S : Acc A h j (1024 * j + 512 * i) s) :
    Acc A h j (1024 * j + 512 * i + 512)
      (blk q dov st (k0_pay25 k) (k0_pay26 v) (k0_pay27 c) (causal (BitVec.ofNat 32 (512 * i))) (rb (2 * j + i)) s) := by
  have er : (rb (2 * j + i)).val = 2 * j + i := rb_val (by omega)
  have e : 1024 * j + 512 * i = 512 * (rb (2 * j + i)).val := by rw [er]; ring
  rw [e] at S ⊢
  refine upd_val I _ _ (fun a b => ?_) s S
  rw [causal_apply _ _ (by omega), probs_val I]
  by_cases hc : b.val ≤ 512 * i + a.val
  · rw [if_pos hc, Args.prob_eq_exp A (by rw [← e]; omega)]
  · rw [if_neg hc, Args.prob_of_lt A (by rw [← e]; omega)]; rfl

/-- A block below the diagonal. -/
theorem blk_below (I : Ins A h j q dov k v st c) (n : ℕ) (hn : n < 14 - 2 * j) (s : St Ideal) (S : Acc A h j (1024 * j + 1024 + 512 * n) s) :
    Acc A h j (1024 * j + 1024 + 512 * (n + 1))
      (blk q dov st (k0_pay25 k) (k0_pay26 v) (k0_pay27 c) id (rb (2 * j + 2 + n)) s) := by
  have er : (rb (2 * j + 2 + n)).val = 2 * j + 2 + n := rb_val (by omega)
  have e : 1024 * j + 1024 + 512 * n = 512 * (rb (2 * j + 2 + n)).val := by rw [er]; ring
  rw [Nat.mul_succ, ← add_assoc, e]
  rw [e] at S
  refine upd_val I _ _ (fun a b => ?_) s S
  show probs _ _ _ _ (ix2 a b) = _
  rw [probs_val I, Args.prob_eq_exp A (by rw [← e]; have := b.isLt; omega)]

theorem below_val (I : Ins A h j q dov k v st c) (s : St Ideal) (S : Acc A h j (1024 * j + 1024) s) :
    ∀ n, n ≤ 14 - 2 * j → Acc A h j (1024 * j + 1024 + 512 * n) (below q dov st (k0_pay25 k) (k0_pay26 v) (k0_pay27 c) j n s)
  | 0, _ => S
  | n + 1, hn => blk_below I n (by omega) _ (below_val I s S n (by omega))

/-- What the head's arrays hold before key tile `j`. -/
structure Before (A : Args) (h j : ℕ) (dq : Vec Ideal S8192x128 .f32) (cc : Vec Ideal S1x8192x1 .f32) : Prop where
  dq : j ≠ 0 → ∀ (a : Fin 8192) (b : Fin 128), dq (ix2 a b)
    = ((∑ t ∈ Finset.range (1024 * j), A.ds h a.val t * A.k t (128 * h + b.val) : ℝ) : EReal)
  cc : j ≠ 0 → ∀ a : Fin 8192, cc (ix3 0 a 0) = ((∑ t ∈ Finset.range (1024 * j), A.ds h a.val t : ℝ) : EReal)

/-- Terms that vanish from `n` on do not count. -/
theorem range_tail (f : ℕ → ℝ) (n m : ℕ) (hf : ∀ x, n ≤ x → f x = 0) : ∑ x ∈ Finset.range (n + m), f x = ∑ x ∈ Finset.range n, f x := by
  rw [range_block, Finset.sum_eq_zero fun x _ => hf (n + x) (Nat.le_add_right _ _), add_zero]

theorem start_val (hj : j < 8) (dq : Vec Ideal S8192x128 .f32) (cc : Vec Ideal S1x8192x1 .f32) (B : Before A h j dq cc) :
    Acc A h j (1024 * j) (start j dq cc) where
  dq a b := by
    have h1 : (start j dq cc).dq (ix2 a b) = ((∑ t ∈ Finset.range (1024 * j), A.ds h a.val t * A.k t (128 * h + b.val) : ℝ) : EReal) := by
      by_cases h0 : j = 0
      · subst h0; exact (pay20_apply a b).trans (by simp)
      · show (if j = 0 then k0_pay20 (F := Ideal) else dq) (ix2 a b) = _
        rw [if_neg h0, B.dq h0]
    rw [h1]
    split_ifs with ha
    · rw [Nat.mul_succ, range_tail _ _ _ fun x hx => by rw [A.ds_of_lt (by omega), zero_mul]]
    · rfl
  dk a b := by
    refine (pay22_apply a b).trans ?_
    rw [Finset.sum_eq_zero fun r hr => by rw [A.ds_of_lt (by have := Finset.mem_range.1 hr; omega), zero_mul]]; rfl
  dv a b := by
    refine (pay23_apply a b).trans ?_
    rw [Finset.sum_eq_zero fun r hr => by rw [A.prob_of_lt (by have := Finset.mem_range.1 hr; omega), zero_mul]]; rfl
  cr a := by
    refine (pay24_apply a).trans ?_
    rw [Finset.sum_eq_zero fun r hr => by rw [A.ds_of_lt (by have := Finset.mem_range.1 hr; omega)]]; simp
  cc a := by
    have h1 : (start j dq cc).cc (ix3 0 a 0) = ((∑ t ∈ Finset.range (1024 * j), A.ds h a.val t : ℝ) : EReal) := by
      by_cases h0 : j = 0
      · subst h0; exact (pay21_apply a).trans (by simp)
      · show (if j = 0 then k0_pay21 (F := Ideal) else cc) (ix3 0 a 0) = _
        rw [if_neg h0, B.cc h0]
    rw [h1]
    split_ifs with ha
    · rw [Nat.mul_succ, range_tail _ _ _ fun x hx => A.ds_of_lt (by omega)]
    · rfl

/-- A grid point: all rows gone through at key tile `j`. -/
theorem point_val (I : Ins A h j q dov k v st c) (hj : j < 8) (dq : Vec Ideal S8192x128 .f32) (cc : Vec Ideal S1x8192x1 .f32)
    (B : Before A h j dq cc) : Acc A h j 8192 (point q dov k v st c j dq cc) := by
  have h0 := blk_diag I hj 0 (by omega) _ (by simpa using start_val (A := A) (h := h) hj dq cc B)
  have h1 := blk_diag I hj 1 (by omega) _ (by simpa using h0)
  have h2 := below_val I _ (by simpa [add_assoc] using h1) (14 - 2 * j) le_rfl
  have e : 1024 * j + 1024 + 512 * (14 - 2 * j) = 8192 := by omega
  rw [e] at h2
  exact h2

/-- The next tile finds what this one left. -/
theorem Acc.before {s : St Ideal} (S : Acc A h j 8192 s) : Before A h (j + 1) s.dq s.cc where
  dq _ a b := by rw [S.dq, if_pos a.isLt]
  cc _ a := by rw [S.cc, if_pos a.isLt]

end Cert.Proof.Block
-- ==== Proof.Operands.lean ====
/-
  The launch's operand blocks at each grid point, as reals: head `t / 8` at key tile `t % 8`.
-/
module

public import proofs.«01_k».proof.Proof.HostRun
public import proofs.«01_k».proof.Proof.PointVal
public import proofs.«01_k».proof.Proof.Launch
public import Idealize.ShloMosaic.Lib.Pipeline.ValueKit

@[expose] public section

set_option maxRecDepth 16384

noncomputable section

namespace Cert.Proof.Launch

open Cert.KernelIdeal Cert.KernelIdeal.Gen Cert.Proof.Block Cert.Proof.Host
open Idealize.ShloMosaic Idealize.SL.Sem

theorem t_lt (t : Fin cfg0.N) : t.val < 64 := t.isLt

theorem index0 : ∀ t : Fin cfg0.N, win0_0.index t = ![0, t.val / 8] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![t.val % 8, 8 + t.val / 8] := (by decide +kernel : ∀ t : Fin grid0.N, _)
theorem index3 : ∀ t : Fin cfg0.N, win0_3.index t = ![t.val % 8, 16 + t.val / 8] := (by decide +kernel : ∀ t : Fin grid0.N, _)
theorem index4 : ∀ t : Fin cfg0.N, win0_4.index t = ![t.val / 8, 0, 0] := (by decide +kernel : ∀ t : Fin grid0.N, _)
theorem index5 : ∀ t : Fin cfg0.N, win0_5.index t = ![t.val / 8, 0, t.val % 8] := (by decide +kernel : ∀ t : Fin grid0.N, _)

variable (m : (ℓ : Loc nD τ sig) → Buf (Elt Ideal) ℓ)

theorem iblk0 (d : Dev nD) (t : Fin cfg0.N) (a : Fin 8192) (b : Fin 128) :
    iblk m d 0 t (ix2 a b) = V m d main_v45 (ix2 a ⟨128 * (t.val / 8) + b.val, by have := t_lt t; have := b.isLt; omega⟩) := by
  blk_simp [iblk, index0]
  congr 1
  blk_ext [index0]
theorem iblk1 (d : Dev nD) (t : Fin cfg0.N) (a : Fin 8192) (b : Fin 128) :
    iblk m d 1 t (ix2 a b) = V m d main_v46 (ix2 a ⟨128 * (t.val / 8) + b.val, by have := t_lt t; have := b.isLt; omega⟩) := by
  blk_simp [iblk, index1]
  congr 1
  blk_ext [index1]
theorem iblk2 (d : Dev nD) (t : Fin cfg0.N) (a : Fin 1024) (b : Fin 128) :
    iblk m d 2 t (ix2 a b) = V m d main_v45 (ix2 ⟨1024 * (t.val % 8) + a.val, by have := a.isLt; omega⟩
      ⟨1024 + (128 * (t.val / 8) + b.val), by have := t_lt t; have := b.isLt; omega⟩) := by
  blk_simp [iblk, index2]
  congr 1
  blk_ext [index2]
theorem iblk3 (d : Dev nD) (t : Fin cfg0.N) (a : Fin 1024) (b : Fin 128) :
    iblk m d 3 t (ix2 a b) = V m d main_v45 (ix2 ⟨1024 * (t.val % 8) + a.val, by have := a.isLt; omega⟩
      ⟨2048 + (128 * (t.val / 8) + b.val), by have := t_lt t; have := b.isLt; omega⟩) := by
  blk_simp [iblk, index3]
  congr 1
  blk_ext [index3]
theorem iblk4 (d : Dev nD) (t : Fin cfg0.N) (a : Fin 8192) (b : Fin 8) :
    iblk m d 4 t (ix3 0 a b) = V m d main_v40 (ix3 ⟨t.val / 8, by have := t_lt t; omega⟩ a b) := by
  blk_simp [iblk, index4]
  congr 1
  blk_ext [index4]
theorem iblk5 (d : Dev nD) (t : Fin cfg0.N) (a : Fin 1024) :
    iblk m d 5 t (ix3 0 0 a) = V m d main_v47 (ix3 ⟨t.val / 8, by have := t_lt t; omega⟩ 0
      ⟨1024 * (t.val % 8) + a.val, by have := a.isLt; omega⟩) := by
  blk_simp [iblk, index5]
  congr 1
  blk_ext [index5]

variable {m} {A : Args} {d : Dev nD}

/-- What the arguments' realness means for the blocks that the body at point `t` finds. -/
theorem ins (H : A.Of (m ((d.tc : Thread nD τ).loc main_arg0)) (m ((d.tc : Thread nD τ).loc main_arg1))
    (m ((d.tc : Thread nD τ).loc main_arg2)) (m ((d.tc : Thread nD τ).loc main_arg3)) (m ((d.tc : Thread nD τ).loc main_arg4)))
    (t : Fin cfg0.N) :
    Ins A (t.val / 8) (t.val % 8) (iblk m d 0 t) (iblk m d 1 t) (iblk m d 2 t) (iblk m d 3 t) (iblk m d 4 t) (iblk m d 5 t) where
  q a b := by
    rw [iblk0, V_qkv]
    exact qkv_q H a _ (by have := t_lt t; have := b.isLt; dsimp only; omega)
  o a b := by
    rw [iblk1, V_do]
    exact H.o a _
  k a b := by
    rw [iblk2, V_qkv]
    exact (qkv_k H _ _ (by dsimp only; omega) (by have := t_lt t; have := b.isLt; dsimp only; omega)).trans (by
      dsimp only; rw [Nat.add_sub_cancel_left])
  v a b := by
    rw [iblk3, V_qkv]
    exact (qkv_v H _ _ (by dsimp only; omega)).trans (by dsimp only; rw [Nat.add_sub_cancel_left])
  c a := by
    rw [iblk5, V_c]
    pointwise
    exact H.c ⟨t.val / 8, _⟩ ⟨1024 * (t.val % 8) + a.val, _⟩
  l a := by
    rw [iblk4, V_stats]
    exact stats_lse H _ a
  d a := by
    rw [iblk4, V_stats]
    exact stats_delta H _ a

/-- The accumulators after each point. -/
theorem acc (H : A.Of (m ((d.tc : Thread nD τ).loc main_arg0)) (m ((d.tc : Thread nD τ).loc main_arg1))
    (m ((d.tc : Thread nD τ).loc main_arg2)) (m ((d.tc : Thread nD τ).loc main_arg3)) (m ((d.tc : Thread nD τ).loc main_arg4)))
    (n : ℕ) (hn : n < cfg0.N) : Acc A (n / 8) (n % 8) 8192 (stAt m d n hn) := by
  induction n with
  | zero =>
    exact point_val (ins H ⟨0, hn⟩) (Nat.mod_lt _ (by norm_num)) _ _ ⟨fun h => absurd rfl h, fun h => absurd rfl h⟩
  | succ n ih =>
    refine point_val (ins H ⟨n + 1, hn⟩) (Nat.mod_lt _ (by norm_num)) _ _ ?_
    by_cases h : (n + 1) % 8 = 0
    · exact ⟨fun h' => absurd h h', fun h' => absurd h h'⟩
    · have e := (ih (Nat.lt_of_succ_lt hn)).before
      have e1 : (n + 1) / 8 = n / 8 := by omega
      have e2 : (n + 1) % 8 = n % 8 + 1 := by omega
      dsimp only
      rw [e1, e2]
      exact e

end Cert.Proof.Launch
-- ==== Proof.Results.lean ====
/-
  The kernel's five result arrays, as reals.
-/
module

public import proofs.«01_k».proof.Proof.Operands

@[expose] public section

set_option maxRecDepth 16384

noncomputable section

namespace Cert.Proof.Launch

open Cert.KernelIdeal Cert.KernelIdeal.Gen Cert.Proof.Block Cert.Proof.Host
open Idealize.ShloMosaic Idealize.SL.Sem

theorem index6 : ∀ t : Fin cfg0.N, win0_6.index t = ![0, t.val / 8] := (by decide +kernel : ∀ t : Fin grid0.N, _)
theorem index7 : ∀ t : Fin cfg0.N, win0_7.index t = ![t.val % 8, t.val / 8] := (by decide +kernel : ∀ t : Fin grid0.N, _)
theorem index8 : ∀ t : Fin cfg0.N, win0_8.index t = ![t.val % 8, t.val / 8] := (by decide +kernel : ∀ t : Fin grid0.N, _)
theorem index9 : ∀ t : Fin cfg0.N, win0_9.index t = ![t.val / 8, 0, t.val % 8] := (by decide +kernel : ∀ t : Fin grid0.N, _)
theorem index10 : ∀ t : Fin cfg0.N, win0_10.index t = ![t.val / 8, 0, 0] := (by decide +kernel : ∀ t : Fin grid0.N, _)

/-- The queries' gradients and the column sums are written back at the last key tile. -/
theorem last6 : ∀ t : Fin cfg0.N, win0_6.flush t = true → t.val % 8 = 7 := (by decide +kernel : ∀ t : Fin grid0.N, _)
theorem last10 : ∀ t : Fin cfg0.N, win0_10.flush t = true → t.val % 8 = 7 := (by decide +kernel : ∀ t : Fin grid0.N, _)

variable {m : (ℓ : Loc nD τ sig) → Buf (Elt Ideal) ℓ} {A : Args} {d : Dev nD}

theorem named_scale : Named.named (F := Ideal) κ "scale" (φ := .f32) 0x3DB504F3#32 = ((Args.sc : ℝ) : EReal) :=
  IdealRules.named_const.ideal_named_scalar _ _ _ _ rfl
theorem named_ln2 : Named.named (F := Ideal) κ "ln2" (φ := .f32) 0x3F317218#32 = ((Args.le⁻¹ : ℝ) : EReal) :=
  IdealRules.named_const.ideal_named_scalar _ _ _ _ rfl

variable (H : A.Of (m ((d.tc : Thread nD τ).loc main_arg0)) (m ((d.tc : Thread nD τ).loc main_arg1))
    (m ((d.tc : Thread nD τ).loc main_arg2)) (m ((d.tc : Thread nD τ).loc main_arg3)) (m ((d.tc : Thread nD τ).loc main_arg4)))
include H

theorem out6 (t : Fin cfg0.N) (h : t.val % 8 = 7) (a : Fin 8192) (b : Fin 128) :
    k0_pay3 (stAt m d t.val t.isLt).dq (ix2 a b) = ((A.gq a.val (128 * (t.val / 8) + b.val) : ℝ) : EReal) := by
  pointwise [k0_pay3]
  rw [(acc H t.val t.isLt).dq, if_pos a.isLt, h, named_scale, ← EReal.coe_mul, Args.gq,
    show (128 * (t.val / 8) + b.val) / 128 = t.val / 8 by have := b.isLt; omega]
theorem out7 (t : Fin cfg0.N) (a : Fin 1024) (b : Fin 128) :
    k0_pay57 (stAt m d t.val t.isLt).dk (ix2 a b) = ((A.gk (1024 * (t.val % 8) + a.val) (128 * (t.val / 8) + b.val) : ℝ) : EReal) := by
  pointwise [k0_pay57]
  rw [(acc H t.val t.isLt).dk, named_ln2, ← EReal.coe_mul, Args.gk,
    show (128 * (t.val / 8) + b.val) / 128 = t.val / 8 by have := b.isLt; omega, Finset.sum_mul, Finset.sum_mul]
  congr 1
  refine Finset.sum_congr rfl fun r _ => ?_
  have := Args.le_pos.ne'
  field_simp
theorem out8 (t : Fin cfg0.N) (a : Fin 1024) (b : Fin 128) :
    k0_pay1 (stAt m d t.val t.isLt).dv (ix2 a b) = ((A.gv (1024 * (t.val % 8) + a.val) (128 * (t.val / 8) + b.val) : ℝ) : EReal) := by
  pointwise [k0_pay1]
  rw [(acc H t.val t.isLt).dv, Args.gv,
    show (128 * (t.val / 8) + b.val) / 128 = t.val / 8 by have := b.isLt; omega]
theorem out9 (t : Fin cfg0.N) (a : Fin 1024) :
    k0_pay2 (stAt m d t.val t.isLt).cr (ix3 0 0 a) = ((A.gr (t.val / 8) (1024 * (t.val % 8) + a.val) : ℝ) : EReal) := by
  pointwise [k0_pay2]
  rw [(acc H t.val t.isLt).cr, Args.gr]
theorem out10 (t : Fin cfg0.N) (h : t.val % 8 = 7) (a : Fin 8192) :
    (stAt m d t.val t.isLt).cc (ix3 0 a 0) = ((A.gc (t.val / 8) a.val : ℝ) : EReal) := by
  rw [(acc H t.val t.isLt).cc, if_pos a.isLt, h, Args.gc]

omit H
theorem idx6 (y : S8192x128.Idx) : ix2 (y 0) (y 1) = y := by funext a; fin_cases a <;> rfl
theorem idx7 (y : S1024x128.Idx) : ix2 (y 0) (y 1) = y := by funext a; fin_cases a <;> rfl
theorem idx9 (y : S1x1x1024.Idx) : ix3 0 0 (y 2) = y := by
  funext a; fin_cases a
  · exact Subsingleton.elim (α := Fin 1) 0 (y 0)
  · exact Subsingleton.elim (α := Fin 1) 0 (y 1)
  · rfl
theorem idx10 (y : S1x8192x1.Idx) : ix3 0 (y 1) 0 = y := by
  funext a; fin_cases a
  · exact Subsingleton.elim (α := Fin 1) 0 (y 0)
  · rfl
  · exact Subsingleton.elim (α := Fin 1) 0 (y 2)

include H

/-- The five result arrays. -/
theorem final6 (i : S8192x1024.Idx) : ((dats m 0 d).arrAt 6 cfg0.N : S8192x1024.Idx → EReal) i = ((A.gq (i 0).val (i 1).val : ℝ) : EReal) := by
  refine (dats m 0 d).arrAt_forall_of_covers 6 (fun i v => v = ((A.gq (i 0).val (i 1).val : ℝ) : EReal)) (by decide +kernel) (fun t hf y => ?_) i
  blk_simp [index6]
  rw [after0_6]
  have e := out6 H t (last6 t hf) (y 0) (y 1)
  refine (congrArg _ (idx6 y).symm).trans (e.trans ?_)
  simp only [mul_comm]
theorem final7 (i : S8192x1024.Idx) : ((dats m 0 d).arrAt 7 cfg0.N : S8192x1024.Idx → EReal) i = ((A.gk (i 0).val (i 1).val : ℝ) : EReal) := by
  refine (dats m 0 d).arrAt_forall_of_covers 7 (fun i v => v = ((A.gk (i 0).val (i 1).val : ℝ) : EReal)) (by decide +kernel) (fun t hf y => ?_) i
  blk_simp [index7]
  rw [after0_7]
  have e := out7 H t (y 0) (y 1)
  refine (congrArg _ (idx7 y).symm).trans (e.trans ?_)
  simp only [mul_comm]
theorem final8 (i : S8192x1024.Idx) : ((dats m 0 d).arrAt 8 cfg0.N : S8192x1024.Idx → EReal) i = ((A.gv (i 0).val (i 1).val : ℝ) : EReal) := by
  refine (dats m 0 d).arrAt_forall_of_covers 8 (fun i v => v = ((A.gv (i 0).val (i 1).val : ℝ) : EReal)) (by decide +kernel) (fun t hf y => ?_) i
  blk_simp [index8]
  rw [after0_8]
  have e := out8 H t (y 0) (y 1)
  refine (congrArg _ (idx7 y).symm).trans (e.trans ?_)
  simp only [mul_comm]
theorem final9 (i : S8x1x8192.Idx) : ((dats m 0 d).arrAt 9 cfg0.N : S8x1x8192.Idx → EReal) i = ((A.gr (i 0).val (i 2).val : ℝ) : EReal) := by
  refine (dats m 0 d).arrAt_forall_of_covers 9 (fun i v => v = ((A.gr (i 0).val (i 2).val : ℝ) : EReal)) (by decide +kernel) (fun t hf y => ?_) i
  blk_simp [index9]
  rw [after0_9]
  have e := out9 H t (y 2)
  refine (congrArg _ (idx9 y).symm).trans (e.trans ?_)
  simp only [mul_comm]
theorem final10 (i : S8x8192x1.Idx) : ((dats m 0 d).arrAt 10 cfg0.N : S8x8192x1.Idx → EReal) i = ((A.gc (i 0).val (i 1).val : ℝ) : EReal) := by
  refine (dats m 0 d).arrAt_forall_of_covers 10 (fun i v => v = ((A.gc (i 0).val (i 1).val : ℝ) : EReal)) (by decide +kernel) (fun t hf y => ?_) i
  blk_simp [index10]
  rw [after0_10]
  have e := out10 H t (last10 t hf) (y 1)
  refine (congrArg _ (idx10 y).symm).trans (e.trans ?_)
  simp only [mul_comm]

end Cert.Proof.Launch
-- ==== Proof.RefVal.lean ====
/-
  The reference, stage by stage, over the extended reals where every argument is real.
-/
module

public import proofs.«01_k».proof.Proof.Soft
public import proofs.«01_k».proof.Proof.Consts
public import proofs.«01_k».proof.Proof.Gen.ReferenceIdeal.Run
public import Idealize.ShloMosaic.Lib.Pointwise
public import Idealize.ShloMosaic.Lib.WordCmp

@[expose] public section

set_option maxRecDepth 16384

noncomputable section

namespace Cert.Proof.Ref

open Cert.ReferenceIdeal Cert.ReferenceIdeal.Gen Cert.Proof
open Idealize.ShloMosaic Idealize.SL.Sem

abbrev T2 := FVec Ideal S8192x1024 .f32
abbrev TC := FVec Ideal S8x8192 .f32
abbrev T3 := FVec Ideal S8x8192x8192 .f32
abbrev T1 := FVec Ideal S8x8192x1 .f32

/-- The score's scale, everywhere. -/
def scaleR : T3 :=
  broadcastInDim S8x8192x8192 ![] bcast_S_S8x8192x8192 (Host.divf (constant S_ .f32 0x3F800000#32) (Host.sqrt (constant S_ .f32 0x43000000#32)))
/-- Key up to row. -/
def maskR : IVec S8x8192x8192 1 :=
  broadcastInDim S8x8192x8192 ![1, 2] bcast_S8192x8192_S8x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))
/-- What a masked score is. -/
def lowR : T3 := broadcastInDim S8x8192x8192 ![] bcast_S_S8x8192x8192 (id (constant S_ .f32 0xFF800000#32))
/-- The masked scores. -/
def scoreR (q k : T2) (c : TC) : T3 :=
  select maskR
    (subf (addf (mulf (Host.dotGeneral dot_S8192x8x128_S8192x8x128_S8x8192x8192_2_2_0_0_1_1 none
        (shapeCast S8192x8x128 q shapeCasts_S8192x1024_S8192x8x128) (shapeCast S8192x8x128 k shapeCasts_S8192x1024_S8192x8x128)) scaleR)
      (broadcastInDim S8x8192x8192 ![0, 1, 2] bcast_S8x8192x1_S8x8192x8192_0_1_2 (broadcastInDim S8x8192x1 ![0, 1] bcast_S8x8192_S8x8192x1_0_1 c)))
      (broadcastInDim S8x8192x8192 ![0, 1, 2] bcast_S8x1x8192_S8x8192x8192_0_1_2 (broadcastInDim S8x1x8192 ![0, 2] bcast_S8x8192_S8x1x8192_0_2 c)))
    lowR
/-- A row's largest score. -/
def topR (s : T3) : TC :=
  Host.reduce FloatOps.maximumf s (constant S_ .f32 0xFF800000#32) reducesTo_S8x8192x8192_S8x8192_d2 h_S_
def columnR (w : TC) : T1 :=
  broadcastInDim S8x8192x1 ![0, 1] bcast_S8x8192_S8x8192x1_0_1
    (maximumf (broadcastInDim S8x8192 ![] bcast_S_S8x8192 (constant S_ .f32 0xFF800000#32)) w)
def maxR (s : T3) : T1 := columnR (topR s)
/-- The exponentials of the scores less it, and a row's sum of them. -/
def expR (s : T3) (m : T1) : T3 :=
  Host.exp (subf s (broadcastInDim S8x8192x8192 ![0, 1, 2] bcast_S8x8192x1_S8x8192x8192_0_1_2 m))
def sumR (e : T3) : T1 :=
  broadcastInDim S8x8192x1 ![0, 1] bcast_S8x8192_S8x8192x1_0_1
    (Host.reduceAdd e (constant S_ .f32 0x00000000#32) reducesTo_S8x8192x8192_S8x8192_d2 h_S_)
def spread (l : T1) : T3 := broadcastInDim S8x8192x8192 ![0, 1, 2] bcast_S8x8192x1_S8x8192x8192_0_1_2 l
def probR (e : T3) (l : T1) : T3 := Host.divf e (spread l)
/-- The output gradient by head. -/
def gradR (o : T2) : FVec Ideal S8x128x8192 .f32 :=
  transpose S8x128x8192 [1, 2, 0] (shapeCast S8192x8x128 o shapeCasts_S8192x1024_S8192x8x128) transposes_S8192x8x128_S8x128x8192_1_2_0
/-- The output gradient against the values. -/
def dpR (o v : T2) : T3 :=
  Host.dotGeneral dot_S8x128x8192_S8192x8x128_S8x8192x8192_1_2_2_0_0_1 none (gradR o) (shapeCast S8192x8x128 v shapeCasts_S8192x1024_S8192x8x128)
/-- The gradient in a row's sum. -/
def meanR (p : T3) (l : T1) (e : T3) : TC :=
  Host.reduceAdd (mulf (mulf p (spread (Host.divf (broadcastInDim S8x8192x1 ![] bcast_S_S8x8192x1 (constant S_ .f32 0x3F800000#32)) (mulf l l)))) e)
    (constant S_ .f32 0x00000000#32) reducesTo_S8x8192x8192_S8x8192_d2 h_S_
def backR (w : TC) : T3 :=
  broadcastInDim S8x8192x8192 ![0, 1] bcast_S8x8192_S8x8192x8192_0_1
    (Host.reduceAdd (Host.negf (shapeCast S8x8192x1 w shapeCasts_S8x8192_S8x8192x1)) (constant S_ .f32 0x00000000#32) reducesTo_S8x8192x1_S8x8192_d2 h_S_)
/-- The gradient of the score. -/
def dsR (p : T3) (l : T1) (e w : T3) : T3 :=
  select maskR (mulf (addf (Host.divf p (spread l)) w) e) (broadcastInDim S8x8192x8192 ![] bcast_S_S8x8192x8192 (constant S_ .f32 0x00000000#32))

/-- The results from it. -/
def dqR (s : T3) (k : T2) : FVec Ideal S8192x1024 .bf16 :=
  truncf .bf16 (shapeCast S8192x1024 (transpose S8192x8x128 [1, 0, 2] (Host.dotGeneral dot_S8x8192x8192_S8192x8x128_S8x8192x128_2_0_1_2_0_1 none
    (mulf s scaleR) (shapeCast S8192x8x128 k shapeCasts_S8192x1024_S8192x8x128)) transposes_S8x8192x128_S8192x8x128_1_0_2) shapeCasts_S8192x8x128_S8192x1024) bitsLt_bf16_f32
def dkR (s : T3) (q : T2) : FVec Ideal S8192x1024 .bf16 :=
  truncf .bf16 (shapeCast S8192x1024 (transpose S8192x8x128 [1, 0, 2] (Host.dotGeneral dot_S8x8192x8192_S8192x8x128_S8x8192x128_1_0_2_2_0_1 none
    (mulf s scaleR) (shapeCast S8192x8x128 q shapeCasts_S8192x1024_S8192x8x128)) transposes_S8x8192x128_S8192x8x128_1_0_2) shapeCasts_S8192x8x128_S8192x1024) bitsLt_bf16_f32
def dvR (o : T2) (p : T3) : FVec Ideal S8192x1024 .bf16 :=
  truncf .bf16 (shapeCast S8192x1024 (transpose S8192x8x128 [2, 0, 1] (Host.dotGeneral dot_S8x128x8192_S8x8192x8192_S8x128x8192_2_1_1_2_0_0 none
    (gradR o) p) transposes_S8x128x8192_S8192x8x128_2_0_1) shapeCasts_S8192x8x128_S8192x1024) bitsLt_bf16_f32
def drR (s : T3) : FVec Ideal S8x1x8192 .f32 :=
  shapeCast S8x1x8192 (Host.reduceAdd (Host.negf s) (constant S_ .f32 0x00000000#32) reducesTo_S8x8192x8192_S8x8192_d1 h_S_) shapeCasts_S8x8192_S8x1x8192
def dcR (s : T3) : FVec Ideal S8x8192x1 .f32 :=
  shapeCast S8x8192x1 (Host.reduceAdd s (constant S_ .f32 0x00000000#32) reducesTo_S8x8192x8192_S8x8192_d2 h_S_) shapeCasts_S8x8192_S8x8192x1

/-! ## The stages composed -/

def expOf (q k : T2) (c : TC) : T3 := expR (scoreR q k c) (maxR (scoreR q k c))
def dsOf (q k v : T2) (c : TC) (o : T2) : T3 :=
  dsR (dpR o v) (sumR (expOf q k c)) (expOf q k c) (backR (meanR (dpR o v) (sumR (expOf q k c)) (expOf q k c)))

/-! ## Their values -/

variable {A : Args} {q k v o : T2} {c : TC}

theorem scaleR_val (h : Fin 8) (r t : Fin 8192) : scaleR (ix3 h r t) = ((Args.sc : ℝ) : EReal) := by
  pointwise [scaleR]
  rw [ofBits_128, Ideal.sqrt_coe, if_neg (by norm_num), ← EReal.coe_one,
    div_coe_coe _ (Real.sqrt_pos.2 (by norm_num : (0 : ℝ) < 128)).ne', one_div]
  rfl

theorem maskR_val (h : Fin 8) (r t : Fin 8192) : maskR (ix3 h r t) = BitVec.ofBool (decide (t.val ≤ r.val)) := by
  pointwise [maskR]
  rw [WordCmp.cmpi_sle_ofNat (by have := t.isLt; omega) (by have := r.isLt; omega)]

theorem lowR_val (h : Fin 8) (r t : Fin 8192) : lowR (ix3 h r t) = ⊥ := by
  unfold lowR
  rw [id_eq]
  pointwise
  exact ofBits_neg_inf

theorem scoreR_val (H : A.Of q k v c o) (h : Fin 8) (r t : Fin 8192) :
    scoreR q k c (ix3 h r t) = if t.val ≤ r.val then ((A.score h.val r.val t.val + A.c h.val r.val : ℝ) : EReal) else ⊥ := by
  pointwise [scoreR]
  rw [maskR_val, lowR_val, scaleR_val, H.c, H.c, sum_coe (fun x => A.q r.val (128 * h.val + x) * A.k t.val (128 * h.val + x))
    (fun x => by rw [H.q, H.k, ← EReal.coe_mul]; simp only [Nat.mul_comm h.val 128]), ← EReal.coe_mul, ← EReal.coe_add, ← EReal.coe_sub]
  by_cases ht : t.val ≤ r.val
  · rw [if_pos ht, decide_eq_true ht, Args.score, sub_add_eq_add_sub]; rfl
  · rw [if_neg ht, decide_eq_false ht]; rfl

theorem topR_val (s : T3) (h : Fin 8) (r : Fin 8192) (ht : ∀ t : Fin 8192, s (ix3 h r t) ≠ ⊤) (hb : s (ix3 h r 0) ≠ ⊥) :
    ∃ M : ℝ, topR s (ix2 h r) = ((M : ℝ) : EReal) := by
  pointwise [topR]
  rw [ofBits_neg_inf]
  exact fold_max_real _ ht ⟨0, hb⟩

theorem columnR_apply (w : TC) (h : Fin 8) (r : Fin 8192) : columnR w (ix3 h r 0) = w (ix2 h r) := by
  pointwise [columnR]
  rw [ofBits_neg_inf]
  exact max_eq_right bot_le

theorem maxR_val (H : A.Of q k v c o) :
    ∃ M : ℕ → ℕ → ℝ, ∀ (h : Fin 8) (r : Fin 8192), maxR (scoreR q k c) (ix3 h r 0) = ((M h.val r.val : ℝ) : EReal) := by
  have key : ∀ (h : Fin 8) (r : Fin 8192), ∃ M : ℝ, maxR (scoreR q k c) (ix3 h r 0) = ((M : ℝ) : EReal) := by
    intro h r
    unfold maxR
    rw [columnR_apply]
    refine topR_val _ h r (fun t => ?_) ?_
    · rw [scoreR_val H]; split_ifs
      · exact EReal.coe_ne_top _
      · exact bot_ne_top
    · rw [scoreR_val H]; split_ifs with h0
      · exact EReal.coe_ne_bot _
      · exact absurd (Nat.zero_le _) h0
  choose M hM using key
  exact ⟨fun h r => M (Fin.ofNat 8 h) (Fin.ofNat 8192 r), fun h r => by
    rw [hM]; simp only [Fin.ofNat_val_eq_self]⟩

theorem expR_apply (s : T3) (l : T1) (h : Fin 8) (r t : Fin 8192) : expR s l (ix3 h r t) = Ideal.exp (s (ix3 h r t) - l (ix3 h r 0)) := by
  pointwise [expR]
theorem sumR_apply (e : T3) (h : Fin 8) (r : Fin 8192) : sumR e (ix3 h r 0) = ∑ t : Fin 8192, e (ix3 h r t) := by
  pointwise [sumR]
theorem probR_apply (e : T3) (l : T1) (h : Fin 8) (r t : Fin 8192) : probR e l (ix3 h r t) = Ideal.div (e (ix3 h r t)) (l (ix3 h r 0)) := by
  pointwise [probR, spread]
theorem dpR_apply (H : A.Of q k v c o) (h : Fin 8) (r t : Fin 8192) : dpR o v (ix3 h r t) = ((A.dp h.val r.val t.val : ℝ) : EReal) := by
  pointwise [dpR, gradR]
  refine sum_coe (fun x => A.o r.val (128 * h.val + x) * A.v t.val (128 * h.val + x)) (fun x => ?_)
  rw [H.o, H.v, ← EReal.coe_mul]; simp only [Nat.mul_comm h.val 128]
theorem meanR_apply (p : T3) (l : T1) (e : T3) (h : Fin 8) (r : Fin 8192) :
    meanR p l e (ix2 h r) = ∑ t : Fin 8192, p (ix3 h r t) * Ideal.div 1 (l (ix3 h r 0) * l (ix3 h r 0)) * e (ix3 h r t) := by
  pointwise [meanR, spread]
theorem backR_apply (w : TC) (h : Fin 8) (r t : Fin 8192) : backR w (ix3 h r t) = -w (ix2 h r) := by
  pointwise [backR]
  exact Fin.sum_univ_one (fun _ : Fin 1 => -w (ix2 h r))
theorem dsR_apply (p : T3) (l : T1) (e w : T3) (h : Fin 8) (r t : Fin 8192) :
    dsR p l e w (ix3 h r t) = Scalar.select (maskR (ix3 h r t)) ((Ideal.div (p (ix3 h r t)) (l (ix3 h r 0)) + w (ix3 h r t)) * e (ix3 h r t)) 0 := by
  pointwise [dsR, spread]
theorem dqR_apply (s : T3) (k : T2) (r : Fin 8192) (x : Fin 1024) :
    dqR s k (ix2 r x) = ∑ t : Fin 8192, s (ix3 ⟨x.val / 128, by have := x.isLt; omega⟩ r t) * scaleR (ix3 ⟨x.val / 128, by have := x.isLt; omega⟩ r t) * k (ix2 t x) := by
  pointwise [dqR]
theorem dkR_apply (s : T3) (q : T2) (t : Fin 8192) (x : Fin 1024) :
    dkR s q (ix2 t x) = ∑ r : Fin 8192, s (ix3 ⟨x.val / 128, by have := x.isLt; omega⟩ r t) * scaleR (ix3 ⟨x.val / 128, by have := x.isLt; omega⟩ r t) * q (ix2 r x) := by
  pointwise [dkR]
theorem dvR_apply (o : T2) (p : T3) (t : Fin 8192) (x : Fin 1024) :
    dvR o p (ix2 t x) = ∑ r : Fin 8192, o (ix2 r x) * p (ix3 ⟨x.val / 128, by have := x.isLt; omega⟩ r t) := by
  pointwise [dvR, gradR]
theorem drR_apply (s : T3) (h : Fin 8) (t : Fin 8192) : drR s (ix3 h 0 t) = ∑ r : Fin 8192, -s (ix3 h r t) := by
  pointwise [drR]
theorem dcR_apply (s : T3) (h : Fin 8) (r : Fin 8192) : dcR s (ix3 h r 0) = ∑ t : Fin 8192, s (ix3 h r t) := by
  pointwise [dcR]

/-! ## The composed stages -/

theorem expOf_val (H : A.Of q k v c o) : ∃ N : ℕ → ℕ → ℝ,
    (∀ (h : Fin 8) (r t : Fin 8192), expOf q k c (ix3 h r t)
      = ((if t.val ≤ r.val then Real.exp (A.score h.val r.val t.val - N h.val r.val) else 0 : ℝ) : EReal))
    ∧ ∀ (h : Fin 8) (r : Fin 8192), sumR (expOf q k c) (ix3 h r 0) = ((A.mass h.val r.val * Real.exp (-N h.val r.val) : ℝ) : EReal) := by
  obtain ⟨M, hM⟩ := maxR_val H
  have he : ∀ (h : Fin 8) (r t : Fin 8192), expOf q k c (ix3 h r t)
      = ((if t.val ≤ r.val then Real.exp (A.score h.val r.val t.val - (M h.val r.val - A.c h.val r.val)) else 0 : ℝ) : EReal) := by
    intro h r t
    unfold expOf
    rw [expR_apply, hM, scoreR_val H, exp_masked, show A.score h.val r.val t.val + A.c h.val r.val - M h.val r.val
      = A.score h.val r.val t.val - (M h.val r.val - A.c h.val r.val) by ring]
  refine ⟨fun h r => M h r - A.c h r, he, fun h r => ?_⟩
  rw [sumR_apply, sum_coe (fun t => if t ≤ r.val then Real.exp (A.score h.val r.val t - (M h.val r.val - A.c h.val r.val)) else 0)
    (fun t => he h r t), A.mass_shift]

theorem probR_val (H : A.Of q k v c o) (h : Fin 8) (r t : Fin 8192) :
    probR (expOf q k c) (sumR (expOf q k c)) (ix3 h r t) = ((A.prob h.val r.val t.val : ℝ) : EReal) := by
  obtain ⟨N, he, hs⟩ := expOf_val H
  rw [probR_apply, he, hs, div_coe_coe _ (A.shift_pos _ _ _).ne', A.prob_shift]

theorem dsOf_val (H : A.Of q k v c o) (h : Fin 8) (r t : Fin 8192) : dsOf q k v c o (ix3 h r t) = ((A.ds h.val r.val t.val : ℝ) : EReal) := by
  obtain ⟨N, he, hs⟩ := expOf_val H
  have hl := (A.shift_pos h.val r.val (N h.val r.val)).ne'
  have hm : meanR (dpR o v) (sumR (expOf q k c)) (expOf q k c) (ix2 h r)
      = ((A.delta h.val r.val / (A.mass h.val r.val * Real.exp (-N h.val r.val)) : ℝ) : EReal) := by
    rw [meanR_apply, sum_coe (fun t => A.dp h.val r.val t * (1 / (A.mass h.val r.val * Real.exp (-N h.val r.val)
      * (A.mass h.val r.val * Real.exp (-N h.val r.val)))) * (if t ≤ r.val then Real.exp (A.score h.val r.val t - N h.val r.val) else 0))
      (fun t => by rw [dpR_apply H, hs, he, ← EReal.coe_mul, ← EReal.coe_one, div_coe_coe _ (mul_ne_zero hl hl), ← EReal.coe_mul, ← EReal.coe_mul]),
      Args.delta, Finset.sum_div]
    congr 1
    refine Finset.sum_congr rfl fun t _ => ?_
    rw [← A.prob_shift h.val r.val t (N h.val r.val)]
    field_simp
  unfold dsOf
  rw [dsR_apply, dpR_apply H, hs, he, backR_apply, hm, maskR_val, div_coe_coe _ hl, ← EReal.coe_neg, ← EReal.coe_add, ← EReal.coe_mul]
  by_cases ht : t.val ≤ r.val
  · rw [decide_eq_true ht]
    refine Eq.trans (b := (((A.dp h.val r.val t.val / (A.mass h.val r.val * Real.exp (-N h.val r.val))
      + -(A.delta h.val r.val / (A.mass h.val r.val * Real.exp (-N h.val r.val))))
        * (if t.val ≤ r.val then Real.exp (A.score h.val r.val t.val - N h.val r.val) else 0) : ℝ) : EReal)) rfl ?_
    rw [Args.ds, ← A.prob_shift h.val r.val t.val (N h.val r.val)]
    congr 1
    field_simp
    ring
  · rw [decide_eq_false ht, A.ds_of_lt (Nat.lt_of_not_le ht)]; rfl

/-- The reference's results. -/
theorem dqR_val (H : A.Of q k v c o) (r : Fin 8192) (x : Fin 1024) :
    dqR (dsOf q k v c o) k (ix2 r x) = ((A.gq r.val x.val : ℝ) : EReal) := by
  rw [dqR_apply, sum_coe (fun t => A.ds (x.val / 128) r.val t * Args.sc * A.k t x.val)
    (fun t => by rw [dsOf_val H, scaleR_val, H.k, ← EReal.coe_mul, ← EReal.coe_mul]), Args.gq, Finset.sum_mul]
  simp only [mul_right_comm]
theorem dkR_val (H : A.Of q k v c o) (t : Fin 8192) (x : Fin 1024) :
    dkR (dsOf q k v c o) q (ix2 t x) = ((A.gk t.val x.val : ℝ) : EReal) := by
  rw [dkR_apply, sum_coe (fun r => A.ds (x.val / 128) r t.val * Args.sc * A.q r x.val)
    (fun r => by rw [dsOf_val H, scaleR_val, H.q, ← EReal.coe_mul, ← EReal.coe_mul]), Args.gk, Finset.sum_mul]
  simp only [mul_right_comm]
theorem dvR_val (H : A.Of q k v c o) (t : Fin 8192) (x : Fin 1024) :
    dvR o (probR (expOf q k c) (sumR (expOf q k c))) (ix2 t x) = ((A.gv t.val x.val : ℝ) : EReal) := by
  rw [dvR_apply, sum_coe (fun r => A.prob (x.val / 128) r t.val * A.o r x.val)
    (fun r => by rw [probR_val H, H.o, ← EReal.coe_mul, mul_comm]), Args.gv]
theorem drR_val (H : A.Of q k v c o) (h : Fin 8) (t : Fin 8192) :
    drR (dsOf q k v c o) (ix3 h 0 t) = ((A.gr h.val t.val : ℝ) : EReal) := by
  rw [drR_apply, sum_coe (fun r => -A.ds h.val r t.val) (fun r => by rw [dsOf_val H, ← EReal.coe_neg]), Args.gr, Finset.sum_neg_distrib]
theorem dcR_val (H : A.Of q k v c o) (h : Fin 8) (r : Fin 8192) :
    dcR (dsOf q k v c o) (ix3 h r 0) = ((A.gc h.val r.val : ℝ) : EReal) := by
  rw [dcR_apply, sum_coe (fun t => A.ds h.val r.val t) (fun t => dsOf_val H h r t), Args.gc]

end Cert.Proof.Ref
-- ==== Proof.RefRun.lean ====
/-
  The reference's results are the stages of `RefVal.lean` over its arguments.
-/
module

public import proofs.«01_k».proof.Proof.RefVal

@[expose] public section

set_option maxRecDepth 16384

noncomputable section

namespace Cert.Proof.Ref

open Cert.ReferenceIdeal Cert.ReferenceIdeal.Gen Cert.Proof
open Idealize.ShloMosaic Idealize.SL.Sem

variable (m : (ℓ : Loc nD τ sig) → Buf (Elt Ideal) ℓ) (d : Dev nD)

abbrev argQ : T2 := m ((d.tc : Thread nD τ).loc main_arg0)
abbrev argK : T2 := m ((d.tc : Thread nD τ).loc main_arg1)
abbrev argV : T2 := m ((d.tc : Thread nD τ).loc main_arg2)
abbrev argC : TC := m ((d.tc : Thread nD τ).loc main_arg3)
abbrev argO : T2 := m ((d.tc : Thread nD τ).loc main_arg4)

theorem res_dq : Value.res_main_v84 m d = dqR (dsOf (argQ m d) (argK m d) (argV m d) (argC m d) (argO m d)) (argK m d) := rfl
theorem res_dk : Value.res_main_v85 m d = dkR (dsOf (argQ m d) (argK m d) (argV m d) (argC m d) (argO m d)) (argQ m d) := rfl
theorem res_dv : Value.res_main_v86 m d = dvR (argO m d)
    (probR (expOf (argQ m d) (argK m d) (argC m d)) (sumR (expOf (argQ m d) (argK m d) (argC m d)))) := rfl
theorem res_dr : Value.res_main_v72 m d = drR (dsOf (argQ m d) (argK m d) (argV m d) (argC m d) (argO m d)) := rfl
theorem res_dc : Value.res_main_v74 m d = dcR (dsOf (argQ m d) (argK m d) (argV m d) (argC m d) (argO m d)) := rfl

end Cert.Proof.Ref
-- ==== Proof.Finite.lean ====
/-
  Where the precondition holds the arguments are arrays of reals.
-/
module

public import proofs.«01_k».proof.Proof.Soft
public import proofs.«01_k».proof.Proof.Consts
public import proofs.«01_k».proof.Defs
public import Idealize.ShloMosaic.Lib.Pointwise
public import Idealize.ShloMosaic.Lib.ReduceAll
public import Idealize.ShloMosaic.Lib.Affine

@[expose] public section

set_option maxRecDepth 16384

noncomputable section

namespace Cert.Proof

open Idealize.ShloMosaic Idealize.SL.Sem Cert.Pre_finite

theorem ofBits_inf : Ideal.ofBits .f32 0x7F800000#32 = ⊤ := by
  simp [Ideal.ofBits, Ideal.ieee]

/-- A number below infinity in magnitude is a real. -/
theorem real_of_abs (x : Ideal .f32) (h : BitVec.ofBool (decide (FloatOps.absf x < Ideal.ofBits .f32 0x7F800000#32)) = 1#1) :
    x = ((EReal.toReal x : ℝ) : EReal) := by
  rw [ofBits_inf] at h
  have h' : max x (-x) < (⊤ : EReal) := by
    by_contra hn
    have hn' : ¬ FloatOps.absf x < (⊤ : EReal) := hn
    rw [decide_eq_false hn'] at h
    exact absurd h (by decide)
  have h1 := lt_of_le_of_lt (le_max_left x (-x)) h'
  have h2 := lt_of_le_of_lt (le_max_right x (-x)) h'
  refine (EReal.coe_toReal h1.ne fun hb => ?_).symm
  rw [hb, EReal.neg_bot] at h2
  exact lt_irrefl _ h2

instance : Subsingleton S_.Idx := ⟨fun a b => funext fun i => i.elim0⟩

/-- The precondition, entry by entry. -/
theorem entries [Facts] {q k v o : FVec Ideal S8192x1024 .f32} {c : FVec Ideal S8x8192 .f32}
    (h : fn (F := Ideal) q k v c o = fun _ => 1#1) :
    (∀ a b, q (ix2 a b) = ((EReal.toReal (q (ix2 a b)) : ℝ) : EReal)) ∧ (∀ a b, k (ix2 a b) = ((EReal.toReal (k (ix2 a b)) : ℝ) : EReal))
      ∧ (∀ a b, v (ix2 a b) = ((EReal.toReal (v (ix2 a b)) : ℝ) : EReal)) ∧ (∀ a b, c (ix2 a b) = ((EReal.toReal (c (ix2 a b)) : ℝ) : EReal))
      ∧ (∀ a b, o (ix2 a b) = ((EReal.toReal (o (ix2 a b)) : ℝ) : EReal)) := by
  have h := congrFun h ix0
  dsimp only [fn, fn_part1] at h
  obtain ⟨h, ho⟩ := IntOp.andi_eq_one.1 h
  obtain ⟨h, hc⟩ := IntOp.andi_eq_one.1 h
  obtain ⟨h, hv⟩ := IntOp.andi_eq_one.1 h
  obtain ⟨hq, hk⟩ := IntOp.andi_eq_one.1 h
  exact ⟨fun a b => real_of_abs _ (Host.reduce_andi_all _ _ _ _ _ hq (ix2 a b)), fun a b => real_of_abs _ (Host.reduce_andi_all _ _ _ _ _ hk (ix2 a b)),
    fun a b => real_of_abs _ (Host.reduce_andi_all _ _ _ _ _ hv (ix2 a b)), fun a b => real_of_abs _ (Host.reduce_andi_all _ _ _ _ _ hc (ix2 a b)),
    fun a b => real_of_abs _ (Host.reduce_andi_all _ _ _ _ _ ho (ix2 a b))⟩

/-- The reals that arrays hold. -/
def argsOf (q k v : FVec Ideal S8192x1024 .f32) (c : FVec Ideal S8x8192 .f32) (o : FVec Ideal S8192x1024 .f32) : Args where
  q a b := EReal.toReal (q (ix2 (Fin.ofNat 8192 a) (Fin.ofNat 1024 b)))
  k a b := EReal.toReal (k (ix2 (Fin.ofNat 8192 a) (Fin.ofNat 1024 b)))
  v a b := EReal.toReal (v (ix2 (Fin.ofNat 8192 a) (Fin.ofNat 1024 b)))
  c a b := EReal.toReal (c (ix2 (Fin.ofNat 8 a) (Fin.ofNat 8192 b)))
  o a b := EReal.toReal (o (ix2 (Fin.ofNat 8192 a) (Fin.ofNat 1024 b)))

theorem argsOf_of [Facts] {q k v o : FVec Ideal S8192x1024 .f32} {c : FVec Ideal S8x8192 .f32}
    (h : fn (F := Ideal) q k v c o = fun _ => 1#1) : (argsOf q k v c o).Of q k v c o := by
  obtain ⟨hq, hk, hv, hc, ho⟩ := entries h
  constructor
  · intro a b; simp only [argsOf, Fin.ofNat_val_eq_self]; exact hq a b
  · intro a b; simp only [argsOf, Fin.ofNat_val_eq_self]; exact hk a b
  · intro a b; simp only [argsOf, Fin.ofNat_val_eq_self]; exact hv a b
  · intro a b; simp only [argsOf, Fin.ofNat_val_eq_self]; exact hc a b
  · intro a b; simp only [argsOf, Fin.ofNat_val_eq_self]; exact ho a b

end Cert.Proof
-- ==== Proof.Algebraic.lean ====
/-
  The kernel's results and the reference's are the same reals.
-/
module

public import proofs.«01_k».proof.Proof.Results
public import proofs.«01_k».proof.Proof.RefRun
public import proofs.«01_k».proof.Proof.Finite
public import proofs.«01_k».proof.Proof.Gen.Pre_finite

@[expose] public section

set_option maxRecDepth 16384

noncomputable section

namespace Cert.Proof

open Idealize.ShloMosaic Idealize.SL.Sem

abbrev arrQ (A : Args) : (⟨2, ![8192, 1024]⟩ : Shape).Idx → EReal := fun i => ((A.gq (i 0).val (i 1).val : ℝ) : EReal)
abbrev arrK (A : Args) : (⟨2, ![8192, 1024]⟩ : Shape).Idx → EReal := fun i => ((A.gk (i 0).val (i 1).val : ℝ) : EReal)
abbrev arrV (A : Args) : (⟨2, ![8192, 1024]⟩ : Shape).Idx → EReal := fun i => ((A.gv (i 0).val (i 1).val : ℝ) : EReal)
abbrev arrR (A : Args) : (⟨3, ![8, 1, 8192]⟩ : Shape).Idx → EReal := fun i => ((A.gr (i 0).val (i 2).val : ℝ) : EReal)
abbrev arrC (A : Args) : (⟨3, ![8, 8192, 1]⟩ : Shape).Idx → EReal := fun i => ((A.gc (i 0).val (i 1).val : ℝ) : EReal)

theorem ext2 {f g : (⟨2, ![8192, 1024]⟩ : Shape).Idx → EReal} (h : ∀ (a : Fin 8192) (b : Fin 1024), f (ix2 a b) = g (ix2 a b)) : f = g := by
  funext i
  have e : ix2 (i 0) (i 1) = i := by funext a; fin_cases a <;> rfl
  rw [← e]; exact h _ _
theorem extR {f g : (⟨3, ![8, 1, 8192]⟩ : Shape).Idx → EReal} (h : ∀ (a : Fin 8) (b : Fin 8192), f (ix3 a 0 b) = g (ix3 a 0 b)) : f = g := by
  funext i
  have e : ix3 (i 0) 0 (i 2) = i := by
    funext a; fin_cases a
    · rfl
    · exact Subsingleton.elim (α := Fin 1) 0 (i 1)
    · rfl
  rw [← e]; exact h _ _
theorem extC {f g : (⟨3, ![8, 8192, 1]⟩ : Shape).Idx → EReal} (h : ∀ (a : Fin 8) (b : Fin 8192), f (ix3 a b 0) = g (ix3 a b 0)) : f = g := by
  funext i
  have e : ix3 (i 0) (i 1) 0 = i := by
    funext a; fin_cases a
    · rfl
    · rfl
    · exact Subsingleton.elim (α := Fin 1) 0 (i 2)
  rw [← e]; exact h _ _

section Kernel

open Cert.KernelIdeal Cert.KernelIdeal.Gen

/-- The kernel's run. -/
theorem run_kernel (m : (ℓ : Loc nD τ sig) → Buf (Elt Ideal) ℓ) (ρ : Dev nD → PrngReg) (A : Dev nD → Args)
    (H : ∀ d : Dev nD, (A d).Of (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))) :
    θ_run defs (onTc (τ := τ) (main (F := Ideal))) ⟨m, fun _ => 0, ρ⟩ (fun r => ∀ c : Dev nD,
      r.2.mem ((c.tc : Thread nD τ).loc main_v48_0) = arrQ (A c)
      ∧ r.2.mem ((c.tc : Thread nD τ).loc main_v48_1) = arrK (A c)
      ∧ r.2.mem ((c.tc : Thread nD τ).loc main_v48_2) = arrV (A c)
      ∧ r.2.mem ((c.tc : Thread nD τ).loc main_v48_3) = arrR (A c)
      ∧ r.2.mem ((c.tc : Thread nD τ).loc main_v48_4) = arrC (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Launch.run_main m ρ)
  have e6 : r.2.mem ((c.tc : Thread nD τ).loc main_v48_0) = (Launch.dats m 0 c).arrAt 6 cfg0.N := (h.1 c).1 6
  have e7 : r.2.mem ((c.tc : Thread nD τ).loc main_v48_1) = (Launch.dats m 0 c).arrAt 7 cfg0.N := (h.1 c).1 7
  have e8 : r.2.mem ((c.tc : Thread nD τ).loc main_v48_2) = (Launch.dats m 0 c).arrAt 8 cfg0.N := (h.1 c).1 8
  have e9 : r.2.mem ((c.tc : Thread nD τ).loc main_v48_3) = (Launch.dats m 0 c).arrAt 9 cfg0.N := (h.1 c).1 9
  have e10 : r.2.mem ((c.tc : Thread nD τ).loc main_v48_4) = (Launch.dats m 0 c).arrAt 10 cfg0.N := (h.1 c).1 10
  refine ⟨e6.trans (funext (Launch.final6 (H c))), e7.trans (funext (Launch.final7 (H c))), e8.trans (funext (Launch.final8 (H c))),
    e9.trans (funext (Launch.final9 (H c))), e10.trans (funext (Launch.final10 (H c))),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩

end Kernel

section Reference

open Cert.ReferenceIdeal Cert.ReferenceIdeal.Gen

/-- The reference's run. -/
theorem run_reference (m : (ℓ : Loc nD τ sig) → Buf (Elt Ideal) ℓ) (ρ : Dev nD → PrngReg) (A : Dev nD → Args)
    (H : ∀ d : Dev nD, (A d).Of (Ref.argQ m d) (Ref.argK m d) (Ref.argV m d) (Ref.argC m d) (Ref.argO m d)) :
    θ_run defs (onTc (τ := τ) (main (F := Ideal))) ⟨m, fun _ => 0, ρ⟩ (fun r => ∀ c : Dev nD,
      r.2.mem ((c.tc : Thread nD τ).loc main_v84) = arrQ (A c)
      ∧ r.2.mem ((c.tc : Thread nD τ).loc main_v85) = arrK (A c)
      ∧ r.2.mem ((c.tc : Thread nD τ).loc main_v86) = arrV (A c)
      ∧ r.2.mem ((c.tc : Thread nD τ).loc main_v72) = arrR (A c)
      ∧ r.2.mem ((c.tc : Thread nD τ).loc main_v74) = arrC (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (h c).1.trans ((Ref.res_dq m c).trans (ext2 (Ref.dqR_val (H c)))),
      (h c).2.1.trans ((Ref.res_dk m c).trans (ext2 (Ref.dkR_val (H c)))),
      (h c).2.2.1.trans ((Ref.res_dv m c).trans (ext2 (Ref.dvR_val (H c)))),
      (h c).2.2.2.1.trans ((Ref.res_dr m c).trans (extR (Ref.drR_val (H c)))),
      (h c).2.2.2.2.1.trans ((Ref.res_dc m c).trans (extC (Ref.dcR_val (H c)))),
      (h c).2.2.2.2.2⟩)
    (Value.run (F := Ideal) m ρ)

end Reference

/-- The kernel's results equal the reference's. -/
theorem algebraic_kernel : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  let A : Dev Cert.KernelIdeal.nD → Args := fun d => argsOf (m ((d.tc : Thread Cert.KernelIdeal.nD Cert.KernelIdeal.τ).loc Cert.KernelIdeal.main_arg0))
    (m ((d.tc : Thread Cert.KernelIdeal.nD Cert.KernelIdeal.τ).loc Cert.KernelIdeal.main_arg1))
    (m ((d.tc : Thread Cert.KernelIdeal.nD Cert.KernelIdeal.τ).loc Cert.KernelIdeal.main_arg2))
    (m ((d.tc : Thread Cert.KernelIdeal.nD Cert.KernelIdeal.τ).loc Cert.KernelIdeal.main_arg3))
    (m ((d.tc : Thread Cert.KernelIdeal.nD Cert.KernelIdeal.τ).loc Cert.KernelIdeal.main_arg4))
  have H := fun d => argsOf_of (hpre d)
  refine ⟨fun c => arrQ (A c), fun c => arrK (A c), fun c => arrV (A c), fun c => arrR (A c), fun c => arrC (A c),
    run_kernel m g A H, run_reference m' g' A fun d => ?_⟩
  obtain ⟨h0, h1, h2, h3, h4⟩ := hargs d
  dsimp only [Ref.argQ, Ref.argK, Ref.argV, Ref.argC, Ref.argO]
  rw [h0, h1, h2, h3, h4]
  exact H d

end Cert.Proof
-- ==== Proof.Sums.lean ====
/-
  A sum taken in two or four consecutive stretches, and the indices of arrays of two and three axes.
-/
module

public import Idealize.ShloMosaic.Lib.Pipeline.ValueKit

@[expose] public section

noncomputable section

namespace Cert.Proof.Sums

open Idealize.ShloMosaic

/-- Four sums over consecutive stretches of `n` terms, added from the left, are the sum of all `L = 4 * n` terms. -/
theorem sum_four {L n : ℕ} (hL : L = 4 * n) (g : Fin L → EReal) (p0 p1 p2 p3 : Fin n → EReal)
    (h0 : ∀ (k : Fin n) (h : 0 * n + k.val < L), p0 k = g ⟨0 * n + k.val, h⟩)
    (h1 : ∀ (k : Fin n) (h : 1 * n + k.val < L), p1 k = g ⟨1 * n + k.val, h⟩)
    (h2 : ∀ (k : Fin n) (h : 2 * n + k.val < L), p2 k = g ⟨2 * n + k.val, h⟩)
    (h3 : ∀ (k : Fin n) (h : 3 * n + k.val < L), p3 k = g ⟨3 * n + k.val, h⟩) :
    ∑ k, p0 k + ∑ k, p1 k + ∑ k, p2 k + ∑ k, p3 k = ∑ l, g l := by
  have b : ∀ (s : Fin 4) (k : Fin n), s.val * n + k.val < L := fun s k => by
    have hs := s.isLt; have hk := k.isLt
    have : s.val * n ≤ 3 * n := Nat.mul_le_mul_right n (by omega)
    omega
  have e : ∑ s : Fin 4, ∑ k : Fin n, g ⟨s.val * n + k.val, b s k⟩ = ∑ l, g l := Fin.sum_mul_add_fin 4 n g hL
  rw [← e, Fin.sum_univ_four, Finset.sum_congr rfl fun k _ => h0 k (b 0 k), Finset.sum_congr rfl fun k _ => h1 k (b 1 k),
    Finset.sum_congr rfl fun k _ => h2 k (b 2 k), Finset.sum_congr rfl fun k _ => h3 k (b 3 k)]
  rfl

/-- Two sums over consecutive stretches of `n` terms are the sum of all `L = 2 * n` terms. -/
theorem sum_two {L n : ℕ} (hL : L = 2 * n) (g : Fin L → EReal) (p0 p1 : Fin n → EReal)
    (h0 : ∀ (k : Fin n) (h : 0 * n + k.val < L), p0 k = g ⟨0 * n + k.val, h⟩)
    (h1 : ∀ (k : Fin n) (h : 1 * n + k.val < L), p1 k = g ⟨1 * n + k.val, h⟩) :
    ∑ k, p0 k + ∑ k, p1 k = ∑ l, g l := by
  have b : ∀ (s : Fin 2) (k : Fin n), s.val * n + k.val < L := fun s k => by
    have hs := s.isLt; have hk := k.isLt
    have : s.val * n ≤ 1 * n := Nat.mul_le_mul_right n (by omega)
    omega
  have e : ∑ s : Fin 2, ∑ k : Fin n, g ⟨s.val * n + k.val, b s k⟩ = ∑ l, g l := Fin.sum_mul_add_fin 2 n g hL
  rw [← e, Fin.sum_univ_two, Finset.sum_congr rfl fun k _ => h0 k (b 0 k), Finset.sum_congr rfl fun k _ => h1 k (b 1 k)]
  rfl

/-- An index of two axes is its two coordinates. -/
theorem idx2 {a b : ℕ} (y : (⟨2, ![a, b]⟩ : Shape).Idx) : ix2 (y 0) (y 1) = y := by funext i; fin_cases i <;> rfl

/-- An index of three axes, the first of one element, is its two other coordinates. -/
theorem idx3 {a b : ℕ} (y : (⟨3, ![1, a, b]⟩ : Shape).Idx) : ix3 0 (y 1) (y 2) = y := by
  funext i; fin_cases i
  · exact Subsingleton.elim (α := Fin 1) 0 (y 0)
  · rfl
  · rfl

end Cert.Proof.Sums

end
-- ==== Proof.Call2.lean ====
/-
  The product that is the gradient of the weights `w_gate_up`: the transpose of `hf` times `dgu`, its columns in eight groups, over the
  extended reals.
-/
module

public import proofs.«01_k».proof.Defs
public import proofs.«01_k».proof.Proof.Sums
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import Idealize.ShloMosaic.Lib.Pipeline.ReadBack
public import Idealize.ShloMosaic.Lib.Quiescent

@[expose] public section

set_option maxRecDepth 16384

noncomputable section

namespace Cert.Proof.Call2

open Idealize.ShloMosaic Idealize.SL.Sem

/-- The operands, as arrays of extended reals. -/
abbrev OpX : Type := (⟨2, ![8192, 2048]⟩ : Shape).Idx → EReal
abbrev OpY : Type := (⟨2, ![8192, 11264]⟩ : Shape).Idx → EReal

/-- The product's element at row `i` and column `j`. -/
abbrev prod (X : OpX) (Y : OpY) (i : Fin 2048) (j : Fin 11264) : EReal := ∑ k : Fin 8192, X (ix2 k i) * Y (ix2 k j)

/-- The product as an array, its columns cut in eight groups. -/
abbrev prodArr (X : OpX) (Y : OpY) : (⟨3, ![8, 2048, 1408]⟩ : Shape).Idx → EReal := fun i => prod X Y (i 1) ⟨1408 * (i 0).val + (i 2).val, by have h0 : (i 0).val < 8 := (i 0).isLt; have h2 : (i 2).val < 1408 := (i 2).isLt; omega⟩

section Kernel

open Cert.Kernel2Ideal Cert.Kernel2Ideal.Gen

/-- Which block of each array a grid point works on; the innermost four points run over the contraction. -/
theorem index0 : ∀ t : Fin cfg0.N, win0_0.index t = ![t.val % 4, t.val / 32] := (by decide +kernel : ∀ t : Fin grid0.N, _)
theorem index1 : ∀ t : Fin cfg0.N, win0_1.index t = ![t.val % 4, t.val / 4 % 8] := (by decide +kernel : ∀ t : Fin grid0.N, _)
theorem index2 : ∀ t : Fin cfg0.N, win0_2.index t = ![t.val / 4 % 8, t.val / 32, 0] := (by decide +kernel : ∀ t : Fin grid0.N, _)
/-- The result's block is written back at the last of the four. -/
theorem last2 : ∀ t : Fin cfg0.N, win0_2.flush t = true → t.val % 4 = 3 := (by decide +kernel : ∀ t : Fin grid0.N, _)

theorem t_lt (t : Fin cfg0.N) : t.val < 64 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S8192x11264 .f32) := by
  simp only [V, hostOps0]
  after_results_simp <;> rfl

/-- The operand blocks at a grid point. -/
theorem blk0 (d : Dev nD) (t : Fin cfg0.N) (a : Fin 1024) (k : Fin 2048) (p : Fin 2048) (l : Fin 8192)
    (hp : p.val = 1024 * (t.val / 32) + a.val) (hl : l.val = 2048 * (t.val % 4) + k.val) :
    iblk m d 0 t (ix2 k a) = opX m d (ix2 l p) := by
  refine Eq.trans ?_ (congrFun (V_x m d) _)
  have bp : 1024 * (t.val / 32) + a.val < 2048 := hp ▸ p.isLt
  have bl : 2048 * (t.val % 4) + k.val < 8192 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 1408) (k : Fin 2048) (q : Fin 11264) (l : Fin 8192)
    (hq : q.val = 1408 * (t.val / 4 % 8) + b.val) (hl : l.val = 2048 * (t.val % 4) + k.val) :
    iblk m d 1 t (ix2 k b) = opY m d (ix2 l q) := by
  refine Eq.trans ?_ (congrFun (V_y m d) _)
  have bq : 1408 * (t.val / 4 % 8) + b.val < 11264 := hq ▸ q.isLt
  have bl : 2048 * (t.val % 4) + k.val < 8192 := hl ▸ l.isLt
  obtain rfl : q = ⟨_, bq⟩ := Fin.ext hq
  obtain rfl : l = ⟨_, bl⟩ := Fin.ext hl
  blk_simp [iblk, index1]
  congr 1; blk_ext [index1]

/-- The product of two blocks. -/
theorem pay (x : Vec Ideal S2048x1024 .bf16) (y : Vec Ideal S2048x1408 .bf16) (a : Fin 1024) (b : Fin 1408) :
    k0_pay1 x y (ix2 a b) = ∑ k : Fin 2048, x (ix2 k a) * y (ix2 k b) := by
  pointwise [k0_pay1]
theorem pay_first (x : Vec Ideal S2048x1024 .bf16) (y : Vec Ideal S2048x1408 .bf16) (a : Fin 1024) (b : Fin 1408) :
    k0_pay2 x y (ix2 a b) = ∑ k : Fin 2048, x (ix2 k a) * y (ix2 k b) := by
  pointwise [k0_pay2]
  exact pay x y a b
theorem pay_next (x : Vec Ideal S2048x1024 .bf16) (y : Vec Ideal S2048x1408 .bf16) (s : Vec Ideal S1024x1408 .f32) (a : Fin 1024) (b : Fin 1408) :
    k0_pay3 x y s (ix2 a b) = s (ix2 a b) + ∑ k : Fin 2048, x (ix2 k a) * y (ix2 k b) := by
  pointwise [k0_pay3]
  exact congrArg _ (pay x y a b)
theorem pay_last (x : Vec Ideal S2048x1024 .bf16) (y : Vec Ideal S2048x1408 .bf16) (s : Vec Ideal S1024x1408 .f32) (a : Fin 1024) (b : Fin 1408) :
    k0_pay4 x y s (ix3 0 a b) = s (ix2 a b) + ∑ k : Fin 2048, x (ix2 k a) * y (ix2 k b) := by
  pointwise [k0_pay4]
  exact congrArg _ (pay x y a b)

/-- The blocks, as arrays of extended reals. -/
abbrev blkX (d : Dev nD) (t : Fin cfg0.N) : S2048x1024.Idx → EReal := iblk m d 0 t
abbrev blkY (d : Dev nD) (t : Fin cfg0.N) : S2048x1408.Idx → EReal := iblk m d 1 t

/-- A grid point's own partial sum. -/
abbrev part (d : Dev nD) (t : Fin cfg0.N) (a : Fin 1024) (b : Fin 1408) : EReal :=
  ∑ k : Fin 2048, blkX m d t (ix2 k a) * blkY m d t (ix2 k b)

/-- The running sum after the first point of a block, after the next two, and what the last one stores. -/
theorem first (d : Dev nD) (t : Fin cfg0.N) (h : t.val % 4 = 0) (a : Fin 1024) (b : Fin 1408) :
    (outsAt0 m d t.val t.isLt).2 (ix2 a b) = part m d t a b := by
  rw [outsAt0_A m d t h (by omega) (by omega)]
  frame_out
  exact pay_first _ _ a b
theorem next (d : Dev nD) (t : Fin cfg0.N) (h : 1 ≤ t.val % 4 ∧ t.val % 4 ≤ 2) (hn : t.val - 1 < cfg0.N) (a : Fin 1024) (b : Fin 1408) :
    (outsAt0 m d t.val t.isLt).2 (ix2 a b) = (outsAt0 m d (t.val - 1) hn).2 (ix2 a b) + part m d t a b := by
  rw [outsAt0_B m d t (by omega) h (by omega)]
  frame_out
  simp only [read_unread_whole]
  exact pay_next _ _ _ a b
theorem last (d : Dev nD) (t : Fin cfg0.N) (h : t.val % 4 = 3) (hn : t.val - 1 < cfg0.N) (a : Fin 1024) (b : Fin 1408) :
    (outsAt0 m d t.val t.isLt).1 (ix3 0 a b) = (outsAt0 m d (t.val - 1) hn).2 (ix2 a b) + part m d t a b := by
  rw [outsAt0_C m d t (by omega) (by omega) h]
  frame_out
  simp only [read_unread_whole]
  exact pay_last _ _ _ a b

/-- What is stored is the four points' partial sums, added up. -/
theorem stored (d : Dev nD) (t : Fin cfg0.N) (h : t.val % 4 = 3) (h3 : t.val - 1 - 1 - 1 < cfg0.N) (h2 : t.val - 1 - 1 < cfg0.N)
    (h1 : t.val - 1 < cfg0.N) (a : Fin 1024) (b : Fin 1408) :
    (outsAt0 m d t.val t.isLt).1 (ix3 0 a b)
      = part m d ⟨t.val - 1 - 1 - 1, h3⟩ a b + part m d ⟨t.val - 1 - 1, h2⟩ a b + part m d ⟨t.val - 1, h1⟩ a b + part m d t a b := by
  refine (last m d t h h1 a b).trans (congrArg (· + part m d t a b) ?_)
  refine (next m d ⟨t.val - 1, h1⟩ (by dsimp only; omega) h2 a b).trans (congrArg (· + part m d ⟨t.val - 1, h1⟩ a b) ?_)
  refine (next m d ⟨t.val - 1 - 1, h2⟩ (by dsimp only; omega) h3 a b).trans (congrArg (· + part m d ⟨t.val - 1 - 1, h2⟩ a b) ?_)
  exact first m d ⟨t.val - 1 - 1 - 1, h3⟩ (by dsimp only; omega) a b

/-- A term of the partial sum of the block's point number `s` is a term of the whole sum. -/
theorem term (d : Dev nD) (t u : Fin cfg0.N) (s : ℕ) (hs : s < 4) (hu : u.val = 4 * (t.val / 4) + s) (a : Fin 1024) (b : Fin 1408)
    (p : Fin 2048) (q : Fin 11264) (hp : p.val = 1024 * (t.val / 32) + a.val) (hq : q.val = 1408 * (t.val / 4 % 8) + b.val)
    (k : Fin 2048) (h : s * 2048 + k.val < 8192) :
    blkX m d u (ix2 k a) * blkY m d u (ix2 k b) = opX m d (ix2 ⟨s * 2048 + k.val, h⟩ p) * opY m d (ix2 ⟨s * 2048 + k.val, h⟩ q) := by
  refine congrArg₂ (fun (x y : EReal) => x * y) (blk0 m d u a k p ⟨s * 2048 + k.val, h⟩ ?_ ?_) (blk1 m d u b k q ⟨s * 2048 + k.val, h⟩ ?_ ?_)
  all_goals first | omega | (dsimp only; omega)

/-- So it is the product at the block's place. -/
theorem stored_prod (d : Dev nD) (t : Fin cfg0.N) (h : t.val % 4 = 3) (a : Fin 1024) (b : Fin 1408)
    (p : Fin 2048) (q : Fin 11264) (hp : p.val = 1024 * (t.val / 32) + a.val) (hq : q.val = 1408 * (t.val / 4 % 8) + b.val) :
    (outsAt0 m d t.val t.isLt).1 (ix3 0 a b) = prod (opX m d) (opY m d) p q := by
  have hN := t.isLt
  refine (stored m d t h (by omega) (by omega) (by omega) a b).trans ?_
  exact Sums.sum_four (n := 2048) rfl (fun l : Fin 8192 => opX m d (ix2 l p) * opY m d (ix2 l q)) _ _ _ _
    (term m d t _ 0 (by omega) (by dsimp only; omega) a b p q hp hq) (term m d t _ 1 (by omega) (by dsimp only; omega) a b p q hp hq)
    (term m d t _ 2 (by omega) (by dsimp only; omega) a b p q hp hq) (term m d t _ 3 (by omega) (by omega) a b p q hp hq)

/-- The result array. -/
theorem final (d : Dev nD) (i : S8x2048x1408.Idx) : ((dats m 0 d).arrAt 2 cfg0.N : S8x2048x1408.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]
  refine (congrArg _ (Sums.idx3 y).symm).trans (stored_prod m d t (last2 t hf) (y 1) (y 2) _ _ ?_ ?_)
  · blk_simp [index2]; simp only [mul_comm]
  · blk_simp [index2]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference2Ideal Cert.Reference2Ideal.Gen

/-- The reference's result, element by element. -/
theorem ref_val (x : FVec Ideal S8192x2048 .f32) (y : FVec Ideal S8192x11264 .f32) : Read.val_main_v7 (F := Ideal) x y = prodArr x y := by
  funext i
  refine (Read.val_main_v6_apply (F := Ideal) x y i).trans ?_
  refine (Read.val_main_v5_apply (F := Ideal) x y _).trans ?_
  refine (Read.val_main_v3_apply (F := Ideal) x y _).trans ?_
  refine (Read.val_main_v2_apply x y _).trans (Finset.sum_congr rfl fun k _ => (mul_comm _ _).trans ?_)
  have h0 : (i 0).val < 8 := (i 0).isLt
  have h1 : (i 1).val < 2048 := (i 1).isLt
  have h2 : (i 2).val < 1408 := (i 2).isLt
  congr 2 <;> funext a <;> fin_cases a
  · rfl
  · exact Fin.ext (by show (((i 1).val * 8 + (i 0).val) * 1408 + (i 2).val) / 11264 = (i 1).val; omega)
  · rfl
  · exact Fin.ext (by show (((i 1).val * 8 + (i 0).val) * 1408 + (i 2).val) % 11264 = 1408 * (i 0).val + (i 2).val; omega)

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v7_eq _ _).trans (ref_val _ _)), (h c).2⟩) (Value.run (F := Ideal) m ρ)

end Reference

/-- The kernel ends, with its arguments unchanged. -/
theorem frame_kernel : Cert.quiescent_Kernel2 (hKernel2 := Cert.Kernel2.Gen.facts) := fun m ρ _ => Cert.Kernel2.Gen.frame m ρ
/-- So does the kernel over the extended reals. -/
theorem frame_kernelIdeal : Cert.quiescent_Kernel2Ideal (hKernel2Ideal := Cert.Kernel2Ideal.Gen.facts) := fun m ρ _ => Cert.Kernel2Ideal.Gen.frame m ρ
/-- So does the reference. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)
/-- No operation is rewritten. -/
theorem preserves_kernel : Cert.preserves_Kernel2_Kernel2Ideal := trivial

/-- The kernel's result is the reference's. -/
theorem algebraic_kernel : Cert.algebraic_Kernel2Ideal_Reference2Ideal (hKernel2Ideal := Cert.Kernel2Ideal.Gen.facts)
    (hReference2Ideal := Cert.Reference2Ideal.Gen.facts) := by
  intro m g m' g' _ hargs
  refine ⟨fun c => prodArr (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)), run_kernel m g,
    (θ_run Cert.Reference2Ideal.defs _ _).mono (fun _ h c => ⟨(h c).1.trans ?_, (h c).2⟩) (run_reference m' g')⟩
  obtain ⟨h0, h1⟩ := hargs c
  rw [h0, h1]

end Cert.Proof.Call2

end
-- ==== Proof.Call3.lean ====
/-
  The product that is the gradient of the block's input: `dgu` times the transpose of `w_gate_up`, over the extended reals.
-/
module

public import proofs.«01_k».proof.Defs
public import proofs.«01_k».proof.Proof.Sums
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import Idealize.ShloMosaic.Lib.Pipeline.ReadBack
public import Idealize.ShloMosaic.Lib.Quiescent

@[expose] public section

set_option maxRecDepth 16384

noncomputable section

namespace Cert.Proof.Call3

open Idealize.ShloMosaic Idealize.SL.Sem

/-- The operands, as arrays of extended reals. -/
abbrev OpX : Type := (⟨2, ![8192, 11264]⟩ : Shape).Idx → EReal
abbrev OpY : Type := (⟨2, ![2048, 11264]⟩ : Shape).Idx → EReal

/-- The product's element at row `i` and column `j`. -/
abbrev prod (X : OpX) (Y : OpY) (i : Fin 8192) (j : Fin 2048) : EReal := ∑ k : Fin 11264, X (ix2 i k) * Y (ix2 j k)

/-- The product as an array. -/
abbrev prodArr (X : OpX) (Y : OpY) : (⟨2, ![8192, 2048]⟩ : Shape).Idx → EReal := fun i => prod X Y (i 0) (i 1)

section Kernel

open Cert.Kernel3Ideal Cert.Kernel3Ideal.Gen

/-- Which block of each array a grid point works on; the innermost four points run over the contraction. -/
theorem index0 : ∀ t : Fin cfg0.N, win0_0.index t = ![t.val / 8, t.val % 4] := (by decide +kernel : ∀ t : Fin grid0.N, _)
theorem index1 : ∀ t : Fin cfg0.N, win0_1.index t = ![t.val / 4 % 2, t.val % 4] := (by decide +kernel : ∀ t : Fin grid0.N, _)
theorem index2 : ∀ t : Fin cfg0.N, win0_2.index t = ![t.val / 8, t.val / 4 % 2] := (by decide +kernel : ∀ t : Fin grid0.N, _)
/-- The result's block is written back at the last of the four. -/
theorem last2 : ∀ t : Fin cfg0.N, win0_2.flush t = true → t.val % 4 = 3 := (by decide +kernel : ∀ t : Fin grid0.N, _)

theorem t_lt (t : Fin cfg0.N) : t.val < 64 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x11264 .f32) := by
  simp only [V, hostOps0]
  after_results_simp <;> rfl
theorem V_y (d : Dev nD) : V m d main_v1 = (m ((d.tc : Thread nD τ).loc main_arg1) : FVec Ideal S2048x11264 .f32) := by
  simp only [V, hostOps0]
  after_results_simp <;> rfl

/-- The operand blocks at a grid point. -/
theorem blk0 (d : Dev nD) (t : Fin cfg0.N) (a : Fin 1024) (k : Fin 2816) (p : Fin 8192) (l : Fin 11264)
    (hp : p.val = 1024 * (t.val / 8) + a.val) (hl : l.val = 2816 * (t.val % 4) + k.val) :
    iblk m d 0 t (ix2 a k) = opX m d (ix2 p l) := by
  refine Eq.trans ?_ (congrFun (V_x m d) _)
  have bp : 1024 * (t.val / 8) + a.val < 8192 := hp ▸ p.isLt
  have bl : 2816 * (t.val % 4) + k.val < 11264 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 1024) (k : Fin 2816) (q : Fin 2048) (l : Fin 11264)
    (hq : q.val = 1024 * (t.val / 4 % 2) + b.val) (hl : l.val = 2816 * (t.val % 4) + k.val) :
    iblk m d 1 t (ix2 b k) = opY m d (ix2 q l) := by
  refine Eq.trans ?_ (congrFun (V_y m d) _)
  have bq : 1024 * (t.val / 4 % 2) + b.val < 2048 := hq ▸ q.isLt
  have bl : 2816 * (t.val % 4) + k.val < 11264 := hl ▸ l.isLt
  obtain rfl : q = ⟨_, bq⟩ := Fin.ext hq
  obtain rfl : l = ⟨_, bl⟩ := Fin.ext hl
  blk_simp [iblk, index1]
  congr 1; blk_ext [index1]

/-- The product of two blocks. -/
theorem pay (x : Vec Ideal S1024x2816 .bf16) (y : Vec Ideal S1024x2816 .bf16) (a : Fin 1024) (b : Fin 1024) :
    k0_pay1 x y (ix2 a b) = ∑ k : Fin 2816, x (ix2 a k) * y (ix2 b k) := by
  pointwise [k0_pay1]
theorem pay_first (x : Vec Ideal S1024x2816 .bf16) (y : Vec Ideal S1024x2816 .bf16) (a : Fin 1024) (b : Fin 1024) :
    k0_pay2 x y (ix2 a b) = ∑ k : Fin 2816, x (ix2 a k) * y (ix2 b k) := by
  pointwise [k0_pay2]
  exact pay x y a b
theorem pay_next (x : Vec Ideal S1024x2816 .bf16) (y : Vec Ideal S1024x2816 .bf16) (s : Vec Ideal S1024x1024 .f32) (a : Fin 1024) (b : Fin 1024) :
    k0_pay3 x y s (ix2 a b) = s (ix2 a b) + ∑ k : Fin 2816, x (ix2 a k) * y (ix2 b k) := by
  pointwise [k0_pay3]
  exact congrArg _ (pay x y a b)
theorem pay_last (x : Vec Ideal S1024x2816 .bf16) (y : Vec Ideal S1024x2816 .bf16) (s : Vec Ideal S1024x1024 .f32) (a : Fin 1024) (b : Fin 1024) :
    k0_pay4 x y s (ix2 a b) = s (ix2 a b) + ∑ k : Fin 2816, x (ix2 a k) * y (ix2 b k) := by
  pointwise [k0_pay4]
  exact congrArg _ (pay x y a b)

/-- The blocks, as arrays of extended reals. -/
abbrev blkX (d : Dev nD) (t : Fin cfg0.N) : S1024x2816.Idx → EReal := iblk m d 0 t
abbrev blkY (d : Dev nD) (t : Fin cfg0.N) : S1024x2816.Idx → EReal := iblk m d 1 t

/-- A grid point's own partial sum. -/
abbrev part (d : Dev nD) (t : Fin cfg0.N) (a : Fin 1024) (b : Fin 1024) : EReal :=
  ∑ k : Fin 2816, blkX m d t (ix2 a k) * blkY m d t (ix2 b k)

/-- The running sum after the first point of a block, after the next two, and what the last one stores. -/
theorem first (d : Dev nD) (t : Fin cfg0.N) (h : t.val % 4 = 0) (a : Fin 1024) (b : Fin 1024) :
    (outsAt0 m d t.val t.isLt).2 (ix2 a b) = part m d t a b := by
  rw [outsAt0_A m d t h (by omega) (by omega)]
  frame_out
  exact pay_first _ _ a b
theorem next (d : Dev nD) (t : Fin cfg0.N) (h : 1 ≤ t.val % 4 ∧ t.val % 4 ≤ 2) (hn : t.val - 1 < cfg0.N) (a : Fin 1024) (b : Fin 1024) :
    (outsAt0 m d t.val t.isLt).2 (ix2 a b) = (outsAt0 m d (t.val - 1) hn).2 (ix2 a b) + part m d t a b := by
  rw [outsAt0_B m d t (by omega) h (by omega)]
  frame_out
  simp only [read_unread_whole]
  exact pay_next _ _ _ a b
theorem last (d : Dev nD) (t : Fin cfg0.N) (h : t.val % 4 = 3) (hn : t.val - 1 < cfg0.N) (a : Fin 1024) (b : Fin 1024) :
    (outsAt0 m d t.val t.isLt).1 (ix2 a b) = (outsAt0 m d (t.val - 1) hn).2 (ix2 a b) + part m d t a b := by
  rw [outsAt0_C m d t (by omega) (by omega) h]
  frame_out
  simp only [read_unread_whole]
  exact pay_last _ _ _ a b

/-- What is stored is the four points' partial sums, added up. -/
theorem stored (d : Dev nD) (t : Fin cfg0.N) (h : t.val % 4 = 3) (h3 : t.val - 1 - 1 - 1 < cfg0.N) (h2 : t.val - 1 - 1 < cfg0.N)
    (h1 : t.val - 1 < cfg0.N) (a : Fin 1024) (b : Fin 1024) :
    (outsAt0 m d t.val t.isLt).1 (ix2 a b)
      = part m d ⟨t.val - 1 - 1 - 1, h3⟩ a b + part m d ⟨t.val - 1 - 1, h2⟩ a b + part m d ⟨t.val - 1, h1⟩ a b + part m d t a b := by
  refine (last m d t h h1 a b).trans (congrArg (· + part m d t a b) ?_)
  refine (next m d ⟨t.val - 1, h1⟩ (by dsimp only; omega) h2 a b).trans (congrArg (· + part m d ⟨t.val - 1, h1⟩ a b) ?_)
  refine (next m d ⟨t.val - 1 - 1, h2⟩ (by dsimp only; omega) h3 a b).trans (congrArg (· + part m d ⟨t.val - 1 - 1, h2⟩ a b) ?_)
  exact first m d ⟨t.val - 1 - 1 - 1, h3⟩ (by dsimp only; omega) a b

/-- A term of the partial sum of the block's point number `s` is a term of the whole sum. -/
theorem term (d : Dev nD) (t u : Fin cfg0.N) (s : ℕ) (hs : s < 4) (hu : u.val = 4 * (t.val / 4) + s) (a : Fin 1024) (b : Fin 1024)
    (p : Fin 8192) (q : Fin 2048) (hp : p.val = 1024 * (t.val / 8) + a.val) (hq : q.val = 1024 * (t.val / 4 % 2) + b.val)
    (k : Fin 2816) (h : s * 2816 + k.val < 11264) :
    blkX m d u (ix2 a k) * blkY m d u (ix2 b k) = opX m d (ix2 p ⟨s * 2816 + k.val, h⟩) * opY m d (ix2 q ⟨s * 2816 + k.val, h⟩) := by
  refine congrArg₂ (fun (x y : EReal) => x * y) (blk0 m d u a k p ⟨s * 2816 + k.val, h⟩ ?_ ?_) (blk1 m d u b k q ⟨s * 2816 + k.val, h⟩ ?_ ?_)
  all_goals first | omega | (dsimp only; omega)

/-- So it is the product at the block's place. -/
theorem stored_prod (d : Dev nD) (t : Fin cfg0.N) (h : t.val % 4 = 3) (a : Fin 1024) (b : Fin 1024)
    (p : Fin 8192) (q : Fin 2048) (hp : p.val = 1024 * (t.val / 8) + a.val) (hq : q.val = 1024 * (t.val / 4 % 2) + b.val) :
    (outsAt0 m d t.val t.isLt).1 (ix2 a b) = prod (opX m d) (opY m d) p q := by
  have hN := t.isLt
  refine (stored m d t h (by omega) (by omega) (by omega) a b).trans ?_
  exact Sums.sum_four (n := 2816) rfl (fun l : Fin 11264 => opX m d (ix2 p l) * opY m d (ix2 q l)) _ _ _ _
    (term m d t _ 0 (by omega) (by dsimp only; omega) a b p q hp hq) (term m d t _ 1 (by omega) (by dsimp only; omega) a b p q hp hq)
    (term m d t _ 2 (by omega) (by dsimp only; omega) a b p q hp hq) (term m d t _ 3 (by omega) (by omega) a b p q hp hq)

/-- The result array. -/
theorem final (d : Dev nD) (i : S8192x2048.Idx) : ((dats m 0 d).arrAt 2 cfg0.N : S8192x2048.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]
  refine (congrArg _ (Sums.idx2 y).symm).trans (stored_prod m d t (last2 t hf) (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference3Ideal Cert.Reference3Ideal.Gen

/-- The reference's result, element by element. -/
theorem ref_val (x : FVec Ideal S8192x11264 .f32) (y : FVec Ideal S2048x11264 .f32) : Read.val_main_v5 (F := Ideal) x y = prodArr x y := by
  funext i
  refine (Read.val_main_v4_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v5_eq _ _).trans (ref_val _ _)), (h c).2⟩) (Value.run (F := Ideal) m ρ)

end Reference

/-- The kernel ends, with its arguments unchanged. -/
theorem frame_kernel : Cert.quiescent_Kernel3 (hKernel3 := Cert.Kernel3.Gen.facts) := fun m ρ _ => Cert.Kernel3.Gen.frame m ρ
/-- So does the kernel over the extended reals. -/
theorem frame_kernelIdeal : Cert.quiescent_Kernel3Ideal (hKernel3Ideal := Cert.Kernel3Ideal.Gen.facts) := fun m ρ _ => Cert.Kernel3Ideal.Gen.frame m ρ
/-- So does the reference. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)
/-- No operation is rewritten. -/
theorem preserves_kernel : Cert.preserves_Kernel3_Kernel3Ideal := trivial

/-- The kernel's result is the reference's. -/
theorem algebraic_kernel : Cert.algebraic_Kernel3Ideal_Reference3Ideal (hKernel3Ideal := Cert.Kernel3Ideal.Gen.facts)
    (hReference3Ideal := Cert.Reference3Ideal.Gen.facts) := by
  intro m g m' g' _ hargs
  refine ⟨fun c => prodArr (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), run_kernel m g,
    (θ_run Cert.Reference3Ideal.defs _ _).mono (fun _ h c => ⟨(h c).1.trans ?_, (h c).2⟩) (run_reference m' g')⟩
  obtain ⟨h0, h1⟩ := hargs c
  rw [h0, h1]

end Cert.Proof.Call3

end
-- ==== Proof.Call4.lean ====
/-
  The product that is the gradient of the weights `w_down`: the transpose of the hidden activations times `dy`, over the extended reals.
-/
module

public import proofs.«01_k».proof.Defs
public import proofs.«01_k».proof.Proof.Sums
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Read
public import Idealize.ShloMosaic.Lib.Pipeline.ReadBack
public import Idealize.ShloMosaic.Lib.Quiescent

@[expose] public section

set_option maxRecDepth 16384

noncomputable section

namespace Cert.Proof.Call4

open Idealize.ShloMosaic Idealize.SL.Sem

/-- The operands, as arrays of extended reals. -/
abbrev OpX : Type := (⟨2, ![8192, 5632]⟩ : Shape).Idx → EReal
abbrev OpY : Type := (⟨2, ![8192, 2048]⟩ : Shape).Idx → EReal

/-- The product's element at row `i` and column `j`. -/
abbrev prod (X : OpX) (Y : OpY) (i : Fin 5632) (j : Fin 2048) : EReal := ∑ k : Fin 8192, X (ix2 k i) * Y (ix2 k j)

/-- The product as an array. -/
abbrev prodArr (X : OpX) (Y : OpY) : (⟨2, ![5632, 2048]⟩ : Shape).Idx → EReal := fun i => prod X Y (i 0) (i 1)

section Kernel

open Cert.Kernel4Ideal Cert.Kernel4Ideal.Gen

/-- Which block of each array a grid point works on; the innermost four points run over the contraction. -/
theorem index0 : ∀ t : Fin cfg0.N, win0_0.index t = ![t.val % 4, t.val / 8] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![t.val / 8, t.val / 4 % 2] := (by decide +kernel : ∀ t : Fin grid0.N, _)
/-- The result's block is written back at the last of the four. -/
theorem last2 : ∀ t : Fin cfg0.N, win0_2.flush t = true → t.val % 4 = 3 := (by decide +kernel : ∀ t : Fin grid0.N, _)

theorem t_lt (t : Fin cfg0.N) : t.val < 32 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x5632 .f32) := by
  simp only [V, hostOps0]
  after_results_simp <;> rfl
theorem V_y (d : Dev nD) : V m d main_v1 = (m ((d.tc : Thread nD τ).loc main_arg1) : FVec Ideal S8192x2048 .f32) := by
  simp only [V, hostOps0]
  after_results_simp <;> rfl

/-- The operand blocks at a grid point. -/
theorem blk0 (d : Dev nD) (t : Fin cfg0.N) (a : Fin 1408) (k : Fin 2048) (p : Fin 5632) (l : Fin 8192)
    (hp : p.val = 1408 * (t.val / 8) + a.val) (hl : l.val = 2048 * (t.val % 4) + k.val) :
    iblk m d 0 t (ix2 k a) = opX m d (ix2 l p) := by
  refine Eq.trans ?_ (congrFun (V_x m d) _)
  have bp : 1408 * (t.val / 8) + a.val < 5632 := hp ▸ p.isLt
  have bl : 2048 * (t.val % 4) + k.val < 8192 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 1024) (k : Fin 2048) (q : Fin 2048) (l : Fin 8192)
    (hq : q.val = 1024 * (t.val / 4 % 2) + b.val) (hl : l.val = 2048 * (t.val % 4) + k.val) :
    iblk m d 1 t (ix2 k b) = opY m d (ix2 l q) := by
  refine Eq.trans ?_ (congrFun (V_y m d) _)
  have bq : 1024 * (t.val / 4 % 2) + b.val < 2048 := hq ▸ q.isLt
  have bl : 2048 * (t.val % 4) + k.val < 8192 := hl ▸ l.isLt
  obtain rfl : q = ⟨_, bq⟩ := Fin.ext hq
  obtain rfl : l = ⟨_, bl⟩ := Fin.ext hl
  blk_simp [iblk, index1]
  congr 1; blk_ext [index1]

/-- The product of two blocks. -/
theorem pay (x : Vec Ideal S2048x1408 .bf16) (y : Vec Ideal S2048x1024 .bf16) (a : Fin 1408) (b : Fin 1024) :
    k0_pay1 x y (ix2 a b) = ∑ k : Fin 2048, x (ix2 k a) * y (ix2 k b) := by
  pointwise [k0_pay1]
theorem pay_first (x : Vec Ideal S2048x1408 .bf16) (y : Vec Ideal S2048x1024 .bf16) (a : Fin 1408) (b : Fin 1024) :
    k0_pay2 x y (ix2 a b) = ∑ k : Fin 2048, x (ix2 k a) * y (ix2 k b) := by
  pointwise [k0_pay2]
  exact pay x y a b
theorem pay_next (x : Vec Ideal S2048x1408 .bf16) (y : Vec Ideal S2048x1024 .bf16) (s : Vec Ideal S1408x1024 .f32) (a : Fin 1408) (b : Fin 1024) :
    k0_pay3 x y s (ix2 a b) = s (ix2 a b) + ∑ k : Fin 2048, x (ix2 k a) * y (ix2 k b) := by
  pointwise [k0_pay3]
  exact congrArg _ (pay x y a b)
theorem pay_last (x : Vec Ideal S2048x1408 .bf16) (y : Vec Ideal S2048x1024 .bf16) (s : Vec Ideal S1408x1024 .f32) (a : Fin 1408) (b : Fin 1024) :
    k0_pay4 x y s (ix2 a b) = s (ix2 a b) + ∑ k : Fin 2048, x (ix2 k a) * y (ix2 k b) := by
  pointwise [k0_pay4]
  exact congrArg _ (pay x y a b)

/-- The blocks, as arrays of extended reals. -/
abbrev blkX (d : Dev nD) (t : Fin cfg0.N) : S2048x1408.Idx → EReal := iblk m d 0 t
abbrev blkY (d : Dev nD) (t : Fin cfg0.N) : S2048x1024.Idx → EReal := iblk m d 1 t

/-- A grid point's own partial sum. -/
abbrev part (d : Dev nD) (t : Fin cfg0.N) (a : Fin 1408) (b : Fin 1024) : EReal :=
  ∑ k : Fin 2048, blkX m d t (ix2 k a) * blkY m d t (ix2 k b)

/-- The running sum after the first point of a block, after the next two, and what the last one stores. -/
theorem first (d : Dev nD) (t : Fin cfg0.N) (h : t.val % 4 = 0) (a : Fin 1408) (b : Fin 1024) :
    (outsAt0 m d t.val t.isLt).2 (ix2 a b) = part m d t a b := by
  rw [outsAt0_A m d t h (by omega) (by omega)]
  frame_out
  exact pay_first _ _ a b
theorem next (d : Dev nD) (t : Fin cfg0.N) (h : 1 ≤ t.val % 4 ∧ t.val % 4 ≤ 2) (hn : t.val - 1 < cfg0.N) (a : Fin 1408) (b : Fin 1024) :
    (outsAt0 m d t.val t.isLt).2 (ix2 a b) = (outsAt0 m d (t.val - 1) hn).2 (ix2 a b) + part m d t a b := by
  rw [outsAt0_B m d t (by omega) h (by omega)]
  frame_out
  simp only [read_unread_whole]
  exact pay_next _ _ _ a b
theorem last (d : Dev nD) (t : Fin cfg0.N) (h : t.val % 4 = 3) (hn : t.val - 1 < cfg0.N) (a : Fin 1408) (b : Fin 1024) :
    (outsAt0 m d t.val t.isLt).1 (ix2 a b) = (outsAt0 m d (t.val - 1) hn).2 (ix2 a b) + part m d t a b := by
  rw [outsAt0_C m d t (by omega) (by omega) h]
  frame_out
  simp only [read_unread_whole]
  exact pay_last _ _ _ a b

/-- What is stored is the four points' partial sums, added up. -/
theorem stored (d : Dev nD) (t : Fin cfg0.N) (h : t.val % 4 = 3) (h3 : t.val - 1 - 1 - 1 < cfg0.N) (h2 : t.val - 1 - 1 < cfg0.N)
    (h1 : t.val - 1 < cfg0.N) (a : Fin 1408) (b : Fin 1024) :
    (outsAt0 m d t.val t.isLt).1 (ix2 a b)
      = part m d ⟨t.val - 1 - 1 - 1, h3⟩ a b + part m d ⟨t.val - 1 - 1, h2⟩ a b + part m d ⟨t.val - 1, h1⟩ a b + part m d t a b := by
  refine (last m d t h h1 a b).trans (congrArg (· + part m d t a b) ?_)
  refine (next m d ⟨t.val - 1, h1⟩ (by dsimp only; omega) h2 a b).trans (congrArg (· + part m d ⟨t.val - 1, h1⟩ a b) ?_)
  refine (next m d ⟨t.val - 1 - 1, h2⟩ (by dsimp only; omega) h3 a b).trans (congrArg (· + part m d ⟨t.val - 1 - 1, h2⟩ a b) ?_)
  exact first m d ⟨t.val - 1 - 1 - 1, h3⟩ (by dsimp only; omega) a b

/-- A term of the partial sum of the block's point number `s` is a term of the whole sum. -/
theorem term (d : Dev nD) (t u : Fin cfg0.N) (s : ℕ) (hs : s < 4) (hu : u.val = 4 * (t.val / 4) + s) (a : Fin 1408) (b : Fin 1024)
    (p : Fin 5632) (q : Fin 2048) (hp : p.val = 1408 * (t.val / 8) + a.val) (hq : q.val = 1024 * (t.val / 4 % 2) + b.val)
    (k : Fin 2048) (h : s * 2048 + k.val < 8192) :
    blkX m d u (ix2 k a) * blkY m d u (ix2 k b) = opX m d (ix2 ⟨s * 2048 + k.val, h⟩ p) * opY m d (ix2 ⟨s * 2048 + k.val, h⟩ q) := by
  refine congrArg₂ (fun (x y : EReal) => x * y) (blk0 m d u a k p ⟨s * 2048 + k.val, h⟩ ?_ ?_) (blk1 m d u b k q ⟨s * 2048 + k.val, h⟩ ?_ ?_)
  all_goals first | omega | (dsimp only; omega)

/-- So it is the product at the block's place. -/
theorem stored_prod (d : Dev nD) (t : Fin cfg0.N) (h : t.val % 4 = 3) (a : Fin 1408) (b : Fin 1024)
    (p : Fin 5632) (q : Fin 2048) (hp : p.val = 1408 * (t.val / 8) + a.val) (hq : q.val = 1024 * (t.val / 4 % 2) + b.val) :
    (outsAt0 m d t.val t.isLt).1 (ix2 a b) = prod (opX m d) (opY m d) p q := by
  have hN := t.isLt
  refine (stored m d t h (by omega) (by omega) (by omega) a b).trans ?_
  exact Sums.sum_four (n := 2048) rfl (fun l : Fin 8192 => opX m d (ix2 l p) * opY m d (ix2 l q)) _ _ _ _
    (term m d t _ 0 (by omega) (by dsimp only; omega) a b p q hp hq) (term m d t _ 1 (by omega) (by dsimp only; omega) a b p q hp hq)
    (term m d t _ 2 (by omega) (by dsimp only; omega) a b p q hp hq) (term m d t _ 3 (by omega) (by omega) a b p q hp hq)

/-- The result array. -/
theorem final (d : Dev nD) (i : S5632x2048.Idx) : ((dats m 0 d).arrAt 2 cfg0.N : S5632x2048.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]
  refine (congrArg _ (Sums.idx2 y).symm).trans (stored_prod m d t (last2 t hf) (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference4Ideal Cert.Reference4Ideal.Gen

/-- The reference's result, element by element. -/
theorem ref_val (x : FVec Ideal S8192x5632 .f32) (y : FVec Ideal S8192x2048 .f32) : Read.val_main_v5 (F := Ideal) x y = prodArr x y := by
  funext i
  refine (Read.val_main_v3_apply (F := Ideal) x y i).trans ?_
  refine (Read.val_main_v2_apply x y _).trans (Finset.sum_congr rfl fun k _ => (mul_comm _ _).trans ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v5_eq _ _).trans (ref_val _ _)), (h c).2⟩) (Value.run (F := Ideal) m ρ)

end Reference

/-- The kernel ends, with its arguments unchanged. -/
theorem frame_kernel : Cert.quiescent_Kernel4 (hKernel4 := Cert.Kernel4.Gen.facts) := fun m ρ _ => Cert.Kernel4.Gen.frame m ρ
/-- So does the kernel over the extended reals. -/
theorem frame_kernelIdeal : Cert.quiescent_Kernel4Ideal (hKernel4Ideal := Cert.Kernel4Ideal.Gen.facts) := fun m ρ _ => Cert.Kernel4Ideal.Gen.frame m ρ
/-- So does the reference. -/
theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)
/-- No operation is rewritten. -/
theorem preserves_kernel : Cert.preserves_Kernel4_Kernel4Ideal := trivial

/-- The kernel's result is the reference's. -/
theorem algebraic_kernel : Cert.algebraic_Kernel4Ideal_Reference4Ideal (hKernel4Ideal := Cert.Kernel4Ideal.Gen.facts)
    (hReference4Ideal := Cert.Reference4Ideal.Gen.facts) := by
  intro m g m' g' _ hargs
  refine ⟨fun c => prodArr (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), run_kernel m g,
    (θ_run Cert.Reference4Ideal.defs _ _).mono (fun _ h c => ⟨(h c).1.trans ?_, (h c).2⟩) (run_reference m' g')⟩
  obtain ⟨h0, h1⟩ := hargs c
  rw [h0, h1]

end Cert.Proof.Call4

end
-- ==== Proof.Call5.lean ====
/-
  The product that is the gradient of the hidden activations: `dy` times the transpose of `w_down`, over the extended reals.
-/
module

public import proofs.«01_k».proof.Defs
public import proofs.«01_k».proof.Proof.Sums
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Read
public import Idealize.ShloMosaic.Lib.Quiescent

@[expose] public section

set_option maxRecDepth 16384

noncomputable section

namespace Cert.Proof.Call5

open Idealize.ShloMosaic Idealize.SL.Sem

/-- The product's element at row `i` and column `j`. -/
abbrev prod (X : (⟨2, ![8192, 2048]⟩ : Shape).Idx → EReal) (Y : (⟨2, ![5632, 2048]⟩ : Shape).Idx → EReal) (i : Fin 8192) (j : Fin 5632) : EReal :=
  ∑ k : Fin 2048, X (ix2 i k) * Y (ix2 j k)

/-- The product as an array. -/
abbrev prodArr (X : (⟨2, ![8192, 2048]⟩ : Shape).Idx → EReal) (Y : (⟨2, ![5632, 2048]⟩ : Shape).Idx → EReal) : (⟨2, ![8192, 5632]⟩ : Shape).Idx → EReal :=
  fun i => prod X Y (i 0) (i 1)

section Kernel

open Cert.Kernel5Ideal Cert.Kernel5Ideal.Gen

theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, t.val % 4] := (by decide +kernel : ∀ t : Fin grid0.N, _)

variable (m : (ℓ : Loc nD τ sig) → Buf (Elt Ideal) ℓ)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S5632x2048 .f32) := by
  simp only [V, hostOps0]
  after_results_simp <;> rfl

theorem t_lt (t : Fin cfg0.N) : t.val < 32 := t.isLt

/-- The operand blocks at a grid point. -/
theorem blk0 (d : Dev nD) (t : Fin cfg0.N) (a : Fin 1024) (k : Fin 2048) :
    iblk m d 0 t (ix2 a k) = V m d main_v0 (ix2 ⟨1024 * (t.val / 4) + a.val, by have := t_lt t; have := a.isLt; omega⟩ k) := by
  blk_simp [iblk, index0]
  congr 1; blk_ext [index0]
theorem blk1 (d : Dev nD) (t : Fin cfg0.N) (b : Fin 1408) (k : Fin 2048) :
    iblk m d 1 t (ix2 b k) = V m d main_v1 (ix2 ⟨1408 * (t.val % 4) + b.val, by have := b.isLt; omega⟩ k) := by
  blk_simp [iblk, index1]
  congr 1; blk_ext [index1]

/-- What the body stores is the product of its two blocks. -/
theorem pay (x : Vec Ideal S1024x2048 .bf16) (y : Vec Ideal S1408x2048 .bf16) (a : Fin 1024) (b : Fin 1408) :
    k0_pay1 x y (ix2 a b) = ∑ k : Fin 2048, x (ix2 a k) * y (ix2 b k) := by
  pointwise [k0_pay1]

/-- So it is the whole product at the block's place. -/
theorem out (d : Dev nD) (t : Fin cfg0.N) (a : Fin 1024) (b : Fin 1408) :
    k0_pay1 (iblk m d 0 t) (iblk m d 1 t) (ix2 a b) = prod (m ((d.tc : Thread nD τ).loc main_arg0)) (m ((d.tc : Thread nD τ).loc main_arg1))
      ⟨1024 * (t.val / 4) + a.val, by have := t_lt t; have := a.isLt; omega⟩ ⟨1408 * (t.val % 4) + b.val, by have := b.isLt; omega⟩ := by
  rw [pay]
  refine Finset.sum_congr rfl fun k _ => ?_
  rw [blk0, blk1, V_x, V_y]

/-- The result array. -/
theorem final (d : Dev nD) (i : S8192x5632.Idx) : ((dats m 0 d).arrAt 2 cfg0.N : S8192x5632.Idx → EReal) i
    = prod (m ((d.tc : Thread nD τ).loc main_arg0)) (m ((d.tc : Thread nD τ).loc main_arg1)) (i 0) (i 1) := by
  refine (dats m 0 d).arrAt_forall_of_covers 2 (fun i v => v = prod (m ((d.tc : Thread nD τ).loc main_arg0)) (m ((d.tc : Thread nD τ).loc main_arg1)) (i 0) (i 1))
    (by decide +kernel) (fun t hf y => ?_) i
  blk_simp [index2]
  rw [after0_2]; frame_out
  have e := out m d t (y 0) (y 1)
  refine (congrArg _ (Sums.idx2 y).symm).trans (e.trans ?_)
  refine congrArg₂ (prod _ _) (Fin.ext ?_) (Fin.ext ?_)
  · blk_simp [index2]; simp only [mul_comm]
  · blk_simp [index2]; simp only [mul_comm]

theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference5Ideal Cert.Reference5Ideal.Gen

/-- The reference's result, element by element. -/
theorem ref_val (x : FVec Ideal S8192x2048 .f32) (y : FVec Ideal S5632x2048 .f32) : Read.val_main_v5 (F := Ideal) x y = prodArr x y := by
  funext i
  refine (Read.val_main_v4_apply x y i).trans (Finset.sum_congr rfl fun k _ => ?_)
  congr 2 <;> funext a <;> fin_cases a <;> rfl

theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v5_eq _ _).trans (ref_val _ _)), (h c).2⟩) (Value.run (F := Ideal) m ρ)

end Reference

/-- The kernel ends, with its arguments unchanged. -/
theorem frame_kernel : Cert.quiescent_Kernel5 (hKernel5 := Cert.Kernel5.Gen.facts) := fun m ρ _ => Cert.Kernel5.Gen.frame m ρ
/-- So does the kernel over the extended reals. -/
theorem frame_kernelIdeal : Cert.quiescent_Kernel5Ideal (hKernel5Ideal := Cert.Kernel5Ideal.Gen.facts) := fun m ρ _ => Cert.Kernel5Ideal.Gen.frame m ρ
/-- So does the reference. -/
theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)
/-- No operation is rewritten. -/
theorem preserves_kernel : Cert.preserves_Kernel5_Kernel5Ideal := trivial

/-- The kernel's result is the reference's. -/
theorem algebraic_kernel : Cert.algebraic_Kernel5Ideal_Reference5Ideal (hKernel5Ideal := Cert.Kernel5Ideal.Gen.facts)
    (hReference5Ideal := Cert.Reference5Ideal.Gen.facts) := by
  intro m g m' g' _ hargs
  refine ⟨fun c => prodArr (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), run_kernel m g,
    (θ_run Cert.Reference5Ideal.defs _ _).mono (fun _ h c => ⟨(h c).1.trans ?_, (h c).2⟩) (run_reference m' g')⟩
  obtain ⟨h0, h1⟩ := hargs c
  rw [h0, h1]

end Cert.Proof.Call5

end
-- ==== Proof.Call6.lean ====
/-
  The backward pass of SwiGLU over the extended reals: the gradients of the gate and up columns, row block by row block.
-/
module

public import proofs.«01_k».proof.Defs
public import proofs.«01_k».proof.Proof.Sums
public import proofs.«01_k».proof.Proof.Finite
public import proofs.«01_k».proof.Proof.Soft
public import proofs.«01_k».proof.Proof.Gen.Pre_finite6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Read
public import Idealize.ShloMosaic.Lib.Quiescent

@[expose] public section

set_option maxRecDepth 16384

noncomputable section

namespace Cert.Proof.Call6

open Idealize.ShloMosaic Idealize.SL.Sem

/-- The logistic function. -/
def sg (g : ℝ) : ℝ := 1 / (1 + Real.exp (-g))
/-- The gradients of a gate `g` and of an up value `u`, given the gradient `v` of `g * sg g * u`. -/
def dGate (g u v : ℝ) : ℝ := v * u * sg g * (1 + g * (1 - sg g))
def dUp (g v : ℝ) : ℝ := v * g * sg g

/-- The operands, as reals: the gate and up columns, and the gradients. -/
abbrev OpG : Type := (⟨2, ![8192, 11264]⟩ : Shape).Idx → EReal
abbrev OpV : Type := (⟨2, ![8192, 5632]⟩ : Shape).Idx → EReal

/-- The columns of the gate and up values that column `j` of the result belongs to. -/
abbrev lo (j : Fin 5632) : Fin 11264 := ⟨j.val, by omega⟩
abbrev hi (j : Fin 5632) : Fin 11264 := ⟨5632 + j.val, by omega⟩

/-- The gradient of the gate and up columns. -/
def grad (G : OpG) (V : OpV) (i : Fin 8192) (j : Fin 11264) : EReal :=
  if h : j.val < 5632 then
    ((dGate (G (ix2 i j)).toReal (G (ix2 i (hi ⟨j.val, h⟩))).toReal (V (ix2 i ⟨j.val, h⟩)).toReal : ℝ) : EReal)
  else ((dUp (G (ix2 i (lo ⟨j.val - 5632, by omega⟩))).toReal (V (ix2 i ⟨j.val - 5632, by omega⟩)).toReal : ℝ) : EReal)
abbrev gradArr (G : OpG) (V : OpV) : OpG := fun i => grad G V (i 0) (i 1)

theorem grad_lo (G : OpG) (V : OpV) (i : Fin 8192) (j : Fin 5632) (p : Fin 11264) (hp : p.val = j.val) :
    grad G V i p = ((dGate (G (ix2 i (lo j))).toReal (G (ix2 i (hi j))).toReal (V (ix2 i j)).toReal : ℝ) : EReal) := by
  obtain rfl : p = lo j := Fin.ext hp
  rw [grad, dif_pos j.isLt]
theorem grad_hi (G : OpG) (V : OpV) (i : Fin 8192) (j : Fin 5632) (p : Fin 11264) (hp : p.val = 5632 + j.val) :
    grad G V i p = ((dUp (G (ix2 i (lo j))).toReal (V (ix2 i j)).toReal : ℝ) : EReal) := by
  have h : ¬ p.val < 5632 := by omega
  have e : (⟨p.val - 5632, by omega⟩ : Fin 5632) = j := Fin.ext (by show p.val - 5632 = j.val; omega)
  rw [grad, dif_neg h, e]

/-- All entries are finite. -/
structure Fin2 (G : OpG) (V : OpV) : Prop where
  g : ∀ a b, G (ix2 a b) = (((G (ix2 a b)).toReal : ℝ) : EReal)
  v : ∀ a b, V (ix2 a b) = (((V (ix2 a b)).toReal : ℝ) : EReal)

section Pre
open Cert.Pre_finite6

theorem fin_of_pre [Facts] {G : FVec Ideal S8192x11264 .f32} {V : FVec Ideal S8192x5632 .f32} (h : fn (F := Ideal) G V = fun _ => 1#1) : Fin2 G V := by
  have h := congrFun h ix0
  dsimp only [fn] at h
  obtain ⟨hg, hv⟩ := IntOp.andi_eq_one.1 h
  exact ⟨fun a b => real_of_abs _ (Host.reduce_andi_all _ _ _ _ _ hg (ix2 a b)), fun a b => real_of_abs _ (Host.reduce_andi_all _ _ _ _ _ hv (ix2 a b))⟩

end Pre

/-- The logistic function as both programs take it. -/
theorem sg_coe (g : ℝ) : Ideal.div 1 (1 + Ideal.exp (0 - ((g : ℝ) : EReal))) = ((sg g : ℝ) : EReal) := by
  have hp := Real.exp_pos (-g)
  rw [show (0 : EReal) - ((g : ℝ) : EReal) = ((-g : ℝ) : EReal) by rw [← EReal.coe_zero, ← EReal.coe_sub, zero_sub], Ideal.exp_coe,
    ← EReal.coe_one, ← EReal.coe_add, div_coe_coe _ (by positivity), sg]

section Kernel

open Cert.Kernel6Ideal Cert.Kernel6Ideal.Gen

/-- The logistic function as the kernel takes it. -/
theorem pay_sg (x : Vec Ideal S256x11264 .bf16) (a : Fin 256) (b : Fin 5632) (g : ℝ) (hg : x (ix2 a (lo b)) = ((g : ℝ) : EReal)) :
    k0_pay4 x (ix2 a b) = ((sg g : ℝ) : EReal) := by
  pointwise [k0_pay4, k0_pay3, k0_pay1]
  exact (congrArg (fun z => Ideal.div 1 (1 + Ideal.exp (0 - z))) hg).trans (sg_coe g)

/-- What the body stores in the gate columns and in the up columns. -/
theorem pay_gate (x : Vec Ideal S256x11264 .bf16) (y : Vec Ideal S256x5632 .bf16) (a : Fin 256) (b : Fin 5632) (g u v : ℝ)
    (hg : x (ix2 a (lo b)) = ((g : ℝ) : EReal)) (hu : x (ix2 a (hi b)) = ((u : ℝ) : EReal)) (hv : y (ix2 a b) = ((v : ℝ) : EReal)) :
    k0_pay5 x y (ix2 a b) = ((dGate g u v : ℝ) : EReal) := by
  have e := pay_sg x a b g hg
  pointwise [k0_pay5, k0_pay3, k0_pay2, k0_pay1]
  have hg' : x (ix2 a ⟨b.val, by omega⟩) = ((g : ℝ) : EReal) := hg
  have hu' : x (ix2 a ⟨5632 + b.val, by omega⟩) = ((u : ℝ) : EReal) := hu
  rw [e, hg', hu', hv, ← EReal.coe_one]
  simp only [← EReal.coe_mul, ← EReal.coe_sub, ← EReal.coe_add]
  rw [dGate]
theorem pay_up (x : Vec Ideal S256x11264 .bf16) (y : Vec Ideal S256x5632 .bf16) (a : Fin 256) (b : Fin 5632) (g v : ℝ)
    (hg : x (ix2 a (lo b)) = ((g : ℝ) : EReal)) (hv : y (ix2 a b) = ((v : ℝ) : EReal)) :
    k0_pay6 x y (ix2 a b) = ((dUp g v : ℝ) : EReal) := by
  have e := pay_sg x a b g hg
  pointwise [k0_pay6, k0_pay3, k0_pay2, k0_pay1]
  have hg' : x (ix2 a ⟨b.val, by omega⟩) = ((g : ℝ) : EReal) := hg
  rw [e, hg', hv]
  simp only [← EReal.coe_mul]
  rw [dUp]

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)

theorem t_lt (t : Fin cfg0.N) : t.val < 32 := t.isLt

variable (m : (ℓ : Loc nD τ sig) → Buf (Elt Ideal) ℓ)

/-- The operands. -/
abbrev opG (d : Dev nD) : OpG := m ((d.tc : Thread nD τ).loc main_arg0)
abbrev opV (d : Dev nD) : OpV := m ((d.tc : Thread nD τ).loc main_arg1)

theorem V_g (d : Dev nD) : V m d main_v0 = (m ((d.tc : Thread nD τ).loc main_arg0) : FVec Ideal S8192x11264 .f32) := by
  simp only [V, hostOps0]
  after_results_simp <;> rfl
theorem V_v (d : Dev nD) : V m d main_v1 = (m ((d.tc : Thread nD τ).loc main_arg1) : FVec Ideal S8192x5632 .f32) := by
  simp only [V, hostOps0]
  after_results_simp <;> rfl

/-- The row of the arrays that row `a` of point `t`'s blocks is. -/
abbrev row (t : Fin cfg0.N) (a : Fin 256) : Fin 8192 := ⟨256 * t.val + a.val, by have := t_lt t; omega⟩

/-- The operand blocks at a grid point. -/
theorem blk0 (d : Dev nD) (t : Fin cfg0.N) (a : Fin 256) (b : Fin 11264) : iblk m d 0 t (ix2 a b) = opG m d (ix2 (row t a) b) := by
  refine Eq.trans ?_ (congrFun (V_g m d) _)
  blk_simp [iblk, index0]
  congr 1; blk_ext [index0]
theorem blk1 (d : Dev nD) (t : Fin cfg0.N) (a : Fin 256) (b : Fin 5632) : iblk m d 1 t (ix2 a b) = opV m d (ix2 (row t a) b) := by
  refine Eq.trans ?_ (congrFun (V_v m d) _)
  blk_simp [iblk, index1]
  congr 1; blk_ext [index1]

theorem ld0 (X : Vec Ideal S256x11264 .bf16) : View.ld X r0_0 = X := View.ld_unit_zero (by funext a; fin_cases a <;> rfl) _ X
theorem ld1 (X : Vec Ideal S256x5632 .bf16) : View.ld X r0_1 = X := View.ld_unit_zero (by funext a; fin_cases a <;> rfl) _ X

/-- What a grid point stores, at each place of its block. -/
theorem out_lo (d : Dev nD) (H : Fin2 (opG m d) (opV m d)) (t : Fin cfg0.N) (a : Fin 256) (b : Fin 5632) :
    k0_pay5 (View.ld (iblk m d 0 t) r0_0) (View.ld (iblk m d 1 t) r0_1) (ix2 a b) = grad (opG m d) (opV m d) (row t a) (lo b) := by
  rw [ld0, ld1, grad_lo _ _ _ b _ rfl]
  exact pay_gate _ _ a b _ _ _ ((blk0 m d t _ _).trans (H.g _ _)) ((blk0 m d t _ _).trans (H.g _ _)) ((blk1 m d t _ _).trans (H.v _ _))
theorem out_hi (d : Dev nD) (H : Fin2 (opG m d) (opV m d)) (t : Fin cfg0.N) (a : Fin 256) (b : Fin 5632) :
    k0_pay6 (View.ld (iblk m d 0 t) r0_0) (View.ld (iblk m d 1 t) r0_1) (ix2 a b) = grad (opG m d) (opV m d) (row t a) (hi b) := by
  rw [ld0, ld1, grad_hi _ _ _ b _ rfl]
  exact pay_up _ _ a b _ _ ((blk0 m d t _ _).trans (H.g _ _)) ((blk1 m d t _ _).trans (H.v _ _))
theorem out (d : Dev nD) (H : Fin2 (opG m d) (opV m d)) (t : Fin cfg0.N) (y : S256x11264.Idx) :
    out0_2 (iblk m d 0 t) (iblk m d 1 t) y = grad (opG m d) (opV m d) (row t (y 0)) (y 1) := by
  canon_tiles x h
  · refine (congrArg _ (Sums.idx2 x).symm).trans ((out_hi m d H t (x 0) (x 1)).trans (congrArg₂ (grad _ _) (Fin.ext ?_) (Fin.ext ?_)))
    · show 256 * t.val + (x 0).val = 256 * t.val + (y 0).val
      omega
    · exact h1.symm
  · refine (congrArg _ (Sums.idx2 x).symm).trans ((out_lo m d H t (x 0) (x 1)).trans (congrArg₂ (grad _ _) (Fin.ext ?_) (Fin.ext ?_)))
    · show 256 * t.val + (x 0).val = 256 * t.val + (y 0).val
      omega
    · exact h1.symm

/-- The result array. -/
theorem final (d : Dev nD) (H : Fin2 (opG m d) (opV m d)) (i : S8192x11264.Idx) :
    ((dats m 0 d).arrAt 2 cfg0.N : S8192x11264.Idx → EReal) i = gradArr (opG m d) (opV m d) i := by
  refine (dats m 0 d).arrAt_forall_of_covers 2 (fun i v => v = gradArr (opG m d) (opV m d) i) (by decide +kernel) (fun t hf y => ?_) i
  blk_simp [index2]
  rw [after0_2]
  refine (out m d H t y).trans (congrArg₂ (grad _ _) (Fin.ext ?_) (Fin.ext ?_))
  · blk_simp [index2]; try simp only [mul_comm]
  · blk_simp [index2]

/-- The kernel's run. -/
theorem run_kernel (ρ : Dev nD → PrngReg) (H : ∀ d : Dev nD, Fin2 (opG m d) (opV m d)) :
    θ_run defs (onTc (τ := τ) (main (F := Ideal))) ⟨m, fun _ => 0, ρ⟩ (fun r => ∀ c : Dev nD,
      r.2.mem ((c.tc : Thread nD τ).loc main_v2) = gradArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c (H c))), (h c).2⟩) (Value.run_blocks m ρ)

end Kernel

section Reference

open Cert.Reference6Ideal Cert.Reference6Ideal.Gen

theorem ref_sg (x : FVec Ideal S8192x11264 .f32) (a : Fin 8192) (b : Fin 5632) (g : ℝ) (hg : x (ix2 a (lo b)) = ((g : ℝ) : EReal)) :
    Read.val_main_v2_2 (F := Ideal) x (ix2 a b) = ((sg g : ℝ) : EReal) := by
  pointwise [Read.val_main_v2_2, Read.val_main_call0_v3, Read.val_main_call0_v1, Read.val_main_call0_v0, Read.val_main_v0,
    Read.val_main_call0_v2, Read.val_main_call0_v4, Read.val_main_call0_cst, Read.val_main_call0_cst_0]
  rw [← zero_sub]
  exact (congrArg (fun z => Ideal.div 1 (1 + Ideal.exp (0 - z))) hg).trans (sg_coe g)

theorem ref_gate (x : FVec Ideal S8192x11264 .f32) (y : FVec Ideal S8192x5632 .f32) (a : Fin 8192) (b : Fin 5632) (g u v : ℝ)
    (hg : x (ix2 a (lo b)) = ((g : ℝ) : EReal)) (hu : x (ix2 a (hi b)) = ((u : ℝ) : EReal)) (hv : y (ix2 a b) = ((v : ℝ) : EReal)) :
    Read.val_main_v6 (F := Ideal) x y (ix2 a b) = ((dGate g u v : ℝ) : EReal) := by
  have e := ref_sg x a b g hg
  pointwise [Read.val_main_v6, Read.val_main_call1_v2, Read.val_main_call1_v1, Read.val_main_call1_v0, Read.val_main_v5, Read.val_main_v2_1,
    Read.val_main_call0_v7, Read.val_main_call0_v6, Read.val_main_call0_cst_1, Read.val_main_v1, Read.val_main_v0]
  have hg' : x (ix2 a ⟨b.val, by omega⟩) = ((g : ℝ) : EReal) := hg
  have hu' : x (ix2 a ⟨5632 + b.val, by omega⟩) = ((u : ℝ) : EReal) := hu
  rw [e, hg', hu', hv, ← EReal.coe_one]
  simp only [← EReal.coe_mul, ← EReal.coe_sub, ← EReal.coe_add]
  rw [dGate]
  congr 1
  ring
theorem ref_up (x : FVec Ideal S8192x11264 .f32) (y : FVec Ideal S8192x5632 .f32) (a : Fin 8192) (b : Fin 5632) (g v : ℝ)
    (hg : x (ix2 a (lo b)) = ((g : ℝ) : EReal)) (hv : y (ix2 a b) = ((v : ℝ) : EReal)) :
    Read.val_main_v4 (F := Ideal) x y (ix2 a b) = ((dUp g v : ℝ) : EReal) := by
  have e := ref_sg x a b g hg
  pointwise [Read.val_main_v4, Read.val_main_v2_0, Read.val_main_v0]
  have hg' : x (ix2 a ⟨b.val, by omega⟩) = ((g : ℝ) : EReal) := hg
  rw [e, hg', hv]
  simp only [← EReal.coe_mul]
  rw [dUp]
  congr 1
  ring

/-- The reference's result, element by element. -/
theorem ref_val (x : FVec Ideal S8192x11264 .f32) (y : FVec Ideal S8192x5632 .f32) (H : Fin2 x y) : Read.val_main_v8 (F := Ideal) x y = gradArr x y := by
  funext i
  rw [Read.val_main_v8, Read.val_main_v7]
  have eg := fun a b => ref_gate x y a b _ _ _ (H.g a (lo b)) (H.g a (hi b)) (H.v a b)
  have eu := fun a b => ref_up x y a b _ _ (H.g a (lo b)) (H.v a b)
  generalize Read.val_main_v6 (F := Ideal) x y = G at eg
  generalize Read.val_main_v4 (F := Ideal) x y = U at eu
  idx_vars i
  pointwise []
  by_cases h : i1.val < 5632
  · rw [dif_pos h]
    exact (eg i0 ⟨i1.val, h⟩).trans (grad_lo _ _ _ ⟨i1.val, h⟩ _ rfl).symm
  · rw [dif_neg h]
    exact (eu i0 ⟨i1.val - 5632, by omega⟩).trans (grad_hi _ _ _ ⟨i1.val - 5632, by omega⟩ _ (by show i1.val = 5632 + (i1.val - 5632); omega)).symm

/-- The reference's run. -/
theorem run_reference (m : (ℓ : Loc nD τ sig) → Buf (Elt Ideal) ℓ) (ρ : Dev nD → PrngReg)
    (H : ∀ d : Dev nD, Fin2 (m ((d.tc : Thread nD τ).loc main_arg0)) (m ((d.tc : Thread nD τ).loc main_arg1))) :
    θ_run defs (onTc (τ := τ) (main (F := Ideal))) ⟨m, fun _ => 0, ρ⟩ (fun r => ∀ c : Dev nD,
      r.2.mem ((c.tc : Thread nD τ).loc main_v8) = gradArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v8_eq _ _).trans (ref_val _ _ (H c))), (h c).2⟩) (Value.run (F := Ideal) m ρ)

end Reference

/-- The kernel ends, with its arguments unchanged. -/
theorem frame_kernel : Cert.quiescent_Kernel6 (hKernel6 := Cert.Kernel6.Gen.facts) := fun m ρ _ => Cert.Kernel6.Gen.frame m ρ
/-- So does the kernel over the extended reals. -/
theorem frame_kernelIdeal : Cert.quiescent_Kernel6Ideal (hKernel6Ideal := Cert.Kernel6Ideal.Gen.facts) := fun m ρ _ => Cert.Kernel6Ideal.Gen.frame m ρ
/-- So does the reference. -/
theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)
/-- No operation is rewritten. -/
theorem preserves_kernel : Cert.preserves_Kernel6_Kernel6Ideal := trivial

/-- The kernel's result is the reference's. -/
theorem algebraic_kernel : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hpre hargs
  have H : ∀ d : Dev Cert.Kernel6Ideal.nD, Fin2 (opG m d) (opV m d) := fun d => fin_of_pre (hpre d)
  have H' : ∀ d : Dev Cert.Reference6Ideal.nD, Fin2 (m' ((d.tc : Thread Cert.Reference6Ideal.nD Cert.Reference6Ideal.τ).loc Cert.Reference6Ideal.main_arg0))
      (m' ((d.tc : Thread Cert.Reference6Ideal.nD Cert.Reference6Ideal.τ).loc Cert.Reference6Ideal.main_arg1)) := fun d => by
    obtain ⟨h0, h1⟩ := hargs d
    rw [h0, h1]
    exact H d
  refine ⟨fun c => gradArr (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), run_kernel m g H,
    (θ_run Cert.Reference6Ideal.defs _ _).mono (fun _ h c => ⟨(h c).1.trans ?_, (h c).2⟩) (run_reference m' g' H')⟩
  obtain ⟨h0, h1⟩ := hargs c
  rw [h0, h1]

end Cert.Proof.Call6

end
-- ==== Proof.Call7.lean ====
/-
  The product that is the gradient of the weights of the branch gates: the transpose of the input times the output's gradient, over the
  extended reals.
-/
module

public import proofs.«01_k».proof.Defs
public import proofs.«01_k».proof.Proof.Sums
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Read
public import Idealize.ShloMosaic.Lib.Pipeline.ReadBack
public import Idealize.ShloMosaic.Lib.Quiescent

@[expose] public section

set_option maxRecDepth 16384

noncomputable section

namespace Cert.Proof.Call7

open Idealize.ShloMosaic Idealize.SL.Sem

/-- The operands, as arrays of extended reals. -/
abbrev OpX : Type := (⟨2, ![8192, 2048]⟩ : Shape).Idx → EReal
abbrev OpY : Type := (⟨2, ![8192, 4096]⟩ : Shape).Idx → EReal

/-- The product's element at row `i` and column `j`. -/
abbrev prod (X : OpX) (Y : OpY) (i : Fin 2048) (j : Fin 4096) : EReal := ∑ k : Fin 8192, X (ix2 k i) * Y (ix2 k j)

/-- The product as an array. -/
abbrev prodArr (X : OpX) (Y : OpY) : (⟨2, ![2048, 4096]⟩ : Shape).Idx → EReal := fun i => prod X Y (i 0) (i 1)

section Kernel

open Cert.Kernel7Ideal Cert.Kernel7Ideal.Gen

/-- Which block of each array a grid point works on; the innermost four points run over the contraction. -/
theorem index0 : ∀ t : Fin cfg0.N, win0_0.index t = ![t.val % 4, t.val / 16] := (by decide +kernel : ∀ t : Fin grid0.N, _)
theorem index1 : ∀ t : Fin cfg0.N, win0_1.index t = ![t.val % 4, t.val / 4 % 4] := (by decide +kernel : ∀ t : Fin grid0.N, _)
theorem index2 : ∀ t : Fin cfg0.N, win0_2.index t = ![t.val / 16, t.val / 4 % 4] := (by decide +kernel : ∀ t : Fin grid0.N, _)
/-- The result's block is written back at the last of the four. -/
theorem last2 : ∀ t : Fin cfg0.N, win0_2.flush t = true → t.val % 4 = 3 := (by decide +kernel : ∀ t : Fin grid0.N, _)

theorem t_lt (t : Fin cfg0.N) : t.val < 32 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S8192x4096 .f32) := by
  simp only [V, hostOps0]
  after_results_simp <;> rfl

/-- The operand blocks at a grid point. -/
theorem blk0 (d : Dev nD) (t : Fin cfg0.N) (a : Fin 1024) (k : Fin 2048) (p : Fin 2048) (l : Fin 8192)
    (hp : p.val = 1024 * (t.val / 16) + a.val) (hl : l.val = 2048 * (t.val % 4) + k.val) :
    iblk m d 0 t (ix2 k a) = opX m d (ix2 l p) := by
  refine Eq.trans ?_ (congrFun (V_x m d) _)
  have bp : 1024 * (t.val / 16) + a.val < 2048 := hp ▸ p.isLt
  have bl : 2048 * (t.val % 4) + k.val < 8192 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 1024) (k : Fin 2048) (q : Fin 4096) (l : Fin 8192)
    (hq : q.val = 1024 * (t.val / 4 % 4) + b.val) (hl : l.val = 2048 * (t.val % 4) + k.val) :
    iblk m d 1 t (ix2 k b) = opY m d (ix2 l q) := by
  refine Eq.trans ?_ (congrFun (V_y m d) _)
  have bq : 1024 * (t.val / 4 % 4) + b.val < 4096 := hq ▸ q.isLt
  have bl : 2048 * (t.val % 4) + k.val < 8192 := hl ▸ l.isLt
  obtain rfl : q = ⟨_, bq⟩ := Fin.ext hq
  obtain rfl : l = ⟨_, bl⟩ := Fin.ext hl
  blk_simp [iblk, index1]
  congr 1; blk_ext [index1]

/-- The product of two blocks. -/
theorem pay (x : Vec Ideal S2048x1024 .bf16) (y : Vec Ideal S2048x1024 .bf16) (a : Fin 1024) (b : Fin 1024) :
    k0_pay1 x y (ix2 a b) = ∑ k : Fin 2048, x (ix2 k a) * y (ix2 k b) := by
  pointwise [k0_pay1]
theorem pay_first (x : Vec Ideal S2048x1024 .bf16) (y : Vec Ideal S2048x1024 .bf16) (a : Fin 1024) (b : Fin 1024) :
    k0_pay2 x y (ix2 a b) = ∑ k : Fin 2048, x (ix2 k a) * y (ix2 k b) := by
  pointwise [k0_pay2]
  exact pay x y a b
theorem pay_next (x : Vec Ideal S2048x1024 .bf16) (y : Vec Ideal S2048x1024 .bf16) (s : Vec Ideal S1024x1024 .f32) (a : Fin 1024) (b : Fin 1024) :
    k0_pay3 x y s (ix2 a b) = s (ix2 a b) + ∑ k : Fin 2048, x (ix2 k a) * y (ix2 k b) := by
  pointwise [k0_pay3]
  exact congrArg _ (pay x y a b)
theorem pay_last (x : Vec Ideal S2048x1024 .bf16) (y : Vec Ideal S2048x1024 .bf16) (s : Vec Ideal S1024x1024 .f32) (a : Fin 1024) (b : Fin 1024) :
    k0_pay4 x y s (ix2 a b) = s (ix2 a b) + ∑ k : Fin 2048, x (ix2 k a) * y (ix2 k b) := by
  pointwise [k0_pay4]
  exact congrArg _ (pay x y a b)

/-- The blocks, as arrays of extended reals. -/
abbrev blkX (d : Dev nD) (t : Fin cfg0.N) : S2048x1024.Idx → EReal := iblk m d 0 t
abbrev blkY (d : Dev nD) (t : Fin cfg0.N) : S2048x1024.Idx → EReal := iblk m d 1 t

/-- A grid point's own partial sum. -/
abbrev part (d : Dev nD) (t : Fin cfg0.N) (a : Fin 1024) (b : Fin 1024) : EReal :=
  ∑ k : Fin 2048, blkX m d t (ix2 k a) * blkY m d t (ix2 k b)

/-- The running sum after the first point of a block, after the next two, and what the last one stores. -/
theorem first (d : Dev nD) (t : Fin cfg0.N) (h : t.val % 4 = 0) (a : Fin 1024) (b : Fin 1024) :
    (outsAt0 m d t.val t.isLt).2 (ix2 a b) = part m d t a b := by
  rw [outsAt0_A m d t h (by omega) (by omega)]
  frame_out
  exact pay_first _ _ a b
theorem next (d : Dev nD) (t : Fin cfg0.N) (h : 1 ≤ t.val % 4 ∧ t.val % 4 ≤ 2) (hn : t.val - 1 < cfg0.N) (a : Fin 1024) (b : Fin 1024) :
    (outsAt0 m d t.val t.isLt).2 (ix2 a b) = (outsAt0 m d (t.val - 1) hn).2 (ix2 a b) + part m d t a b := by
  rw [outsAt0_B m d t (by omega) h (by omega)]
  frame_out
  simp only [read_unread_whole]
  exact pay_next _ _ _ a b
theorem last (d : Dev nD) (t : Fin cfg0.N) (h : t.val % 4 = 3) (hn : t.val - 1 < cfg0.N) (a : Fin 1024) (b : Fin 1024) :
    (outsAt0 m d t.val t.isLt).1 (ix2 a b) = (outsAt0 m d (t.val - 1) hn).2 (ix2 a b) + part m d t a b := by
  rw [outsAt0_C m d t (by omega) (by omega) h]
  frame_out
  simp only [read_unread_whole]
  exact pay_last _ _ _ a b

/-- What is stored is the four points' partial sums, added up. -/
theorem stored (d : Dev nD) (t : Fin cfg0.N) (h : t.val % 4 = 3) (h3 : t.val - 1 - 1 - 1 < cfg0.N) (h2 : t.val - 1 - 1 < cfg0.N)
    (h1 : t.val - 1 < cfg0.N) (a : Fin 1024) (b : Fin 1024) :
    (outsAt0 m d t.val t.isLt).1 (ix2 a b)
      = part m d ⟨t.val - 1 - 1 - 1, h3⟩ a b + part m d ⟨t.val - 1 - 1, h2⟩ a b + part m d ⟨t.val - 1, h1⟩ a b + part m d t a b := by
  refine (last m d t h h1 a b).trans (congrArg (· + part m d t a b) ?_)
  refine (next m d ⟨t.val - 1, h1⟩ (by dsimp only; omega) h2 a b).trans (congrArg (· + part m d ⟨t.val - 1, h1⟩ a b) ?_)
  refine (next m d ⟨t.val - 1 - 1, h2⟩ (by dsimp only; omega) h3 a b).trans (congrArg (· + part m d ⟨t.val - 1 - 1, h2⟩ a b) ?_)
  exact first m d ⟨t.val - 1 - 1 - 1, h3⟩ (by dsimp only; omega) a b

/-- A term of the partial sum of the block's point number `s` is a term of the whole sum. -/
theorem term (d : Dev nD) (t u : Fin cfg0.N) (s : ℕ) (hs : s < 4) (hu : u.val = 4 * (t.val / 4) + s) (a : Fin 1024) (b : Fin 1024)
    (p : Fin 2048) (q : Fin 4096) (hp : p.val = 1024 * (t.val / 16) + a.val) (hq : q.val = 1024 * (t.val / 4 % 4) + b.val)
    (k : Fin 2048) (h : s * 2048 + k.val < 8192) :
    blkX m d u (ix2 k a) * blkY m d u (ix2 k b) = opX m d (ix2 ⟨s * 2048 + k.val, h⟩ p) * opY m d (ix2 ⟨s * 2048 + k.val, h⟩ q) := by
  refine congrArg₂ (fun (x y : EReal) => x * y) (blk0 m d u a k p ⟨s * 2048 + k.val, h⟩ ?_ ?_) (blk1 m d u b k q ⟨s * 2048 + k.val, h⟩ ?_ ?_)
  all_goals first | omega | (dsimp only; omega)

/-- So it is the product at the block's place. -/
theorem stored_prod (d : Dev nD) (t : Fin cfg0.N) (h : t.val % 4 = 3) (a : Fin 1024) (b : Fin 1024)
    (p : Fin 2048) (q : Fin 4096) (hp : p.val = 1024 * (t.val / 16) + a.val) (hq : q.val = 1024 * (t.val / 4 % 4) + b.val) :
    (outsAt0 m d t.val t.isLt).1 (ix2 a b) = prod (opX m d) (opY m d) p q := by
  have hN := t.isLt
  refine (stored m d t h (by omega) (by omega) (by omega) a b).trans ?_
  exact Sums.sum_four (n := 2048) rfl (fun l : Fin 8192 => opX m d (ix2 l p) * opY m d (ix2 l q)) _ _ _ _
    (term m d t _ 0 (by omega) (by dsimp only; omega) a b p q hp hq) (term m d t _ 1 (by omega) (by dsimp only; omega) a b p q hp hq)
    (term m d t _ 2 (by omega) (by dsimp only; omega) a b p q hp hq) (term m d t _ 3 (by omega) (by omega) a b p q hp hq)

/-- The result array. -/
theorem final (d : Dev nD) (i : S2048x4096.Idx) : ((dats m 0 d).arrAt 2 cfg0.N : S2048x4096.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]
  refine (congrArg _ (Sums.idx2 y).symm).trans (stored_prod m d t (last2 t hf) (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference7Ideal Cert.Reference7Ideal.Gen

/-- The reference's result, element by element. -/
theorem ref_val (x : FVec Ideal S8192x2048 .f32) (y : FVec Ideal S8192x4096 .f32) : Read.val_main_v5 (F := Ideal) x y = prodArr x y := by
  funext i
  refine (Read.val_main_v3_apply (F := Ideal) x y i).trans ?_
  refine (Read.val_main_v2_apply x y _).trans (Finset.sum_congr rfl fun k _ => (mul_comm _ _).trans ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v5_eq _ _).trans (ref_val _ _)), (h c).2⟩) (Value.run (F := Ideal) m ρ)

end Reference

/-- The kernel ends, with its arguments unchanged. -/
theorem frame_kernel : Cert.quiescent_Kernel7 (hKernel7 := Cert.Kernel7.Gen.facts) := fun m ρ _ => Cert.Kernel7.Gen.frame m ρ
/-- So does the kernel over the extended reals. -/
theorem frame_kernelIdeal : Cert.quiescent_Kernel7Ideal (hKernel7Ideal := Cert.Kernel7Ideal.Gen.facts) := fun m ρ _ => Cert.Kernel7Ideal.Gen.frame m ρ
/-- So does the reference. -/
theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)
/-- No operation is rewritten. -/
theorem preserves_kernel : Cert.preserves_Kernel7_Kernel7Ideal := trivial

/-- The kernel's result is the reference's. -/
theorem algebraic_kernel : Cert.algebraic_Kernel7Ideal_Reference7Ideal (hKernel7Ideal := Cert.Kernel7Ideal.Gen.facts)
    (hReference7Ideal := Cert.Reference7Ideal.Gen.facts) := by
  intro m g m' g' _ hargs
  refine ⟨fun c => prodArr (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)), run_kernel m g,
    (θ_run Cert.Reference7Ideal.defs _ _).mono (fun _ h c => ⟨(h c).1.trans ?_, (h c).2⟩) (run_reference m' g')⟩
  obtain ⟨h0, h1⟩ := hargs c
  rw [h0, h1]

end Cert.Proof.Call7

end
-- ==== Proof.Call8.lean ====
/-
  The product that is the gradient of the weights of q, k and v: the transpose of the input times the output's gradient, over the
  extended reals.
-/
module

public import proofs.«01_k».proof.Defs
public import proofs.«01_k».proof.Proof.Sums
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Read
public import Idealize.ShloMosaic.Lib.Pipeline.ReadBack
public import Idealize.ShloMosaic.Lib.Quiescent

@[expose] public section

set_option maxRecDepth 16384

noncomputable section

namespace Cert.Proof.Call8

open Idealize.ShloMosaic Idealize.SL.Sem

/-- The operands, as arrays of extended reals. -/
abbrev OpX : Type := (⟨2, ![8192, 2048]⟩ : Shape).Idx → EReal
abbrev OpY : Type := (⟨2, ![8192, 3072]⟩ : Shape).Idx → EReal

/-- The product's element at row `i` and column `j`. -/
abbrev prod (X : OpX) (Y : OpY) (i : Fin 2048) (j : Fin 3072) : EReal := ∑ k : Fin 8192, X (ix2 k i) * Y (ix2 k j)

/-- The product as an array. -/
abbrev prodArr (X : OpX) (Y : OpY) : (⟨2, ![2048, 3072]⟩ : Shape).Idx → EReal := fun i => prod X Y (i 0) (i 1)

section Kernel

open Cert.Kernel8Ideal Cert.Kernel8Ideal.Gen

/-- Which block of each array a grid point works on; the innermost four points run over the contraction. -/
theorem index0 : ∀ t : Fin cfg0.N, win0_0.index t = ![t.val % 4, t.val / 12] := (by decide +kernel : ∀ t : Fin grid0.N, _)
theorem index1 : ∀ t : Fin cfg0.N, win0_1.index t = ![t.val % 4, t.val / 4 % 3] := (by decide +kernel : ∀ t : Fin grid0.N, _)
theorem index2 : ∀ t : Fin cfg0.N, win0_2.index t = ![t.val / 12, t.val / 4 % 3] := (by decide +kernel : ∀ t : Fin grid0.N, _)
/-- The result's block is written back at the last of the four. -/
theorem last2 : ∀ t : Fin cfg0.N, win0_2.flush t = true → t.val % 4 = 3 := (by decide +kernel : ∀ t : Fin grid0.N, _)

theorem t_lt (t : Fin cfg0.N) : t.val < 24 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S8192x3072 .f32) := by
  simp only [V, hostOps0]
  after_results_simp <;> rfl

/-- The operand blocks at a grid point. -/
theorem blk0 (d : Dev nD) (t : Fin cfg0.N) (a : Fin 1024) (k : Fin 2048) (p : Fin 2048) (l : Fin 8192)
    (hp : p.val = 1024 * (t.val / 12) + a.val) (hl : l.val = 2048 * (t.val % 4) + k.val) :
    iblk m d 0 t (ix2 k a) = opX m d (ix2 l p) := by
  refine Eq.trans ?_ (congrFun (V_x m d) _)
  have bp : 1024 * (t.val / 12) + a.val < 2048 := hp ▸ p.isLt
  have bl : 2048 * (t.val % 4) + k.val < 8192 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 1024) (k : Fin 2048) (q : Fin 3072) (l : Fin 8192)
    (hq : q.val = 1024 * (t.val / 4 % 3) + b.val) (hl : l.val = 2048 * (t.val % 4) + k.val) :
    iblk m d 1 t (ix2 k b) = opY m d (ix2 l q) := by
  refine Eq.trans ?_ (congrFun (V_y m d) _)
  have bq : 1024 * (t.val / 4 % 3) + b.val < 3072 := hq ▸ q.isLt
  have bl : 2048 * (t.val % 4) + k.val < 8192 := hl ▸ l.isLt
  obtain rfl : q = ⟨_, bq⟩ := Fin.ext hq
  obtain rfl : l = ⟨_, bl⟩ := Fin.ext hl
  blk_simp [iblk, index1]
  congr 1; blk_ext [index1]

/-- The product of two blocks. -/
theorem pay (x : Vec Ideal S2048x1024 .bf16) (y : Vec Ideal S2048x1024 .bf16) (a : Fin 1024) (b : Fin 1024) :
    k0_pay1 x y (ix2 a b) = ∑ k : Fin 2048, x (ix2 k a) * y (ix2 k b) := by
  pointwise [k0_pay1]
theorem pay_first (x : Vec Ideal S2048x1024 .bf16) (y : Vec Ideal S2048x1024 .bf16) (a : Fin 1024) (b : Fin 1024) :
    k0_pay2 x y (ix2 a b) = ∑ k : Fin 2048, x (ix2 k a) * y (ix2 k b) := by
  pointwise [k0_pay2]
  exact pay x y a b
theorem pay_next (x : Vec Ideal S2048x1024 .bf16) (y : Vec Ideal S2048x1024 .bf16) (s : Vec Ideal S1024x1024 .f32) (a : Fin 1024) (b : Fin 1024) :
    k0_pay3 x y s (ix2 a b) = s (ix2 a b) + ∑ k : Fin 2048, x (ix2 k a) * y (ix2 k b) := by
  pointwise [k0_pay3]
  exact congrArg _ (pay x y a b)
theorem pay_last (x : Vec Ideal S2048x1024 .bf16) (y : Vec Ideal S2048x1024 .bf16) (s : Vec Ideal S1024x1024 .f32) (a : Fin 1024) (b : Fin 1024) :
    k0_pay4 x y s (ix2 a b) = s (ix2 a b) + ∑ k : Fin 2048, x (ix2 k a) * y (ix2 k b) := by
  pointwise [k0_pay4]
  exact congrArg _ (pay x y a b)

/-- The blocks, as arrays of extended reals. -/
abbrev blkX (d : Dev nD) (t : Fin cfg0.N) : S2048x1024.Idx → EReal := iblk m d 0 t
abbrev blkY (d : Dev nD) (t : Fin cfg0.N) : S2048x1024.Idx → EReal := iblk m d 1 t

/-- A grid point's own partial sum. -/
abbrev part (d : Dev nD) (t : Fin cfg0.N) (a : Fin 1024) (b : Fin 1024) : EReal :=
  ∑ k : Fin 2048, blkX m d t (ix2 k a) * blkY m d t (ix2 k b)

/-- The running sum after the first point of a block, after the next two, and what the last one stores. -/
theorem first (d : Dev nD) (t : Fin cfg0.N) (h : t.val % 4 = 0) (a : Fin 1024) (b : Fin 1024) :
    (outsAt0 m d t.val t.isLt).2 (ix2 a b) = part m d t a b := by
  rw [outsAt0_A m d t h (by omega) (by omega)]
  frame_out
  exact pay_first _ _ a b
theorem next (d : Dev nD) (t : Fin cfg0.N) (h : 1 ≤ t.val % 4 ∧ t.val % 4 ≤ 2) (hn : t.val - 1 < cfg0.N) (a : Fin 1024) (b : Fin 1024) :
    (outsAt0 m d t.val t.isLt).2 (ix2 a b) = (outsAt0 m d (t.val - 1) hn).2 (ix2 a b) + part m d t a b := by
  rw [outsAt0_B m d t (by omega) h (by omega)]
  frame_out
  simp only [read_unread_whole]
  exact pay_next _ _ _ a b
theorem last (d : Dev nD) (t : Fin cfg0.N) (h : t.val % 4 = 3) (hn : t.val - 1 < cfg0.N) (a : Fin 1024) (b : Fin 1024) :
    (outsAt0 m d t.val t.isLt).1 (ix2 a b) = (outsAt0 m d (t.val - 1) hn).2 (ix2 a b) + part m d t a b := by
  rw [outsAt0_C m d t (by omega) (by omega) h]
  frame_out
  simp only [read_unread_whole]
  exact pay_last _ _ _ a b

/-- What is stored is the four points' partial sums, added up. -/
theorem stored (d : Dev nD) (t : Fin cfg0.N) (h : t.val % 4 = 3) (h3 : t.val - 1 - 1 - 1 < cfg0.N) (h2 : t.val - 1 - 1 < cfg0.N)
    (h1 : t.val - 1 < cfg0.N) (a : Fin 1024) (b : Fin 1024) :
    (outsAt0 m d t.val t.isLt).1 (ix2 a b)
      = part m d ⟨t.val - 1 - 1 - 1, h3⟩ a b + part m d ⟨t.val - 1 - 1, h2⟩ a b + part m d ⟨t.val - 1, h1⟩ a b + part m d t a b := by
  refine (last m d t h h1 a b).trans (congrArg (· + part m d t a b) ?_)
  refine (next m d ⟨t.val - 1, h1⟩ (by dsimp only; omega) h2 a b).trans (congrArg (· + part m d ⟨t.val - 1, h1⟩ a b) ?_)
  refine (next m d ⟨t.val - 1 - 1, h2⟩ (by dsimp only; omega) h3 a b).trans (congrArg (· + part m d ⟨t.val - 1 - 1, h2⟩ a b) ?_)
  exact first m d ⟨t.val - 1 - 1 - 1, h3⟩ (by dsimp only; omega) a b

/-- A term of the partial sum of the block's point number `s` is a term of the whole sum. -/
theorem term (d : Dev nD) (t u : Fin cfg0.N) (s : ℕ) (hs : s < 4) (hu : u.val = 4 * (t.val / 4) + s) (a : Fin 1024) (b : Fin 1024)
    (p : Fin 2048) (q : Fin 3072) (hp : p.val = 1024 * (t.val / 12) + a.val) (hq : q.val = 1024 * (t.val / 4 % 3) + b.val)
    (k : Fin 2048) (h : s * 2048 + k.val < 8192) :
    blkX m d u (ix2 k a) * blkY m d u (ix2 k b) = opX m d (ix2 ⟨s * 2048 + k.val, h⟩ p) * opY m d (ix2 ⟨s * 2048 + k.val, h⟩ q) := by
  refine congrArg₂ (fun (x y : EReal) => x * y) (blk0 m d u a k p ⟨s * 2048 + k.val, h⟩ ?_ ?_) (blk1 m d u b k q ⟨s * 2048 + k.val, h⟩ ?_ ?_)
  all_goals first | omega | (dsimp only; omega)

/-- So it is the product at the block's place. -/
theorem stored_prod (d : Dev nD) (t : Fin cfg0.N) (h : t.val % 4 = 3) (a : Fin 1024) (b : Fin 1024)
    (p : Fin 2048) (q : Fin 3072) (hp : p.val = 1024 * (t.val / 12) + a.val) (hq : q.val = 1024 * (t.val / 4 % 3) + b.val) :
    (outsAt0 m d t.val t.isLt).1 (ix2 a b) = prod (opX m d) (opY m d) p q := by
  have hN := t.isLt
  refine (stored m d t h (by omega) (by omega) (by omega) a b).trans ?_
  exact Sums.sum_four (n := 2048) rfl (fun l : Fin 8192 => opX m d (ix2 l p) * opY m d (ix2 l q)) _ _ _ _
    (term m d t _ 0 (by omega) (by dsimp only; omega) a b p q hp hq) (term m d t _ 1 (by omega) (by dsimp only; omega) a b p q hp hq)
    (term m d t _ 2 (by omega) (by dsimp only; omega) a b p q hp hq) (term m d t _ 3 (by omega) (by omega) a b p q hp hq)

/-- The result array. -/
theorem final (d : Dev nD) (i : S2048x3072.Idx) : ((dats m 0 d).arrAt 2 cfg0.N : S2048x3072.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]
  refine (congrArg _ (Sums.idx2 y).symm).trans (stored_prod m d t (last2 t hf) (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference8Ideal Cert.Reference8Ideal.Gen

/-- The reference's result, element by element. -/
theorem ref_val (x : FVec Ideal S8192x2048 .f32) (y : FVec Ideal S8192x3072 .f32) : Read.val_main_v5 (F := Ideal) x y = prodArr x y := by
  funext i
  refine (Read.val_main_v3_apply (F := Ideal) x y i).trans ?_
  refine (Read.val_main_v2_apply x y _).trans (Finset.sum_congr rfl fun k _ => (mul_comm _ _).trans ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v5_eq _ _).trans (ref_val _ _)), (h c).2⟩) (Value.run (F := Ideal) m ρ)

end Reference

/-- The kernel ends, with its arguments unchanged. -/
theorem frame_kernel : Cert.quiescent_Kernel8 (hKernel8 := Cert.Kernel8.Gen.facts) := fun m ρ _ => Cert.Kernel8.Gen.frame m ρ
/-- So does the kernel over the extended reals. -/
theorem frame_kernelIdeal : Cert.quiescent_Kernel8Ideal (hKernel8Ideal := Cert.Kernel8Ideal.Gen.facts) := fun m ρ _ => Cert.Kernel8Ideal.Gen.frame m ρ
/-- So does the reference. -/
theorem frame_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)
/-- No operation is rewritten. -/
theorem preserves_kernel : Cert.preserves_Kernel8_Kernel8Ideal := trivial

/-- The kernel's result is the reference's. -/
theorem algebraic_kernel : Cert.algebraic_Kernel8Ideal_Reference8Ideal (hKernel8Ideal := Cert.Kernel8Ideal.Gen.facts)
    (hReference8Ideal := Cert.Reference8Ideal.Gen.facts) := by
  intro m g m' g' _ hargs
  refine ⟨fun c => prodArr (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1)), run_kernel m g,
    (θ_run Cert.Reference8Ideal.defs _ _).mono (fun _ h c => ⟨(h c).1.trans ?_, (h c).2⟩) (run_reference m' g')⟩
  obtain ⟨h0, h1⟩ := hargs c
  rw [h0, h1]

end Cert.Proof.Call8

end
-- ==== Proof.Call9.lean ====
/-
  The product that is the gradient of the weights of the convolution branch's input: the transpose of the input times the output's gradient, over the
  extended reals.
-/
module

public import proofs.«01_k».proof.Defs
public import proofs.«01_k».proof.Proof.Sums
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Read
public import Idealize.ShloMosaic.Lib.Pipeline.ReadBack
public import Idealize.ShloMosaic.Lib.Quiescent

@[expose] public section

set_option maxRecDepth 16384

noncomputable section

namespace Cert.Proof.Call9

open Idealize.ShloMosaic Idealize.SL.Sem

/-- The operands, as arrays of extended reals. -/
abbrev OpX : Type := (⟨2, ![8192, 2048]⟩ : Shape).Idx → EReal
abbrev OpY : Type := (⟨2, ![8192, 2048]⟩ : Shape).Idx → EReal

/-- The product's element at row `i` and column `j`. -/
abbrev prod (X : OpX) (Y : OpY) (i : Fin 2048) (j : Fin 2048) : EReal := ∑ k : Fin 8192, X (ix2 k i) * Y (ix2 k j)

/-- The product as an array. -/
abbrev prodArr (X : OpX) (Y : OpY) : (⟨2, ![2048, 2048]⟩ : Shape).Idx → EReal := fun i => prod X Y (i 0) (i 1)

section Kernel

open Cert.Kernel9Ideal Cert.Kernel9Ideal.Gen

/-- Which block of each array a grid point works on; the innermost four points run over the contraction. -/
theorem index0 : ∀ t : Fin cfg0.N, win0_0.index t = ![t.val % 4, t.val / 8] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![t.val / 8, t.val / 4 % 2] := (by decide +kernel : ∀ t : Fin grid0.N, _)
/-- The result's block is written back at the last of the four. -/
theorem last2 : ∀ t : Fin cfg0.N, win0_2.flush t = true → t.val % 4 = 3 := (by decide +kernel : ∀ t : Fin grid0.N, _)

theorem t_lt (t : Fin cfg0.N) : t.val < 16 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S8192x2048 .f32) := by
  simp only [V, hostOps0]
  after_results_simp <;> rfl

/-- The operand blocks at a grid point. -/
theorem blk0 (d : Dev nD) (t : Fin cfg0.N) (a : Fin 1024) (k : Fin 2048) (p : Fin 2048) (l : Fin 8192)
    (hp : p.val = 1024 * (t.val / 8) + a.val) (hl : l.val = 2048 * (t.val % 4) + k.val) :
    iblk m d 0 t (ix2 k a) = opX m d (ix2 l p) := by
  refine Eq.trans ?_ (congrFun (V_x m d) _)
  have bp : 1024 * (t.val / 8) + a.val < 2048 := hp ▸ p.isLt
  have bl : 2048 * (t.val % 4) + k.val < 8192 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 1024) (k : Fin 2048) (q : Fin 2048) (l : Fin 8192)
    (hq : q.val = 1024 * (t.val / 4 % 2) + b.val) (hl : l.val = 2048 * (t.val % 4) + k.val) :
    iblk m d 1 t (ix2 k b) = opY m d (ix2 l q) := by
  refine Eq.trans ?_ (congrFun (V_y m d) _)
  have bq : 1024 * (t.val / 4 % 2) + b.val < 2048 := hq ▸ q.isLt
  have bl : 2048 * (t.val % 4) + k.val < 8192 := hl ▸ l.isLt
  obtain rfl : q = ⟨_, bq⟩ := Fin.ext hq
  obtain rfl : l = ⟨_, bl⟩ := Fin.ext hl
  blk_simp [iblk, index1]
  congr 1; blk_ext [index1]

/-- The product of two blocks. -/
theorem pay (x : Vec Ideal S2048x1024 .bf16) (y : Vec Ideal S2048x1024 .bf16) (a : Fin 1024) (b : Fin 1024) :
    k0_pay1 x y (ix2 a b) = ∑ k : Fin 2048, x (ix2 k a) * y (ix2 k b) := by
  pointwise [k0_pay1]
theorem pay_first (x : Vec Ideal S2048x1024 .bf16) (y : Vec Ideal S2048x1024 .bf16) (a : Fin 1024) (b : Fin 1024) :
    k0_pay2 x y (ix2 a b) = ∑ k : Fin 2048, x (ix2 k a) * y (ix2 k b) := by
  pointwise [k0_pay2]
  exact pay x y a b
theorem pay_next (x : Vec Ideal S2048x1024 .bf16) (y : Vec Ideal S2048x1024 .bf16) (s : Vec Ideal S1024x1024 .f32) (a : Fin 1024) (b : Fin 1024) :
    k0_pay3 x y s (ix2 a b) = s (ix2 a b) + ∑ k : Fin 2048, x (ix2 k a) * y (ix2 k b) := by
  pointwise [k0_pay3]
  exact congrArg _ (pay x y a b)
theorem pay_last (x : Vec Ideal S2048x1024 .bf16) (y : Vec Ideal S2048x1024 .bf16) (s : Vec Ideal S1024x1024 .f32) (a : Fin 1024) (b : Fin 1024) :
    k0_pay4 x y s (ix2 a b) = s (ix2 a b) + ∑ k : Fin 2048, x (ix2 k a) * y (ix2 k b) := by
  pointwise [k0_pay4]
  exact congrArg _ (pay x y a b)

/-- The blocks, as arrays of extended reals. -/
abbrev blkX (d : Dev nD) (t : Fin cfg0.N) : S2048x1024.Idx → EReal := iblk m d 0 t
abbrev blkY (d : Dev nD) (t : Fin cfg0.N) : S2048x1024.Idx → EReal := iblk m d 1 t

/-- A grid point's own partial sum. -/
abbrev part (d : Dev nD) (t : Fin cfg0.N) (a : Fin 1024) (b : Fin 1024) : EReal :=
  ∑ k : Fin 2048, blkX m d t (ix2 k a) * blkY m d t (ix2 k b)

/-- The running sum after the first point of a block, after the next two, and what the last one stores. -/
theorem first (d : Dev nD) (t : Fin cfg0.N) (h : t.val % 4 = 0) (a : Fin 1024) (b : Fin 1024) :
    (outsAt0 m d t.val t.isLt).2 (ix2 a b) = part m d t a b := by
  rw [outsAt0_A m d t h (by omega) (by omega)]
  frame_out
  exact pay_first _ _ a b
theorem next (d : Dev nD) (t : Fin cfg0.N) (h : 1 ≤ t.val % 4 ∧ t.val % 4 ≤ 2) (hn : t.val - 1 < cfg0.N) (a : Fin 1024) (b : Fin 1024) :
    (outsAt0 m d t.val t.isLt).2 (ix2 a b) = (outsAt0 m d (t.val - 1) hn).2 (ix2 a b) + part m d t a b := by
  rw [outsAt0_B m d t (by omega) h (by omega)]
  frame_out
  simp only [read_unread_whole]
  exact pay_next _ _ _ a b
theorem last (d : Dev nD) (t : Fin cfg0.N) (h : t.val % 4 = 3) (hn : t.val - 1 < cfg0.N) (a : Fin 1024) (b : Fin 1024) :
    (outsAt0 m d t.val t.isLt).1 (ix2 a b) = (outsAt0 m d (t.val - 1) hn).2 (ix2 a b) + part m d t a b := by
  rw [outsAt0_C m d t (by omega) (by omega) h]
  frame_out
  simp only [read_unread_whole]
  exact pay_last _ _ _ a b

/-- What is stored is the four points' partial sums, added up. -/
theorem stored (d : Dev nD) (t : Fin cfg0.N) (h : t.val % 4 = 3) (h3 : t.val - 1 - 1 - 1 < cfg0.N) (h2 : t.val - 1 - 1 < cfg0.N)
    (h1 : t.val - 1 < cfg0.N) (a : Fin 1024) (b : Fin 1024) :
    (outsAt0 m d t.val t.isLt).1 (ix2 a b)
      = part m d ⟨t.val - 1 - 1 - 1, h3⟩ a b + part m d ⟨t.val - 1 - 1, h2⟩ a b + part m d ⟨t.val - 1, h1⟩ a b + part m d t a b := by
  refine (last m d t h h1 a b).trans (congrArg (· + part m d t a b) ?_)
  refine (next m d ⟨t.val - 1, h1⟩ (by dsimp only; omega) h2 a b).trans (congrArg (· + part m d ⟨t.val - 1, h1⟩ a b) ?_)
  refine (next m d ⟨t.val - 1 - 1, h2⟩ (by dsimp only; omega) h3 a b).trans (congrArg (· + part m d ⟨t.val - 1 - 1, h2⟩ a b) ?_)
  exact first m d ⟨t.val - 1 - 1 - 1, h3⟩ (by dsimp only; omega) a b

/-- A term of the partial sum of the block's point number `s` is a term of the whole sum. -/
theorem term (d : Dev nD) (t u : Fin cfg0.N) (s : ℕ) (hs : s < 4) (hu : u.val = 4 * (t.val / 4) + s) (a : Fin 1024) (b : Fin 1024)
    (p : Fin 2048) (q : Fin 2048) (hp : p.val = 1024 * (t.val / 8) + a.val) (hq : q.val = 1024 * (t.val / 4 % 2) + b.val)
    (k : Fin 2048) (h : s * 2048 + k.val < 8192) :
    blkX m d u (ix2 k a) * blkY m d u (ix2 k b) = opX m d (ix2 ⟨s * 2048 + k.val, h⟩ p) * opY m d (ix2 ⟨s * 2048 + k.val, h⟩ q) := by
  refine congrArg₂ (fun (x y : EReal) => x * y) (blk0 m d u a k p ⟨s * 2048 + k.val, h⟩ ?_ ?_) (blk1 m d u b k q ⟨s * 2048 + k.val, h⟩ ?_ ?_)
  all_goals first | omega | (dsimp only; omega)

/-- So it is the product at the block's place. -/
theorem stored_prod (d : Dev nD) (t : Fin cfg0.N) (h : t.val % 4 = 3) (a : Fin 1024) (b : Fin 1024)
    (p : Fin 2048) (q : Fin 2048) (hp : p.val = 1024 * (t.val / 8) + a.val) (hq : q.val = 1024 * (t.val / 4 % 2) + b.val) :
    (outsAt0 m d t.val t.isLt).1 (ix2 a b) = prod (opX m d) (opY m d) p q := by
  have hN := t.isLt
  refine (stored m d t h (by omega) (by omega) (by omega) a b).trans ?_
  exact Sums.sum_four (n := 2048) rfl (fun l : Fin 8192 => opX m d (ix2 l p) * opY m d (ix2 l q)) _ _ _ _
    (term m d t _ 0 (by omega) (by dsimp only; omega) a b p q hp hq) (term m d t _ 1 (by omega) (by dsimp only; omega) a b p q hp hq)
    (term m d t _ 2 (by omega) (by dsimp only; omega) a b p q hp hq) (term m d t _ 3 (by omega) (by omega) a b p q hp hq)

/-- The result array. -/
theorem final (d : Dev nD) (i : S2048x2048.Idx) : ((dats m 0 d).arrAt 2 cfg0.N : S2048x2048.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]
  refine (congrArg _ (Sums.idx2 y).symm).trans (stored_prod m d t (last2 t hf) (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference9Ideal Cert.Reference9Ideal.Gen

/-- The reference's result, element by element. -/
theorem ref_val (x : FVec Ideal S8192x2048 .f32) (y : FVec Ideal S8192x2048 .f32) : Read.val_main_v5 (F := Ideal) x y = prodArr x y := by
  funext i
  refine (Read.val_main_v3_apply (F := Ideal) x y i).trans ?_
  refine (Read.val_main_v2_apply x y _).trans (Finset.sum_congr rfl fun k _ => (mul_comm _ _).trans ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v5_eq _ _).trans (ref_val _ _)), (h c).2⟩) (Value.run (F := Ideal) m ρ)

end Reference

/-- The kernel ends, with its arguments unchanged. -/
theorem frame_kernel : Cert.quiescent_Kernel9 (hKernel9 := Cert.Kernel9.Gen.facts) := fun m ρ _ => Cert.Kernel9.Gen.frame m ρ
/-- So does the kernel over the extended reals. -/
theorem frame_kernelIdeal : Cert.quiescent_Kernel9Ideal (hKernel9Ideal := Cert.Kernel9Ideal.Gen.facts) := fun m ρ _ => Cert.Kernel9Ideal.Gen.frame m ρ
/-- So does the reference. -/
theorem frame_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)
/-- No operation is rewritten. -/
theorem preserves_kernel : Cert.preserves_Kernel9_Kernel9Ideal := trivial

/-- The kernel's result is the reference's. -/
theorem algebraic_kernel : Cert.algebraic_Kernel9Ideal_Reference9Ideal (hKernel9Ideal := Cert.Kernel9Ideal.Gen.facts)
    (hReference9Ideal := Cert.Reference9Ideal.Gen.facts) := by
  intro m g m' g' _ hargs
  refine ⟨fun c => prodArr (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1)), run_kernel m g,
    (θ_run Cert.Reference9Ideal.defs _ _).mono (fun _ h c => ⟨(h c).1.trans ?_, (h c).2⟩) (run_reference m' g')⟩
  obtain ⟨h0, h1⟩ := hargs c
  rw [h0, h1]

end Cert.Proof.Call9

end
-- ==== Proof.Call10.lean ====
/-
  The product that is the gradient of the weights of the attention's output: the transpose of the input times the output's gradient, over the
  extended reals.
-/
module

public import proofs.«01_k».proof.Defs
public import proofs.«01_k».proof.Proof.Sums
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Read
public import Idealize.ShloMosaic.Lib.Pipeline.ReadBack
public import Idealize.ShloMosaic.Lib.Quiescent

@[expose] public section

set_option maxRecDepth 16384

noncomputable section

namespace Cert.Proof.Call10

open Idealize.ShloMosaic Idealize.SL.Sem

/-- The operands, as arrays of extended reals. -/
abbrev OpX : Type := (⟨2, ![8192, 1024]⟩ : Shape).Idx → EReal
abbrev OpY : Type := (⟨2, ![8192, 2048]⟩ : Shape).Idx → EReal

/-- The product's element at row `i` and column `j`. -/
abbrev prod (X : OpX) (Y : OpY) (i : Fin 1024) (j : Fin 2048) : EReal := ∑ k : Fin 8192, X (ix2 k i) * Y (ix2 k j)

/-- The product as an array. -/
abbrev prodArr (X : OpX) (Y : OpY) : (⟨2, ![1024, 2048]⟩ : Shape).Idx → EReal := fun i => prod X Y (i 0) (i 1)

section Kernel

open Cert.Kernel10Ideal Cert.Kernel10Ideal.Gen

/-- Which block of each array a grid point works on; the innermost four points run over the contraction. -/
theorem index0 : ∀ t : Fin cfg0.N, win0_0.index t = ![t.val % 4, 0] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![0, t.val / 4 % 2] := (by decide +kernel : ∀ t : Fin grid0.N, _)
/-- The result's block is written back at the last of the four. -/
theorem last2 : ∀ t : Fin cfg0.N, win0_2.flush t = true → t.val % 4 = 3 := (by decide +kernel : ∀ t : Fin grid0.N, _)

theorem t_lt (t : Fin cfg0.N) : t.val < 8 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x1024 .f32) := by
  simp only [V, hostOps0]
  after_results_simp <;> rfl
theorem V_y (d : Dev nD) : V m d main_v1 = (m ((d.tc : Thread nD τ).loc main_arg1) : FVec Ideal S8192x2048 .f32) := by
  simp only [V, hostOps0]
  after_results_simp <;> rfl

/-- The operand blocks at a grid point. -/
theorem blk0 (d : Dev nD) (t : Fin cfg0.N) (a : Fin 1024) (k : Fin 2048) (p : Fin 1024) (l : Fin 8192)
    (hp : p.val = 1024 * (0) + a.val) (hl : l.val = 2048 * (t.val % 4) + k.val) :
    iblk m d 0 t (ix2 k a) = opX m d (ix2 l p) := by
  refine Eq.trans ?_ (congrFun (V_x m d) _)
  have bp : 1024 * (0) + a.val < 1024 := hp ▸ p.isLt
  have bl : 2048 * (t.val % 4) + k.val < 8192 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 1024) (k : Fin 2048) (q : Fin 2048) (l : Fin 8192)
    (hq : q.val = 1024 * (t.val / 4 % 2) + b.val) (hl : l.val = 2048 * (t.val % 4) + k.val) :
    iblk m d 1 t (ix2 k b) = opY m d (ix2 l q) := by
  refine Eq.trans ?_ (congrFun (V_y m d) _)
  have bq : 1024 * (t.val / 4 % 2) + b.val < 2048 := hq ▸ q.isLt
  have bl : 2048 * (t.val % 4) + k.val < 8192 := hl ▸ l.isLt
  obtain rfl : q = ⟨_, bq⟩ := Fin.ext hq
  obtain rfl : l = ⟨_, bl⟩ := Fin.ext hl
  blk_simp [iblk, index1]
  congr 1; blk_ext [index1]

/-- The product of two blocks. -/
theorem pay (x : Vec Ideal S2048x1024 .bf16) (y : Vec Ideal S2048x1024 .bf16) (a : Fin 1024) (b : Fin 1024) :
    k0_pay1 x y (ix2 a b) = ∑ k : Fin 2048, x (ix2 k a) * y (ix2 k b) := by
  pointwise [k0_pay1]
theorem pay_first (x : Vec Ideal S2048x1024 .bf16) (y : Vec Ideal S2048x1024 .bf16) (a : Fin 1024) (b : Fin 1024) :
    k0_pay2 x y (ix2 a b) = ∑ k : Fin 2048, x (ix2 k a) * y (ix2 k b) := by
  pointwise [k0_pay2]
  exact pay x y a b
theorem pay_next (x : Vec Ideal S2048x1024 .bf16) (y : Vec Ideal S2048x1024 .bf16) (s : Vec Ideal S1024x1024 .f32) (a : Fin 1024) (b : Fin 1024) :
    k0_pay3 x y s (ix2 a b) = s (ix2 a b) + ∑ k : Fin 2048, x (ix2 k a) * y (ix2 k b) := by
  pointwise [k0_pay3]
  exact congrArg _ (pay x y a b)
theorem pay_last (x : Vec Ideal S2048x1024 .bf16) (y : Vec Ideal S2048x1024 .bf16) (s : Vec Ideal S1024x1024 .f32) (a : Fin 1024) (b : Fin 1024) :
    k0_pay4 x y s (ix2 a b) = s (ix2 a b) + ∑ k : Fin 2048, x (ix2 k a) * y (ix2 k b) := by
  pointwise [k0_pay4]
  exact congrArg _ (pay x y a b)

/-- The blocks, as arrays of extended reals. -/
abbrev blkX (d : Dev nD) (t : Fin cfg0.N) : S2048x1024.Idx → EReal := iblk m d 0 t
abbrev blkY (d : Dev nD) (t : Fin cfg0.N) : S2048x1024.Idx → EReal := iblk m d 1 t

/-- A grid point's own partial sum. -/
abbrev part (d : Dev nD) (t : Fin cfg0.N) (a : Fin 1024) (b : Fin 1024) : EReal :=
  ∑ k : Fin 2048, blkX m d t (ix2 k a) * blkY m d t (ix2 k b)

/-- The running sum after the first point of a block, after the next two, and what the last one stores. -/
theorem first (d : Dev nD) (t : Fin cfg0.N) (h : t.val % 4 = 0) (a : Fin 1024) (b : Fin 1024) :
    (outsAt0 m d t.val t.isLt).2 (ix2 a b) = part m d t a b := by
  rw [outsAt0_A m d t h (by omega) (by omega)]
  frame_out
  exact pay_first _ _ a b
theorem next (d : Dev nD) (t : Fin cfg0.N) (h : 1 ≤ t.val % 4 ∧ t.val % 4 ≤ 2) (hn : t.val - 1 < cfg0.N) (a : Fin 1024) (b : Fin 1024) :
    (outsAt0 m d t.val t.isLt).2 (ix2 a b) = (outsAt0 m d (t.val - 1) hn).2 (ix2 a b) + part m d t a b := by
  rw [outsAt0_B m d t (by omega) h (by omega)]
  frame_out
  simp only [read_unread_whole]
  exact pay_next _ _ _ a b
theorem last (d : Dev nD) (t : Fin cfg0.N) (h : t.val % 4 = 3) (hn : t.val - 1 < cfg0.N) (a : Fin 1024) (b : Fin 1024) :
    (outsAt0 m d t.val t.isLt).1 (ix2 a b) = (outsAt0 m d (t.val - 1) hn).2 (ix2 a b) + part m d t a b := by
  rw [outsAt0_C m d t (by omega) (by omega) h]
  frame_out
  simp only [read_unread_whole]
  exact pay_last _ _ _ a b

/-- What is stored is the four points' partial sums, added up. -/
theorem stored (d : Dev nD) (t : Fin cfg0.N) (h : t.val % 4 = 3) (h3 : t.val - 1 - 1 - 1 < cfg0.N) (h2 : t.val - 1 - 1 < cfg0.N)
    (h1 : t.val - 1 < cfg0.N) (a : Fin 1024) (b : Fin 1024) :
    (outsAt0 m d t.val t.isLt).1 (ix2 a b)
      = part m d ⟨t.val - 1 - 1 - 1, h3⟩ a b + part m d ⟨t.val - 1 - 1, h2⟩ a b + part m d ⟨t.val - 1, h1⟩ a b + part m d t a b := by
  refine (last m d t h h1 a b).trans (congrArg (· + part m d t a b) ?_)
  refine (next m d ⟨t.val - 1, h1⟩ (by dsimp only; omega) h2 a b).trans (congrArg (· + part m d ⟨t.val - 1, h1⟩ a b) ?_)
  refine (next m d ⟨t.val - 1 - 1, h2⟩ (by dsimp only; omega) h3 a b).trans (congrArg (· + part m d ⟨t.val - 1 - 1, h2⟩ a b) ?_)
  exact first m d ⟨t.val - 1 - 1 - 1, h3⟩ (by dsimp only; omega) a b

/-- A term of the partial sum of the block's point number `s` is a term of the whole sum. -/
theorem term (d : Dev nD) (t u : Fin cfg0.N) (s : ℕ) (hs : s < 4) (hu : u.val = 4 * (t.val / 4) + s) (a : Fin 1024) (b : Fin 1024)
    (p : Fin 1024) (q : Fin 2048) (hp : p.val = 1024 * (0) + a.val) (hq : q.val = 1024 * (t.val / 4 % 2) + b.val)
    (k : Fin 2048) (h : s * 2048 + k.val < 8192) :
    blkX m d u (ix2 k a) * blkY m d u (ix2 k b) = opX m d (ix2 ⟨s * 2048 + k.val, h⟩ p) * opY m d (ix2 ⟨s * 2048 + k.val, h⟩ q) := by
  refine congrArg₂ (fun (x y : EReal) => x * y) (blk0 m d u a k p ⟨s * 2048 + k.val, h⟩ ?_ ?_) (blk1 m d u b k q ⟨s * 2048 + k.val, h⟩ ?_ ?_)
  all_goals first | omega | (dsimp only; omega)

/-- So it is the product at the block's place. -/
theorem stored_prod (d : Dev nD) (t : Fin cfg0.N) (h : t.val % 4 = 3) (a : Fin 1024) (b : Fin 1024)
    (p : Fin 1024) (q : Fin 2048) (hp : p.val = 1024 * (0) + a.val) (hq : q.val = 1024 * (t.val / 4 % 2) + b.val) :
    (outsAt0 m d t.val t.isLt).1 (ix2 a b) = prod (opX m d) (opY m d) p q := by
  have hN := t.isLt
  refine (stored m d t h (by omega) (by omega) (by omega) a b).trans ?_
  exact Sums.sum_four (n := 2048) rfl (fun l : Fin 8192 => opX m d (ix2 l p) * opY m d (ix2 l q)) _ _ _ _
    (term m d t _ 0 (by omega) (by dsimp only; omega) a b p q hp hq) (term m d t _ 1 (by omega) (by dsimp only; omega) a b p q hp hq)
    (term m d t _ 2 (by omega) (by dsimp only; omega) a b p q hp hq) (term m d t _ 3 (by omega) (by omega) a b p q hp hq)

/-- The result array. -/
theorem final (d : Dev nD) (i : S1024x2048.Idx) : ((dats m 0 d).arrAt 2 cfg0.N : S1024x2048.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]
  refine (congrArg _ (Sums.idx2 y).symm).trans (stored_prod m d t (last2 t hf) (y 0) (y 1) _ _ ?_ ?_)
  · blk_simp [index2]; omega
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference10Ideal Cert.Reference10Ideal.Gen

/-- The reference's result, element by element. -/
theorem ref_val (x : FVec Ideal S8192x1024 .f32) (y : FVec Ideal S8192x2048 .f32) : Read.val_main_v5 (F := Ideal) x y = prodArr x y := by
  funext i
  refine (Read.val_main_v3_apply (F := Ideal) x y i).trans ?_
  refine (Read.val_main_v2_apply x y _).trans (Finset.sum_congr rfl fun k _ => (mul_comm _ _).trans ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v5_eq _ _).trans (ref_val _ _)), (h c).2⟩) (Value.run (F := Ideal) m ρ)

end Reference

/-- The kernel ends, with its arguments unchanged. -/
theorem frame_kernel : Cert.quiescent_Kernel10 (hKernel10 := Cert.Kernel10.Gen.facts) := fun m ρ _ => Cert.Kernel10.Gen.frame m ρ
/-- So does the kernel over the extended reals. -/
theorem frame_kernelIdeal : Cert.quiescent_Kernel10Ideal (hKernel10Ideal := Cert.Kernel10Ideal.Gen.facts) := fun m ρ _ => Cert.Kernel10Ideal.Gen.frame m ρ
/-- So does the reference. -/
theorem frame_reference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)
/-- No operation is rewritten. -/
theorem preserves_kernel : Cert.preserves_Kernel10_Kernel10Ideal := trivial

/-- The kernel's result is the reference's. -/
theorem algebraic_kernel : Cert.algebraic_Kernel10Ideal_Reference10Ideal (hKernel10Ideal := Cert.Kernel10Ideal.Gen.facts)
    (hReference10Ideal := Cert.Reference10Ideal.Gen.facts) := by
  intro m g m' g' _ hargs
  refine ⟨fun c => prodArr (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1)), run_kernel m g,
    (θ_run Cert.Reference10Ideal.defs _ _).mono (fun _ h c => ⟨(h c).1.trans ?_, (h c).2⟩) (run_reference m' g')⟩
  obtain ⟨h0, h1⟩ := hargs c
  rw [h0, h1]

end Cert.Proof.Call10

end
-- ==== Proof.Call11.lean ====
/-
  The product that is the gradient of the weights of the per-layer embedding: the transpose of the input times the output's gradient, over the
  extended reals.
-/
module

public import proofs.«01_k».proof.Defs
public import proofs.«01_k».proof.Proof.Sums
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Read
public import Idealize.ShloMosaic.Lib.Pipeline.ReadBack
public import Idealize.ShloMosaic.Lib.Quiescent

@[expose] public section

set_option maxRecDepth 16384

noncomputable section

namespace Cert.Proof.Call11

open Idealize.ShloMosaic Idealize.SL.Sem

/-- The operands, as arrays of extended reals. -/
abbrev OpX : Type := (⟨2, ![8192, 256]⟩ : Shape).Idx → EReal
abbrev OpY : Type := (⟨2, ![8192, 2048]⟩ : Shape).Idx → EReal

/-- The product's element at row `i` and column `j`. -/
abbrev prod (X : OpX) (Y : OpY) (i : Fin 256) (j : Fin 2048) : EReal := ∑ k : Fin 8192, X (ix2 k i) * Y (ix2 k j)

/-- The product as an array. -/
abbrev prodArr (X : OpX) (Y : OpY) : (⟨2, ![256, 2048]⟩ : Shape).Idx → EReal := fun i => prod X Y (i 0) (i 1)

section Kernel

open Cert.Kernel11Ideal Cert.Kernel11Ideal.Gen

/-- Which block of each array a grid point works on; the innermost four points run over the contraction. -/
theorem index0 : ∀ t : Fin cfg0.N, win0_0.index t = ![t.val % 4, 0] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![0, t.val / 4 % 2] := (by decide +kernel : ∀ t : Fin grid0.N, _)
/-- The result's block is written back at the last of the four. -/
theorem last2 : ∀ t : Fin cfg0.N, win0_2.flush t = true → t.val % 4 = 3 := (by decide +kernel : ∀ t : Fin grid0.N, _)

theorem t_lt (t : Fin cfg0.N) : t.val < 8 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_arg0 = (m ((d.tc : Thread nD τ).loc main_arg0) : FVec Ideal S8192x256 .f32) := by
  simp only [V, hostOps0]
  after_results_simp <;> rfl
theorem V_y (d : Dev nD) : V m d main_v0 = (m ((d.tc : Thread nD τ).loc main_arg1) : FVec Ideal S8192x2048 .f32) := by
  simp only [V, hostOps0]
  after_results_simp <;> rfl

/-- The operand blocks at a grid point. -/
theorem blk0 (d : Dev nD) (t : Fin cfg0.N) (a : Fin 256) (k : Fin 2048) (p : Fin 256) (l : Fin 8192)
    (hp : p.val = 256 * (0) + a.val) (hl : l.val = 2048 * (t.val % 4) + k.val) :
    iblk m d 0 t (ix2 k a) = opX m d (ix2 l p) := by
  refine Eq.trans ?_ (congrFun (V_x m d) _)
  have bp : 256 * (0) + a.val < 256 := hp ▸ p.isLt
  have bl : 2048 * (t.val % 4) + k.val < 8192 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 1024) (k : Fin 2048) (q : Fin 2048) (l : Fin 8192)
    (hq : q.val = 1024 * (t.val / 4 % 2) + b.val) (hl : l.val = 2048 * (t.val % 4) + k.val) :
    iblk m d 1 t (ix2 k b) = opY m d (ix2 l q) := by
  refine Eq.trans ?_ (congrFun (V_y m d) _)
  have bq : 1024 * (t.val / 4 % 2) + b.val < 2048 := hq ▸ q.isLt
  have bl : 2048 * (t.val % 4) + k.val < 8192 := hl ▸ l.isLt
  obtain rfl : q = ⟨_, bq⟩ := Fin.ext hq
  obtain rfl : l = ⟨_, bl⟩ := Fin.ext hl
  blk_simp [iblk, index1]
  congr 1; blk_ext [index1]

/-- The product of two blocks. -/
theorem pay (x : Vec Ideal S2048x256 .f32) (y : Vec Ideal S2048x1024 .bf16) (a : Fin 256) (b : Fin 1024) :
    k0_pay1 x y (ix2 a b) = ∑ k : Fin 2048, x (ix2 k a) * y (ix2 k b) := by
  pointwise [k0_pay1]
theorem pay_first (x : Vec Ideal S2048x256 .f32) (y : Vec Ideal S2048x1024 .bf16) (a : Fin 256) (b : Fin 1024) :
    k0_pay2 x y (ix2 a b) = ∑ k : Fin 2048, x (ix2 k a) * y (ix2 k b) := by
  pointwise [k0_pay2]
  exact pay x y a b
theorem pay_next (x : Vec Ideal S2048x256 .f32) (y : Vec Ideal S2048x1024 .bf16) (s : Vec Ideal S256x1024 .f32) (a : Fin 256) (b : Fin 1024) :
    k0_pay3 x y s (ix2 a b) = s (ix2 a b) + ∑ k : Fin 2048, x (ix2 k a) * y (ix2 k b) := by
  pointwise [k0_pay3]
  exact congrArg _ (pay x y a b)
theorem pay_last (x : Vec Ideal S2048x256 .f32) (y : Vec Ideal S2048x1024 .bf16) (s : Vec Ideal S256x1024 .f32) (a : Fin 256) (b : Fin 1024) :
    k0_pay4 x y s (ix2 a b) = s (ix2 a b) + ∑ k : Fin 2048, x (ix2 k a) * y (ix2 k b) := by
  pointwise [k0_pay4]
  exact congrArg _ (pay x y a b)

/-- The blocks, as arrays of extended reals. -/
abbrev blkX (d : Dev nD) (t : Fin cfg0.N) : S2048x256.Idx → EReal := iblk m d 0 t
abbrev blkY (d : Dev nD) (t : Fin cfg0.N) : S2048x1024.Idx → EReal := iblk m d 1 t

/-- A grid point's own partial sum. -/
abbrev part (d : Dev nD) (t : Fin cfg0.N) (a : Fin 256) (b : Fin 1024) : EReal :=
  ∑ k : Fin 2048, blkX m d t (ix2 k a) * blkY m d t (ix2 k b)

/-- The running sum after the first point of a block, after the next two, and what the last one stores. -/
theorem first (d : Dev nD) (t : Fin cfg0.N) (h : t.val % 4 = 0) (a : Fin 256) (b : Fin 1024) :
    (outsAt0 m d t.val t.isLt).2 (ix2 a b) = part m d t a b := by
  rw [outsAt0_A m d t h (by omega) (by omega)]
  frame_out
  exact pay_first _ _ a b
theorem next (d : Dev nD) (t : Fin cfg0.N) (h : 1 ≤ t.val % 4 ∧ t.val % 4 ≤ 2) (hn : t.val - 1 < cfg0.N) (a : Fin 256) (b : Fin 1024) :
    (outsAt0 m d t.val t.isLt).2 (ix2 a b) = (outsAt0 m d (t.val - 1) hn).2 (ix2 a b) + part m d t a b := by
  rw [outsAt0_B m d t (by omega) h (by omega)]
  frame_out
  simp only [read_unread_whole]
  exact pay_next _ _ _ a b
theorem last (d : Dev nD) (t : Fin cfg0.N) (h : t.val % 4 = 3) (hn : t.val - 1 < cfg0.N) (a : Fin 256) (b : Fin 1024) :
    (outsAt0 m d t.val t.isLt).1 (ix2 a b) = (outsAt0 m d (t.val - 1) hn).2 (ix2 a b) + part m d t a b := by
  rw [outsAt0_C m d t (by omega) (by omega) h]
  frame_out
  simp only [read_unread_whole]
  exact pay_last _ _ _ a b

/-- What is stored is the four points' partial sums, added up. -/
theorem stored (d : Dev nD) (t : Fin cfg0.N) (h : t.val % 4 = 3) (h3 : t.val - 1 - 1 - 1 < cfg0.N) (h2 : t.val - 1 - 1 < cfg0.N)
    (h1 : t.val - 1 < cfg0.N) (a : Fin 256) (b : Fin 1024) :
    (outsAt0 m d t.val t.isLt).1 (ix2 a b)
      = part m d ⟨t.val - 1 - 1 - 1, h3⟩ a b + part m d ⟨t.val - 1 - 1, h2⟩ a b + part m d ⟨t.val - 1, h1⟩ a b + part m d t a b := by
  refine (last m d t h h1 a b).trans (congrArg (· + part m d t a b) ?_)
  refine (next m d ⟨t.val - 1, h1⟩ (by dsimp only; omega) h2 a b).trans (congrArg (· + part m d ⟨t.val - 1, h1⟩ a b) ?_)
  refine (next m d ⟨t.val - 1 - 1, h2⟩ (by dsimp only; omega) h3 a b).trans (congrArg (· + part m d ⟨t.val - 1 - 1, h2⟩ a b) ?_)
  exact first m d ⟨t.val - 1 - 1 - 1, h3⟩ (by dsimp only; omega) a b

/-- A term of the partial sum of the block's point number `s` is a term of the whole sum. -/
theorem term (d : Dev nD) (t u : Fin cfg0.N) (s : ℕ) (hs : s < 4) (hu : u.val = 4 * (t.val / 4) + s) (a : Fin 256) (b : Fin 1024)
    (p : Fin 256) (q : Fin 2048) (hp : p.val = 256 * (0) + a.val) (hq : q.val = 1024 * (t.val / 4 % 2) + b.val)
    (k : Fin 2048) (h : s * 2048 + k.val < 8192) :
    blkX m d u (ix2 k a) * blkY m d u (ix2 k b) = opX m d (ix2 ⟨s * 2048 + k.val, h⟩ p) * opY m d (ix2 ⟨s * 2048 + k.val, h⟩ q) := by
  refine congrArg₂ (fun (x y : EReal) => x * y) (blk0 m d u a k p ⟨s * 2048 + k.val, h⟩ ?_ ?_) (blk1 m d u b k q ⟨s * 2048 + k.val, h⟩ ?_ ?_)
  all_goals first | omega | (dsimp only; omega)

/-- So it is the product at the block's place. -/
theorem stored_prod (d : Dev nD) (t : Fin cfg0.N) (h : t.val % 4 = 3) (a : Fin 256) (b : Fin 1024)
    (p : Fin 256) (q : Fin 2048) (hp : p.val = 256 * (0) + a.val) (hq : q.val = 1024 * (t.val / 4 % 2) + b.val) :
    (outsAt0 m d t.val t.isLt).1 (ix2 a b) = prod (opX m d) (opY m d) p q := by
  have hN := t.isLt
  refine (stored m d t h (by omega) (by omega) (by omega) a b).trans ?_
  exact Sums.sum_four (n := 2048) rfl (fun l : Fin 8192 => opX m d (ix2 l p) * opY m d (ix2 l q)) _ _ _ _
    (term m d t _ 0 (by omega) (by dsimp only; omega) a b p q hp hq) (term m d t _ 1 (by omega) (by dsimp only; omega) a b p q hp hq)
    (term m d t _ 2 (by omega) (by dsimp only; omega) a b p q hp hq) (term m d t _ 3 (by omega) (by omega) a b p q hp hq)

/-- The result array. -/
theorem final (d : Dev nD) (i : S256x2048.Idx) : ((dats m 0 d).arrAt 2 cfg0.N : S256x2048.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]
  refine (congrArg _ (Sums.idx2 y).symm).trans (stored_prod m d t (last2 t hf) (y 0) (y 1) _ _ ?_ ?_)
  · blk_simp [index2]; omega
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v1) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference11Ideal Cert.Reference11Ideal.Gen

/-- The reference's result, element by element. -/
theorem ref_val (x : FVec Ideal S8192x256 .f32) (y : FVec Ideal S8192x2048 .f32) : Read.val_main_v5 (F := Ideal) x y = prodArr x y := by
  funext i
  refine (Read.val_main_v3_apply (F := Ideal) x y i).trans ?_
  refine (Read.val_main_v2_apply x y _).trans (Finset.sum_congr rfl fun k _ => (mul_comm _ _).trans ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v5_eq _ _).trans (ref_val _ _)), (h c).2⟩) (Value.run (F := Ideal) m ρ)

end Reference

/-- The kernel ends, with its arguments unchanged. -/
theorem frame_kernel : Cert.quiescent_Kernel11 (hKernel11 := Cert.Kernel11.Gen.facts) := fun m ρ _ => Cert.Kernel11.Gen.frame m ρ
/-- So does the kernel over the extended reals. -/
theorem frame_kernelIdeal : Cert.quiescent_Kernel11Ideal (hKernel11Ideal := Cert.Kernel11Ideal.Gen.facts) := fun m ρ _ => Cert.Kernel11Ideal.Gen.frame m ρ
/-- So does the reference. -/
theorem frame_reference : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)
/-- No operation is rewritten. -/
theorem preserves_kernel : Cert.preserves_Kernel11_Kernel11Ideal := trivial

/-- The kernel's result is the reference's. -/
theorem algebraic_kernel : Cert.algebraic_Kernel11Ideal_Reference11Ideal (hKernel11Ideal := Cert.Kernel11Ideal.Gen.facts)
    (hReference11Ideal := Cert.Reference11Ideal.Gen.facts) := by
  intro m g m' g' _ hargs
  refine ⟨fun c => prodArr (m ((c.tc : Thread Cert.Kernel11Ideal.nD Cert.Kernel11Ideal.τ).loc Cert.Kernel11Ideal.main_arg0))
    (m ((c.tc : Thread Cert.Kernel11Ideal.nD Cert.Kernel11Ideal.τ).loc Cert.Kernel11Ideal.main_arg1)), run_kernel m g,
    (θ_run Cert.Reference11Ideal.defs _ _).mono (fun _ h c => ⟨(h c).1.trans ?_, (h c).2⟩) (run_reference m' g')⟩
  obtain ⟨h0, h1⟩ := hargs c
  rw [h0, h1]

end Cert.Proof.Call11

end
-- ==== Proof.Call12.lean ====
/-
  The product that is the gradient of the per-layer gate's input: the output's gradient times the transpose of the weights, over the extended
  reals.
-/
module

public import proofs.«01_k».proof.Defs
public import proofs.«01_k».proof.Proof.Sums
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Read
public import Idealize.ShloMosaic.Lib.Quiescent

@[expose] public section

set_option maxRecDepth 16384

noncomputable section

namespace Cert.Proof.Call12

open Idealize.ShloMosaic Idealize.SL.Sem

/-- The operands, as arrays of extended reals. -/
abbrev OpX : Type := (⟨2, ![8192, 2048]⟩ : Shape).Idx → EReal
abbrev OpY : Type := (⟨2, ![2048, 2048]⟩ : Shape).Idx → EReal

/-- The product's element at row `i` and column `j`. -/
abbrev prod (X : OpX) (Y : OpY) (i : Fin 8192) (j : Fin 2048) : EReal := ∑ k : Fin 2048, X (ix2 i k) * Y (ix2 j k)

/-- The product as an array. -/
abbrev prodArr (X : OpX) (Y : OpY) : (⟨2, ![8192, 2048]⟩ : Shape).Idx → EReal := fun i => prod X Y (i 0) (i 1)

section Kernel

open Cert.Kernel12Ideal Cert.Kernel12Ideal.Gen

/-- Which block of each array a grid point works on. -/
theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)
theorem t_lt (t : Fin cfg0.N) : t.val < 16 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S2048x2048 .f32) := by
  simp only [V, hostOps0]
  after_results_simp <;> rfl

/-- The operand blocks at a grid point. -/
theorem blk0 (d : Dev nD) (t : Fin cfg0.N) (a : Fin 1024) (k : Fin 2048) (p : Fin 8192) (l : Fin 2048)
    (hp : p.val = 1024 * (t.val / 2) + a.val) (hl : l.val = k.val) :
    iblk m d 0 t (ix2 a k) = opX m d (ix2 p l) := by
  refine Eq.trans ?_ (congrFun (V_x m d) _)
  have bp : 1024 * (t.val / 2) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 2048) (q : Fin 2048) (l : Fin 2048)
    (hq : q.val = 1024 * (t.val % 2) + b.val) (hl : l.val = k.val) :
    iblk m d 1 t (ix2 b k) = opY m d (ix2 q l) := by
  refine Eq.trans ?_ (congrFun (V_y m d) _)
  have bq : 1024 * (t.val % 2) + b.val < 2048 := hq ▸ q.isLt
  obtain rfl : q = ⟨_, bq⟩ := Fin.ext hq
  obtain rfl : l = k := Fin.ext hl
  blk_simp [iblk, index1]
  congr 1; blk_ext [index1]

/-- What the body stores is the product of its two blocks. -/
theorem pay (x : Vec Ideal S1024x2048 .bf16) (y : Vec Ideal S1024x2048 .bf16) (a : Fin 1024) (b : Fin 1024) :
    k0_pay1 x y (ix2 a b) = ∑ k : Fin 2048, x (ix2 a k) * y (ix2 b k) := by
  pointwise [k0_pay1]

/-- The blocks, as arrays of extended reals. -/
abbrev blkX (d : Dev nD) (t : Fin cfg0.N) : S1024x2048.Idx → EReal := iblk m d 0 t
abbrev blkY (d : Dev nD) (t : Fin cfg0.N) : S1024x2048.Idx → EReal := iblk m d 1 t

/-- So it is the whole product at the block's place. -/
theorem stored_prod (d : Dev nD) (t : Fin cfg0.N) (a : Fin 1024) (b : Fin 1024)
    (p : Fin 8192) (q : Fin 2048) (hp : p.val = 1024 * (t.val / 2) + a.val) (hq : q.val = 1024 * (t.val % 2) + b.val) :
    k0_pay1 (F := Ideal) (blkX m d t) (blkY m d t) (ix2 a b) = prod (opX m d) (opY m d) p q := by
  refine (pay _ _ a b).trans ?_
  exact Finset.sum_congr rfl fun k _ => congrArg₂ (fun (x y : EReal) => x * y) (blk0 m d t a k p k hp rfl) (blk1 m d t b k q k hq rfl)

/-- The result array. -/
theorem final (d : Dev nD) (i : S8192x2048.Idx) : ((dats m 0 d).arrAt 2 cfg0.N : S8192x2048.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference12Ideal Cert.Reference12Ideal.Gen

/-- The reference's result, element by element. -/
theorem ref_val (x : FVec Ideal S8192x2048 .f32) (y : FVec Ideal S2048x2048 .f32) : Read.val_main_v5 (F := Ideal) x y = prodArr x y := by
  funext i
  refine (Read.val_main_v4_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v5_eq _ _).trans (ref_val _ _)), (h c).2⟩) (Value.run (F := Ideal) m ρ)

end Reference

/-- The kernel ends, with its arguments unchanged. -/
theorem frame_kernel : Cert.quiescent_Kernel12 (hKernel12 := Cert.Kernel12.Gen.facts) := fun m ρ _ => Cert.Kernel12.Gen.frame m ρ
/-- So does the kernel over the extended reals. -/
theorem frame_kernelIdeal : Cert.quiescent_Kernel12Ideal (hKernel12Ideal := Cert.Kernel12Ideal.Gen.facts) := fun m ρ _ => Cert.Kernel12Ideal.Gen.frame m ρ
/-- So does the reference. -/
theorem frame_reference : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)
/-- No operation is rewritten. -/
theorem preserves_kernel : Cert.preserves_Kernel12_Kernel12Ideal := trivial

/-- The kernel's result is the reference's. -/
theorem algebraic_kernel : Cert.algebraic_Kernel12Ideal_Reference12Ideal (hKernel12Ideal := Cert.Kernel12Ideal.Gen.facts)
    (hReference12Ideal := Cert.Reference12Ideal.Gen.facts) := by
  intro m g m' g' _ hargs
  refine ⟨fun c => prodArr (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1)), run_kernel m g,
    (θ_run Cert.Reference12Ideal.defs _ _).mono (fun _ h c => ⟨(h c).1.trans ?_, (h c).2⟩) (run_reference m' g')⟩
  obtain ⟨h0, h1⟩ := hargs c
  rw [h0, h1]

end Cert.Proof.Call12

end
-- ==== Proof.Call13.lean ====
/-
  The product that is the gradient of the convolution branch before its output product: the output's gradient times the transpose of the weights, over the extended
  reals.
-/
module

public import proofs.«01_k».proof.Defs
public import proofs.«01_k».proof.Proof.Sums
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Read
public import Idealize.ShloMosaic.Lib.Quiescent

@[expose] public section

set_option maxRecDepth 16384

noncomputable section

namespace Cert.Proof.Call13

open Idealize.ShloMosaic Idealize.SL.Sem

/-- The operands, as arrays of extended reals. -/
abbrev OpX : Type := (⟨2, ![8192, 2048]⟩ : Shape).Idx → EReal
abbrev OpY : Type := (⟨2, ![1024, 2048]⟩ : Shape).Idx → EReal

/-- The product's element at row `i` and column `j`. -/
abbrev prod (X : OpX) (Y : OpY) (i : Fin 8192) (j : Fin 1024) : EReal := ∑ k : Fin 2048, X (ix2 i k) * Y (ix2 j k)

/-- The product as an array. -/
abbrev prodArr (X : OpX) (Y : OpY) : (⟨2, ![8192, 1024]⟩ : Shape).Idx → EReal := fun i => prod X Y (i 0) (i 1)

section Kernel

open Cert.Kernel13Ideal Cert.Kernel13Ideal.Gen

/-- Which block of each array a grid point works on. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem t_lt (t : Fin cfg0.N) : t.val < 8 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S1024x2048 .f32) := by
  simp only [V, hostOps0]
  after_results_simp <;> rfl

/-- The operand blocks at a grid point. -/
theorem blk0 (d : Dev nD) (t : Fin cfg0.N) (a : Fin 1024) (k : Fin 2048) (p : Fin 8192) (l : Fin 2048)
    (hp : p.val = 1024 * (t.val) + a.val) (hl : l.val = k.val) :
    iblk m d 0 t (ix2 a k) = opX m d (ix2 p l) := by
  refine Eq.trans ?_ (congrFun (V_x m d) _)
  have bp : 1024 * (t.val) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 2048) (q : Fin 1024) (l : Fin 2048)
    (hq : q.val = 1024 * (0) + b.val) (hl : l.val = k.val) :
    iblk m d 1 t (ix2 b k) = opY m d (ix2 q l) := by
  refine Eq.trans ?_ (congrFun (V_y m d) _)
  have bq : 1024 * (0) + b.val < 1024 := hq ▸ q.isLt
  obtain rfl : q = ⟨_, bq⟩ := Fin.ext hq
  obtain rfl : l = k := Fin.ext hl
  blk_simp [iblk, index1]
  congr 1; blk_ext [index1]

/-- What the body stores is the product of its two blocks. -/
theorem pay (x : Vec Ideal S1024x2048 .bf16) (y : Vec Ideal S1024x2048 .bf16) (a : Fin 1024) (b : Fin 1024) :
    k0_pay1 x y (ix2 a b) = ∑ k : Fin 2048, x (ix2 a k) * y (ix2 b k) := by
  pointwise [k0_pay1]

/-- The blocks, as arrays of extended reals. -/
abbrev blkX (d : Dev nD) (t : Fin cfg0.N) : S1024x2048.Idx → EReal := iblk m d 0 t
abbrev blkY (d : Dev nD) (t : Fin cfg0.N) : S1024x2048.Idx → EReal := iblk m d 1 t

/-- So it is the whole product at the block's place. -/
theorem stored_prod (d : Dev nD) (t : Fin cfg0.N) (a : Fin 1024) (b : Fin 1024)
    (p : Fin 8192) (q : Fin 1024) (hp : p.val = 1024 * (t.val) + a.val) (hq : q.val = 1024 * (0) + b.val) :
    k0_pay1 (F := Ideal) (blkX m d t) (blkY m d t) (ix2 a b) = prod (opX m d) (opY m d) p q := by
  refine (pay _ _ a b).trans ?_
  exact Finset.sum_congr rfl fun k _ => congrArg₂ (fun (x y : EReal) => x * y) (blk0 m d t a k p k hp rfl) (blk1 m d t b k q k hq rfl)

/-- The result array. -/
theorem final (d : Dev nD) (i : S8192x1024.Idx) : ((dats m 0 d).arrAt 2 cfg0.N : S8192x1024.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; omega

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference13Ideal Cert.Reference13Ideal.Gen

/-- The reference's result, element by element. -/
theorem ref_val (x : FVec Ideal S8192x2048 .f32) (y : FVec Ideal S1024x2048 .f32) : Read.val_main_v5 (F := Ideal) x y = prodArr x y := by
  funext i
  refine (Read.val_main_v4_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v5_eq _ _).trans (ref_val _ _)), (h c).2⟩) (Value.run (F := Ideal) m ρ)

end Reference

/-- The kernel ends, with its arguments unchanged. -/
theorem frame_kernel : Cert.quiescent_Kernel13 (hKernel13 := Cert.Kernel13.Gen.facts) := fun m ρ _ => Cert.Kernel13.Gen.frame m ρ
/-- So does the kernel over the extended reals. -/
theorem frame_kernelIdeal : Cert.quiescent_Kernel13Ideal (hKernel13Ideal := Cert.Kernel13Ideal.Gen.facts) := fun m ρ _ => Cert.Kernel13Ideal.Gen.frame m ρ
/-- So does the reference. -/
theorem frame_reference : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)
/-- No operation is rewritten. -/
theorem preserves_kernel : Cert.preserves_Kernel13_Kernel13Ideal := trivial

/-- The kernel's result is the reference's. -/
theorem algebraic_kernel : Cert.algebraic_Kernel13Ideal_Reference13Ideal (hKernel13Ideal := Cert.Kernel13Ideal.Gen.facts)
    (hReference13Ideal := Cert.Reference13Ideal.Gen.facts) := by
  intro m g m' g' _ hargs
  refine ⟨fun c => prodArr (m ((c.tc : Thread Cert.Kernel13Ideal.nD Cert.Kernel13Ideal.τ).loc Cert.Kernel13Ideal.main_arg0))
    (m ((c.tc : Thread Cert.Kernel13Ideal.nD Cert.Kernel13Ideal.τ).loc Cert.Kernel13Ideal.main_arg1)), run_kernel m g,
    (θ_run Cert.Reference13Ideal.defs _ _).mono (fun _ h c => ⟨(h c).1.trans ?_, (h c).2⟩) (run_reference m' g')⟩
  obtain ⟨h0, h1⟩ := hargs c
  rw [h0, h1]

end Cert.Proof.Call13

end
-- ==== Proof.Call14.lean ====
/-
  The product that is the gradient of the attention's output: the output's gradient times the transpose of the weights, over the extended
  reals.
-/
module

public import proofs.«01_k».proof.Defs
public import proofs.«01_k».proof.Proof.Sums
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Read
public import Idealize.ShloMosaic.Lib.Quiescent

@[expose] public section

set_option maxRecDepth 16384

noncomputable section

namespace Cert.Proof.Call14

open Idealize.ShloMosaic Idealize.SL.Sem

/-- The operands, as arrays of extended reals. -/
abbrev OpX : Type := (⟨2, ![8192, 2048]⟩ : Shape).Idx → EReal
abbrev OpY : Type := (⟨2, ![1024, 2048]⟩ : Shape).Idx → EReal

/-- The product's element at row `i` and column `j`. -/
abbrev prod (X : OpX) (Y : OpY) (i : Fin 8192) (j : Fin 1024) : EReal := ∑ k : Fin 2048, X (ix2 i k) * Y (ix2 j k)

/-- The product as an array. -/
abbrev prodArr (X : OpX) (Y : OpY) : (⟨2, ![8192, 1024]⟩ : Shape).Idx → EReal := fun i => prod X Y (i 0) (i 1)

section Kernel

open Cert.Kernel14Ideal Cert.Kernel14Ideal.Gen

/-- Which block of each array a grid point works on. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem t_lt (t : Fin cfg0.N) : t.val < 8 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S1024x2048 .f32) := by
  simp only [V, hostOps0]
  after_results_simp <;> rfl

/-- The operand blocks at a grid point. -/
theorem blk0 (d : Dev nD) (t : Fin cfg0.N) (a : Fin 1024) (k : Fin 2048) (p : Fin 8192) (l : Fin 2048)
    (hp : p.val = 1024 * (t.val) + a.val) (hl : l.val = k.val) :
    iblk m d 0 t (ix2 a k) = opX m d (ix2 p l) := by
  refine Eq.trans ?_ (congrFun (V_x m d) _)
  have bp : 1024 * (t.val) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 2048) (q : Fin 1024) (l : Fin 2048)
    (hq : q.val = 1024 * (0) + b.val) (hl : l.val = k.val) :
    iblk m d 1 t (ix2 b k) = opY m d (ix2 q l) := by
  refine Eq.trans ?_ (congrFun (V_y m d) _)
  have bq : 1024 * (0) + b.val < 1024 := hq ▸ q.isLt
  obtain rfl : q = ⟨_, bq⟩ := Fin.ext hq
  obtain rfl : l = k := Fin.ext hl
  blk_simp [iblk, index1]
  congr 1; blk_ext [index1]

/-- What the body stores is the product of its two blocks. -/
theorem pay (x : Vec Ideal S1024x2048 .bf16) (y : Vec Ideal S1024x2048 .bf16) (a : Fin 1024) (b : Fin 1024) :
    k0_pay1 x y (ix2 a b) = ∑ k : Fin 2048, x (ix2 a k) * y (ix2 b k) := by
  pointwise [k0_pay1]

/-- The blocks, as arrays of extended reals. -/
abbrev blkX (d : Dev nD) (t : Fin cfg0.N) : S1024x2048.Idx → EReal := iblk m d 0 t
abbrev blkY (d : Dev nD) (t : Fin cfg0.N) : S1024x2048.Idx → EReal := iblk m d 1 t

/-- So it is the whole product at the block's place. -/
theorem stored_prod (d : Dev nD) (t : Fin cfg0.N) (a : Fin 1024) (b : Fin 1024)
    (p : Fin 8192) (q : Fin 1024) (hp : p.val = 1024 * (t.val) + a.val) (hq : q.val = 1024 * (0) + b.val) :
    k0_pay1 (F := Ideal) (blkX m d t) (blkY m d t) (ix2 a b) = prod (opX m d) (opY m d) p q := by
  refine (pay _ _ a b).trans ?_
  exact Finset.sum_congr rfl fun k _ => congrArg₂ (fun (x y : EReal) => x * y) (blk0 m d t a k p k hp rfl) (blk1 m d t b k q k hq rfl)

/-- The result array. -/
theorem final (d : Dev nD) (i : S8192x1024.Idx) : ((dats m 0 d).arrAt 2 cfg0.N : S8192x1024.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; omega

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference14Ideal Cert.Reference14Ideal.Gen

/-- The reference's result, element by element. -/
theorem ref_val (x : FVec Ideal S8192x2048 .f32) (y : FVec Ideal S1024x2048 .f32) : Read.val_main_v4 (F := Ideal) x y = prodArr x y := by
  funext i
  refine (Read.val_main_v4_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v4_eq _ _).trans (ref_val _ _)), (h c).2⟩) (Value.run (F := Ideal) m ρ)

end Reference

/-- The kernel ends, with its arguments unchanged. -/
theorem frame_kernel : Cert.quiescent_Kernel14 (hKernel14 := Cert.Kernel14.Gen.facts) := fun m ρ _ => Cert.Kernel14.Gen.frame m ρ
/-- So does the kernel over the extended reals. -/
theorem frame_kernelIdeal : Cert.quiescent_Kernel14Ideal (hKernel14Ideal := Cert.Kernel14Ideal.Gen.facts) := fun m ρ _ => Cert.Kernel14Ideal.Gen.frame m ρ
/-- So does the reference. -/
theorem frame_reference : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)
/-- No operation is rewritten. -/
theorem preserves_kernel : Cert.preserves_Kernel14_Kernel14Ideal := trivial

/-- The kernel's result is the reference's. -/
theorem algebraic_kernel : Cert.algebraic_Kernel14Ideal_Reference14Ideal (hKernel14Ideal := Cert.Kernel14Ideal.Gen.facts)
    (hReference14Ideal := Cert.Reference14Ideal.Gen.facts) := by
  intro m g m' g' _ hargs
  refine ⟨fun c => prodArr (m ((c.tc : Thread Cert.Kernel14Ideal.nD Cert.Kernel14Ideal.τ).loc Cert.Kernel14Ideal.main_arg0))
    (m ((c.tc : Thread Cert.Kernel14Ideal.nD Cert.Kernel14Ideal.τ).loc Cert.Kernel14Ideal.main_arg1)), run_kernel m g,
    (θ_run Cert.Reference14Ideal.defs _ _).mono (fun _ h c => ⟨(h c).1.trans ?_, (h c).2⟩) (run_reference m' g')⟩
  obtain ⟨h0, h1⟩ := hargs c
  rw [h0, h1]

end Cert.Proof.Call14

end
-- ==== Proof.Call15.lean ====
/-
  The gradient of the input projection's input in the convolution branch: the output's gradient times the transpose of the weights,
  added to the part before it, over the extended reals.
-/
module

public import proofs.«01_k».proof.Defs
public import proofs.«01_k».proof.Proof.Sums
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Read
public import Idealize.ShloMosaic.Lib.Quiescent

@[expose] public section

set_option maxRecDepth 16384

noncomputable section

namespace Cert.Proof.Call15

open Idealize.ShloMosaic Idealize.SL.Sem

/-- The operands, as arrays of extended reals. -/
abbrev OpX : Type := (⟨2, ![8192, 2048]⟩ : Shape).Idx → EReal
abbrev OpY : Type := (⟨2, ![2048, 2048]⟩ : Shape).Idx → EReal
abbrev OpZ : Type := (⟨2, ![8192, 2048]⟩ : Shape).Idx → EReal

/-- The element at row `i` and column `j`: the product's, and the added array's. -/
abbrev prod (X : OpX) (Y : OpY) (Z : OpZ) (i : Fin 8192) (j : Fin 2048) : EReal := (∑ k : Fin 2048, X (ix2 i k) * Y (ix2 j k)) + Z (ix2 i j)

/-- The sum as an array. -/
abbrev prodArr (X : OpX) (Y : OpY) (Z : OpZ) : (⟨2, ![8192, 2048]⟩ : Shape).Idx → EReal := fun i => prod X Y Z (i 0) (i 1)

section Kernel

open Cert.Kernel15Ideal Cert.Kernel15Ideal.Gen

/-- Which block of each array a grid point works on. -/
theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)
theorem index3 : ∀ t : Fin cfg0.N, win0_3.index t = ![t.val / 2, t.val % 2] := (by decide +kernel : ∀ t : Fin grid0.N, _)
theorem t_lt (t : Fin cfg0.N) : t.val < 16 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)
abbrev opZ (d : Dev nD) : OpZ := m ((d.tc : Thread nD τ).loc main_arg2)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S2048x2048 .f32) := by
  simp only [V, hostOps0]
  after_results_simp <;> rfl
theorem V_z (d : Dev nD) : V m d main_arg2 = (m ((d.tc : Thread nD τ).loc main_arg2) : FVec Ideal S8192x2048 .f32) := by
  simp only [V, hostOps0]
  after_results_simp <;> rfl

/-- The operand blocks at a grid point. -/
theorem blk0 (d : Dev nD) (t : Fin cfg0.N) (a : Fin 1024) (k : Fin 2048) (p : Fin 8192) (l : Fin 2048)
    (hp : p.val = 1024 * (t.val / 2) + a.val) (hl : l.val = k.val) :
    iblk m d 0 t (ix2 a k) = opX m d (ix2 p l) := by
  refine Eq.trans ?_ (congrFun (V_x m d) _)
  have bp : 1024 * (t.val / 2) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 2048) (q : Fin 2048) (l : Fin 2048)
    (hq : q.val = 1024 * (t.val % 2) + b.val) (hl : l.val = k.val) :
    iblk m d 1 t (ix2 b k) = opY m d (ix2 q l) := by
  refine Eq.trans ?_ (congrFun (V_y m d) _)
  have bq : 1024 * (t.val % 2) + b.val < 2048 := hq ▸ q.isLt
  obtain rfl : q = ⟨_, bq⟩ := Fin.ext hq
  obtain rfl : l = k := Fin.ext hl
  blk_simp [iblk, index1]
  congr 1; blk_ext [index1]

theorem blk2 (d : Dev nD) (t : Fin cfg0.N) (a : Fin 1024) (b : Fin 1024) (p : Fin 8192) (q : Fin 2048)
    (hp : p.val = 1024 * (t.val / 2) + a.val) (hq : q.val = 1024 * (t.val % 2) + b.val) :
    iblk m d 2 t (ix2 a b) = opZ m d (ix2 p q) := by
  refine Eq.trans ?_ (congrFun (V_z m d) _)
  have bp : 1024 * (t.val / 2) + a.val < 8192 := hp ▸ p.isLt
  have bq : 1024 * (t.val % 2) + b.val < 2048 := hq ▸ q.isLt
  obtain rfl : p = ⟨_, bp⟩ := Fin.ext hp
  obtain rfl : q = ⟨_, bq⟩ := Fin.ext hq
  blk_simp [iblk, index2]
  congr 1; blk_ext [index2]

/-- What the body stores is the product of its two blocks. -/
theorem pay (x : Vec Ideal S1024x2048 .bf16) (y : Vec Ideal S1024x2048 .bf16) (z : Vec Ideal S1024x1024 .f32) (a : Fin 1024) (b : Fin 1024) :
    k0_pay1 x y z (ix2 a b) = (∑ k : Fin 2048, x (ix2 a k) * y (ix2 b k)) + z (ix2 a b) := by
  pointwise [k0_pay1]

/-- The blocks, as arrays of extended reals. -/
abbrev blkX (d : Dev nD) (t : Fin cfg0.N) : S1024x2048.Idx → EReal := iblk m d 0 t
abbrev blkY (d : Dev nD) (t : Fin cfg0.N) : S1024x2048.Idx → EReal := iblk m d 1 t
abbrev blkZ (d : Dev nD) (t : Fin cfg0.N) : S1024x1024.Idx → EReal := iblk m d 2 t

/-- So it is the whole product at the block's place. -/
theorem stored_prod (d : Dev nD) (t : Fin cfg0.N) (a : Fin 1024) (b : Fin 1024)
    (p : Fin 8192) (q : Fin 2048) (hp : p.val = 1024 * (t.val / 2) + a.val) (hq : q.val = 1024 * (t.val % 2) + b.val) :
    k0_pay1 (F := Ideal) (blkX m d t) (blkY m d t) (blkZ m d t) (ix2 a b) = prod (opX m d) (opY m d) (opZ m d) p q := by
  refine (pay _ _ _ a b).trans ?_
  refine congrArg₂ (fun (x y : EReal) => x + y) ?_ (blk2 m d t a b p q hp hq)
  exact Finset.sum_congr rfl fun k _ => congrArg₂ (fun (x y : EReal) => x * y) (blk0 m d t a k p k hp rfl) (blk1 m d t b k q k hq rfl)

/-- The result array. -/
theorem final (d : Dev nD) (i : S8192x2048.Idx) : ((dats m 0 d).arrAt 3 cfg0.N : S8192x2048.Idx → EReal) i = prodArr (opX m d) (opY m d) (opZ m d) i := by
  refine (dats m 0 d).arrAt_forall_of_covers 3 (fun i v => v = prodArr (opX m d) (opY m d) (opZ m d) i) (by decide +kernel) (fun t hf y => ?_) i
  blk_simp [index3]
  rw [after0_3]; frame_out
  refine (congrArg _ (Sums.idx2 y).symm).trans (stored_prod m d t (y 0) (y 1) _ _ ?_ ?_)
  · blk_simp [index3]; simp only [mul_comm]
  · blk_simp [index3]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext (final m c)), (h c).2⟩) (Value.run_blocks m ρ)

end Kernel

section Reference

open Cert.Reference15Ideal Cert.Reference15Ideal.Gen

/-- The reference's result, element by element. -/
theorem ref_val (x : FVec Ideal S8192x2048 .f32) (y : FVec Ideal S2048x2048 .f32) (z : FVec Ideal S8192x2048 .f32) : Read.val_main_v5 (F := Ideal) x y z = prodArr x y z := by
  funext i
  refine (Read.val_main_v5_apply (F := Ideal) x y z i).trans ((add_comm (G := EReal) _ _).trans ?_)
  refine congrArg₂ (fun (x y : EReal) => x + y) ?_ (congrArg z ?_)
  · refine (Read.val_main_v4_apply x y i).trans (Finset.sum_congr rfl fun k _ => ?_)
    congr 2 <;> funext a <;> fin_cases a <;> rfl
  · exact (Sums.idx2 i).symm

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans ((Read.val_main_v5_eq _ _ _).trans (ref_val _ _ _)), (h c).2⟩) (Value.run (F := Ideal) m ρ)

end Reference

/-- The kernel ends, with its arguments unchanged. -/
theorem frame_kernel : Cert.quiescent_Kernel15 (hKernel15 := Cert.Kernel15.Gen.facts) := fun m ρ _ => Cert.Kernel15.Gen.frame m ρ
/-- So does the kernel over the extended reals. -/
theorem frame_kernelIdeal : Cert.quiescent_Kernel15Ideal (hKernel15Ideal := Cert.Kernel15Ideal.Gen.facts) := fun m ρ _ => Cert.Kernel15Ideal.Gen.frame m ρ
/-- So does the reference. -/
theorem frame_reference : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)
/-- No operation is rewritten. -/
theorem preserves_kernel : Cert.preserves_Kernel15_Kernel15Ideal := trivial

/-- The kernel's result is the reference's. -/
theorem algebraic_kernel : Cert.algebraic_Kernel15Ideal_Reference15Ideal (hKernel15Ideal := Cert.Kernel15Ideal.Gen.facts)
    (hReference15Ideal := Cert.Reference15Ideal.Gen.facts) := by
  intro m g m' g' _ hargs
  refine ⟨fun c => prodArr (m ((c.tc : Thread Cert.Kernel15Ideal.nD Cert.Kernel15Ideal.τ).loc Cert.Kernel15Ideal.main_arg0))
    (m ((c.tc : Thread Cert.Kernel15Ideal.nD Cert.Kernel15Ideal.τ).loc Cert.Kernel15Ideal.main_arg1))
    (m ((c.tc : Thread Cert.Kernel15Ideal.nD Cert.Kernel15Ideal.τ).loc Cert.Kernel15Ideal.main_arg2)), run_kernel m g,
    (θ_run Cert.Reference15Ideal.defs _ _).mono (fun _ h c => ⟨(h c).1.trans ?_, (h c).2⟩) (run_reference m' g')⟩
  obtain ⟨h0, h1, h2⟩ := hargs c
  rw [h0, h1, h2]

end Cert.Proof.Call15

end
-- ==== Proof.Call16.lean ====
/-
  The gradient of the input projection's input in q, k and v: the output's gradient times the transpose of the weights,
  added to the part before it, over the extended reals.
-/
module

public import proofs.«01_k».proof.Defs
public import proofs.«01_k».proof.Proof.Sums
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Read
public import Idealize.ShloMosaic.Lib.Pipeline.ReadBack
public import Idealize.ShloMosaic.Lib.Quiescent

@[expose] public section

set_option maxRecDepth 16384

noncomputable section

namespace Cert.Proof.Call16

open Idealize.ShloMosaic Idealize.SL.Sem

/-- The operands, as arrays of extended reals. -/
abbrev OpX : Type := (⟨2, ![8192, 3072]⟩ : Shape).Idx → EReal
abbrev OpY : Type := (⟨2, ![2048, 3072]⟩ : Shape).Idx → EReal
abbrev OpZ : Type := (⟨2, ![8192, 2048]⟩ : Shape).Idx → EReal

/-- The element at row `i` and column `j`: the product's, and the added array's. -/
abbrev prod (X : OpX) (Y : OpY) (Z : OpZ) (i : Fin 8192) (j : Fin 2048) : EReal := (∑ k : Fin 3072, X (ix2 i k) * Y (ix2 j k)) + Z (ix2 i j)

/-- The sum as an array. -/
abbrev prodArr (X : OpX) (Y : OpY) (Z : OpZ) : (⟨2, ![8192, 2048]⟩ : Shape).Idx → EReal := fun i => prod X Y Z (i 0) (i 1)

section Kernel

open Cert.Kernel16Ideal Cert.Kernel16Ideal.Gen

/-- Which block of each array a grid point works on; the innermost two points run over the contraction. -/
theorem index0 : ∀ t : Fin cfg0.N, win0_0.index t = ![t.val / 4, t.val % 2] := (by decide +kernel : ∀ t : Fin grid0.N, _)
theorem index1 : ∀ t : Fin cfg0.N, win0_1.index t = ![t.val / 2 % 2, t.val % 2] := (by decide +kernel : ∀ t : Fin grid0.N, _)
theorem index2 : ∀ t : Fin cfg0.N, win0_2.index t = ![t.val / 4, t.val / 2 % 2] := (by decide +kernel : ∀ t : Fin grid0.N, _)
theorem index3 : ∀ t : Fin cfg0.N, win0_3.index t = ![t.val / 4, t.val / 2 % 2] := (by decide +kernel : ∀ t : Fin grid0.N, _)
/-- The result's block is written back at the second of the two. -/
theorem last2 : ∀ t : Fin cfg0.N, win0_3.flush t = true → t.val % 2 = 1 := (by decide +kernel : ∀ t : Fin grid0.N, _)

theorem t_lt (t : Fin cfg0.N) : t.val < 32 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)
abbrev opZ (d : Dev nD) : OpZ := m ((d.tc : Thread nD τ).loc main_arg2)

theorem V_x (d : Dev nD) : V m d main_v0 = (m ((d.tc : Thread nD τ).loc main_arg0) : FVec Ideal S8192x3072 .f32) := by
  simp only [V, hostOps0]
  after_results_simp <;> rfl
theorem V_y (d : Dev nD) : V m d main_v1 = (m ((d.tc : Thread nD τ).loc main_arg1) : FVec Ideal S2048x3072 .f32) := by
  simp only [V, hostOps0]
  after_results_simp <;> rfl
theorem V_z (d : Dev nD) : V m d main_arg2 = (m ((d.tc : Thread nD τ).loc main_arg2) : FVec Ideal S8192x2048 .f32) := by
  simp only [V, hostOps0]
  after_results_simp <;> rfl

/-- The operand blocks at a grid point. -/
theorem blk0 (d : Dev nD) (t : Fin cfg0.N) (a : Fin 1024) (k : Fin 1536) (p : Fin 8192) (l : Fin 3072)
    (hp : p.val = 1024 * (t.val / 4) + a.val) (hl : l.val = 1536 * (t.val % 2) + k.val) :
    iblk m d 0 t (ix2 a k) = opX m d (ix2 p l) := by
  refine Eq.trans ?_ (congrFun (V_x m d) _)
  have bp : 1024 * (t.val / 4) + a.val < 8192 := hp ▸ p.isLt
  have bl : 1536 * (t.val % 2) + k.val < 3072 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 1024) (k : Fin 1536) (q : Fin 2048) (l : Fin 3072)
    (hq : q.val = 1024 * (t.val / 2 % 2) + b.val) (hl : l.val = 1536 * (t.val % 2) + k.val) :
    iblk m d 1 t (ix2 b k) = opY m d (ix2 q l) := by
  refine Eq.trans ?_ (congrFun (V_y m d) _)
  have bq : 1024 * (t.val / 2 % 2) + b.val < 2048 := hq ▸ q.isLt
  have bl : 1536 * (t.val % 2) + k.val < 3072 := hl ▸ l.isLt
  obtain rfl : q = ⟨_, bq⟩ := Fin.ext hq
  obtain rfl : l = ⟨_, bl⟩ := Fin.ext hl
  blk_simp [iblk, index1]
  congr 1; blk_ext [index1]

theorem blk2 (d : Dev nD) (t : Fin cfg0.N) (a : Fin 1024) (b : Fin 1024) (p : Fin 8192) (q : Fin 2048)
    (hp : p.val = 1024 * (t.val / 4) + a.val) (hq : q.val = 1024 * (t.val / 2 % 2) + b.val) :
    iblk m d 2 t (ix2 a b) = opZ m d (ix2 p q) := by
  refine Eq.trans ?_ (congrFun (V_z m d) _)
  have bp : 1024 * (t.val / 4) + a.val < 8192 := hp ▸ p.isLt
  have bq : 1024 * (t.val / 2 % 2) + b.val < 2048 := hq ▸ q.isLt
  obtain rfl : p = ⟨_, bp⟩ := Fin.ext hp
  obtain rfl : q = ⟨_, bq⟩ := Fin.ext hq
  blk_simp [iblk, index2]
  congr 1; blk_ext [index2]

/-- The product of two blocks. -/
theorem pay (x : Vec Ideal S1024x1536 .bf16) (y : Vec Ideal S1024x1536 .bf16) (a : Fin 1024) (b : Fin 1024) :
    k0_pay1 x y (ix2 a b) = ∑ k : Fin 1536, x (ix2 a k) * y (ix2 b k) := by
  pointwise [k0_pay1]
theorem pay_first (x : Vec Ideal S1024x1536 .bf16) (y : Vec Ideal S1024x1536 .bf16) (a : Fin 1024) (b : Fin 1024) :
    k0_pay2 x y (ix2 a b) = ∑ k : Fin 1536, x (ix2 a k) * y (ix2 b k) := by
  pointwise [k0_pay2]
  exact pay x y a b
theorem pay_last (x : Vec Ideal S1024x1536 .bf16) (y : Vec Ideal S1024x1536 .bf16) (s : Vec Ideal S1024x1024 .f32) (z : Vec Ideal S1024x1024 .f32) (a : Fin 1024) (b : Fin 1024) :
    k0_pay4 x y s z (ix2 a b) = s (ix2 a b) + (∑ k : Fin 1536, x (ix2 a k) * y (ix2 b k)) + z (ix2 a b) := by
  pointwise [k0_pay4]
  exact congrArg (fun w => s (ix2 a b) + w + z (ix2 a b)) (pay x y a b)

/-- The blocks, as arrays of extended reals. -/
abbrev blkX (d : Dev nD) (t : Fin cfg0.N) : S1024x1536.Idx → EReal := iblk m d 0 t
abbrev blkY (d : Dev nD) (t : Fin cfg0.N) : S1024x1536.Idx → EReal := iblk m d 1 t
abbrev blkZ (d : Dev nD) (t : Fin cfg0.N) : S1024x1024.Idx → EReal := iblk m d 2 t

/-- A grid point's own partial sum. -/
abbrev part (d : Dev nD) (t : Fin cfg0.N) (a : Fin 1024) (b : Fin 1024) : EReal :=
  ∑ k : Fin 1536, blkX m d t (ix2 a k) * blkY m d t (ix2 b k)

/-- The running sum after the first point of a block, and what the second one stores. -/
theorem first (d : Dev nD) (t : Fin cfg0.N) (h : t.val % 2 = 0) (a : Fin 1024) (b : Fin 1024) :
    (outsAt0 m d t.val t.isLt).2 (ix2 a b) = part m d t a b := by
  rw [outsAt0_A m d t h (by omega)]
  frame_out
  exact pay_first _ _ a b
theorem last (d : Dev nD) (t : Fin cfg0.N) (h : t.val % 2 = 1) (hn : t.val - 1 < cfg0.N) (a : Fin 1024) (b : Fin 1024) :
    (outsAt0 m d t.val t.isLt).1 (ix2 a b) = (outsAt0 m d (t.val - 1) hn).2 (ix2 a b) + part m d t a b + blkZ m d t (ix2 a b) := by
  rw [outsAt0_B m d t (by omega) h]
  frame_out
  simp only [read_unread_whole]
  exact pay_last _ _ _ _ a b

/-- What is stored is the two points' partial sums, added up. -/
theorem stored (d : Dev nD) (t : Fin cfg0.N) (h : t.val % 2 = 1) (h1 : t.val - 1 < cfg0.N) (a : Fin 1024) (b : Fin 1024) :
    (outsAt0 m d t.val t.isLt).1 (ix2 a b) = part m d ⟨t.val - 1, h1⟩ a b + part m d t a b + blkZ m d t (ix2 a b) := by
  refine (last m d t h h1 a b).trans ?_
  rw [first m d ⟨t.val - 1, h1⟩ (by dsimp only; omega) a b]

/-- A term of the partial sum of the block's point number `s` is a term of the whole sum. -/
theorem term (d : Dev nD) (t u : Fin cfg0.N) (s : ℕ) (hs : s < 2) (hu : u.val = 2 * (t.val / 2) + s) (a : Fin 1024) (b : Fin 1024)
    (p : Fin 8192) (q : Fin 2048) (hp : p.val = 1024 * (t.val / 4) + a.val) (hq : q.val = 1024 * (t.val / 2 % 2) + b.val)
    (k : Fin 1536) (h : s * 1536 + k.val < 3072) :
    blkX m d u (ix2 a k) * blkY m d u (ix2 b k) = opX m d (ix2 p ⟨s * 1536 + k.val, h⟩) * opY m d (ix2 q ⟨s * 1536 + k.val, h⟩) := by
  refine congrArg₂ (fun (x y : EReal) => x * y) (blk0 m d u a k p ⟨s * 1536 + k.val, h⟩ ?_ ?_) (blk1 m d u b k q ⟨s * 1536 + k.val, h⟩ ?_ ?_)
  all_goals first | omega | (dsimp only; omega)

/-- So it is the product at the block's place. -/
theorem stored_prod (d : Dev nD) (t : Fin cfg0.N) (h : t.val % 2 = 1) (a : Fin 1024) (b : Fin 1024)
    (p : Fin 8192) (q : Fin 2048) (hp : p.val = 1024 * (t.val / 4) + a.val) (hq : q.val = 1024 * (t.val / 2 % 2) + b.val) :
    (outsAt0 m d t.val t.isLt).1 (ix2 a b) = prod (opX m d) (opY m d) (opZ m d) p q := by
  have hN := t.isLt
  refine (stored m d t h (by omega) a b).trans ?_
  refine congrArg₂ (fun (x y : EReal) => x + y) ?_ (blk2 m d t a b p q hp hq)
  exact Sums.sum_two (n := 1536) rfl (fun l : Fin 3072 => opX m d (ix2 p l) * opY m d (ix2 q l)) _ _
    (term m d t _ 0 (by omega) (by dsimp only; omega) a b p q hp hq) (term m d t _ 1 (by omega) (by omega) a b p q hp hq)

/-- The result array. -/
theorem final (d : Dev nD) (i : S8192x2048.Idx) : ((dats m 0 d).arrAt 3 cfg0.N : S8192x2048.Idx → EReal) i = prodArr (opX m d) (opY m d) (opZ m d) i := by
  refine (dats m 0 d).arrAt_forall_of_covers 3 (fun i v => v = prodArr (opX m d) (opY m d) (opZ m d) i) (by decide +kernel) (fun t hf y => ?_) i
  blk_simp [index3]
  rw [after0_3]
  refine (congrArg _ (Sums.idx2 y).symm).trans (stored_prod m d t (last2 t hf) (y 0) (y 1) _ _ ?_ ?_)
  · blk_simp [index3]; simp only [mul_comm]
  · blk_simp [index3]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext (final m c)), (h c).2⟩) (Value.run_blocks m ρ)

end Kernel

section Reference

open Cert.Reference16Ideal Cert.Reference16Ideal.Gen

/-- The reference's result, element by element. -/
theorem ref_val (x : FVec Ideal S8192x3072 .f32) (y : FVec Ideal S2048x3072 .f32) (z : FVec Ideal S8192x2048 .f32) : Read.val_main_v5 (F := Ideal) x y z = prodArr x y z := by
  funext i
  refine (Read.val_main_v5_apply (F := Ideal) x y z i).trans ((add_comm (G := EReal) _ _).trans ?_)
  refine congrArg₂ (fun (x y : EReal) => x + y) ?_ (congrArg z ?_)
  · refine (Read.val_main_v4_apply x y i).trans (Finset.sum_congr rfl fun k _ => ?_)
    congr 2 <;> funext a <;> fin_cases a <;> rfl
  · exact (Sums.idx2 i).symm

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans ((Read.val_main_v5_eq _ _ _).trans (ref_val _ _ _)), (h c).2⟩) (Value.run (F := Ideal) m ρ)

end Reference

/-- The kernel ends, with its arguments unchanged. -/
theorem frame_kernel : Cert.quiescent_Kernel16 (hKernel16 := Cert.Kernel16.Gen.facts) := fun m ρ _ => Cert.Kernel16.Gen.frame m ρ
/-- So does the kernel over the extended reals. -/
theorem frame_kernelIdeal : Cert.quiescent_Kernel16Ideal (hKernel16Ideal := Cert.Kernel16Ideal.Gen.facts) := fun m ρ _ => Cert.Kernel16Ideal.Gen.frame m ρ
/-- So does the reference. -/
theorem frame_reference : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)
/-- No operation is rewritten. -/
theorem preserves_kernel : Cert.preserves_Kernel16_Kernel16Ideal := trivial

/-- The kernel's result is the reference's. -/
theorem algebraic_kernel : Cert.algebraic_Kernel16Ideal_Reference16Ideal (hKernel16Ideal := Cert.Kernel16Ideal.Gen.facts)
    (hReference16Ideal := Cert.Reference16Ideal.Gen.facts) := by
  intro m g m' g' _ hargs
  refine ⟨fun c => prodArr (m ((c.tc : Thread Cert.Kernel16Ideal.nD Cert.Kernel16Ideal.τ).loc Cert.Kernel16Ideal.main_arg0))
    (m ((c.tc : Thread Cert.Kernel16Ideal.nD Cert.Kernel16Ideal.τ).loc Cert.Kernel16Ideal.main_arg1))
    (m ((c.tc : Thread Cert.Kernel16Ideal.nD Cert.Kernel16Ideal.τ).loc Cert.Kernel16Ideal.main_arg2)), run_kernel m g,
    (θ_run Cert.Reference16Ideal.defs _ _).mono (fun _ h c => ⟨(h c).1.trans ?_, (h c).2⟩) (run_reference m' g')⟩
  obtain ⟨h0, h1, h2⟩ := hargs c
  rw [h0, h1, h2]

end Cert.Proof.Call16

end
-- ==== Proof.Call17.lean ====
/-
  The gradient of the input projection's input in the branch gates: the output's gradient times the transpose of the weights,
  added to the part before it, over the extended reals.
-/
module

public import proofs.«01_k».proof.Defs
public import proofs.«01_k».proof.Proof.Sums
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Read
public import Idealize.ShloMosaic.Lib.Pipeline.ReadBack
public import Idealize.ShloMosaic.Lib.Quiescent

@[expose] public section

set_option maxRecDepth 16384

noncomputable section

namespace Cert.Proof.Call17

open Idealize.ShloMosaic Idealize.SL.Sem

/-- The operands, as arrays of extended reals. -/
abbrev OpX : Type := (⟨2, ![8192, 4096]⟩ : Shape).Idx → EReal
abbrev OpY : Type := (⟨2, ![2048, 4096]⟩ : Shape).Idx → EReal
abbrev OpZ : Type := (⟨2, ![8192, 2048]⟩ : Shape).Idx → EReal

/-- The element at row `i` and column `j`: the product's, and the added array's. -/
abbrev prod (X : OpX) (Y : OpY) (Z : OpZ) (i : Fin 8192) (j : Fin 2048) : EReal := (∑ k : Fin 4096, X (ix2 i k) * Y (ix2 j k)) + Z (ix2 i j)

/-- The sum as an array. -/
abbrev prodArr (X : OpX) (Y : OpY) (Z : OpZ) : (⟨2, ![8192, 2048]⟩ : Shape).Idx → EReal := fun i => prod X Y Z (i 0) (i 1)

section Kernel

open Cert.Kernel17Ideal Cert.Kernel17Ideal.Gen

/-- Which block of each array a grid point works on; the innermost two points run over the contraction. -/
theorem index0 : ∀ t : Fin cfg0.N, win0_0.index t = ![t.val / 4, t.val % 2] := (by decide +kernel : ∀ t : Fin grid0.N, _)
theorem index1 : ∀ t : Fin cfg0.N, win0_1.index t = ![t.val / 2 % 2, t.val % 2] := (by decide +kernel : ∀ t : Fin grid0.N, _)
theorem index2 : ∀ t : Fin cfg0.N, win0_2.index t = ![t.val / 4, t.val / 2 % 2] := (by decide +kernel : ∀ t : Fin grid0.N, _)
theorem index3 : ∀ t : Fin cfg0.N, win0_3.index t = ![t.val / 4, t.val / 2 % 2] := (by decide +kernel : ∀ t : Fin grid0.N, _)
/-- The result's block is written back at the second of the two. -/
theorem last2 : ∀ t : Fin cfg0.N, win0_3.flush t = true → t.val % 2 = 1 := (by decide +kernel : ∀ t : Fin grid0.N, _)

theorem t_lt (t : Fin cfg0.N) : t.val < 32 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)
abbrev opZ (d : Dev nD) : OpZ := m ((d.tc : Thread nD τ).loc main_arg2)

theorem V_x (d : Dev nD) : V m d main_v0 = (m ((d.tc : Thread nD τ).loc main_arg0) : FVec Ideal S8192x4096 .f32) := by
  simp only [V, hostOps0]
  after_results_simp <;> rfl
theorem V_y (d : Dev nD) : V m d main_v1 = (m ((d.tc : Thread nD τ).loc main_arg1) : FVec Ideal S2048x4096 .f32) := by
  simp only [V, hostOps0]
  after_results_simp <;> rfl
theorem V_z (d : Dev nD) : V m d main_arg2 = (m ((d.tc : Thread nD τ).loc main_arg2) : FVec Ideal S8192x2048 .f32) := by
  simp only [V, hostOps0]
  after_results_simp <;> rfl

/-- The operand blocks at a grid point. -/
theorem blk0 (d : Dev nD) (t : Fin cfg0.N) (a : Fin 1024) (k : Fin 2048) (p : Fin 8192) (l : Fin 4096)
    (hp : p.val = 1024 * (t.val / 4) + a.val) (hl : l.val = 2048 * (t.val % 2) + k.val) :
    iblk m d 0 t (ix2 a k) = opX m d (ix2 p l) := by
  refine Eq.trans ?_ (congrFun (V_x m d) _)
  have bp : 1024 * (t.val / 4) + a.val < 8192 := hp ▸ p.isLt
  have bl : 2048 * (t.val % 2) + k.val < 4096 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 1024) (k : Fin 2048) (q : Fin 2048) (l : Fin 4096)
    (hq : q.val = 1024 * (t.val / 2 % 2) + b.val) (hl : l.val = 2048 * (t.val % 2) + k.val) :
    iblk m d 1 t (ix2 b k) = opY m d (ix2 q l) := by
  refine Eq.trans ?_ (congrFun (V_y m d) _)
  have bq : 1024 * (t.val / 2 % 2) + b.val < 2048 := hq ▸ q.isLt
  have bl : 2048 * (t.val % 2) + k.val < 4096 := hl ▸ l.isLt
  obtain rfl : q = ⟨_, bq⟩ := Fin.ext hq
  obtain rfl : l = ⟨_, bl⟩ := Fin.ext hl
  blk_simp [iblk, index1]
  congr 1; blk_ext [index1]

theorem blk2 (d : Dev nD) (t : Fin cfg0.N) (a : Fin 1024) (b : Fin 1024) (p : Fin 8192) (q : Fin 2048)
    (hp : p.val = 1024 * (t.val / 4) + a.val) (hq : q.val = 1024 * (t.val / 2 % 2) + b.val) :
    iblk m d 2 t (ix2 a b) = opZ m d (ix2 p q) := by
  refine Eq.trans ?_ (congrFun (V_z m d) _)
  have bp : 1024 * (t.val / 4) + a.val < 8192 := hp ▸ p.isLt
  have bq : 1024 * (t.val / 2 % 2) + b.val < 2048 := hq ▸ q.isLt
  obtain rfl : p = ⟨_, bp⟩ := Fin.ext hp
  obtain rfl : q = ⟨_, bq⟩ := Fin.ext hq
  blk_simp [iblk, index2]
  congr 1; blk_ext [index2]

/-- The product of two blocks. -/
theorem pay (x : Vec Ideal S1024x2048 .bf16) (y : Vec Ideal S1024x2048 .bf16) (a : Fin 1024) (b : Fin 1024) :
    k0_pay1 x y (ix2 a b) = ∑ k : Fin 2048, x (ix2 a k) * y (ix2 b k) := by
  pointwise [k0_pay1]
theorem pay_first (x : Vec Ideal S1024x2048 .bf16) (y : Vec Ideal S1024x2048 .bf16) (a : Fin 1024) (b : Fin 1024) :
    k0_pay2 x y (ix2 a b) = ∑ k : Fin 2048, x (ix2 a k) * y (ix2 b k) := by
  pointwise [k0_pay2]
  exact pay x y a b
theorem pay_last (x : Vec Ideal S1024x2048 .bf16) (y : Vec Ideal S1024x2048 .bf16) (s : Vec Ideal S1024x1024 .f32) (z : Vec Ideal S1024x1024 .f32) (a : Fin 1024) (b : Fin 1024) :
    k0_pay4 x y s z (ix2 a b) = s (ix2 a b) + (∑ k : Fin 2048, x (ix2 a k) * y (ix2 b k)) + z (ix2 a b) := by
  pointwise [k0_pay4]
  exact congrArg (fun w => s (ix2 a b) + w + z (ix2 a b)) (pay x y a b)

/-- The blocks, as arrays of extended reals. -/
abbrev blkX (d : Dev nD) (t : Fin cfg0.N) : S1024x2048.Idx → EReal := iblk m d 0 t
abbrev blkY (d : Dev nD) (t : Fin cfg0.N) : S1024x2048.Idx → EReal := iblk m d 1 t
abbrev blkZ (d : Dev nD) (t : Fin cfg0.N) : S1024x1024.Idx → EReal := iblk m d 2 t

/-- A grid point's own partial sum. -/
abbrev part (d : Dev nD) (t : Fin cfg0.N) (a : Fin 1024) (b : Fin 1024) : EReal :=
  ∑ k : Fin 2048, blkX m d t (ix2 a k) * blkY m d t (ix2 b k)

/-- The running sum after the first point of a block, and what the second one stores. -/
theorem first (d : Dev nD) (t : Fin cfg0.N) (h : t.val % 2 = 0) (a : Fin 1024) (b : Fin 1024) :
    (outsAt0 m d t.val t.isLt).2 (ix2 a b) = part m d t a b := by
  rw [outsAt0_A m d t h (by omega)]
  frame_out
  exact pay_first _ _ a b
theorem last (d : Dev nD) (t : Fin cfg0.N) (h : t.val % 2 = 1) (hn : t.val - 1 < cfg0.N) (a : Fin 1024) (b : Fin 1024) :
    (outsAt0 m d t.val t.isLt).1 (ix2 a b) = (outsAt0 m d (t.val - 1) hn).2 (ix2 a b) + part m d t a b + blkZ m d t (ix2 a b) := by
  rw [outsAt0_B m d t (by omega) h]
  frame_out
  simp only [read_unread_whole]
  exact pay_last _ _ _ _ a b

/-- What is stored is the two points' partial sums, added up. -/
theorem stored (d : Dev nD) (t : Fin cfg0.N) (h : t.val % 2 = 1) (h1 : t.val - 1 < cfg0.N) (a : Fin 1024) (b : Fin 1024) :
    (outsAt0 m d t.val t.isLt).1 (ix2 a b) = part m d ⟨t.val - 1, h1⟩ a b + part m d t a b + blkZ m d t (ix2 a b) := by
  refine (last m d t h h1 a b).trans ?_
  rw [first m d ⟨t.val - 1, h1⟩ (by dsimp only; omega) a b]

/-- A term of the partial sum of the block's point number `s` is a term of the whole sum. -/
theorem term (d : Dev nD) (t u : Fin cfg0.N) (s : ℕ) (hs : s < 2) (hu : u.val = 2 * (t.val / 2) + s) (a : Fin 1024) (b : Fin 1024)
    (p : Fin 8192) (q : Fin 2048) (hp : p.val = 1024 * (t.val / 4) + a.val) (hq : q.val = 1024 * (t.val / 2 % 2) + b.val)
    (k : Fin 2048) (h : s * 2048 + k.val < 4096) :
    blkX m d u (ix2 a k) * blkY m d u (ix2 b k) = opX m d (ix2 p ⟨s * 2048 + k.val, h⟩) * opY m d (ix2 q ⟨s * 2048 + k.val, h⟩) := by
  refine congrArg₂ (fun (x y : EReal) => x * y) (blk0 m d u a k p ⟨s * 2048 + k.val, h⟩ ?_ ?_) (blk1 m d u b k q ⟨s * 2048 + k.val, h⟩ ?_ ?_)
  all_goals first | omega | (dsimp only; omega)

/-- So it is the product at the block's place. -/
theorem stored_prod (d : Dev nD) (t : Fin cfg0.N) (h : t.val % 2 = 1) (a : Fin 1024) (b : Fin 1024)
    (p : Fin 8192) (q : Fin 2048) (hp : p.val = 1024 * (t.val / 4) + a.val) (hq : q.val = 1024 * (t.val / 2 % 2) + b.val) :
    (outsAt0 m d t.val t.isLt).1 (ix2 a b) = prod (opX m d) (opY m d) (opZ m d) p q := by
  have hN := t.isLt
  refine (stored m d t h (by omega) a b).trans ?_
  refine congrArg₂ (fun (x y : EReal) => x + y) ?_ (blk2 m d t a b p q hp hq)
  exact Sums.sum_two (n := 2048) rfl (fun l : Fin 4096 => opX m d (ix2 p l) * opY m d (ix2 q l)) _ _
    (term m d t _ 0 (by omega) (by dsimp only; omega) a b p q hp hq) (term m d t _ 1 (by omega) (by omega) a b p q hp hq)

/-- The result array. -/
theorem final (d : Dev nD) (i : S8192x2048.Idx) : ((dats m 0 d).arrAt 3 cfg0.N : S8192x2048.Idx → EReal) i = prodArr (opX m d) (opY m d) (opZ m d) i := by
  refine (dats m 0 d).arrAt_forall_of_covers 3 (fun i v => v = prodArr (opX m d) (opY m d) (opZ m d) i) (by decide +kernel) (fun t hf y => ?_) i
  blk_simp [index3]
  rw [after0_3]
  refine (congrArg _ (Sums.idx2 y).symm).trans (stored_prod m d t (last2 t hf) (y 0) (y 1) _ _ ?_ ?_)
  · blk_simp [index3]; simp only [mul_comm]
  · blk_simp [index3]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext (final m c)), (h c).2⟩) (Value.run_blocks m ρ)

end Kernel

section Reference

open Cert.Reference17Ideal Cert.Reference17Ideal.Gen

/-- The reference's result, element by element. -/
theorem ref_val (x : FVec Ideal S8192x4096 .f32) (y : FVec Ideal S2048x4096 .f32) (z : FVec Ideal S8192x2048 .f32) : Read.val_main_v5 (F := Ideal) x y z = prodArr x y z := by
  funext i
  refine (Read.val_main_v5_apply (F := Ideal) x y z i).trans ((add_comm (G := EReal) _ _).trans ?_)
  refine congrArg₂ (fun (x y : EReal) => x + y) ?_ (congrArg z ?_)
  · refine (Read.val_main_v4_apply x y i).trans (Finset.sum_congr rfl fun k _ => ?_)
    congr 2 <;> funext a <;> fin_cases a <;> rfl
  · exact (Sums.idx2 i).symm

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans ((Read.val_main_v5_eq _ _ _).trans (ref_val _ _ _)), (h c).2⟩) (Value.run (F := Ideal) m ρ)

end Reference

/-- The kernel ends, with its arguments unchanged. -/
theorem frame_kernel : Cert.quiescent_Kernel17 (hKernel17 := Cert.Kernel17.Gen.facts) := fun m ρ _ => Cert.Kernel17.Gen.frame m ρ
/-- So does the kernel over the extended reals. -/
theorem frame_kernelIdeal : Cert.quiescent_Kernel17Ideal (hKernel17Ideal := Cert.Kernel17Ideal.Gen.facts) := fun m ρ _ => Cert.Kernel17Ideal.Gen.frame m ρ
/-- So does the reference. -/
theorem frame_reference : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)
/-- No operation is rewritten. -/
theorem preserves_kernel : Cert.preserves_Kernel17_Kernel17Ideal := trivial

/-- The kernel's result is the reference's. -/
theorem algebraic_kernel : Cert.algebraic_Kernel17Ideal_Reference17Ideal (hKernel17Ideal := Cert.Kernel17Ideal.Gen.facts)
    (hReference17Ideal := Cert.Reference17Ideal.Gen.facts) := by
  intro m g m' g' _ hargs
  refine ⟨fun c => prodArr (m ((c.tc : Thread Cert.Kernel17Ideal.nD Cert.Kernel17Ideal.τ).loc Cert.Kernel17Ideal.main_arg0))
    (m ((c.tc : Thread Cert.Kernel17Ideal.nD Cert.Kernel17Ideal.τ).loc Cert.Kernel17Ideal.main_arg1))
    (m ((c.tc : Thread Cert.Kernel17Ideal.nD Cert.Kernel17Ideal.τ).loc Cert.Kernel17Ideal.main_arg2)), run_kernel m g,
    (θ_run Cert.Reference17Ideal.defs _ _).mono (fun _ h c => ⟨(h c).1.trans ?_, (h c).2⟩) (run_reference m' g')⟩
  obtain ⟨h0, h1, h2⟩ := hargs c
  rw [h0, h1, h2]

end Cert.Proof.Call17

end
-- ==== Proof.Call18.lean ====
/-
  The product that is the gradient of the weights of the forget gate: the transpose of the input times the output's gradient, over the
  extended reals.
-/
module

public import proofs.«01_k».proof.Defs
public import proofs.«01_k».proof.Proof.Sums
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Read
public import Idealize.ShloMosaic.Lib.Pipeline.ReadBack
public import Idealize.ShloMosaic.Lib.Quiescent

@[expose] public section

set_option maxRecDepth 16384

noncomputable section

namespace Cert.Proof.Call18

open Idealize.ShloMosaic Idealize.SL.Sem

/-- The operands, as arrays of extended reals. -/
abbrev OpX : Type := (⟨2, ![8192, 2048]⟩ : Shape).Idx → EReal
abbrev OpY : Type := (⟨2, ![8192, 128]⟩ : Shape).Idx → EReal

/-- The product's element at row `i` and column `j`. -/
abbrev prod (X : OpX) (Y : OpY) (i : Fin 2048) (j : Fin 128) : EReal := ∑ k : Fin 8192, X (ix2 k i) * Y (ix2 k j)

/-- The product as an array. -/
abbrev prodArr (X : OpX) (Y : OpY) : (⟨2, ![2048, 128]⟩ : Shape).Idx → EReal := fun i => prod X Y (i 0) (i 1)

section Kernel

open Cert.Kernel18Ideal Cert.Kernel18Ideal.Gen

/-- Which block of each array a grid point works on; the innermost four points run over the contraction. -/
theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)
/-- The result's block is written back at the last of the four. -/
theorem last2 : ∀ t : Fin cfg0.N, win0_2.flush t = true → t.val % 4 = 3 := (by decide +kernel : ∀ t : Fin grid0.N, _)

theorem t_lt (t : Fin cfg0.N) : t.val < 8 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S8192x128 .f32) := by
  simp only [V, hostOps0]
  after_results_simp <;> rfl

/-- The operand blocks at a grid point. -/
theorem blk0 (d : Dev nD) (t : Fin cfg0.N) (a : Fin 1024) (k : Fin 2048) (p : Fin 2048) (l : Fin 8192)
    (hp : p.val = 1024 * (t.val / 4) + a.val) (hl : l.val = 2048 * (t.val % 4) + k.val) :
    iblk m d 0 t (ix2 k a) = opX m d (ix2 l p) := by
  refine Eq.trans ?_ (congrFun (V_x m d) _)
  have bp : 1024 * (t.val / 4) + a.val < 2048 := hp ▸ p.isLt
  have bl : 2048 * (t.val % 4) + k.val < 8192 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 128) (k : Fin 2048) (q : Fin 128) (l : Fin 8192)
    (hq : q.val = 128 * (0) + b.val) (hl : l.val = 2048 * (t.val % 4) + k.val) :
    iblk m d 1 t (ix2 k b) = opY m d (ix2 l q) := by
  refine Eq.trans ?_ (congrFun (V_y m d) _)
  have bq : 128 * (0) + b.val < 128 := hq ▸ q.isLt
  have bl : 2048 * (t.val % 4) + k.val < 8192 := hl ▸ l.isLt
  obtain rfl : q = ⟨_, bq⟩ := Fin.ext hq
  obtain rfl : l = ⟨_, bl⟩ := Fin.ext hl
  blk_simp [iblk, index1]
  congr 1; blk_ext [index1]

/-- The product of two blocks. -/
theorem pay (x : Vec Ideal S2048x1024 .bf16) (y : Vec Ideal S2048x128 .bf16) (a : Fin 1024) (b : Fin 128) :
    k0_pay1 x y (ix2 a b) = ∑ k : Fin 2048, x (ix2 k a) * y (ix2 k b) := by
  pointwise [k0_pay1]
theorem pay_first (x : Vec Ideal S2048x1024 .bf16) (y : Vec Ideal S2048x128 .bf16) (a : Fin 1024) (b : Fin 128) :
    k0_pay2 x y (ix2 a b) = ∑ k : Fin 2048, x (ix2 k a) * y (ix2 k b) := by
  pointwise [k0_pay2]
  exact pay x y a b
theorem pay_next (x : Vec Ideal S2048x1024 .bf16) (y : Vec Ideal S2048x128 .bf16) (s : Vec Ideal S1024x128 .f32) (a : Fin 1024) (b : Fin 128) :
    k0_pay3 x y s (ix2 a b) = s (ix2 a b) + ∑ k : Fin 2048, x (ix2 k a) * y (ix2 k b) := by
  pointwise [k0_pay3]
  exact congrArg _ (pay x y a b)
theorem pay_last (x : Vec Ideal S2048x1024 .bf16) (y : Vec Ideal S2048x128 .bf16) (s : Vec Ideal S1024x128 .f32) (a : Fin 1024) (b : Fin 128) :
    k0_pay4 x y s (ix2 a b) = s (ix2 a b) + ∑ k : Fin 2048, x (ix2 k a) * y (ix2 k b) := by
  pointwise [k0_pay4]
  exact congrArg _ (pay x y a b)

/-- The blocks, as arrays of extended reals. -/
abbrev blkX (d : Dev nD) (t : Fin cfg0.N) : S2048x1024.Idx → EReal := iblk m d 0 t
abbrev blkY (d : Dev nD) (t : Fin cfg0.N) : S2048x128.Idx → EReal := iblk m d 1 t

/-- A grid point's own partial sum. -/
abbrev part (d : Dev nD) (t : Fin cfg0.N) (a : Fin 1024) (b : Fin 128) : EReal :=
  ∑ k : Fin 2048, blkX m d t (ix2 k a) * blkY m d t (ix2 k b)

/-- The running sum after the first point of a block, after the next two, and what the last one stores. -/
theorem first (d : Dev nD) (t : Fin cfg0.N) (h : t.val % 4 = 0) (a : Fin 1024) (b : Fin 128) :
    (outsAt0 m d t.val t.isLt).2 (ix2 a b) = part m d t a b := by
  rw [outsAt0_A m d t h (by omega) (by omega)]
  frame_out
  exact pay_first _ _ a b
theorem next (d : Dev nD) (t : Fin cfg0.N) (h : 1 ≤ t.val % 4 ∧ t.val % 4 ≤ 2) (hn : t.val - 1 < cfg0.N) (a : Fin 1024) (b : Fin 128) :
    (outsAt0 m d t.val t.isLt).2 (ix2 a b) = (outsAt0 m d (t.val - 1) hn).2 (ix2 a b) + part m d t a b := by
  rw [outsAt0_B m d t (by omega) h (by omega)]
  frame_out
  simp only [read_unread_whole]
  exact pay_next _ _ _ a b
theorem last (d : Dev nD) (t : Fin cfg0.N) (h : t.val % 4 = 3) (hn : t.val - 1 < cfg0.N) (a : Fin 1024) (b : Fin 128) :
    (outsAt0 m d t.val t.isLt).1 (ix2 a b) = (outsAt0 m d (t.val - 1) hn).2 (ix2 a b) + part m d t a b := by
  rw [outsAt0_C m d t (by omega) (by omega) h]
  frame_out
  simp only [read_unread_whole]
  exact pay_last _ _ _ a b

/-- What is stored is the four points' partial sums, added up. -/
theorem stored (d : Dev nD) (t : Fin cfg0.N) (h : t.val % 4 = 3) (h3 : t.val - 1 - 1 - 1 < cfg0.N) (h2 : t.val - 1 - 1 < cfg0.N)
    (h1 : t.val - 1 < cfg0.N) (a : Fin 1024) (b : Fin 128) :
    (outsAt0 m d t.val t.isLt).1 (ix2 a b)
      = part m d ⟨t.val - 1 - 1 - 1, h3⟩ a b + part m d ⟨t.val - 1 - 1, h2⟩ a b + part m d ⟨t.val - 1, h1⟩ a b + part m d t a b := by
  refine (last m d t h h1 a b).trans (congrArg (· + part m d t a b) ?_)
  refine (next m d ⟨t.val - 1, h1⟩ (by dsimp only; omega) h2 a b).trans (congrArg (· + part m d ⟨t.val - 1, h1⟩ a b) ?_)
  refine (next m d ⟨t.val - 1 - 1, h2⟩ (by dsimp only; omega) h3 a b).trans (congrArg (· + part m d ⟨t.val - 1 - 1, h2⟩ a b) ?_)
  exact first m d ⟨t.val - 1 - 1 - 1, h3⟩ (by dsimp only; omega) a b

/-- A term of the partial sum of the block's point number `s` is a term of the whole sum. -/
theorem term (d : Dev nD) (t u : Fin cfg0.N) (s : ℕ) (hs : s < 4) (hu : u.val = 4 * (t.val / 4) + s) (a : Fin 1024) (b : Fin 128)
    (p : Fin 2048) (q : Fin 128) (hp : p.val = 1024 * (t.val / 4) + a.val) (hq : q.val = 128 * (0) + b.val)
    (k : Fin 2048) (h : s * 2048 + k.val < 8192) :
    blkX m d u (ix2 k a) * blkY m d u (ix2 k b) = opX m d (ix2 ⟨s * 2048 + k.val, h⟩ p) * opY m d (ix2 ⟨s * 2048 + k.val, h⟩ q) := by
  refine congrArg₂ (fun (x y : EReal) => x * y) (blk0 m d u a k p ⟨s * 2048 + k.val, h⟩ ?_ ?_) (blk1 m d u b k q ⟨s * 2048 + k.val, h⟩ ?_ ?_)
  all_goals first | omega | (dsimp only; omega)

/-- So it is the product at the block's place. -/
theorem stored_prod (d : Dev nD) (t : Fin cfg0.N) (h : t.val % 4 = 3) (a : Fin 1024) (b : Fin 128)
    (p : Fin 2048) (q : Fin 128) (hp : p.val = 1024 * (t.val / 4) + a.val) (hq : q.val = 128 * (0) + b.val) :
    (outsAt0 m d t.val t.isLt).1 (ix2 a b) = prod (opX m d) (opY m d) p q := by
  have hN := t.isLt
  refine (stored m d t h (by omega) (by omega) (by omega) a b).trans ?_
  exact Sums.sum_four (n := 2048) rfl (fun l : Fin 8192 => opX m d (ix2 l p) * opY m d (ix2 l q)) _ _ _ _
    (term m d t _ 0 (by omega) (by dsimp only; omega) a b p q hp hq) (term m d t _ 1 (by omega) (by dsimp only; omega) a b p q hp hq)
    (term m d t _ 2 (by omega) (by dsimp only; omega) a b p q hp hq) (term m d t _ 3 (by omega) (by omega) a b p q hp hq)

/-- The result array. -/
theorem final (d : Dev nD) (i : S2048x128.Idx) : ((dats m 0 d).arrAt 2 cfg0.N : S2048x128.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]
  refine (congrArg _ (Sums.idx2 y).symm).trans (stored_prod m d t (last2 t hf) (y 0) (y 1) _ _ ?_ ?_)
  · blk_simp [index2]; simp only [mul_comm]
  · blk_simp [index2]; omega

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference18Ideal Cert.Reference18Ideal.Gen

/-- The reference's result, element by element. -/
theorem ref_val (x : FVec Ideal S8192x2048 .f32) (y : FVec Ideal S8192x128 .f32) : Read.val_main_v5 (F := Ideal) x y = prodArr x y := by
  funext i
  refine (Read.val_main_v3_apply (F := Ideal) x y i).trans ?_
  refine (Read.val_main_v2_apply x y _).trans (Finset.sum_congr rfl fun k _ => (mul_comm _ _).trans ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v5_eq _ _).trans (ref_val _ _)), (h c).2⟩) (Value.run (F := Ideal) m ρ)

end Reference

/-- The kernel ends, with its arguments unchanged. -/
theorem frame_kernel : Cert.quiescent_Kernel18 (hKernel18 := Cert.Kernel18.Gen.facts) := fun m ρ _ => Cert.Kernel18.Gen.frame m ρ
/-- So does the kernel over the extended reals. -/
theorem frame_kernelIdeal : Cert.quiescent_Kernel18Ideal (hKernel18Ideal := Cert.Kernel18Ideal.Gen.facts) := fun m ρ _ => Cert.Kernel18Ideal.Gen.frame m ρ
/-- So does the reference. -/
theorem frame_reference : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)
/-- No operation is rewritten. -/
theorem preserves_kernel : Cert.preserves_Kernel18_Kernel18Ideal := trivial

/-- The kernel's result is the reference's. -/
theorem algebraic_kernel : Cert.algebraic_Kernel18Ideal_Reference18Ideal (hKernel18Ideal := Cert.Kernel18Ideal.Gen.facts)
    (hReference18Ideal := Cert.Reference18Ideal.Gen.facts) := by
  intro m g m' g' _ hargs
  refine ⟨fun c => prodArr (m ((c.tc : Thread Cert.Kernel18Ideal.nD Cert.Kernel18Ideal.τ).loc Cert.Kernel18Ideal.main_arg0))
    (m ((c.tc : Thread Cert.Kernel18Ideal.nD Cert.Kernel18Ideal.τ).loc Cert.Kernel18Ideal.main_arg1)), run_kernel m g,
    (θ_run Cert.Reference18Ideal.defs _ _).mono (fun _ h c => ⟨(h c).1.trans ?_, (h c).2⟩) (run_reference m' g')⟩
  obtain ⟨h0, h1⟩ := hargs c
  rw [h0, h1]

end Cert.Proof.Call18

end
-- ==== Proof.Call19.lean ====
/-
  The product that is the gradient of the input projection's input in the forget gate: the output's gradient times the transpose of the weights, over the extended
  reals.
-/
module

public import proofs.«01_k».proof.Defs
public import proofs.«01_k».proof.Proof.Sums
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Read
public import Idealize.ShloMosaic.Lib.Quiescent

@[expose] public section

set_option maxRecDepth 16384

noncomputable section

namespace Cert.Proof.Call19

open Idealize.ShloMosaic Idealize.SL.Sem

/-- The operands, as arrays of extended reals. -/
abbrev OpX : Type := (⟨2, ![8192, 128]⟩ : Shape).Idx → EReal
abbrev OpY : Type := (⟨2, ![2048, 128]⟩ : Shape).Idx → EReal

/-- The product's element at row `i` and column `j`. -/
abbrev prod (X : OpX) (Y : OpY) (i : Fin 8192) (j : Fin 2048) : EReal := ∑ k : Fin 128, X (ix2 i k) * Y (ix2 j k)

/-- The product as an array. -/
abbrev prodArr (X : OpX) (Y : OpY) : (⟨2, ![8192, 2048]⟩ : Shape).Idx → EReal := fun i => prod X Y (i 0) (i 1)

section Kernel

open Cert.Kernel19Ideal Cert.Kernel19Ideal.Gen

/-- Which block of each array a grid point works on. -/
theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)
theorem t_lt (t : Fin cfg0.N) : t.val < 16 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x128 .f32) := by
  simp only [V, hostOps0]
  after_results_simp <;> rfl
theorem V_y (d : Dev nD) : V m d main_v1 = (m ((d.tc : Thread nD τ).loc main_arg1) : FVec Ideal S2048x128 .f32) := by
  simp only [V, hostOps0]
  after_results_simp <;> rfl

/-- The operand blocks at a grid point. -/
theorem blk0 (d : Dev nD) (t : Fin cfg0.N) (a : Fin 1024) (k : Fin 128) (p : Fin 8192) (l : Fin 128)
    (hp : p.val = 1024 * (t.val / 2) + a.val) (hl : l.val = k.val) :
    iblk m d 0 t (ix2 a k) = opX m d (ix2 p l) := by
  refine Eq.trans ?_ (congrFun (V_x m d) _)
  have bp : 1024 * (t.val / 2) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 128) (q : Fin 2048) (l : Fin 128)
    (hq : q.val = 1024 * (t.val % 2) + b.val) (hl : l.val = k.val) :
    iblk m d 1 t (ix2 b k) = opY m d (ix2 q l) := by
  refine Eq.trans ?_ (congrFun (V_y m d) _)
  have bq : 1024 * (t.val % 2) + b.val < 2048 := hq ▸ q.isLt
  obtain rfl : q = ⟨_, bq⟩ := Fin.ext hq
  obtain rfl : l = k := Fin.ext hl
  blk_simp [iblk, index1]
  congr 1; blk_ext [index1]

/-- What the body stores is the product of its two blocks. -/
theorem pay (x : Vec Ideal S1024x128 .bf16) (y : Vec Ideal S1024x128 .bf16) (a : Fin 1024) (b : Fin 1024) :
    k0_pay1 x y (ix2 a b) = ∑ k : Fin 128, x (ix2 a k) * y (ix2 b k) := by
  pointwise [k0_pay1]

/-- The blocks, as arrays of extended reals. -/
abbrev blkX (d : Dev nD) (t : Fin cfg0.N) : S1024x128.Idx → EReal := iblk m d 0 t
abbrev blkY (d : Dev nD) (t : Fin cfg0.N) : S1024x128.Idx → EReal := iblk m d 1 t

/-- So it is the whole product at the block's place. -/
theorem stored_prod (d : Dev nD) (t : Fin cfg0.N) (a : Fin 1024) (b : Fin 1024)
    (p : Fin 8192) (q : Fin 2048) (hp : p.val = 1024 * (t.val / 2) + a.val) (hq : q.val = 1024 * (t.val % 2) + b.val) :
    k0_pay1 (F := Ideal) (blkX m d t) (blkY m d t) (ix2 a b) = prod (opX m d) (opY m d) p q := by
  refine (pay _ _ a b).trans ?_
  exact Finset.sum_congr rfl fun k _ => congrArg₂ (fun (x y : EReal) => x * y) (blk0 m d t a k p k hp rfl) (blk1 m d t b k q k hq rfl)

/-- The result array. -/
theorem final (d : Dev nD) (i : S8192x2048.Idx) : ((dats m 0 d).arrAt 2 cfg0.N : S8192x2048.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference19Ideal Cert.Reference19Ideal.Gen

/-- The reference's result, element by element. -/
theorem ref_val (x : FVec Ideal S8192x128 .f32) (y : FVec Ideal S2048x128 .f32) : Read.val_main_v4 (F := Ideal) x y = prodArr x y := by
  funext i
  refine (Read.val_main_v4_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v4_eq _ _).trans (ref_val _ _)), (h c).2⟩) (Value.run (F := Ideal) m ρ)

end Reference

/-- The kernel ends, with its arguments unchanged. -/
theorem frame_kernel : Cert.quiescent_Kernel19 (hKernel19 := Cert.Kernel19.Gen.facts) := fun m ρ _ => Cert.Kernel19.Gen.frame m ρ
/-- So does the kernel over the extended reals. -/
theorem frame_kernelIdeal : Cert.quiescent_Kernel19Ideal (hKernel19Ideal := Cert.Kernel19Ideal.Gen.facts) := fun m ρ _ => Cert.Kernel19Ideal.Gen.frame m ρ
/-- So does the reference. -/
theorem frame_reference : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)
/-- No operation is rewritten. -/
theorem preserves_kernel : Cert.preserves_Kernel19_Kernel19Ideal := trivial

/-- The kernel's result is the reference's. -/
theorem algebraic_kernel : Cert.algebraic_Kernel19Ideal_Reference19Ideal (hKernel19Ideal := Cert.Kernel19Ideal.Gen.facts)
    (hReference19Ideal := Cert.Reference19Ideal.Gen.facts) := by
  intro m g m' g' _ hargs
  refine ⟨fun c => prodArr (m ((c.tc : Thread Cert.Kernel19Ideal.nD Cert.Kernel19Ideal.τ).loc Cert.Kernel19Ideal.main_arg0))
    (m ((c.tc : Thread Cert.Kernel19Ideal.nD Cert.Kernel19Ideal.τ).loc Cert.Kernel19Ideal.main_arg1)), run_kernel m g,
    (θ_run Cert.Reference19Ideal.defs _ _).mono (fun _ h c => ⟨(h c).1.trans ?_, (h c).2⟩) (run_reference m' g')⟩
  obtain ⟨h0, h1⟩ := hargs c
  rw [h0, h1]

end Cert.Proof.Call19

end
-- ==== Proof.Call20.lean ====
/-
  The forward product of the SwiGLU's gate and up columns: the input times the weights, over the extended reals.
-/
module

public import proofs.«01_k».proof.Defs
public import proofs.«01_k».proof.Proof.Sums
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Read
public import Idealize.ShloMosaic.Lib.Quiescent

@[expose] public section

set_option maxRecDepth 16384

noncomputable section

namespace Cert.Proof.Call20

open Idealize.ShloMosaic Idealize.SL.Sem

/-- The operands, as arrays of extended reals. -/
abbrev OpX : Type := (⟨2, ![8192, 2048]⟩ : Shape).Idx → EReal
abbrev OpY : Type := (⟨2, ![2048, 11264]⟩ : Shape).Idx → EReal

/-- The product's element at row `i` and column `j`. -/
abbrev prod (X : OpX) (Y : OpY) (i : Fin 8192) (j : Fin 11264) : EReal := ∑ k : Fin 2048, X (ix2 i k) * Y (ix2 k j)

/-- The product as an array. -/
abbrev prodArr (X : OpX) (Y : OpY) : (⟨2, ![8192, 11264]⟩ : Shape).Idx → EReal := fun i => prod X Y (i 0) (i 1)

section Kernel

open Cert.Kernel20Ideal Cert.Kernel20Ideal.Gen

/-- Which block of each array a grid point works on. -/
theorem index0 : ∀ t : Fin cfg0.N, win0_0.index t = ![t.val / 11, 0] := (by decide +kernel : ∀ t : Fin grid0.N, _)
theorem index1 : ∀ t : Fin cfg0.N, win0_1.index t = ![0, t.val % 11] := (by decide +kernel : ∀ t : Fin grid0.N, _)
theorem index2 : ∀ t : Fin cfg0.N, win0_2.index t = ![t.val / 11, t.val % 11] := (by decide +kernel : ∀ t : Fin grid0.N, _)
theorem t_lt (t : Fin cfg0.N) : t.val < 88 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S2048x11264 .f32) := by
  simp only [V, hostOps0]
  after_results_simp <;> rfl

/-- The operand blocks at a grid point. -/
theorem blk0 (d : Dev nD) (t : Fin cfg0.N) (a : Fin 1024) (k : Fin 2048) (p : Fin 8192) (l : Fin 2048)
    (hp : p.val = 1024 * (t.val / 11) + a.val) (hl : l.val = k.val) :
    iblk m d 0 t (ix2 a k) = opX m d (ix2 p l) := by
  refine Eq.trans ?_ (congrFun (V_x m d) _)
  have bp : 1024 * (t.val / 11) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 2048) (q : Fin 11264) (l : Fin 2048)
    (hq : q.val = 1024 * (t.val % 11) + b.val) (hl : l.val = k.val) :
    iblk m d 1 t (ix2 k b) = opY m d (ix2 l q) := by
  refine Eq.trans ?_ (congrFun (V_y m d) _)
  have bq : 1024 * (t.val % 11) + b.val < 11264 := hq ▸ q.isLt
  obtain rfl : q = ⟨_, bq⟩ := Fin.ext hq
  obtain rfl : l = k := Fin.ext hl
  blk_simp [iblk, index1]
  congr 1; blk_ext [index1]

/-- What the body stores is the product of its two blocks. -/
theorem pay (x : Vec Ideal S1024x2048 .bf16) (y : Vec Ideal S2048x1024 .bf16) (a : Fin 1024) (b : Fin 1024) :
    k0_pay1 x y (ix2 a b) = ∑ k : Fin 2048, x (ix2 a k) * y (ix2 k b) := by
  pointwise [k0_pay1]

/-- The blocks, as arrays of extended reals. -/
abbrev blkX (d : Dev nD) (t : Fin cfg0.N) : S1024x2048.Idx → EReal := iblk m d 0 t
abbrev blkY (d : Dev nD) (t : Fin cfg0.N) : S2048x1024.Idx → EReal := iblk m d 1 t

/-- So it is the whole product at the block's place. -/
theorem stored_prod (d : Dev nD) (t : Fin cfg0.N) (a : Fin 1024) (b : Fin 1024)
    (p : Fin 8192) (q : Fin 11264) (hp : p.val = 1024 * (t.val / 11) + a.val) (hq : q.val = 1024 * (t.val % 11) + b.val) :
    k0_pay1 (F := Ideal) (blkX m d t) (blkY m d t) (ix2 a b) = prod (opX m d) (opY m d) p q := by
  refine (pay _ _ a b).trans ?_
  exact Finset.sum_congr rfl fun k _ => congrArg₂ (fun (x y : EReal) => x * y) (blk0 m d t a k p k hp rfl) (blk1 m d t b k q k hq rfl)

/-- The result array. -/
theorem final (d : Dev nD) (i : S8192x11264.Idx) : ((dats m 0 d).arrAt 2 cfg0.N : S8192x11264.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference20Ideal Cert.Reference20Ideal.Gen

/-- The reference's result, element by element. -/
theorem ref_val (x : FVec Ideal S8192x2048 .f32) (y : FVec Ideal S2048x11264 .f32) : Read.val_main_v1 (F := Ideal) x y = prodArr x y := by
  funext i
  refine (Read.val_main_v0_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v1_eq _ _).trans (ref_val _ _)), (h c).2⟩) (Value.run (F := Ideal) m ρ)

end Reference

/-- The kernel ends, with its arguments unchanged. -/
theorem frame_kernel : Cert.quiescent_Kernel20 (hKernel20 := Cert.Kernel20.Gen.facts) := fun m ρ _ => Cert.Kernel20.Gen.frame m ρ
/-- So does the kernel over the extended reals. -/
theorem frame_kernelIdeal : Cert.quiescent_Kernel20Ideal (hKernel20Ideal := Cert.Kernel20Ideal.Gen.facts) := fun m ρ _ => Cert.Kernel20Ideal.Gen.frame m ρ
/-- So does the reference. -/
theorem frame_reference : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)
/-- No operation is rewritten. -/
theorem preserves_kernel : Cert.preserves_Kernel20_Kernel20Ideal := trivial

/-- The kernel's result is the reference's. -/
theorem algebraic_kernel : Cert.algebraic_Kernel20Ideal_Reference20Ideal (hKernel20Ideal := Cert.Kernel20Ideal.Gen.facts)
    (hReference20Ideal := Cert.Reference20Ideal.Gen.facts) := by
  intro m g m' g' _ hargs
  refine ⟨fun c => prodArr (m ((c.tc : Thread Cert.Kernel20Ideal.nD Cert.Kernel20Ideal.τ).loc Cert.Kernel20Ideal.main_arg0))
    (m ((c.tc : Thread Cert.Kernel20Ideal.nD Cert.Kernel20Ideal.τ).loc Cert.Kernel20Ideal.main_arg1)), run_kernel m g,
    (θ_run Cert.Reference20Ideal.defs _ _).mono (fun _ h c => ⟨(h c).1.trans ?_, (h c).2⟩) (run_reference m' g')⟩
  obtain ⟨h0, h1⟩ := hargs c
  rw [h0, h1]

end Cert.Proof.Call20

end
-- ==== Proof.Call21.lean ====
/-
  The forward product of the SwiGLU's activation: the input times the weights, added to the residual stream, over the extended reals.
-/
module

public import proofs.«01_k».proof.Defs
public import proofs.«01_k».proof.Proof.Sums
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Read
public import Idealize.ShloMosaic.Lib.Pipeline.ReadBack
public import Idealize.ShloMosaic.Lib.Quiescent

@[expose] public section

set_option maxRecDepth 16384

noncomputable section

namespace Cert.Proof.Call21

open Idealize.ShloMosaic Idealize.SL.Sem

/-- The operands, as arrays of extended reals. -/
abbrev OpX : Type := (⟨2, ![8192, 5632]⟩ : Shape).Idx → EReal
abbrev OpY : Type := (⟨2, ![5632, 2048]⟩ : Shape).Idx → EReal
abbrev OpZ : Type := (⟨2, ![8192, 2048]⟩ : Shape).Idx → EReal

/-- The element at row `i` and column `j`: the product's, and the added array's. -/
abbrev prod (X : OpX) (Y : OpY) (Z : OpZ) (i : Fin 8192) (j : Fin 2048) : EReal := (∑ k : Fin 5632, X (ix2 i k) * Y (ix2 k j)) + Z (ix2 i j)

/-- The sum as an array. -/
abbrev prodArr (X : OpX) (Y : OpY) (Z : OpZ) : (⟨2, ![8192, 2048]⟩ : Shape).Idx → EReal := fun i => prod X Y Z (i 0) (i 1)

section Kernel

open Cert.Kernel21Ideal Cert.Kernel21Ideal.Gen

/-- Which block of each array a grid point works on; the innermost four points run over the contraction. -/
theorem index0 : ∀ t : Fin cfg0.N, win0_0.index t = ![t.val / 8, t.val % 4] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![t.val / 8, t.val / 4 % 2] := (by decide +kernel : ∀ t : Fin grid0.N, _)
theorem index3 : ∀ t : Fin cfg0.N, win0_3.index t = ![t.val / 8, t.val / 4 % 2] := (by decide +kernel : ∀ t : Fin grid0.N, _)
/-- The result's block is written back at the last of the four. -/
theorem last2 : ∀ t : Fin cfg0.N, win0_3.flush t = true → t.val % 4 = 3 := (by decide +kernel : ∀ t : Fin grid0.N, _)

theorem t_lt (t : Fin cfg0.N) : t.val < 64 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)
abbrev opZ (d : Dev nD) : OpZ := m ((d.tc : Thread nD τ).loc main_arg2)

theorem V_x (d : Dev nD) : V m d main_v0 = (m ((d.tc : Thread nD τ).loc main_arg0) : FVec Ideal S8192x5632 .f32) := by
  simp only [V, hostOps0]
  after_results_simp <;> rfl
theorem V_y (d : Dev nD) : V m d main_v1 = (m ((d.tc : Thread nD τ).loc main_arg1) : FVec Ideal S5632x2048 .f32) := by
  simp only [V, hostOps0]
  after_results_simp <;> rfl
theorem V_z (d : Dev nD) : V m d main_arg2 = (m ((d.tc : Thread nD τ).loc main_arg2) : FVec Ideal S8192x2048 .f32) := by
  simp only [V, hostOps0]
  after_results_simp <;> rfl

/-- The operand blocks at a grid point. -/
theorem blk0 (d : Dev nD) (t : Fin cfg0.N) (a : Fin 1024) (k : Fin 1408) (p : Fin 8192) (l : Fin 5632)
    (hp : p.val = 1024 * (t.val / 8) + a.val) (hl : l.val = 1408 * (t.val % 4) + k.val) :
    iblk m d 0 t (ix2 a k) = opX m d (ix2 p l) := by
  refine Eq.trans ?_ (congrFun (V_x m d) _)
  have bp : 1024 * (t.val / 8) + a.val < 8192 := hp ▸ p.isLt
  have bl : 1408 * (t.val % 4) + k.val < 5632 := hl ▸ l.isLt
  obtain rfl : p = ⟨_, bp⟩ := Fin.ext hp
  obtain rfl : l = ⟨_, bl⟩ := Fin.ext hl
  blk_simp [iblk, index0]
  congr 1; blk_ext [index0]
theorem blk1 (d : Dev nD) (t : Fin cfg0.N) (b : Fin 1024) (k : Fin 1408) (q : Fin 2048) (l : Fin 5632)
    (hq : q.val = 1024 * (t.val / 4 % 2) + b.val) (hl : l.val = 1408 * (t.val % 4) + k.val) :
    iblk m d 1 t (ix2 k b) = opY m d (ix2 l q) := by
  refine Eq.trans ?_ (congrFun (V_y m d) _)
  have bq : 1024 * (t.val / 4 % 2) + b.val < 2048 := hq ▸ q.isLt
  have bl : 1408 * (t.val % 4) + k.val < 5632 := hl ▸ l.isLt
  obtain rfl : q = ⟨_, bq⟩ := Fin.ext hq
  obtain rfl : l = ⟨_, bl⟩ := Fin.ext hl
  blk_simp [iblk, index1]
  congr 1; blk_ext [index1]

theorem blk2 (d : Dev nD) (t : Fin cfg0.N) (a : Fin 1024) (b : Fin 1024) (p : Fin 8192) (q : Fin 2048)
    (hp : p.val = 1024 * (t.val / 8) + a.val) (hq : q.val = 1024 * (t.val / 4 % 2) + b.val) :
    iblk m d 2 t (ix2 a b) = opZ m d (ix2 p q) := by
  refine Eq.trans ?_ (congrFun (V_z m d) _)
  have bp : 1024 * (t.val / 8) + a.val < 8192 := hp ▸ p.isLt
  have bq : 1024 * (t.val / 4 % 2) + b.val < 2048 := hq ▸ q.isLt
  obtain rfl : p = ⟨_, bp⟩ := Fin.ext hp
  obtain rfl : q = ⟨_, bq⟩ := Fin.ext hq
  blk_simp [iblk, index2]
  congr 1; blk_ext [index2]

/-- The product of two blocks. -/
theorem pay (x : Vec Ideal S1024x1408 .bf16) (y : Vec Ideal S1408x1024 .bf16) (a : Fin 1024) (b : Fin 1024) :
    k0_pay1 x y (ix2 a b) = ∑ k : Fin 1408, x (ix2 a k) * y (ix2 k b) := by
  pointwise [k0_pay1]
theorem pay_first (x : Vec Ideal S1024x1408 .bf16) (y : Vec Ideal S1408x1024 .bf16) (a : Fin 1024) (b : Fin 1024) :
    k0_pay2 x y (ix2 a b) = ∑ k : Fin 1408, x (ix2 a k) * y (ix2 k b) := by
  pointwise [k0_pay2]
  exact pay x y a b
theorem pay_next (x : Vec Ideal S1024x1408 .bf16) (y : Vec Ideal S1408x1024 .bf16) (s : Vec Ideal S1024x1024 .f32) (a : Fin 1024) (b : Fin 1024) :
    k0_pay3 x y s (ix2 a b) = s (ix2 a b) + ∑ k : Fin 1408, x (ix2 a k) * y (ix2 k b) := by
  pointwise [k0_pay3]
  exact congrArg _ (pay x y a b)
theorem pay_last (x : Vec Ideal S1024x1408 .bf16) (y : Vec Ideal S1408x1024 .bf16) (s : Vec Ideal S1024x1024 .f32) (z : Vec Ideal S1024x1024 .f32) (a : Fin 1024) (b : Fin 1024) :
    k0_pay4 x y s z (ix2 a b) = s (ix2 a b) + (∑ k : Fin 1408, x (ix2 a k) * y (ix2 k b)) + z (ix2 a b) := by
  pointwise [k0_pay4]
  exact congrArg (fun w => s (ix2 a b) + w + z (ix2 a b)) (pay x y a b)

/-- The blocks, as arrays of extended reals. -/
abbrev blkX (d : Dev nD) (t : Fin cfg0.N) : S1024x1408.Idx → EReal := iblk m d 0 t
abbrev blkY (d : Dev nD) (t : Fin cfg0.N) : S1408x1024.Idx → EReal := iblk m d 1 t
abbrev blkZ (d : Dev nD) (t : Fin cfg0.N) : S1024x1024.Idx → EReal := iblk m d 2 t

/-- A grid point's own partial sum. -/
abbrev part (d : Dev nD) (t : Fin cfg0.N) (a : Fin 1024) (b : Fin 1024) : EReal :=
  ∑ k : Fin 1408, blkX m d t (ix2 a k) * blkY m d t (ix2 k b)

/-- The running sum after the first point of a block, after the next two, and what the last one stores. -/
theorem first (d : Dev nD) (t : Fin cfg0.N) (h : t.val % 4 = 0) (a : Fin 1024) (b : Fin 1024) :
    (outsAt0 m d t.val t.isLt).2 (ix2 a b) = part m d t a b := by
  rw [outsAt0_A m d t h (by omega) (by omega)]
  frame_out
  exact pay_first _ _ a b
theorem next (d : Dev nD) (t : Fin cfg0.N) (h : 1 ≤ t.val % 4 ∧ t.val % 4 ≤ 2) (hn : t.val - 1 < cfg0.N) (a : Fin 1024) (b : Fin 1024) :
    (outsAt0 m d t.val t.isLt).2 (ix2 a b) = (outsAt0 m d (t.val - 1) hn).2 (ix2 a b) + part m d t a b := by
  rw [outsAt0_B m d t (by omega) h (by omega)]
  frame_out
  simp only [read_unread_whole]
  exact pay_next _ _ _ a b
theorem last (d : Dev nD) (t : Fin cfg0.N) (h : t.val % 4 = 3) (hn : t.val - 1 < cfg0.N) (a : Fin 1024) (b : Fin 1024) :
    (outsAt0 m d t.val t.isLt).1 (ix2 a b) = (outsAt0 m d (t.val - 1) hn).2 (ix2 a b) + part m d t a b + blkZ m d t (ix2 a b) := by
  rw [outsAt0_C m d t (by omega) (by omega) h]
  frame_out
  simp only [read_unread_whole]
  exact pay_last _ _ _ _ a b

/-- What is stored is the four points' partial sums, added up. -/
theorem stored (d : Dev nD) (t : Fin cfg0.N) (h : t.val % 4 = 3) (h3 : t.val - 1 - 1 - 1 < cfg0.N) (h2 : t.val - 1 - 1 < cfg0.N)
    (h1 : t.val - 1 < cfg0.N) (a : Fin 1024) (b : Fin 1024) :
    (outsAt0 m d t.val t.isLt).1 (ix2 a b)
      = part m d ⟨t.val - 1 - 1 - 1, h3⟩ a b + part m d ⟨t.val - 1 - 1, h2⟩ a b + part m d ⟨t.val - 1, h1⟩ a b + part m d t a b + blkZ m d t (ix2 a b) := by
  refine (last m d t h h1 a b).trans (congrArg (· + part m d t a b + blkZ m d t (ix2 a b)) ?_)
  refine (next m d ⟨t.val - 1, h1⟩ (by dsimp only; omega) h2 a b).trans (congrArg (· + part m d ⟨t.val - 1, h1⟩ a b) ?_)
  refine (next m d ⟨t.val - 1 - 1, h2⟩ (by dsimp only; omega) h3 a b).trans (congrArg (· + part m d ⟨t.val - 1 - 1, h2⟩ a b) ?_)
  exact first m d ⟨t.val - 1 - 1 - 1, h3⟩ (by dsimp only; omega) a b

/-- A term of the partial sum of the block's point number `s` is a term of the whole sum. -/
theorem term (d : Dev nD) (t u : Fin cfg0.N) (s : ℕ) (hs : s < 4) (hu : u.val = 4 * (t.val / 4) + s) (a : Fin 1024) (b : Fin 1024)
    (p : Fin 8192) (q : Fin 2048) (hp : p.val = 1024 * (t.val / 8) + a.val) (hq : q.val = 1024 * (t.val / 4 % 2) + b.val)
    (k : Fin 1408) (h : s * 1408 + k.val < 5632) :
    blkX m d u (ix2 a k) * blkY m d u (ix2 k b) = opX m d (ix2 p ⟨s * 1408 + k.val, h⟩) * opY m d (ix2 ⟨s * 1408 + k.val, h⟩ q) := by
  refine congrArg₂ (fun (x y : EReal) => x * y) (blk0 m d u a k p ⟨s * 1408 + k.val, h⟩ ?_ ?_) (blk1 m d u b k q ⟨s * 1408 + k.val, h⟩ ?_ ?_)
  all_goals first | omega | (dsimp only; omega)

/-- So it is the product at the block's place. -/
theorem stored_prod (d : Dev nD) (t : Fin cfg0.N) (h : t.val % 4 = 3) (a : Fin 1024) (b : Fin 1024)
    (p : Fin 8192) (q : Fin 2048) (hp : p.val = 1024 * (t.val / 8) + a.val) (hq : q.val = 1024 * (t.val / 4 % 2) + b.val) :
    (outsAt0 m d t.val t.isLt).1 (ix2 a b) = prod (opX m d) (opY m d) (opZ m d) p q := by
  have hN := t.isLt
  refine (stored m d t h (by omega) (by omega) (by omega) a b).trans ?_
  refine congrArg₂ (fun (x y : EReal) => x + y) ?_ (blk2 m d t a b p q hp hq)
  exact Sums.sum_four (n := 1408) rfl (fun l : Fin 5632 => opX m d (ix2 p l) * opY m d (ix2 l q)) _ _ _ _
    (term m d t _ 0 (by omega) (by dsimp only; omega) a b p q hp hq) (term m d t _ 1 (by omega) (by dsimp only; omega) a b p q hp hq)
    (term m d t _ 2 (by omega) (by dsimp only; omega) a b p q hp hq) (term m d t _ 3 (by omega) (by omega) a b p q hp hq)

/-- The result array. -/
theorem final (d : Dev nD) (i : S8192x2048.Idx) : ((dats m 0 d).arrAt 3 cfg0.N : S8192x2048.Idx → EReal) i = prodArr (opX m d) (opY m d) (opZ m d) i := by
  refine (dats m 0 d).arrAt_forall_of_covers 3 (fun i v => v = prodArr (opX m d) (opY m d) (opZ m d) i) (by decide +kernel) (fun t hf y => ?_) i
  blk_simp [index3]
  rw [after0_3]
  refine (congrArg _ (Sums.idx2 y).symm).trans (stored_prod m d t (last2 t hf) (y 0) (y 1) _ _ ?_ ?_)
  · blk_simp [index3]; simp only [mul_comm]
  · blk_simp [index3]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext (final m c)), (h c).2⟩) (Value.run_blocks m ρ)

end Kernel

section Reference

open Cert.Reference21Ideal Cert.Reference21Ideal.Gen

/-- The reference's result, element by element. -/
theorem ref_val (x : FVec Ideal S8192x5632 .f32) (y : FVec Ideal S5632x2048 .f32) (z : FVec Ideal S8192x2048 .f32) : Read.val_main_v1 (F := Ideal) x y z = prodArr x y z := by
  funext i
  refine (Read.val_main_v1_apply (F := Ideal) x y z i).trans ((add_comm (G := EReal) _ _).trans ?_)
  refine congrArg₂ (fun (x y : EReal) => x + y) ?_ (congrArg z ?_)
  · refine (Read.val_main_v0_apply x y i).trans (Finset.sum_congr rfl fun k _ => ?_)
    congr 2 <;> funext a <;> fin_cases a <;> rfl
  · exact (Sums.idx2 i).symm

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = prodArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans ((Read.val_main_v1_eq _ _ _).trans (ref_val _ _ _)), (h c).2⟩) (Value.run (F := Ideal) m ρ)

end Reference

/-- The kernel ends, with its arguments unchanged. -/
theorem frame_kernel : Cert.quiescent_Kernel21 (hKernel21 := Cert.Kernel21.Gen.facts) := fun m ρ _ => Cert.Kernel21.Gen.frame m ρ
/-- So does the kernel over the extended reals. -/
theorem frame_kernelIdeal : Cert.quiescent_Kernel21Ideal (hKernel21Ideal := Cert.Kernel21Ideal.Gen.facts) := fun m ρ _ => Cert.Kernel21Ideal.Gen.frame m ρ
/-- So does the reference. -/
theorem frame_reference : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run (F := Ideal) m ρ)
/-- No operation is rewritten. -/
theorem preserves_kernel : Cert.preserves_Kernel21_Kernel21Ideal := trivial

/-- The kernel's result is the reference's. -/
theorem algebraic_kernel : Cert.algebraic_Kernel21Ideal_Reference21Ideal (hKernel21Ideal := Cert.Kernel21Ideal.Gen.facts)
    (hReference21Ideal := Cert.Reference21Ideal.Gen.facts) := by
  intro m g m' g' _ hargs
  refine ⟨fun c => prodArr (m ((c.tc : Thread Cert.Kernel21Ideal.nD Cert.Kernel21Ideal.τ).loc Cert.Kernel21Ideal.main_arg0))
    (m ((c.tc : Thread Cert.Kernel21Ideal.nD Cert.Kernel21Ideal.τ).loc Cert.Kernel21Ideal.main_arg1))
    (m ((c.tc : Thread Cert.Kernel21Ideal.nD Cert.Kernel21Ideal.τ).loc Cert.Kernel21Ideal.main_arg2)), run_kernel m g,
    (θ_run Cert.Reference21Ideal.defs _ _).mono (fun _ h c => ⟨(h c).1.trans ?_, (h c).2⟩) (run_reference m' g')⟩
  obtain ⟨h0, h1, h2⟩ := hargs c
  rw [h0, h1, h2]

end Cert.Proof.Call21

end
-- ==== Proof.Call22.lean ====
/-
  The forward product of the branch gates: the input times the weights, over the extended reals.
-/
module

public import proofs.«01_k».proof.Defs
public import proofs.«01_k».proof.Proof.Sums
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Read
public import Idealize.ShloMosaic.Lib.Quiescent

@[expose] public section

set_option maxRecDepth 16384

noncomputable section

namespace Cert.Proof.Call22

open Idealize.ShloMosaic Idealize.SL.Sem

/-- The operands, as arrays of extended reals. -/
abbrev OpX : Type := (⟨2, ![8192, 2048]⟩ : Shape).Idx → EReal
abbrev OpY : Type := (⟨2, ![2048, 4096]⟩ : Shape).Idx → EReal

/-- The product's element at row `i` and column `j`. -/
abbrev prod (X : OpX) (Y : OpY) (i : Fin 8192) (j : Fin 4096) : EReal := ∑ k : Fin 2048, X (ix2 i k) * Y (ix2 k j)

/-- The product as an array. -/
abbrev prodArr (X : OpX) (Y : OpY) : (⟨2, ![8192, 4096]⟩ : Shape).Idx → EReal := fun i => prod X Y (i 0) (i 1)

section Kernel

open Cert.Kernel22Ideal Cert.Kernel22Ideal.Gen

/-- Which block of each array a grid point works on. -/
theorem index0 : ∀ t : Fin cfg0.N, win0_0.index t = ![t.val / 4, 0] := (by decide +kernel : ∀ t : Fin grid0.N, _)
theorem index1 : ∀ t : Fin cfg0.N, win0_1.index t = ![0, t.val % 4] := (by decide +kernel : ∀ t : Fin grid0.N, _)
theorem index2 : ∀ t : Fin cfg0.N, win0_2.index t = ![t.val / 4, t.val % 4] := (by decide +kernel : ∀ t : Fin grid0.N, _)
theorem t_lt (t : Fin cfg0.N) : t.val < 32 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S2048x4096 .f32) := by
  simp only [V, hostOps0]
  after_results_simp <;> rfl

/-- The operand blocks at a grid point. -/
theorem blk0 (d : Dev nD) (t : Fin cfg0.N) (a : Fin 1024) (k : Fin 2048) (p : Fin 8192) (l : Fin 2048)
    (hp : p.val = 1024 * (t.val / 4) + a.val) (hl : l.val = k.val) :
    iblk m d 0 t (ix2 a k) = opX m d (ix2 p l) := by
  refine Eq.trans ?_ (congrFun (V_x m d) _)
  have bp : 1024 * (t.val / 4) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 2048) (q : Fin 4096) (l : Fin 2048)
    (hq : q.val = 1024 * (t.val % 4) + b.val) (hl : l.val = k.val) :
    iblk m d 1 t (ix2 k b) = opY m d (ix2 l q) := by
  refine Eq.trans ?_ (congrFun (V_y m d) _)
  have bq : 1024 * (t.val % 4) + b.val < 4096 := hq ▸ q.isLt
  obtain rfl : q = ⟨_, bq⟩ := Fin.ext hq
  obtain rfl : l = k := Fin.ext hl
  blk_simp [iblk, index1]
  congr 1; blk_ext [index1]

/-- What the body stores is the product of its two blocks. -/
theorem pay (x : Vec Ideal S1024x2048 .bf16) (y : Vec Ideal S2048x1024 .bf16) (a : Fin 1024) (b : Fin 1024) :
    k0_pay1 x y (ix2 a b) = ∑ k : Fin 2048, x (ix2 a k) * y (ix2 k b) := by
  pointwise [k0_pay1]

/-- The blocks, as arrays of extended reals. -/
abbrev blkX (d : Dev nD) (t : Fin cfg0.N) : S1024x2048.Idx → EReal := iblk m d 0 t
abbrev blkY (d : Dev nD) (t : Fin cfg0.N) : S2048x1024.Idx → EReal := iblk m d 1 t

/-- So it is the whole product at the block's place. -/
theorem stored_prod (d : Dev nD) (t : Fin cfg0.N) (a : Fin 1024) (b : Fin 1024)
    (p : Fin 8192) (q : Fin 4096) (hp : p.val = 1024 * (t.val / 4) + a.val) (hq : q.val = 1024 * (t.val % 4) + b.val) :
    k0_pay1 (F := Ideal) (blkX m d t) (blkY m d t) (ix2 a b) = prod (opX m d) (opY m d) p q := by
  refine (pay _ _ a b).trans ?_
  exact Finset.sum_congr rfl fun k _ => congrArg₂ (fun (x y : EReal) => x * y) (blk0 m d t a k p k hp rfl) (blk1 m d t b k q k hq rfl)

/-- The result array. -/
theorem final (d : Dev nD) (i : S8192x4096.Idx) : ((dats m 0 d).arrAt 2 cfg0.N : S8192x4096.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference22Ideal Cert.Reference22Ideal.Gen

/-- The reference's result, element by element. -/
theorem ref_val (x : FVec Ideal S8192x2048 .f32) (y : FVec Ideal S2048x4096 .f32) : Read.val_main_v1 (F := Ideal) x y = prodArr x y := by
  funext i
  refine (Read.val_main_v0_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v1_eq _ _).trans (ref_val _ _)), (h c).2⟩) (Value.run (F := Ideal) m ρ)

end Reference

/-- The kernel ends, with its arguments unchanged. -/
theorem frame_kernel : Cert.quiescent_Kernel22 (hKernel22 := Cert.Kernel22.Gen.facts) := fun m ρ _ => Cert.Kernel22.Gen.frame m ρ
/-- So does the kernel over the extended reals. -/
theorem frame_kernelIdeal : Cert.quiescent_Kernel22Ideal (hKernel22Ideal := Cert.Kernel22Ideal.Gen.facts) := fun m ρ _ => Cert.Kernel22Ideal.Gen.frame m ρ
/-- So does the reference. -/
theorem frame_reference : Cert.quiescent_Reference22Ideal (hReference22Ideal := Cert.Reference22Ideal.Gen.facts) := fun m ρ _ =>
  (θ_run Cert.Reference22Ideal.defs _ _).mono (fun r h => ⟨fun c => (h c).2, sem_eq_zero_of_no_sems (by decide) r.2⟩)
    (Cert.Reference22Ideal.Value.run (F := Ideal) m ρ)
/-- No operation is rewritten. -/
theorem preserves_kernel : Cert.preserves_Kernel22_Kernel22Ideal := trivial

/-- The kernel's result is the reference's. -/
theorem algebraic_kernel : Cert.algebraic_Kernel22Ideal_Reference22Ideal (hKernel22Ideal := Cert.Kernel22Ideal.Gen.facts)
    (hReference22Ideal := Cert.Reference22Ideal.Gen.facts) := by
  intro m g m' g' _ hargs
  refine ⟨fun c => prodArr (m ((c.tc : Thread Cert.Kernel22Ideal.nD Cert.Kernel22Ideal.τ).loc Cert.Kernel22Ideal.main_arg0))
    (m ((c.tc : Thread Cert.Kernel22Ideal.nD Cert.Kernel22Ideal.τ).loc Cert.Kernel22Ideal.main_arg1)), run_kernel m g,
    (θ_run Cert.Reference22Ideal.defs _ _).mono (fun _ h c => ⟨(h c).1.trans ?_, (h c).2⟩) (run_reference m' g')⟩
  obtain ⟨h0, h1⟩ := hargs c
  rw [h0, h1]

end Cert.Proof.Call22

end
-- ==== Proof.Call23.lean ====
/-
  The forward product of the convolution branch's input: the input times the weights, over the extended reals.
-/
module

public import proofs.«01_k».proof.Defs
public import proofs.«01_k».proof.Proof.Sums
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Read
public import Idealize.ShloMosaic.Lib.Quiescent

@[expose] public section

set_option maxRecDepth 16384

noncomputable section

namespace Cert.Proof.Call23

open Idealize.ShloMosaic Idealize.SL.Sem

/-- The operands, as arrays of extended reals. -/
abbrev OpX : Type := (⟨2, ![8192, 2048]⟩ : Shape).Idx → EReal
abbrev OpY : Type := (⟨2, ![2048, 2048]⟩ : Shape).Idx → EReal

/-- The product's element at row `i` and column `j`. -/
abbrev prod (X : OpX) (Y : OpY) (i : Fin 8192) (j : Fin 2048) : EReal := ∑ k : Fin 2048, X (ix2 i k) * Y (ix2 k j)

/-- The product as an array. -/
abbrev prodArr (X : OpX) (Y : OpY) : (⟨2, ![8192, 2048]⟩ : Shape).Idx → EReal := fun i => prod X Y (i 0) (i 1)

section Kernel

open Cert.Kernel23Ideal Cert.Kernel23Ideal.Gen

/-- Which block of each array a grid point works on. -/
theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)
theorem t_lt (t : Fin cfg0.N) : t.val < 16 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S2048x2048 .f32) := by
  simp only [V, hostOps0]
  after_results_simp <;> rfl

/-- The operand blocks at a grid point. -/
theorem blk0 (d : Dev nD) (t : Fin cfg0.N) (a : Fin 1024) (k : Fin 2048) (p : Fin 8192) (l : Fin 2048)
    (hp : p.val = 1024 * (t.val / 2) + a.val) (hl : l.val = k.val) :
    iblk m d 0 t (ix2 a k) = opX m d (ix2 p l) := by
  refine Eq.trans ?_ (congrFun (V_x m d) _)
  have bp : 1024 * (t.val / 2) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 2048) (q : Fin 2048) (l : Fin 2048)
    (hq : q.val = 1024 * (t.val % 2) + b.val) (hl : l.val = k.val) :
    iblk m d 1 t (ix2 k b) = opY m d (ix2 l q) := by
  refine Eq.trans ?_ (congrFun (V_y m d) _)
  have bq : 1024 * (t.val % 2) + b.val < 2048 := hq ▸ q.isLt
  obtain rfl : q = ⟨_, bq⟩ := Fin.ext hq
  obtain rfl : l = k := Fin.ext hl
  blk_simp [iblk, index1]
  congr 1; blk_ext [index1]

/-- What the body stores is the product of its two blocks. -/
theorem pay (x : Vec Ideal S1024x2048 .bf16) (y : Vec Ideal S2048x1024 .bf16) (a : Fin 1024) (b : Fin 1024) :
    k0_pay1 x y (ix2 a b) = ∑ k : Fin 2048, x (ix2 a k) * y (ix2 k b) := by
  pointwise [k0_pay1]

/-- The blocks, as arrays of extended reals. -/
abbrev blkX (d : Dev nD) (t : Fin cfg0.N) : S1024x2048.Idx → EReal := iblk m d 0 t
abbrev blkY (d : Dev nD) (t : Fin cfg0.N) : S2048x1024.Idx → EReal := iblk m d 1 t

/-- So it is the whole product at the block's place. -/
theorem stored_prod (d : Dev nD) (t : Fin cfg0.N) (a : Fin 1024) (b : Fin 1024)
    (p : Fin 8192) (q : Fin 2048) (hp : p.val = 1024 * (t.val / 2) + a.val) (hq : q.val = 1024 * (t.val % 2) + b.val) :
    k0_pay1 (F := Ideal) (blkX m d t) (blkY m d t) (ix2 a b) = prod (opX m d) (opY m d) p q := by
  refine (pay _ _ a b).trans ?_
  exact Finset.sum_congr rfl fun k _ => congrArg₂ (fun (x y : EReal) => x * y) (blk0 m d t a k p k hp rfl) (blk1 m d t b k q k hq rfl)

/-- The result array. -/
theorem final (d : Dev nD) (i : S8192x2048.Idx) : ((dats m 0 d).arrAt 2 cfg0.N : S8192x2048.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference23Ideal Cert.Reference23Ideal.Gen

/-- The reference's result, element by element. -/
theorem ref_val (x : FVec Ideal S8192x2048 .f32) (y : FVec Ideal S2048x2048 .f32) : Read.val_main_v0 (F := Ideal) x y = prodArr x y := by
  funext i
  refine (Read.val_main_v0_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v0_eq _ _).trans (ref_val _ _)), (h c).2⟩) (Value.run (F := Ideal) m ρ)

end Reference

/-- The kernel ends, with its arguments unchanged. -/
theorem frame_kernel : Cert.quiescent_Kernel23 (hKernel23 := Cert.Kernel23.Gen.facts) := fun m ρ _ => Cert.Kernel23.Gen.frame m ρ
/-- So does the kernel over the extended reals. -/
theorem frame_kernelIdeal : Cert.quiescent_Kernel23Ideal (hKernel23Ideal := Cert.Kernel23Ideal.Gen.facts) := fun m ρ _ => Cert.Kernel23Ideal.Gen.frame m ρ
/-- So does the reference. -/
theorem frame_reference : Cert.quiescent_Reference23Ideal (hReference23Ideal := Cert.Reference23Ideal.Gen.facts) := fun m ρ _ =>
  (θ_run Cert.Reference23Ideal.defs _ _).mono (fun r h => ⟨fun c => (h c).2, sem_eq_zero_of_no_sems (by decide) r.2⟩)
    (Cert.Reference23Ideal.Value.run (F := Ideal) m ρ)
/-- No operation is rewritten. -/
theorem preserves_kernel : Cert.preserves_Kernel23_Kernel23Ideal := trivial

/-- The kernel's result is the reference's. -/
theorem algebraic_kernel : Cert.algebraic_Kernel23Ideal_Reference23Ideal (hKernel23Ideal := Cert.Kernel23Ideal.Gen.facts)
    (hReference23Ideal := Cert.Reference23Ideal.Gen.facts) := by
  intro m g m' g' _ hargs
  refine ⟨fun c => prodArr (m ((c.tc : Thread Cert.Kernel23Ideal.nD Cert.Kernel23Ideal.τ).loc Cert.Kernel23Ideal.main_arg0))
    (m ((c.tc : Thread Cert.Kernel23Ideal.nD Cert.Kernel23Ideal.τ).loc Cert.Kernel23Ideal.main_arg1)), run_kernel m g,
    (θ_run Cert.Reference23Ideal.defs _ _).mono (fun _ h c => ⟨(h c).1.trans ?_, (h c).2⟩) (run_reference m' g')⟩
  obtain ⟨h0, h1⟩ := hargs c
  rw [h0, h1]

end Cert.Proof.Call23

end
-- ==== Proof.Call24.lean ====
/-
  The forward product of the merged token mixers: the input times the weights, added to the residual stream, over the extended reals.
-/
module

public import proofs.«01_k».proof.Defs
public import proofs.«01_k».proof.Proof.Sums
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Read
public import Idealize.ShloMosaic.Lib.Quiescent

@[expose] public section

set_option maxRecDepth 16384

noncomputable section

namespace Cert.Proof.Call24

open Idealize.ShloMosaic Idealize.SL.Sem

/-- The operands, as arrays of extended reals. -/
abbrev OpX : Type := (⟨2, ![8192, 2048]⟩ : Shape).Idx → EReal
abbrev OpY : Type := (⟨2, ![2048, 2048]⟩ : Shape).Idx → EReal
abbrev OpZ : Type := (⟨2, ![8192, 2048]⟩ : Shape).Idx → EReal

/-- The element at row `i` and column `j`: the product's, and the added array's. -/
abbrev prod (X : OpX) (Y : OpY) (Z : OpZ) (i : Fin 8192) (j : Fin 2048) : EReal := (∑ k : Fin 2048, X (ix2 i k) * Y (ix2 k j)) + Z (ix2 i j)

/-- The sum as an array. -/
abbrev prodArr (X : OpX) (Y : OpY) (Z : OpZ) : (⟨2, ![8192, 2048]⟩ : Shape).Idx → EReal := fun i => prod X Y Z (i 0) (i 1)

section Kernel

open Cert.Kernel24Ideal Cert.Kernel24Ideal.Gen

/-- Which block of each array a grid point works on. -/
theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)
theorem index3 : ∀ t : Fin cfg0.N, win0_3.index t = ![t.val / 2, t.val % 2] := (by decide +kernel : ∀ t : Fin grid0.N, _)
theorem t_lt (t : Fin cfg0.N) : t.val < 16 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)
abbrev opZ (d : Dev nD) : OpZ := m ((d.tc : Thread nD τ).loc main_arg2)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S2048x2048 .f32) := by
  simp only [V, hostOps0]
  after_results_simp <;> rfl
theorem V_z (d : Dev nD) : V m d main_arg2 = (m ((d.tc : Thread nD τ).loc main_arg2) : FVec Ideal S8192x2048 .f32) := by
  simp only [V, hostOps0]
  after_results_simp <;> rfl

/-- The operand blocks at a grid point. -/
theorem blk0 (d : Dev nD) (t : Fin cfg0.N) (a : Fin 1024) (k : Fin 2048) (p : Fin 8192) (l : Fin 2048)
    (hp : p.val = 1024 * (t.val / 2) + a.val) (hl : l.val = k.val) :
    iblk m d 0 t (ix2 a k) = opX m d (ix2 p l) := by
  refine Eq.trans ?_ (congrFun (V_x m d) _)
  have bp : 1024 * (t.val / 2) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 2048) (q : Fin 2048) (l : Fin 2048)
    (hq : q.val = 1024 * (t.val % 2) + b.val) (hl : l.val = k.val) :
    iblk m d 1 t (ix2 k b) = opY m d (ix2 l q) := by
  refine Eq.trans ?_ (congrFun (V_y m d) _)
  have bq : 1024 * (t.val % 2) + b.val < 2048 := hq ▸ q.isLt
  obtain rfl : q = ⟨_, bq⟩ := Fin.ext hq
  obtain rfl : l = k := Fin.ext hl
  blk_simp [iblk, index1]
  congr 1; blk_ext [index1]

theorem blk2 (d : Dev nD) (t : Fin cfg0.N) (a : Fin 1024) (b : Fin 1024) (p : Fin 8192) (q : Fin 2048)
    (hp : p.val = 1024 * (t.val / 2) + a.val) (hq : q.val = 1024 * (t.val % 2) + b.val) :
    iblk m d 2 t (ix2 a b) = opZ m d (ix2 p q) := by
  refine Eq.trans ?_ (congrFun (V_z m d) _)
  have bp : 1024 * (t.val / 2) + a.val < 8192 := hp ▸ p.isLt
  have bq : 1024 * (t.val % 2) + b.val < 2048 := hq ▸ q.isLt
  obtain rfl : p = ⟨_, bp⟩ := Fin.ext hp
  obtain rfl : q = ⟨_, bq⟩ := Fin.ext hq
  blk_simp [iblk, index2]
  congr 1; blk_ext [index2]

/-- What the body stores is the product of its two blocks. -/
theorem pay (x : Vec Ideal S1024x2048 .bf16) (y : Vec Ideal S2048x1024 .bf16) (z : Vec Ideal S1024x1024 .f32) (a : Fin 1024) (b : Fin 1024) :
    k0_pay1 x y z (ix2 a b) = (∑ k : Fin 2048, x (ix2 a k) * y (ix2 k b)) + z (ix2 a b) := by
  pointwise [k0_pay1]

/-- The blocks, as arrays of extended reals. -/
abbrev blkX (d : Dev nD) (t : Fin cfg0.N) : S1024x2048.Idx → EReal := iblk m d 0 t
abbrev blkY (d : Dev nD) (t : Fin cfg0.N) : S2048x1024.Idx → EReal := iblk m d 1 t
abbrev blkZ (d : Dev nD) (t : Fin cfg0.N) : S1024x1024.Idx → EReal := iblk m d 2 t

/-- So it is the whole product at the block's place. -/
theorem stored_prod (d : Dev nD) (t : Fin cfg0.N) (a : Fin 1024) (b : Fin 1024)
    (p : Fin 8192) (q : Fin 2048) (hp : p.val = 1024 * (t.val / 2) + a.val) (hq : q.val = 1024 * (t.val % 2) + b.val) :
    k0_pay1 (F := Ideal) (blkX m d t) (blkY m d t) (blkZ m d t) (ix2 a b) = prod (opX m d) (opY m d) (opZ m d) p q := by
  refine (pay _ _ _ a b).trans ?_
  refine congrArg₂ (fun (x y : EReal) => x + y) ?_ (blk2 m d t a b p q hp hq)
  exact Finset.sum_congr rfl fun k _ => congrArg₂ (fun (x y : EReal) => x * y) (blk0 m d t a k p k hp rfl) (blk1 m d t b k q k hq rfl)

/-- The result array. -/
theorem final (d : Dev nD) (i : S8192x2048.Idx) : ((dats m 0 d).arrAt 3 cfg0.N : S8192x2048.Idx → EReal) i = prodArr (opX m d) (opY m d) (opZ m d) i := by
  refine (dats m 0 d).arrAt_forall_of_covers 3 (fun i v => v = prodArr (opX m d) (opY m d) (opZ m d) i) (by decide +kernel) (fun t hf y => ?_) i
  blk_simp [index3]
  rw [after0_3]; frame_out
  refine (congrArg _ (Sums.idx2 y).symm).trans (stored_prod m d t (y 0) (y 1) _ _ ?_ ?_)
  · blk_simp [index3]; simp only [mul_comm]
  · blk_simp [index3]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext (final m c)), (h c).2⟩) (Value.run_blocks m ρ)

end Kernel

section Reference

open Cert.Reference24Ideal Cert.Reference24Ideal.Gen

/-- The reference's result, element by element. -/
theorem ref_val (x : FVec Ideal S8192x2048 .f32) (y : FVec Ideal S2048x2048 .f32) (z : FVec Ideal S8192x2048 .f32) : Read.val_main_v1 (F := Ideal) x y z = prodArr x y z := by
  funext i
  refine (Read.val_main_v1_apply (F := Ideal) x y z i).trans ((add_comm (G := EReal) _ _).trans ?_)
  refine congrArg₂ (fun (x y : EReal) => x + y) ?_ (congrArg z ?_)
  · refine (Read.val_main_v0_apply x y i).trans (Finset.sum_congr rfl fun k _ => ?_)
    congr 2 <;> funext a <;> fin_cases a <;> rfl
  · exact (Sums.idx2 i).symm

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = prodArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans ((Read.val_main_v1_eq _ _ _).trans (ref_val _ _ _)), (h c).2⟩) (Value.run (F := Ideal) m ρ)

end Reference

/-- The kernel ends, with its arguments unchanged. -/
theorem frame_kernel : Cert.quiescent_Kernel24 (hKernel24 := Cert.Kernel24.Gen.facts) := fun m ρ _ => Cert.Kernel24.Gen.frame m ρ
/-- So does the kernel over the extended reals. -/
theorem frame_kernelIdeal : Cert.quiescent_Kernel24Ideal (hKernel24Ideal := Cert.Kernel24Ideal.Gen.facts) := fun m ρ _ => Cert.Kernel24Ideal.Gen.frame m ρ
/-- So does the reference. -/
theorem frame_reference : Cert.quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run (F := Ideal) m ρ)
/-- No operation is rewritten. -/
theorem preserves_kernel : Cert.preserves_Kernel24_Kernel24Ideal := trivial

/-- The kernel's result is the reference's. -/
theorem algebraic_kernel : Cert.algebraic_Kernel24Ideal_Reference24Ideal (hKernel24Ideal := Cert.Kernel24Ideal.Gen.facts)
    (hReference24Ideal := Cert.Reference24Ideal.Gen.facts) := by
  intro m g m' g' _ hargs
  refine ⟨fun c => prodArr (m ((c.tc : Thread Cert.Kernel24Ideal.nD Cert.Kernel24Ideal.τ).loc Cert.Kernel24Ideal.main_arg0))
    (m ((c.tc : Thread Cert.Kernel24Ideal.nD Cert.Kernel24Ideal.τ).loc Cert.Kernel24Ideal.main_arg1))
    (m ((c.tc : Thread Cert.Kernel24Ideal.nD Cert.Kernel24Ideal.τ).loc Cert.Kernel24Ideal.main_arg2)), run_kernel m g,
    (θ_run Cert.Reference24Ideal.defs _ _).mono (fun _ h c => ⟨(h c).1.trans ?_, (h c).2⟩) (run_reference m' g')⟩
  obtain ⟨h0, h1, h2⟩ := hargs c
  rw [h0, h1, h2]

end Cert.Proof.Call24

end
-- ==== Proof.Call25.lean ====
/-
  The forward product of the per-layer gate: the input times the weights, over the extended reals.
-/
module

public import proofs.«01_k».proof.Defs
public import proofs.«01_k».proof.Proof.Sums
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Read
public import Idealize.ShloMosaic.Lib.Quiescent

@[expose] public section

set_option maxRecDepth 16384

noncomputable section

namespace Cert.Proof.Call25

open Idealize.ShloMosaic Idealize.SL.Sem

/-- The operands, as arrays of extended reals. -/
abbrev OpX : Type := (⟨2, ![8192, 2048]⟩ : Shape).Idx → EReal
abbrev OpY : Type := (⟨2, ![2048, 2048]⟩ : Shape).Idx → EReal

/-- The product's element at row `i` and column `j`. -/
abbrev prod (X : OpX) (Y : OpY) (i : Fin 8192) (j : Fin 2048) : EReal := ∑ k : Fin 2048, X (ix2 i k) * Y (ix2 k j)

/-- The product as an array. -/
abbrev prodArr (X : OpX) (Y : OpY) : (⟨2, ![8192, 2048]⟩ : Shape).Idx → EReal := fun i => prod X Y (i 0) (i 1)

section Kernel

open Cert.Kernel25Ideal Cert.Kernel25Ideal.Gen

/-- Which block of each array a grid point works on. -/
theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)
theorem t_lt (t : Fin cfg0.N) : t.val < 16 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S2048x2048 .f32) := by
  simp only [V, hostOps0]
  after_results_simp <;> rfl

/-- The operand blocks at a grid point. -/
theorem blk0 (d : Dev nD) (t : Fin cfg0.N) (a : Fin 1024) (k : Fin 2048) (p : Fin 8192) (l : Fin 2048)
    (hp : p.val = 1024 * (t.val / 2) + a.val) (hl : l.val = k.val) :
    iblk m d 0 t (ix2 a k) = opX m d (ix2 p l) := by
  refine Eq.trans ?_ (congrFun (V_x m d) _)
  have bp : 1024 * (t.val / 2) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 2048) (q : Fin 2048) (l : Fin 2048)
    (hq : q.val = 1024 * (t.val % 2) + b.val) (hl : l.val = k.val) :
    iblk m d 1 t (ix2 k b) = opY m d (ix2 l q) := by
  refine Eq.trans ?_ (congrFun (V_y m d) _)
  have bq : 1024 * (t.val % 2) + b.val < 2048 := hq ▸ q.isLt
  obtain rfl : q = ⟨_, bq⟩ := Fin.ext hq
  obtain rfl : l = k := Fin.ext hl
  blk_simp [iblk, index1]
  congr 1; blk_ext [index1]

/-- What the body stores is the product of its two blocks. -/
theorem pay (x : Vec Ideal S1024x2048 .bf16) (y : Vec Ideal S2048x1024 .bf16) (a : Fin 1024) (b : Fin 1024) :
    k0_pay1 x y (ix2 a b) = ∑ k : Fin 2048, x (ix2 a k) * y (ix2 k b) := by
  pointwise [k0_pay1]

/-- The blocks, as arrays of extended reals. -/
abbrev blkX (d : Dev nD) (t : Fin cfg0.N) : S1024x2048.Idx → EReal := iblk m d 0 t
abbrev blkY (d : Dev nD) (t : Fin cfg0.N) : S2048x1024.Idx → EReal := iblk m d 1 t

/-- So it is the whole product at the block's place. -/
theorem stored_prod (d : Dev nD) (t : Fin cfg0.N) (a : Fin 1024) (b : Fin 1024)
    (p : Fin 8192) (q : Fin 2048) (hp : p.val = 1024 * (t.val / 2) + a.val) (hq : q.val = 1024 * (t.val % 2) + b.val) :
    k0_pay1 (F := Ideal) (blkX m d t) (blkY m d t) (ix2 a b) = prod (opX m d) (opY m d) p q := by
  refine (pay _ _ a b).trans ?_
  exact Finset.sum_congr rfl fun k _ => congrArg₂ (fun (x y : EReal) => x * y) (blk0 m d t a k p k hp rfl) (blk1 m d t b k q k hq rfl)

/-- The result array. -/
theorem final (d : Dev nD) (i : S8192x2048.Idx) : ((dats m 0 d).arrAt 2 cfg0.N : S8192x2048.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference25Ideal Cert.Reference25Ideal.Gen

/-- The reference's result, element by element. -/
theorem ref_val (x : FVec Ideal S8192x2048 .f32) (y : FVec Ideal S2048x2048 .f32) : Read.val_main_v1 (F := Ideal) x y = prodArr x y := by
  funext i
  refine (Read.val_main_v0_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v1_eq _ _).trans (ref_val _ _)), (h c).2⟩) (Value.run (F := Ideal) m ρ)

end Reference

/-- The kernel ends, with its arguments unchanged. -/
theorem frame_kernel : Cert.quiescent_Kernel25 (hKernel25 := Cert.Kernel25.Gen.facts) := fun m ρ _ => Cert.Kernel25.Gen.frame m ρ
/-- So does the kernel over the extended reals. -/
theorem frame_kernelIdeal : Cert.quiescent_Kernel25Ideal (hKernel25Ideal := Cert.Kernel25Ideal.Gen.facts) := fun m ρ _ => Cert.Kernel25Ideal.Gen.frame m ρ
/-- So does the reference. -/
theorem frame_reference : Cert.quiescent_Reference25Ideal (hReference25Ideal := Cert.Reference25Ideal.Gen.facts) := fun m ρ _ =>
  (θ_run Cert.Reference25Ideal.defs _ _).mono (fun r h => ⟨fun c => (h c).2, sem_eq_zero_of_no_sems (by decide) r.2⟩)
    (Cert.Reference25Ideal.Value.run (F := Ideal) m ρ)
/-- No operation is rewritten. -/
theorem preserves_kernel : Cert.preserves_Kernel25_Kernel25Ideal := trivial

/-- The kernel's result is the reference's. -/
theorem algebraic_kernel : Cert.algebraic_Kernel25Ideal_Reference25Ideal (hKernel25Ideal := Cert.Kernel25Ideal.Gen.facts)
    (hReference25Ideal := Cert.Reference25Ideal.Gen.facts) := by
  intro m g m' g' _ hargs
  refine ⟨fun c => prodArr (m ((c.tc : Thread Cert.Kernel25Ideal.nD Cert.Kernel25Ideal.τ).loc Cert.Kernel25Ideal.main_arg0))
    (m ((c.tc : Thread Cert.Kernel25Ideal.nD Cert.Kernel25Ideal.τ).loc Cert.Kernel25Ideal.main_arg1)), run_kernel m g,
    (θ_run Cert.Reference25Ideal.defs _ _).mono (fun _ h c => ⟨(h c).1.trans ?_, (h c).2⟩) (run_reference m' g')⟩
  obtain ⟨h0, h1⟩ := hargs c
  rw [h0, h1]

end Cert.Proof.Call25

end
-- ==== Proof.Call26.lean ====
/-
  The forward product of the attention's output: the input times the weights, over the extended reals.
-/
module

public import proofs.«01_k».proof.Defs
public import proofs.«01_k».proof.Proof.Sums
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Read
public import Idealize.ShloMosaic.Lib.Quiescent

@[expose] public section

set_option maxRecDepth 16384

noncomputable section

namespace Cert.Proof.Call26

open Idealize.ShloMosaic Idealize.SL.Sem

/-- The operands, as arrays of extended reals. -/
abbrev OpX : Type := (⟨2, ![8192, 1024]⟩ : Shape).Idx → EReal
abbrev OpY : Type := (⟨2, ![1024, 2048]⟩ : Shape).Idx → EReal

/-- The product's element at row `i` and column `j`. -/
abbrev prod (X : OpX) (Y : OpY) (i : Fin 8192) (j : Fin 2048) : EReal := ∑ k : Fin 1024, X (ix2 i k) * Y (ix2 k j)

/-- The product as an array. -/
abbrev prodArr (X : OpX) (Y : OpY) : (⟨2, ![8192, 2048]⟩ : Shape).Idx → EReal := fun i => prod X Y (i 0) (i 1)

section Kernel

open Cert.Kernel26Ideal Cert.Kernel26Ideal.Gen

/-- Which block of each array a grid point works on. -/
theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)
theorem t_lt (t : Fin cfg0.N) : t.val < 16 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x1024 .f32) := by
  simp only [V, hostOps0]
  after_results_simp <;> rfl
theorem V_y (d : Dev nD) : V m d main_v1 = (m ((d.tc : Thread nD τ).loc main_arg1) : FVec Ideal S1024x2048 .f32) := by
  simp only [V, hostOps0]
  after_results_simp <;> rfl

/-- The operand blocks at a grid point. -/
theorem blk0 (d : Dev nD) (t : Fin cfg0.N) (a : Fin 1024) (k : Fin 1024) (p : Fin 8192) (l : Fin 1024)
    (hp : p.val = 1024 * (t.val / 2) + a.val) (hl : l.val = k.val) :
    iblk m d 0 t (ix2 a k) = opX m d (ix2 p l) := by
  refine Eq.trans ?_ (congrFun (V_x m d) _)
  have bp : 1024 * (t.val / 2) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 1024) (q : Fin 2048) (l : Fin 1024)
    (hq : q.val = 1024 * (t.val % 2) + b.val) (hl : l.val = k.val) :
    iblk m d 1 t (ix2 k b) = opY m d (ix2 l q) := by
  refine Eq.trans ?_ (congrFun (V_y m d) _)
  have bq : 1024 * (t.val % 2) + b.val < 2048 := hq ▸ q.isLt
  obtain rfl : q = ⟨_, bq⟩ := Fin.ext hq
  obtain rfl : l = k := Fin.ext hl
  blk_simp [iblk, index1]
  congr 1; blk_ext [index1]

/-- What the body stores is the product of its two blocks. -/
theorem pay (x : Vec Ideal S1024x1024 .bf16) (y : Vec Ideal S1024x1024 .bf16) (a : Fin 1024) (b : Fin 1024) :
    k0_pay1 x y (ix2 a b) = ∑ k : Fin 1024, x (ix2 a k) * y (ix2 k b) := by
  pointwise [k0_pay1]

/-- The blocks, as arrays of extended reals. -/
abbrev blkX (d : Dev nD) (t : Fin cfg0.N) : S1024x1024.Idx → EReal := iblk m d 0 t
abbrev blkY (d : Dev nD) (t : Fin cfg0.N) : S1024x1024.Idx → EReal := iblk m d 1 t

/-- So it is the whole product at the block's place. -/
theorem stored_prod (d : Dev nD) (t : Fin cfg0.N) (a : Fin 1024) (b : Fin 1024)
    (p : Fin 8192) (q : Fin 2048) (hp : p.val = 1024 * (t.val / 2) + a.val) (hq : q.val = 1024 * (t.val % 2) + b.val) :
    k0_pay1 (F := Ideal) (blkX m d t) (blkY m d t) (ix2 a b) = prod (opX m d) (opY m d) p q := by
  refine (pay _ _ a b).trans ?_
  exact Finset.sum_congr rfl fun k _ => congrArg₂ (fun (x y : EReal) => x * y) (blk0 m d t a k p k hp rfl) (blk1 m d t b k q k hq rfl)

/-- The result array. -/
theorem final (d : Dev nD) (i : S8192x2048.Idx) : ((dats m 0 d).arrAt 2 cfg0.N : S8192x2048.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference26Ideal Cert.Reference26Ideal.Gen

/-- The reference's result, element by element. -/
theorem ref_val (x : FVec Ideal S8192x1024 .f32) (y : FVec Ideal S1024x2048 .f32) : Read.val_main_v1 (F := Ideal) x y = prodArr x y := by
  funext i
  refine (Read.val_main_v0_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v1_eq _ _).trans (ref_val _ _)), (h c).2⟩) (Value.run (F := Ideal) m ρ)

end Reference

/-- The kernel ends, with its arguments unchanged. -/
theorem frame_kernel : Cert.quiescent_Kernel26 (hKernel26 := Cert.Kernel26.Gen.facts) := fun m ρ _ => Cert.Kernel26.Gen.frame m ρ
/-- So does the kernel over the extended reals. -/
theorem frame_kernelIdeal : Cert.quiescent_Kernel26Ideal (hKernel26Ideal := Cert.Kernel26Ideal.Gen.facts) := fun m ρ _ => Cert.Kernel26Ideal.Gen.frame m ρ
/-- So does the reference. -/
theorem frame_reference : Cert.quiescent_Reference26Ideal (hReference26Ideal := Cert.Reference26Ideal.Gen.facts) := fun m ρ _ =>
  (θ_run Cert.Reference26Ideal.defs _ _).mono (fun r h => ⟨fun c => (h c).2, sem_eq_zero_of_no_sems (by decide) r.2⟩)
    (Cert.Reference26Ideal.Value.run (F := Ideal) m ρ)
/-- No operation is rewritten. -/
theorem preserves_kernel : Cert.preserves_Kernel26_Kernel26Ideal := trivial

/-- The kernel's result is the reference's. -/
theorem algebraic_kernel : Cert.algebraic_Kernel26Ideal_Reference26Ideal (hKernel26Ideal := Cert.Kernel26Ideal.Gen.facts)
    (hReference26Ideal := Cert.Reference26Ideal.Gen.facts) := by
  intro m g m' g' _ hargs
  refine ⟨fun c => prodArr (m ((c.tc : Thread Cert.Kernel26Ideal.nD Cert.Kernel26Ideal.τ).loc Cert.Kernel26Ideal.main_arg0))
    (m ((c.tc : Thread Cert.Kernel26Ideal.nD Cert.Kernel26Ideal.τ).loc Cert.Kernel26Ideal.main_arg1)), run_kernel m g,
    (θ_run Cert.Reference26Ideal.defs _ _).mono (fun _ h c => ⟨(h c).1.trans ?_, (h c).2⟩) (run_reference m' g')⟩
  obtain ⟨h0, h1⟩ := hargs c
  rw [h0, h1]

end Cert.Proof.Call26

end
-- ==== Proof.Call27.lean ====
/-
  The forward product of the per-layer embedding: the input times the weights, over the extended reals.
-/
module

public import proofs.«01_k».proof.Defs
public import proofs.«01_k».proof.Proof.Sums
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Read
public import Idealize.ShloMosaic.Lib.Quiescent

@[expose] public section

set_option maxRecDepth 16384

noncomputable section

namespace Cert.Proof.Call27

open Idealize.ShloMosaic Idealize.SL.Sem

/-- The operands, as arrays of extended reals. -/
abbrev OpX : Type := (⟨2, ![8192, 256]⟩ : Shape).Idx → EReal
abbrev OpY : Type := (⟨2, ![256, 2048]⟩ : Shape).Idx → EReal

/-- The product's element at row `i` and column `j`. -/
abbrev prod (X : OpX) (Y : OpY) (i : Fin 8192) (j : Fin 2048) : EReal := ∑ k : Fin 256, X (ix2 i k) * Y (ix2 k j)

/-- The product as an array. -/
abbrev prodArr (X : OpX) (Y : OpY) : (⟨2, ![8192, 2048]⟩ : Shape).Idx → EReal := fun i => prod X Y (i 0) (i 1)

section Kernel

open Cert.Kernel27Ideal Cert.Kernel27Ideal.Gen

/-- Which block of each array a grid point works on. -/
theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)
theorem t_lt (t : Fin cfg0.N) : t.val < 16 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_arg0 = (m ((d.tc : Thread nD τ).loc main_arg0) : FVec Ideal S8192x256 .f32) := by
  simp only [V, hostOps0]
  after_results_simp <;> rfl
theorem V_y (d : Dev nD) : V m d main_v0 = (m ((d.tc : Thread nD τ).loc main_arg1) : FVec Ideal S256x2048 .f32) := by
  simp only [V, hostOps0]
  after_results_simp <;> rfl

/-- The operand blocks at a grid point. -/
theorem blk0 (d : Dev nD) (t : Fin cfg0.N) (a : Fin 1024) (k : Fin 256) (p : Fin 8192) (l : Fin 256)
    (hp : p.val = 1024 * (t.val / 2) + a.val) (hl : l.val = k.val) :
    iblk m d 0 t (ix2 a k) = opX m d (ix2 p l) := by
  refine Eq.trans ?_ (congrFun (V_x m d) _)
  have bp : 1024 * (t.val / 2) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 256) (q : Fin 2048) (l : Fin 256)
    (hq : q.val = 1024 * (t.val % 2) + b.val) (hl : l.val = k.val) :
    iblk m d 1 t (ix2 k b) = opY m d (ix2 l q) := by
  refine Eq.trans ?_ (congrFun (V_y m d) _)
  have bq : 1024 * (t.val % 2) + b.val < 2048 := hq ▸ q.isLt
  obtain rfl : q = ⟨_, bq⟩ := Fin.ext hq
  obtain rfl : l = k := Fin.ext hl
  blk_simp [iblk, index1]
  congr 1; blk_ext [index1]

/-- What the body stores is the product of its two blocks. -/
theorem pay (x : Vec Ideal S1024x256 .f32) (y : Vec Ideal S256x1024 .bf16) (a : Fin 1024) (b : Fin 1024) :
    k0_pay1 x y (ix2 a b) = ∑ k : Fin 256, x (ix2 a k) * y (ix2 k b) := by
  pointwise [k0_pay1]

/-- The blocks, as arrays of extended reals. -/
abbrev blkX (d : Dev nD) (t : Fin cfg0.N) : S1024x256.Idx → EReal := iblk m d 0 t
abbrev blkY (d : Dev nD) (t : Fin cfg0.N) : S256x1024.Idx → EReal := iblk m d 1 t

/-- So it is the whole product at the block's place. -/
theorem stored_prod (d : Dev nD) (t : Fin cfg0.N) (a : Fin 1024) (b : Fin 1024)
    (p : Fin 8192) (q : Fin 2048) (hp : p.val = 1024 * (t.val / 2) + a.val) (hq : q.val = 1024 * (t.val % 2) + b.val) :
    k0_pay1 (F := Ideal) (blkX m d t) (blkY m d t) (ix2 a b) = prod (opX m d) (opY m d) p q := by
  refine (pay _ _ a b).trans ?_
  exact Finset.sum_congr rfl fun k _ => congrArg₂ (fun (x y : EReal) => x * y) (blk0 m d t a k p k hp rfl) (blk1 m d t b k q k hq rfl)

/-- The result array. -/
theorem final (d : Dev nD) (i : S8192x2048.Idx) : ((dats m 0 d).arrAt 2 cfg0.N : S8192x2048.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v1) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference27Ideal Cert.Reference27Ideal.Gen

/-- The reference's result, element by element. -/
theorem ref_val (x : FVec Ideal S8192x256 .f32) (y : FVec Ideal S256x2048 .f32) : Read.val_main_v1 (F := Ideal) x y = prodArr x y := by
  funext i
  refine (Read.val_main_v0_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v1_eq _ _).trans (ref_val _ _)), (h c).2⟩) (Value.run (F := Ideal) m ρ)

end Reference

/-- The kernel ends, with its arguments unchanged. -/
theorem frame_kernel : Cert.quiescent_Kernel27 (hKernel27 := Cert.Kernel27.Gen.facts) := fun m ρ _ => Cert.Kernel27.Gen.frame m ρ
/-- So does the kernel over the extended reals. -/
theorem frame_kernelIdeal : Cert.quiescent_Kernel27Ideal (hKernel27Ideal := Cert.Kernel27Ideal.Gen.facts) := fun m ρ _ => Cert.Kernel27Ideal.Gen.frame m ρ
/-- So does the reference. -/
theorem frame_reference : Cert.quiescent_Reference27Ideal (hReference27Ideal := Cert.Reference27Ideal.Gen.facts) := fun m ρ _ =>
  (θ_run Cert.Reference27Ideal.defs _ _).mono (fun r h => ⟨fun c => (h c).2, sem_eq_zero_of_no_sems (by decide) r.2⟩)
    (Cert.Reference27Ideal.Value.run (F := Ideal) m ρ)
/-- No operation is rewritten. -/
theorem preserves_kernel : Cert.preserves_Kernel27_Kernel27Ideal := trivial

/-- The kernel's result is the reference's. -/
theorem algebraic_kernel : Cert.algebraic_Kernel27Ideal_Reference27Ideal (hKernel27Ideal := Cert.Kernel27Ideal.Gen.facts)
    (hReference27Ideal := Cert.Reference27Ideal.Gen.facts) := by
  intro m g m' g' _ hargs
  refine ⟨fun c => prodArr (m ((c.tc : Thread Cert.Kernel27Ideal.nD Cert.Kernel27Ideal.τ).loc Cert.Kernel27Ideal.main_arg0))
    (m ((c.tc : Thread Cert.Kernel27Ideal.nD Cert.Kernel27Ideal.τ).loc Cert.Kernel27Ideal.main_arg1)), run_kernel m g,
    (θ_run Cert.Reference27Ideal.defs _ _).mono (fun _ h c => ⟨(h c).1.trans ?_, (h c).2⟩) (run_reference m' g')⟩
  obtain ⟨h0, h1⟩ := hargs c
  rw [h0, h1]

end Cert.Proof.Call27

end
-- ==== Proof.Call28.lean ====
/-
  The forward product of the forget gate's logits: the input times the weights, over the extended reals.
-/
module

public import proofs.«01_k».proof.Defs
public import proofs.«01_k».proof.Proof.Sums
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Read
public import Idealize.ShloMosaic.Lib.Quiescent

@[expose] public section

set_option maxRecDepth 16384

noncomputable section

namespace Cert.Proof.Call28

open Idealize.ShloMosaic Idealize.SL.Sem

/-- The operands, as arrays of extended reals. -/
abbrev OpX : Type := (⟨2, ![8192, 2048]⟩ : Shape).Idx → EReal
abbrev OpY : Type := (⟨2, ![2048, 128]⟩ : Shape).Idx → EReal

/-- The product's element at row `i` and column `j`. -/
abbrev prod (X : OpX) (Y : OpY) (i : Fin 8192) (j : Fin 128) : EReal := ∑ k : Fin 2048, X (ix2 i k) * Y (ix2 k j)

/-- The product as an array. -/
abbrev prodArr (X : OpX) (Y : OpY) : (⟨2, ![8192, 128]⟩ : Shape).Idx → EReal := fun i => prod X Y (i 0) (i 1)

section Kernel

open Cert.Kernel28Ideal Cert.Kernel28Ideal.Gen

/-- Which block of each array a grid point works on. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem t_lt (t : Fin cfg0.N) : t.val < 8 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S2048x128 .f32) := by
  simp only [V, hostOps0]
  after_results_simp <;> rfl

/-- The operand blocks at a grid point. -/
theorem blk0 (d : Dev nD) (t : Fin cfg0.N) (a : Fin 1024) (k : Fin 2048) (p : Fin 8192) (l : Fin 2048)
    (hp : p.val = 1024 * (t.val) + a.val) (hl : l.val = k.val) :
    iblk m d 0 t (ix2 a k) = opX m d (ix2 p l) := by
  refine Eq.trans ?_ (congrFun (V_x m d) _)
  have bp : 1024 * (t.val) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 128) (k : Fin 2048) (q : Fin 128) (l : Fin 2048)
    (hq : q.val = 128 * (0) + b.val) (hl : l.val = k.val) :
    iblk m d 1 t (ix2 k b) = opY m d (ix2 l q) := by
  refine Eq.trans ?_ (congrFun (V_y m d) _)
  have bq : 128 * (0) + b.val < 128 := hq ▸ q.isLt
  obtain rfl : q = ⟨_, bq⟩ := Fin.ext hq
  obtain rfl : l = k := Fin.ext hl
  blk_simp [iblk, index1]
  congr 1; blk_ext [index1]

/-- What the body stores is the product of its two blocks. -/
theorem pay (x : Vec Ideal S1024x2048 .bf16) (y : Vec Ideal S2048x128 .bf16) (a : Fin 1024) (b : Fin 128) :
    k0_pay1 x y (ix2 a b) = ∑ k : Fin 2048, x (ix2 a k) * y (ix2 k b) := by
  pointwise [k0_pay1]

/-- The blocks, as arrays of extended reals. -/
abbrev blkX (d : Dev nD) (t : Fin cfg0.N) : S1024x2048.Idx → EReal := iblk m d 0 t
abbrev blkY (d : Dev nD) (t : Fin cfg0.N) : S2048x128.Idx → EReal := iblk m d 1 t

/-- So it is the whole product at the block's place. -/
theorem stored_prod (d : Dev nD) (t : Fin cfg0.N) (a : Fin 1024) (b : Fin 128)
    (p : Fin 8192) (q : Fin 128) (hp : p.val = 1024 * (t.val) + a.val) (hq : q.val = 128 * (0) + b.val) :
    k0_pay1 (F := Ideal) (blkX m d t) (blkY m d t) (ix2 a b) = prod (opX m d) (opY m d) p q := by
  refine (pay _ _ a b).trans ?_
  exact Finset.sum_congr rfl fun k _ => congrArg₂ (fun (x y : EReal) => x * y) (blk0 m d t a k p k hp rfl) (blk1 m d t b k q k hq rfl)

/-- The result array. -/
theorem final (d : Dev nD) (i : S8192x128.Idx) : ((dats m 0 d).arrAt 2 cfg0.N : S8192x128.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; omega

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference28Ideal Cert.Reference28Ideal.Gen

/-- The reference's result, element by element. -/
theorem ref_val (x : FVec Ideal S8192x2048 .f32) (y : FVec Ideal S2048x128 .f32) : Read.val_main_v0 (F := Ideal) x y = prodArr x y := by
  funext i
  refine (Read.val_main_v0_apply x y i).trans (Finset.sum_congr rfl fun k _ => ?_)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v0_eq _ _).trans (ref_val _ _)), (h c).2⟩) (Value.run (F := Ideal) m ρ)

end Reference

/-- The kernel ends, with its arguments unchanged. -/
theorem frame_kernel : Cert.quiescent_Kernel28 (hKernel28 := Cert.Kernel28.Gen.facts) := fun m ρ _ => Cert.Kernel28.Gen.frame m ρ
/-- So does the kernel over the extended reals. -/
theorem frame_kernelIdeal : Cert.quiescent_Kernel28Ideal (hKernel28Ideal := Cert.Kernel28Ideal.Gen.facts) := fun m ρ _ => Cert.Kernel28Ideal.Gen.frame m ρ
/-- So does the reference. -/
theorem frame_reference : Cert.quiescent_Reference28Ideal (hReference28Ideal := Cert.Reference28Ideal.Gen.facts) := fun m ρ _ =>
  (θ_run Cert.Reference28Ideal.defs _ _).mono (fun r h => ⟨fun c => (h c).2, sem_eq_zero_of_no_sems (by decide) r.2⟩)
    (Cert.Reference28Ideal.Value.run (F := Ideal) m ρ)
/-- No operation is rewritten. -/
theorem preserves_kernel : Cert.preserves_Kernel28_Kernel28Ideal := trivial

/-- The kernel's result is the reference's. -/
theorem algebraic_kernel : Cert.algebraic_Kernel28Ideal_Reference28Ideal (hKernel28Ideal := Cert.Kernel28Ideal.Gen.facts)
    (hReference28Ideal := Cert.Reference28Ideal.Gen.facts) := by
  intro m g m' g' _ hargs
  refine ⟨fun c => prodArr (m ((c.tc : Thread Cert.Kernel28Ideal.nD Cert.Kernel28Ideal.τ).loc Cert.Kernel28Ideal.main_arg0))
    (m ((c.tc : Thread Cert.Kernel28Ideal.nD Cert.Kernel28Ideal.τ).loc Cert.Kernel28Ideal.main_arg1)), run_kernel m g,
    (θ_run Cert.Reference28Ideal.defs _ _).mono (fun _ h c => ⟨(h c).1.trans ?_, (h c).2⟩) (run_reference m' g')⟩
  obtain ⟨h0, h1⟩ := hargs c
  rw [h0, h1]

end Cert.Proof.Call28

end
-- ==== Proof.Call29.lean ====
/-
  The forward product of the attention's projections over the extended reals: the input times the weights, the query columns times
  the score's scale in base two.
-/
module

public import proofs.«01_k».proof.Defs
public import proofs.«01_k».proof.Proof.Sums
public import proofs.«01_k».proof.Proof.Consts
public import proofs.«01_k».proof.Proof.Soft
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Read
public import Idealize.ShloMosaic.Lib.Quiescent

@[expose] public section

set_option maxRecDepth 16384

noncomputable section

namespace Cert.Proof.Call29

open Idealize.ShloMosaic Idealize.SL.Sem

/-- The operands, as arrays of extended reals. -/
abbrev OpX : Type := (⟨2, ![8192, 2048]⟩ : Shape).Idx → EReal
abbrev OpY : Type := (⟨2, ![2048, 3072]⟩ : Shape).Idx → EReal

/-- What the query columns are multiplied by: one over the root of the head's width, times one over the logarithm of two. -/
def qscale : EReal := (((Real.sqrt 128)⁻¹ * (Real.log 2)⁻¹ : ℝ) : EReal)

/-- The factor of column `j`: the first 1024 columns are the queries'. -/
def fac (j : ℕ) : EReal := if j < 1024 then qscale else 1

/-- The product's element at row `i` and column `j`. -/
abbrev prod (X : OpX) (Y : OpY) (i : Fin 8192) (j : Fin 3072) : EReal := (∑ k : Fin 2048, X (ix2 i k) * Y (ix2 k j)) * fac j.val

/-- The product as an array. -/
abbrev prodArr (X : OpX) (Y : OpY) : (⟨2, ![8192, 3072]⟩ : Shape).Idx → EReal := fun i => prod X Y (i 0) (i 1)

section Kernel

open Cert.Kernel29Ideal Cert.Kernel29Ideal.Gen

/-- Which block of each array a grid point works on. -/
theorem index0 : ∀ t : Fin cfg0.N, win0_0.index t = ![t.val / 3, 0] := (by decide +kernel : ∀ t : Fin grid0.N, _)
theorem index1 : ∀ t : Fin cfg0.N, win0_1.index t = ![0, t.val % 3] := (by decide +kernel : ∀ t : Fin grid0.N, _)
theorem index2 : ∀ t : Fin cfg0.N, win0_2.index t = ![t.val / 3, t.val % 3] := (by decide +kernel : ∀ t : Fin grid0.N, _)
theorem t_lt (t : Fin cfg0.N) : t.val < 24 := t.isLt

variable (m : (ℓ : Loc nD τ sig) → Buf (Elt Ideal) ℓ)

/-- The operands. -/
abbrev opX (d : Dev nD) : OpX := m ((d.tc : Thread nD τ).loc main_arg0)
abbrev opY (d : Dev nD) : OpY := m ((d.tc : Thread nD τ).loc main_arg1)

theorem V_x (d : Dev nD) : V m d main_v0 = (m ((d.tc : Thread nD τ).loc main_arg0) : FVec Ideal S8192x2048 .f32) := by
  simp only [V, hostOps0]
  after_results_simp <;> rfl
theorem V_y (d : Dev nD) : V m d main_v1 = (m ((d.tc : Thread nD τ).loc main_arg1) : FVec Ideal S2048x3072 .f32) := by
  simp only [V, hostOps0]
  after_results_simp <;> rfl

/-- The operand blocks at a grid point. -/
theorem blk0 (d : Dev nD) (t : Fin cfg0.N) (a : Fin 1024) (k : Fin 2048) (p : Fin 8192) (l : Fin 2048)
    (hp : p.val = 1024 * (t.val / 3) + a.val) (hl : l.val = k.val) :
    iblk m d 0 t (ix2 a k) = opX m d (ix2 p l) := by
  refine Eq.trans ?_ (congrFun (V_x m d) _)
  have bp : 1024 * (t.val / 3) + a.val < 8192 := hp ▸ p.isLt
  obtain rfl : p = ⟨_, bp⟩ := Fin.ext hp
  obtain rfl : l = k := Fin.ext hl
  blk_simp [iblk, index0]
  congr 1; blk_ext [index0]
theorem blk1 (d : Dev nD) (t : Fin cfg0.N) (b : Fin 1024) (k : Fin 2048) (q : Fin 3072) (l : Fin 2048)
    (hq : q.val = 1024 * (t.val % 3) + b.val) (hl : l.val = k.val) :
    iblk m d 1 t (ix2 k b) = opY m d (ix2 l q) := by
  refine Eq.trans ?_ (congrFun (V_y m d) _)
  have bq : 1024 * (t.val % 3) + b.val < 3072 := hq ▸ q.isLt
  obtain rfl : q = ⟨_, bq⟩ := Fin.ext hq
  obtain rfl : l = k := Fin.ext hl
  blk_simp [iblk, index1]
  congr 1; blk_ext [index1]

/-- The column block a grid point works on. -/
theorem coord1 : ∀ t : Fin cfg0.N, ((grid0.coords t) 1).val = t.val % 3 := (by decide +kernel : ∀ t : Fin grid0.N, _)

/-- The named constant. -/
theorem named_qscale : Named.named (F := Ideal) κ "qscale" (φ := .f32) 0x3E0293EE#32 = qscale :=
  IdealRules.named_const.ideal_named_scalar _ _ _ _ rfl

/-- The test for the first column block. -/
theorem test_col (n : ℕ) (h : n < 3) : Scalar.cmpi .slt (BitVec.ofNat 32 n) 1#32 = if n < 1 then 1#1 else 0#1 := by
  interval_cases n <;> rfl

/-- What the body stores is the product of its two blocks, times the column's factor. -/
theorem pay (t : Fin cfg0.N) (x : Vec Ideal S1024x2048 .bf16) (y : Vec Ideal S2048x1024 .bf16) (a : Fin 1024) (b : Fin 1024) :
    k0_pay1 (grid0.coords t) x y (ix2 a b) = (∑ k : Fin 2048, x (ix2 a k) * y (ix2 k b)) * fac (1024 * (t.val % 3) + b.val) := by
  pointwise [k0_pay1]
  have e := test_col (t.val % 3) (Nat.mod_lt _ (by omega))
  rw [coord1, e, named_qscale, fac]
  by_cases h : t.val % 3 < 1
  · rw [if_pos h, if_pos (by omega)]
    rfl
  · rw [if_neg h, if_neg (by omega)]
    rfl

/-- The blocks, as arrays of extended reals. -/
abbrev blkX (d : Dev nD) (t : Fin cfg0.N) : S1024x2048.Idx → EReal := iblk m d 0 t
abbrev blkY (d : Dev nD) (t : Fin cfg0.N) : S2048x1024.Idx → EReal := iblk m d 1 t

/-- So it is the whole product at the block's place. -/
theorem stored_prod (d : Dev nD) (t : Fin cfg0.N) (a : Fin 1024) (b : Fin 1024)
    (p : Fin 8192) (q : Fin 3072) (hp : p.val = 1024 * (t.val / 3) + a.val) (hq : q.val = 1024 * (t.val % 3) + b.val) :
    k0_pay1 (F := Ideal) (grid0.coords t) (blkX m d t) (blkY m d t) (ix2 a b) = prod (opX m d) (opY m d) p q := by
  refine (pay t _ _ a b).trans ?_
  refine congrArg₂ (fun (x y : EReal) => x * y) (Finset.sum_congr rfl fun k _ => ?_) (by rw [hq])
  exact congrArg₂ (fun (x y : EReal) => x * y) (blk0 m d t a k p k hp rfl) (blk1 m d t b k q k hq rfl)

/-- The result array. -/
theorem final (d : Dev nD) (i : S8192x3072.Idx) : ((dats m 0 d).arrAt 2 cfg0.N : S8192x3072.Idx → EReal) i = prodArr (opX m d) (opY m d) i := by
  refine (dats m 0 d).arrAt_forall_of_covers 2 (fun i v => v = prodArr (opX m d) (opY m d) i) (by decide +kernel) (fun t hf y => ?_) i
  blk_simp [index2]
  rw [after0_2]; frame_out
  refine (congrArg _ (Sums.idx2 y).symm).trans (stored_prod m d t (y 0) (y 1) _ _ ?_ ?_)
  · blk_simp [index2]; simp only [mul_comm]
  · blk_simp [index2]; simp only [mul_comm]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext (final m c)), (h c).2⟩) (Value.run_blocks m ρ)

end Kernel

section Reference

open Cert.Reference29Ideal Cert.Reference29Ideal.Gen

/-- The reference's factor. -/
theorem ref_qscale : Read.val_main_v8 (F := Ideal) ix0 = qscale := by
  pointwise [Read.val_main_v8, Read.val_main_v1, Read.val_main_v3, Read.val_main_v0, Read.val_main_v2, Read.val_main_cst, Read.val_main_cst_0,
    Read.val_main_cst_1, Read.val_main_cst_2]
  rw [ofBits_128, ofBits_2, Ideal.sqrt_coe, Ideal.log_coe, if_neg (by norm_num), if_neg (by norm_num), ← EReal.coe_one,
    div_coe_coe _ (Real.sqrt_pos.2 (by norm_num : (0 : ℝ) < 128)).ne', div_coe_coe _ (Real.log_pos (by norm_num : (1 : ℝ) < 2)).ne',
    ← EReal.coe_mul, qscale, one_div, one_div]

/-- The reference's test for the queries' columns. -/
theorem ref_test : ∀ n : Fin 3072, IntOp.cmpi .slt (BitVec.ofNat 32 n.val) 1024#32 = if n.val < 1024 then 1#1 else 0#1 := by decide +kernel

/-- The columns' factors, as the reference takes them. -/
theorem ref_fac (i : S8192x3072.Idx) : Read.val_main_v11 (F := Ideal) i = fac (i 1).val := by
  have e := ref_qscale
  generalize hs : Read.val_main_v8 (F := Ideal) = s at e
  idx_vars i
  pointwise [Read.val_main_v11, Read.val_main_v10, Read.val_main_v9, Read.val_main_v7, Read.val_main_v5, Read.val_main_v6, Read.val_main_c,
    Read.val_main_call0_v1, Read.val_main_call0_v2, Read.val_main_call0_v0, Read.val_main_cst_3]
  rw [ref_test i1, hs, fac]
  by_cases h : i1.val < 1024
  · rw [if_pos h, if_pos h]
    exact e
  · rw [if_neg h, if_neg h]
    show Ideal.ofBits .f32 0x3F800000#32 = ((1 : ℝ) : EReal)
    simp [Ideal.ofBits, Ideal.ieee, -EReal.coe_mul]; norm_num

/-- The reference's result, element by element. -/
theorem ref_val (x : FVec Ideal S8192x2048 .f32) (y : FVec Ideal S2048x3072 .f32) : Read.val_main_v13 (F := Ideal) x y = prodArr x y := by
  funext i
  refine congrArg₂ (fun (x y : EReal) => x * y) ((Read.val_main_v4_apply x y i).trans (Finset.sum_congr rfl fun k _ => ?_)) (ref_fac i)
  congr 2 <;> funext a <;> fin_cases a <;> rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = prodArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v13_eq _ _).trans (ref_val _ _)), (h c).2⟩) (Value.run (F := Ideal) m ρ)

end Reference

/-- The kernel ends, with its arguments unchanged. -/
theorem frame_kernel : Cert.quiescent_Kernel29 (hKernel29 := Cert.Kernel29.Gen.facts) := fun m ρ _ => Cert.Kernel29.Gen.frame m ρ
/-- So does the kernel over the extended reals. -/
theorem frame_kernelIdeal : Cert.quiescent_Kernel29Ideal (hKernel29Ideal := Cert.Kernel29Ideal.Gen.facts) := fun m ρ _ => Cert.Kernel29Ideal.Gen.frame m ρ
/-- So does the reference. -/
theorem frame_reference : Cert.quiescent_Reference29Ideal (hReference29Ideal := Cert.Reference29Ideal.Gen.facts) := fun m ρ _ =>
  (θ_run Cert.Reference29Ideal.defs _ _).mono (fun r h => ⟨fun c => (h c).2, sem_eq_zero_of_no_sems (by decide) r.2⟩)
    (Cert.Reference29Ideal.Value.run (F := Ideal) m ρ)
/-- The named constant is its number's entry in the table. -/
theorem preserves_kernel : Cert.preserves_Kernel29_Kernel29Ideal :=
  IdealRules.named_const.statement Cert.Kernel29Ideal.κ "qscale" .f32 0x3E0293EE#32 (((Real.sqrt 128)⁻¹ * (Real.log 2)⁻¹ : ℝ) : EReal) rfl

/-- The kernel's result is the reference's. -/
theorem algebraic_kernel : Cert.algebraic_Kernel29Ideal_Reference29Ideal (hKernel29Ideal := Cert.Kernel29Ideal.Gen.facts)
    (hReference29Ideal := Cert.Reference29Ideal.Gen.facts) := by
  intro m g m' g' _ hargs
  refine ⟨fun c => prodArr (m ((c.tc : Thread Cert.Kernel29Ideal.nD Cert.Kernel29Ideal.τ).loc Cert.Kernel29Ideal.main_arg0))
    (m ((c.tc : Thread Cert.Kernel29Ideal.nD Cert.Kernel29Ideal.τ).loc Cert.Kernel29Ideal.main_arg1)), run_kernel m g,
    (θ_run Cert.Reference29Ideal.defs _ _).mono (fun _ h c => ⟨(h c).1.trans ?_, (h c).2⟩) (run_reference m' g')⟩
  obtain ⟨h0, h1⟩ := hargs c
  rw [h0, h1]

end Cert.Proof.Call29

end
-- ==== Proof.Gate.lean ====
/-
  The logistic function on the extended reals.
-/
module

public import Idealize.ShloMosaic.PureOps.Ideal

@[expose] public section

noncomputable section

namespace Cert.Proof

open Idealize.ShloMosaic

/-- The logistic function, `1 / (1 + exp (-x))`, with the values `0` and `1` at the two infinities. -/
def lgs (x : EReal) : EReal := Ideal.div 1 (1 + Ideal.exp (-x))

/-- The same with the subtraction from zero that a kernel writes for the negation. -/
theorem lgs_sub (x : EReal) : Ideal.div 1 (1 + Ideal.exp (0 - x)) = lgs x := by
  rw [zero_sub, lgs]

end Cert.Proof

end
-- ==== Proof.Call30.lean ====
/-
  The backward pass of the two branches' gates over the extended reals: the gradients of both branches and of the gate columns, row block by row block.
-/
module

public import proofs.«01_k».proof.Defs
public import proofs.«01_k».proof.Proof.Sums
public import proofs.«01_k».proof.Proof.Gate
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Read
public import Idealize.ShloMosaic.Lib.Quiescent

@[expose] public section

set_option maxRecDepth 16384

noncomputable section

namespace Cert.Proof.Call30

open Idealize.ShloMosaic Idealize.SL.Sem

/-- The gradient of a branch gated by `g`, and that of the gate `g` of a branch `y`, at the gradient `d` of `lgs g * y`. -/
def dBr (g d : EReal) : EReal := lgs g * d
def dGt (g y d : EReal) : EReal := (d * y) * (lgs g * (1 - lgs g))

/-- The operands and results, as arrays of extended reals. -/
abbrev Op2048 : Type := (⟨2, ![8192, 2048]⟩ : Shape).Idx → EReal
abbrev Op4096 : Type := (⟨2, ![8192, 4096]⟩ : Shape).Idx → EReal

/-- The two columns of the gate array that column `j` belongs to. -/
abbrev lo (j : Fin 2048) : Fin 4096 := ⟨j.val, by omega⟩
abbrev hi (j : Fin 2048) : Fin 4096 := ⟨2048 + j.val, by omega⟩

/-- The result `dConv`, element by element, and as an array. -/
abbrev dConvAt (G : Op4096) (D : Op2048) (i : Fin 8192) (j : Fin 2048) : EReal := dBr (G (ix2 i (lo j))) (D (ix2 i j))
abbrev dConvArr (G : Op4096) (D : Op2048) : Op2048 := fun i => dConvAt G D (i 0) (i 1)

/-- The result `dAttn`, element by element, and as an array. -/
abbrev dAttnAt (G : Op4096) (D : Op2048) (i : Fin 8192) (j : Fin 2048) : EReal := dBr (G (ix2 i (hi j))) (D (ix2 i j))
abbrev dAttnArr (G : Op4096) (D : Op2048) : Op2048 := fun i => dAttnAt G D (i 0) (i 1)

/-- The gradient of the gate columns. -/
def dGate (G : Op4096) (Y U D : Op2048) (i : Fin 8192) (j : Fin 4096) : EReal :=
  if h : j.val < 2048 then dGt (G (ix2 i j)) (Y (ix2 i ⟨j.val, h⟩)) (D (ix2 i ⟨j.val, h⟩))
  else dGt (G (ix2 i j)) (U (ix2 i ⟨j.val - 2048, by omega⟩)) (D (ix2 i ⟨j.val - 2048, by omega⟩))
abbrev dGateArr (G : Op4096) (Y U D : Op2048) : Op4096 := fun i => dGate G Y U D (i 0) (i 1)

theorem dGate_lo (G : Op4096) (Y U D : Op2048) (i : Fin 8192) (j : Fin 2048) (p : Fin 4096) (hp : p.val = j.val) :
    dGate G Y U D i p = dGt (G (ix2 i (lo j))) (Y (ix2 i j)) (D (ix2 i j)) := by
  obtain rfl : p = lo j := Fin.ext hp
  rw [dGate, dif_pos j.isLt]
theorem dGate_hi (G : Op4096) (Y U D : Op2048) (i : Fin 8192) (j : Fin 2048) (p : Fin 4096) (hp : p.val = 2048 + j.val) :
    dGate G Y U D i p = dGt (G (ix2 i (hi j))) (U (ix2 i j)) (D (ix2 i j)) := by
  obtain rfl : p = hi j := Fin.ext hp
  have h : ¬ (hi j).val < 2048 := by show ¬ 2048 + j.val < 2048; omega
  have e : (⟨(hi j).val - 2048, by show 2048 + j.val - 2048 < 2048; omega⟩ : Fin 2048) = j := Fin.ext (by show 2048 + j.val - 2048 = j.val; omega)
  rw [dGate, dif_neg h, e]

section Kernel

open Cert.Kernel30Ideal Cert.Kernel30Ideal.Gen

/-- What the body stores for `dConv`. -/
theorem pay_dConv (g : Vec Ideal S512x4096 .bf16) (d : Vec Ideal S512x2048 .bf16) (a : Fin 512) (b : Fin 2048) :
    k0_pay8 g d (ix2 a b) = dBr (g (ix2 a (lo b))) (d (ix2 a b)) := by
  pointwise [k0_pay8, k0_pay6, k0_pay5, k0_pay3]
  rw [dBr, mul_comm]; simp only [lgs_sub]

/-- What the body stores for `dAttn`. -/
theorem pay_dAttn (g : Vec Ideal S512x4096 .bf16) (d : Vec Ideal S512x2048 .bf16) (a : Fin 512) (b : Fin 2048) :
    k0_pay9 g d (ix2 a b) = dBr (g (ix2 a (hi b))) (d (ix2 a b)) := by
  pointwise [k0_pay9, k0_pay7, k0_pay5, k0_pay3]
  rw [dBr, mul_comm]; simp only [lgs_sub]

/-- What the body stores in the gate columns. -/
theorem pay_gate_lo (g : Vec Ideal S512x4096 .bf16) (y d : Vec Ideal S512x2048 .bf16) (a : Fin 512) (b : Fin 2048) :
    k0_pay1 (k0_pay10 g y d) (k0_pay11 g) (ix2 a b) = dGt (g (ix2 a (lo b))) (y (ix2 a b)) (d (ix2 a b)) := by
  pointwise [k0_pay1, k0_pay10, k0_pay11, k0_pay6, k0_pay5, k0_pay3]
  rw [dGt, ← mul_assoc]; simp only [lgs_sub]
theorem pay_gate_hi (g : Vec Ideal S512x4096 .bf16) (u d : Vec Ideal S512x2048 .bf16) (a : Fin 512) (b : Fin 2048) :
    k0_pay2 (k0_pay4 u) (k0_pay5 d) (k0_pay7 g) (ix2 a b) = dGt (g (ix2 a (hi b))) (u (ix2 a b)) (d (ix2 a b)) := by
  pointwise [k0_pay2, k0_pay4, k0_pay5, k0_pay7, k0_pay3]
  rw [dGt, ← mul_assoc]; simp only [lgs_sub]

/-- Which block of each array a grid point works on. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem t_lt (t : Fin cfg0.N) : t.val < 16 := t.isLt

variable (m : (ℓ : Loc nD τ sig) → Buf (Elt Ideal) ℓ)

/-- The operands. -/
abbrev opG (d : Dev nD) : Op4096 := m ((d.tc : Thread nD τ).loc main_arg0)
abbrev opY (d : Dev nD) : Op2048 := m ((d.tc : Thread nD τ).loc main_arg1)
abbrev opU (d : Dev nD) : Op2048 := m ((d.tc : Thread nD τ).loc main_arg2)
abbrev opD (d : Dev nD) : Op2048 := m ((d.tc : Thread nD τ).loc main_arg3)

theorem V_g (d : Dev nD) : V m d main_v0 = (m ((d.tc : Thread nD τ).loc main_arg0) : FVec Ideal S8192x4096 .f32) := by
  simp only [V, hostOps0]
  after_results_simp <;> rfl
theorem V_y (d : Dev nD) : V m d main_v1 = (m ((d.tc : Thread nD τ).loc main_arg1) : FVec Ideal S8192x2048 .f32) := by
  simp only [V, hostOps0]
  after_results_simp <;> rfl
theorem V_u (d : Dev nD) : V m d main_v2 = (m ((d.tc : Thread nD τ).loc main_arg2) : FVec Ideal S8192x2048 .f32) := by
  simp only [V, hostOps0]
  after_results_simp <;> rfl
theorem V_d (d : Dev nD) : V m d main_v3 = (m ((d.tc : Thread nD τ).loc main_arg3) : FVec Ideal S8192x2048 .f32) := by
  simp only [V, hostOps0]
  after_results_simp <;> rfl

/-- The row of the arrays that row `a` of point `t`'s blocks is. -/
abbrev row (t : Fin cfg0.N) (a : Fin 512) : Fin 8192 := ⟨512 * t.val + a.val, by have := t_lt t; omega⟩

/-- The operand blocks at a grid point. -/
theorem blk0 (d : Dev nD) (t : Fin cfg0.N) (a : Fin 512) (b : Fin 4096) : iblk m d 0 t (ix2 a b) = opG m d (ix2 (row t a) b) := by
  refine Eq.trans ?_ (congrFun (V_g m d) _)
  blk_simp [iblk, index0]
  congr 1; blk_ext [index0]
theorem blk1 (d : Dev nD) (t : Fin cfg0.N) (a : Fin 512) (b : Fin 2048) : iblk m d 1 t (ix2 a b) = opY m d (ix2 (row t a) b) := by
  refine Eq.trans ?_ (congrFun (V_y m d) _)
  blk_simp [iblk, index1]
  congr 1; blk_ext [index1]
theorem blk2 (d : Dev nD) (t : Fin cfg0.N) (a : Fin 512) (b : Fin 2048) : iblk m d 2 t (ix2 a b) = opU m d (ix2 (row t a) b) := by
  refine Eq.trans ?_ (congrFun (V_u m d) _)
  blk_simp [iblk, index2]
  congr 1; blk_ext [index2]
theorem blk3 (d : Dev nD) (t : Fin cfg0.N) (a : Fin 512) (b : Fin 2048) : iblk m d 3 t (ix2 a b) = opD m d (ix2 (row t a) b) := by
  refine Eq.trans ?_ (congrFun (V_d m d) _)
  blk_simp [iblk, index3]
  congr 1; blk_ext [index3]

theorem ld0 (X : Vec Ideal S512x4096 .bf16) : View.ld X r0_0 = X := View.ld_unit_zero (by funext a; fin_cases a <;> rfl) _ X
theorem ld1 (X : Vec Ideal S512x2048 .bf16) : View.ld X r0_1 = X := View.ld_unit_zero (by funext a; fin_cases a <;> rfl) _ X
theorem stored_gate_hi (g : Vec Ideal S512x4096 .bf16) (y d : Vec Ideal S512x2048 .bf16) (a : Fin 512) (b : Fin 2048) :
    k0_pay2 (k0_pay4 (View.ld y r0_1)) (k0_pay5 (View.ld d r0_1)) (k0_pay7 (View.ld g r0_0)) (ix2 a b) = dGt (g (ix2 a (hi b))) (y (ix2 a b)) (d (ix2 a b)) := by
  rw [ld0, ld1, ld1]
  exact pay_gate_hi g y d a b
theorem stored_gate_lo (g : Vec Ideal S512x4096 .bf16) (y d : Vec Ideal S512x2048 .bf16) (a : Fin 512) (b : Fin 2048) :
    k0_pay1 (k0_pay10 (View.ld g r0_0) (View.ld y r0_1) (View.ld d r0_1)) (k0_pay11 (View.ld g r0_0)) (ix2 a b) = dGt (g (ix2 a (lo b))) (y (ix2 a b)) (d (ix2 a b)) := by
  rw [ld0, ld1, ld1]
  exact pay_gate_lo g y d a b

/-- What a grid point stores for `dConv`, at each place of its block. -/
theorem out_dConv (d : Dev nD) (t : Fin cfg0.N) (a : Fin 512) (b : Fin 2048) :
    k0_pay8 (iblk m d 0 t) (iblk m d 3 t) (ix2 a b) = dConvAt (opG m d) (opD m d) (row t a) b := by
  refine (pay_dConv _ _ a b).trans ?_
  exact congrArg₂ dBr (blk0 m d t a (lo b)) (blk3 m d t a b)

/-- What a grid point stores for `dAttn`, at each place of its block. -/
theorem out_dAttn (d : Dev nD) (t : Fin cfg0.N) (a : Fin 512) (b : Fin 2048) :
    k0_pay9 (iblk m d 0 t) (iblk m d 3 t) (ix2 a b) = dAttnAt (opG m d) (opD m d) (row t a) b := by
  refine (pay_dAttn _ _ a b).trans ?_
  exact congrArg₂ dBr (blk0 m d t a (hi b)) (blk3 m d t a b)

/-- What a grid point stores in the gate columns, at each place of its block. -/
theorem out_gate_lo (d : Dev nD) (t : Fin cfg0.N) (a : Fin 512) (b : Fin 2048) :
    k0_pay1 (k0_pay10 (View.ld (iblk m d 0 t) r0_0) (View.ld (iblk m d 1 t) r0_1) (View.ld (iblk m d 3 t) r0_1)) (k0_pay11 (View.ld (iblk m d 0 t) r0_0)) (ix2 a b)
      = dGate (opG m d) (opY m d) (opU m d) (opD m d) (row t a) (lo b) := by
  rw [dGate_lo _ _ _ _ _ b _ rfl]
  refine (stored_gate_lo _ _ _ a b).trans ?_
  exact congr (congrArg₂ dGt (blk0 m d t a (lo b)) (blk1 m d t a b)) (blk3 m d t a b)
theorem out_gate_hi (d : Dev nD) (t : Fin cfg0.N) (a : Fin 512) (b : Fin 2048) :
    k0_pay2 (k0_pay4 (View.ld (iblk m d 2 t) r0_1)) (k0_pay5 (View.ld (iblk m d 3 t) r0_1)) (k0_pay7 (View.ld (iblk m d 0 t) r0_0)) (ix2 a b)
      = dGate (opG m d) (opY m d) (opU m d) (opD m d) (row t a) (hi b) := by
  rw [dGate_hi _ _ _ _ _ b _ rfl]
  refine (stored_gate_hi _ _ _ a b).trans ?_
  exact congr (congrArg₂ dGt (blk0 m d t a (hi b)) (blk2 m d t a b)) (blk3 m d t a b)
theorem out_gate (d : Dev nD) (t : Fin cfg0.N) (y : S512x4096.Idx) :
    out0_6 (iblk m d 0 t) (iblk m d 1 t) (iblk m d 2 t) (iblk m d 3 t) y = dGate (opG m d) (opY m d) (opU m d) (opD m d) (row t (y 0)) (y 1) := by
  canon_tiles x h
  · refine (congrArg _ (Sums.idx2 x).symm).trans ((out_gate_hi m d t (x 0) (x 1)).trans (congrArg₂ (dGate _ _ _ _) (Fin.ext ?_) (Fin.ext ?_)))
    · show 512 * t.val + (x 0).val = 512 * t.val + (y 0).val
      omega
    · exact h1.symm
  · refine (congrArg _ (Sums.idx2 x).symm).trans ((out_gate_lo m d t (x 0) (x 1)).trans (congrArg₂ (dGate _ _ _ _) (Fin.ext ?_) (Fin.ext ?_)))
    · show 512 * t.val + (x 0).val = 512 * t.val + (y 0).val
      omega
    · exact h1.symm

/-- The result array `dConv`. -/
theorem final_dConv (d : Dev nD) (i : S8192x2048.Idx) : ((dats m 0 d).arrAt 4 cfg0.N : S8192x2048.Idx → EReal) i = dConvArr (opG m d) (opD m d) i := by
  refine (dats m 0 d).arrAt_forall_of_covers 4 (fun i v => v = dConvArr (opG m d) (opD m d) i) (by decide +kernel) (fun t hf y => ?_) i
  blk_simp [index4]
  rw [after0_4]; frame_out
  refine (congrArg _ (Sums.idx2 y).symm).trans ((out_dConv m d t (y 0) (y 1)).trans (congrArg₂ (dConvAt _ _) (Fin.ext ?_) (Fin.ext ?_)))
  · blk_simp [index4]; try simp only [mul_comm]
  · blk_simp [index4]

/-- The result array `dAttn`. -/
theorem final_dAttn (d : Dev nD) (i : S8192x2048.Idx) : ((dats m 0 d).arrAt 5 cfg0.N : S8192x2048.Idx → EReal) i = dAttnArr (opG m d) (opD m d) i := by
  refine (dats m 0 d).arrAt_forall_of_covers 5 (fun i v => v = dAttnArr (opG m d) (opD m d) i) (by decide +kernel) (fun t hf y => ?_) i
  blk_simp [index5]
  rw [after0_5]; frame_out
  refine (congrArg _ (Sums.idx2 y).symm).trans ((out_dAttn m d t (y 0) (y 1)).trans (congrArg₂ (dAttnAt _ _) (Fin.ext ?_) (Fin.ext ?_)))
  · blk_simp [index5]; try simp only [mul_comm]
  · blk_simp [index5]

/-- The result array `dGate`. -/
theorem final_dGate (d : Dev nD) (i : S8192x4096.Idx) : ((dats m 0 d).arrAt 6 cfg0.N : S8192x4096.Idx → EReal) i = dGateArr (opG m d) (opY m d) (opU m d) (opD m d) i := by
  refine (dats m 0 d).arrAt_forall_of_covers 6 (fun i v => v = dGateArr (opG m d) (opY m d) (opU m d) (opD m d) i) (by decide +kernel) (fun t hf y => ?_) i
  blk_simp [index6]
  rw [after0_6]
  refine (out_gate m d t y).trans (congrArg₂ (dGate _ _ _ _) (Fin.ext ?_) (Fin.ext ?_))
  · blk_simp [index6]; try simp only [mul_comm]
  · blk_simp [index6]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v4_0) = dConvArr (m ((c.tc : Thread nD τ).loc main_arg0)) (m ((c.tc : Thread nD τ).loc main_arg3))
      ∧ r.2.mem ((c.tc : Thread nD τ).loc main_v4_1) = dAttnArr (m ((c.tc : Thread nD τ).loc main_arg0)) (m ((c.tc : Thread nD τ).loc main_arg3))
      ∧ r.2.mem ((c.tc : Thread nD τ).loc main_v4_2) = dGateArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (funext (final_dConv m c)), (h c).2.1.trans (funext (final_dAttn m c)), (h c).2.2.1.trans (funext (final_dGate m c)), (h c).2.2.2⟩) (Value.run_blocks m ρ)

end Kernel

section Reference

open Cert.Reference30Ideal Cert.Reference30Ideal.Gen

/-- The reference's result `dConv`, element by element. -/
theorem ref_dConv (x0 : FVec Ideal S8192x4096 .f32) (x3 : FVec Ideal S8192x2048 .f32) : Read.val_main_v32 (F := Ideal) x0 x3 = dConvArr x0 x3 := by
  funext i
  idx_vars i
  pointwise [Read.val_main_v32, Read.val_main_v28, Read.val_main_v7, Read.val_main_v6, Read.val_main_cst_0, Read.val_main_v5, Read.val_main_v4, Read.val_main_cst, Read.val_main_v3, Read.val_main_v2, Read.val_main_v0, Read.val_main_v23]
  rfl

/-- The reference's result `dAttn`, element by element. -/
theorem ref_dAttn (x0 : FVec Ideal S8192x4096 .f32) (x3 : FVec Ideal S8192x2048 .f32) : Read.val_main_v33 (F := Ideal) x0 x3 = dAttnArr x0 x3 := by
  funext i
  idx_vars i
  pointwise [Read.val_main_v33, Read.val_main_v25, Read.val_main_v17, Read.val_main_v16, Read.val_main_cst_3, Read.val_main_v15, Read.val_main_v14, Read.val_main_cst_2, Read.val_main_v13, Read.val_main_v12, Read.val_main_v1, Read.val_main_v24]
  rfl

theorem ref_gate_lo (x0 : FVec Ideal S8192x4096 .f32) (x1 x3 : FVec Ideal S8192x2048 .f32) (a : Fin 8192) (b : Fin 2048) :
    Read.val_main_v30 (F := Ideal) x0 x1 x3 (ix2 a b) = dGt (x0 (ix2 a (lo b))) (x1 (ix2 a b)) (x3 (ix2 a b)) := by
  pointwise [Read.val_main_v30, Read.val_main_v29, Read.val_main_v23, Read.val_main_v10, Read.val_main_v7, Read.val_main_v6, Read.val_main_cst_0, Read.val_main_v5, Read.val_main_v4, Read.val_main_cst, Read.val_main_v3, Read.val_main_v2, Read.val_main_v0, Read.val_main_v9, Read.val_main_v8, Read.val_main_cst_1]
  rfl
theorem ref_gate_hi (x0 : FVec Ideal S8192x4096 .f32) (x2 x3 : FVec Ideal S8192x2048 .f32) (a : Fin 8192) (b : Fin 2048) :
    Read.val_main_v27 (F := Ideal) x0 x2 x3 (ix2 a b) = dGt (x0 (ix2 a (hi b))) (x2 (ix2 a b)) (x3 (ix2 a b)) := by
  pointwise [Read.val_main_v27, Read.val_main_v26, Read.val_main_v24, Read.val_main_v20, Read.val_main_v17, Read.val_main_v16, Read.val_main_cst_3, Read.val_main_v15, Read.val_main_v14, Read.val_main_cst_2, Read.val_main_v13, Read.val_main_v12, Read.val_main_v1, Read.val_main_v19, Read.val_main_v18, Read.val_main_cst_4]
  rfl

/-- The reference's gradient of the gate columns, element by element. -/
theorem ref_dGate (x0 : FVec Ideal S8192x4096 .f32) (x1 x2 x3 : FVec Ideal S8192x2048 .f32) :
    Read.val_main_v34 (F := Ideal) x0 x1 x2 x3 = dGateArr x0 x1 x2 x3 := by
  funext i
  rw [Read.val_main_v34, Read.val_main_v31]
  have el := ref_gate_lo x0 x1 x3
  have eh := ref_gate_hi x0 x2 x3
  generalize Read.val_main_v30 (F := Ideal) x0 x1 x3 = L at el
  generalize Read.val_main_v27 (F := Ideal) x0 x2 x3 = R at eh
  idx_vars i
  pointwise []
  by_cases h : i1.val < 2048
  · rw [dif_pos h]
    exact (el i0 ⟨i1.val, h⟩).trans (dGate_lo _ _ _ _ _ ⟨i1.val, h⟩ _ rfl).symm
  · rw [dif_neg h]
    exact (eh i0 ⟨i1.val - 2048, by omega⟩).trans (dGate_hi _ _ _ _ _ ⟨i1.val - 2048, by omega⟩ _ (by show i1.val = 2048 + (i1.val - 2048); omega)).symm

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v32) = dConvArr (m ((c.tc : Thread nD τ).loc main_arg0)) (m ((c.tc : Thread nD τ).loc main_arg3))
      ∧ r.2.mem ((c.tc : Thread nD τ).loc main_v33) = dAttnArr (m ((c.tc : Thread nD τ).loc main_arg0)) (m ((c.tc : Thread nD τ).loc main_arg3))
      ∧ r.2.mem ((c.tc : Thread nD τ).loc main_v34) = dGateArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans ((Read.val_main_v32_eq _ _).trans (ref_dConv _ _)), (h c).2.1.trans ((Read.val_main_v33_eq _ _).trans (ref_dAttn _ _)), (h c).2.2.1.trans ((Read.val_main_v34_eq _ _ _ _).trans (ref_dGate _ _ _ _)), (h c).2.2.2⟩) (Value.run (F := Ideal) m ρ)

end Reference

/-- The kernel ends, with its arguments unchanged. -/
theorem frame_kernel : Cert.quiescent_Kernel30 (hKernel30 := Cert.Kernel30.Gen.facts) := fun m ρ _ => Cert.Kernel30.Gen.frame m ρ
/-- So does the kernel over the extended reals. -/
theorem frame_kernelIdeal : Cert.quiescent_Kernel30Ideal (hKernel30Ideal := Cert.Kernel30Ideal.Gen.facts) := fun m ρ _ => Cert.Kernel30Ideal.Gen.frame m ρ
/-- So does the reference. -/
theorem frame_reference : Cert.quiescent_Reference30Ideal (hReference30Ideal := Cert.Reference30Ideal.Gen.facts) := fun m ρ _ =>
  (θ_run Cert.Reference30Ideal.defs _ _).mono (fun r h => ⟨fun c => (h c).2.2.2, sem_eq_zero_of_no_sems (by decide) r.2⟩)
    (Cert.Reference30Ideal.Value.run (F := Ideal) m ρ)
/-- No operation is rewritten. -/
theorem preserves_kernel : Cert.preserves_Kernel30_Kernel30Ideal := trivial

/-- The kernel's results are the reference's. -/
theorem algebraic_kernel : Cert.algebraic_Kernel30Ideal_Reference30Ideal (hKernel30Ideal := Cert.Kernel30Ideal.Gen.facts)
    (hReference30Ideal := Cert.Reference30Ideal.Gen.facts) := by
  intro m g m' g' _ hargs
  refine ⟨fun c => dConvArr (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg3)),
    fun c => dAttnArr (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg3)),
    fun c => dGateArr (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)), run_kernel m g,
    (θ_run Cert.Reference30Ideal.defs _ _).mono (fun _ h c => ⟨(h c).1.trans ?_, (h c).2.1.trans ?_, (h c).2.2.1.trans ?_, (h c).2.2.2⟩) (run_reference m' g')⟩
  · obtain ⟨h0, h1, h2, h3⟩ := hargs c
    rw [h0, h3]
  · obtain ⟨h0, h1, h2, h3⟩ := hargs c
    rw [h0, h3]
  · obtain ⟨h0, h1, h2, h3⟩ := hargs c
    rw [h0, h1, h2, h3]

end Cert.Proof.Call30

end
-- ==== Proof.Call31.lean ====
/-
  The backward pass of the gated embedding over the extended reals: the gradients of the gate's argument and of the embedding, row block by row block.
-/
module

public import proofs.«01_k».proof.Defs
public import proofs.«01_k».proof.Proof.Sums
public import proofs.«01_k».proof.Proof.Gate
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Read
public import Idealize.ShloMosaic.Lib.Quiescent

@[expose] public section

set_option maxRecDepth 16384

noncomputable section

namespace Cert.Proof.Call31

open Idealize.ShloMosaic Idealize.SL.Sem

/-- The gradient of the gate's argument `z`, and that of the embedding `p`, at the gradient `x` of `lgs z * p`. -/
def dZ (x z p : EReal) : EReal := (x * p) * (lgs z * (1 - lgs z))
def dP (x z : EReal) : EReal := lgs z * x

/-- The operands and results, as arrays of extended reals. -/
abbrev Op2048 : Type := (⟨2, ![8192, 2048]⟩ : Shape).Idx → EReal

/-- The result `dZ`, element by element, and as an array. -/
abbrev dZAt (X : Op2048) (Z : Op2048) (P : Op2048) (i : Fin 8192) (j : Fin 2048) : EReal := dZ (X (ix2 i j)) (Z (ix2 i j)) (P (ix2 i j))
abbrev dZArr (X : Op2048) (Z : Op2048) (P : Op2048) : Op2048 := fun i => dZAt X Z P (i 0) (i 1)

/-- The result `dP`, element by element, and as an array. -/
abbrev dPAt (X : Op2048) (Z : Op2048) (i : Fin 8192) (j : Fin 2048) : EReal := dP (X (ix2 i j)) (Z (ix2 i j))
abbrev dPArr (X : Op2048) (Z : Op2048) : Op2048 := fun i => dPAt X Z (i 0) (i 1)

section Kernel

open Cert.Kernel31Ideal Cert.Kernel31Ideal.Gen

/-- What the body stores for `dZ`. -/
theorem pay_dZ (x : Vec Ideal S512x2048 .f32) (z : Vec Ideal S512x2048 .bf16) (p : Vec Ideal S512x2048 .bf16) (a : Fin 512) (b : Fin 2048) :
    k0_pay2 x z p (ix2 a b) = dZ (x (ix2 a b)) (z (ix2 a b)) (p (ix2 a b)) := by
  pointwise [k0_pay2, k0_pay1]
  rw [dZ, ← mul_assoc]; simp only [lgs_sub]

/-- What the body stores for `dP`. -/
theorem pay_dP (x : Vec Ideal S512x2048 .f32) (z : Vec Ideal S512x2048 .bf16) (a : Fin 512) (b : Fin 2048) :
    k0_pay3 x z (ix2 a b) = dP (x (ix2 a b)) (z (ix2 a b)) := by
  pointwise [k0_pay3, k0_pay1]
  rw [dP, mul_comm]; simp only [lgs_sub]

/-- Which block of each array a grid point works on. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem t_lt (t : Fin cfg0.N) : t.val < 16 := t.isLt

variable (m : (ℓ : Loc nD τ sig) → Buf (Elt Ideal) ℓ)

/-- The operands. -/
abbrev opX (d : Dev nD) : Op2048 := m ((d.tc : Thread nD τ).loc main_arg0)
abbrev opZ (d : Dev nD) : Op2048 := m ((d.tc : Thread nD τ).loc main_arg1)
abbrev opP (d : Dev nD) : Op2048 := m ((d.tc : Thread nD τ).loc main_arg2)

theorem V_x (d : Dev nD) : V m d main_arg0 = (m ((d.tc : Thread nD τ).loc main_arg0) : FVec Ideal S8192x2048 .f32) := by
  simp only [V, hostOps0]
  after_results_simp <;> rfl
theorem V_z (d : Dev nD) : V m d main_v0 = (m ((d.tc : Thread nD τ).loc main_arg1) : FVec Ideal S8192x2048 .f32) := by
  simp only [V, hostOps0]
  after_results_simp <;> rfl
theorem V_p (d : Dev nD) : V m d main_v1 = (m ((d.tc : Thread nD τ).loc main_arg2) : FVec Ideal S8192x2048 .f32) := by
  simp only [V, hostOps0]
  after_results_simp <;> rfl

/-- The row of the arrays that row `a` of point `t`'s blocks is. -/
abbrev row (t : Fin cfg0.N) (a : Fin 512) : Fin 8192 := ⟨512 * t.val + a.val, by have := t_lt t; omega⟩

/-- The operand blocks at a grid point. -/
theorem blk0 (d : Dev nD) (t : Fin cfg0.N) (a : Fin 512) (b : Fin 2048) : iblk m d 0 t (ix2 a b) = opX m d (ix2 (row t a) b) := by
  refine Eq.trans ?_ (congrFun (V_x m d) _)
  blk_simp [iblk, index0]
  congr 1; blk_ext [index0]
theorem blk1 (d : Dev nD) (t : Fin cfg0.N) (a : Fin 512) (b : Fin 2048) : iblk m d 1 t (ix2 a b) = opZ m d (ix2 (row t a) b) := by
  refine Eq.trans ?_ (congrFun (V_z m d) _)
  blk_simp [iblk, index1]
  congr 1; blk_ext [index1]
theorem blk2 (d : Dev nD) (t : Fin cfg0.N) (a : Fin 512) (b : Fin 2048) : iblk m d 2 t (ix2 a b) = opP m d (ix2 (row t a) b) := by
  refine Eq.trans ?_ (congrFun (V_p m d) _)
  blk_simp [iblk, index2]
  congr 1; blk_ext [index2]

/-- What a grid point stores for `dZ`, at each place of its block. -/
theorem out_dZ (d : Dev nD) (t : Fin cfg0.N) (a : Fin 512) (b : Fin 2048) :
    k0_pay2 (iblk m d 0 t) (iblk m d 1 t) (iblk m d 2 t) (ix2 a b) = dZAt (opX m d) (opZ m d) (opP m d) (row t a) b := by
  refine (pay_dZ _ _ _ a b).trans ?_
  exact congr (congrArg₂ dZ (blk0 m d t a b) (blk1 m d t a b)) (blk2 m d t a b)

/-- What a grid point stores for `dP`, at each place of its block. -/
theorem out_dP (d : Dev nD) (t : Fin cfg0.N) (a : Fin 512) (b : Fin 2048) :
    k0_pay3 (iblk m d 0 t) (iblk m d 1 t) (ix2 a b) = dPAt (opX m d) (opZ m d) (row t a) b := by
  refine (pay_dP _ _ a b).trans ?_
  exact congrArg₂ dP (blk0 m d t a b) (blk1 m d t a b)

/-- The result array `dZ`. -/
theorem final_dZ (d : Dev nD) (i : S8192x2048.Idx) : ((dats m 0 d).arrAt 3 cfg0.N : S8192x2048.Idx → EReal) i = dZArr (opX m d) (opZ m d) (opP m d) i := by
  refine (dats m 0 d).arrAt_forall_of_covers 3 (fun i v => v = dZArr (opX m d) (opZ m d) (opP m d) i) (by decide +kernel) (fun t hf y => ?_) i
  blk_simp [index3]
  rw [after0_3]; frame_out
  refine (congrArg _ (Sums.idx2 y).symm).trans ((out_dZ m d t (y 0) (y 1)).trans (congrArg₂ (dZAt _ _ _) (Fin.ext ?_) (Fin.ext ?_)))
  · blk_simp [index3]; try simp only [mul_comm]
  · blk_simp [index3]

/-- The result array `dP`. -/
theorem final_dP (d : Dev nD) (i : S8192x2048.Idx) : ((dats m 0 d).arrAt 4 cfg0.N : S8192x2048.Idx → EReal) i = dPArr (opX m d) (opZ m d) i := by
  refine (dats m 0 d).arrAt_forall_of_covers 4 (fun i v => v = dPArr (opX m d) (opZ m d) i) (by decide +kernel) (fun t hf y => ?_) i
  blk_simp [index4]
  rw [after0_4]; frame_out
  refine (congrArg _ (Sums.idx2 y).symm).trans ((out_dP m d t (y 0) (y 1)).trans (congrArg₂ (dPAt _ _) (Fin.ext ?_) (Fin.ext ?_)))
  · blk_simp [index4]; try simp only [mul_comm]
  · blk_simp [index4]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2_0) = dZArr (m ((c.tc : Thread nD τ).loc main_arg0)) (m ((c.tc : Thread nD τ).loc main_arg1)) (m ((c.tc : Thread nD τ).loc main_arg2))
      ∧ r.2.mem ((c.tc : Thread nD τ).loc main_v2_1) = dPArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext (final_dZ m c)), (h c).2.1.trans (funext (final_dP m c)), (h c).2.2⟩) (Value.run_blocks m ρ)

end Kernel

section Reference

open Cert.Reference31Ideal Cert.Reference31Ideal.Gen

/-- The reference's result `dZ`, element by element. -/
theorem ref_dZ (x0 : FVec Ideal S8192x2048 .f32) (x1 : FVec Ideal S8192x2048 .f32) (x2 : FVec Ideal S8192x2048 .f32) : Read.val_main_v17 (F := Ideal) x0 x1 x2 = dZArr x0 x1 x2 := by
  funext i
  idx_vars i
  pointwise [Read.val_main_v17, Read.val_main_v16, Read.val_main_v15, Read.val_main_v13, Read.val_main_v9, Read.val_main_v6, Read.val_main_v5, Read.val_main_cst_1, Read.val_main_v4, Read.val_main_v3, Read.val_main_cst_0, Read.val_main_v2, Read.val_main_v1, Read.val_main_v8, Read.val_main_v7, Read.val_main_cst_2]
  rfl

/-- The reference's result `dP`, element by element. -/
theorem ref_dP (x0 : FVec Ideal S8192x2048 .f32) (x1 : FVec Ideal S8192x2048 .f32) : Read.val_main_v18 (F := Ideal) x0 x1 = dPArr x0 x1 := by
  funext i
  idx_vars i
  pointwise [Read.val_main_v18, Read.val_main_v14, Read.val_main_v6, Read.val_main_v5, Read.val_main_cst_1, Read.val_main_v4, Read.val_main_v3, Read.val_main_cst_0, Read.val_main_v2, Read.val_main_v1, Read.val_main_v13]
  rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v17) = dZArr (m ((c.tc : Thread nD τ).loc main_arg0)) (m ((c.tc : Thread nD τ).loc main_arg1)) (m ((c.tc : Thread nD τ).loc main_arg2))
      ∧ r.2.mem ((c.tc : Thread nD τ).loc main_v18) = dPArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans ((Read.val_main_v17_eq _ _ _).trans (ref_dZ _ _ _)), (h c).2.1.trans ((Read.val_main_v18_eq _ _).trans (ref_dP _ _)), (h c).2.2⟩) (Value.run (F := Ideal) m ρ)

end Reference

/-- The kernel ends, with its arguments unchanged. -/
theorem frame_kernel : Cert.quiescent_Kernel31 (hKernel31 := Cert.Kernel31.Gen.facts) := fun m ρ _ => Cert.Kernel31.Gen.frame m ρ
/-- So does the kernel over the extended reals. -/
theorem frame_kernelIdeal : Cert.quiescent_Kernel31Ideal (hKernel31Ideal := Cert.Kernel31Ideal.Gen.facts) := fun m ρ _ => Cert.Kernel31Ideal.Gen.frame m ρ
/-- So does the reference. -/
theorem frame_reference : Cert.quiescent_Reference31Ideal (hReference31Ideal := Cert.Reference31Ideal.Gen.facts) := fun m ρ _ =>
  (θ_run Cert.Reference31Ideal.defs _ _).mono (fun r h => ⟨fun c => (h c).2.2, sem_eq_zero_of_no_sems (by decide) r.2⟩)
    (Cert.Reference31Ideal.Value.run (F := Ideal) m ρ)
/-- No operation is rewritten. -/
theorem preserves_kernel : Cert.preserves_Kernel31_Kernel31Ideal := trivial

/-- The kernel's results are the reference's. -/
theorem algebraic_kernel : Cert.algebraic_Kernel31Ideal_Reference31Ideal (hKernel31Ideal := Cert.Kernel31Ideal.Gen.facts)
    (hReference31Ideal := Cert.Reference31Ideal.Gen.facts) := by
  intro m g m' g' _ hargs
  refine ⟨fun c => dZArr (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)),
    fun c => dPArr (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)), run_kernel m g,
    (θ_run Cert.Reference31Ideal.defs _ _).mono (fun _ h c => ⟨(h c).1.trans ?_, (h c).2.1.trans ?_, (h c).2.2⟩) (run_reference m' g')⟩
  · obtain ⟨h0, h1, h2⟩ := hargs c
    rw [h0, h1, h2]
  · obtain ⟨h0, h1, h2⟩ := hargs c
    rw [h0, h1]

end Cert.Proof.Call31

end
-- ==== Proof.Call32.lean ====
/-
  The forward SwiGLU over the extended reals: the gate columns' silu times the up columns, row block by row block.
-/
module

public import proofs.«01_k».proof.Defs
public import proofs.«01_k».proof.Proof.Sums
public import proofs.«01_k».proof.Proof.Gate
public import proofs.«01_k».proof.Proof.Gen.Kernel32.Frame
public import proofs.«01_k».proof.Proof.Gen.Kernel32Ideal.Frame
public import proofs.«01_k».proof.Proof.Gen.Reference32Ideal.Read
public import Idealize.ShloMosaic.Lib.Quiescent

@[expose] public section

set_option maxRecDepth 16384

noncomputable section

namespace Cert.Proof.Call32

open Idealize.ShloMosaic Idealize.SL.Sem

/-- The gated value of a gate `g` and an up value `u`. -/
def gated (g u : EReal) : EReal := (g * lgs g) * u

/-- The operands and results, as arrays of extended reals. -/
abbrev Op5632 : Type := (⟨2, ![8192, 5632]⟩ : Shape).Idx → EReal
abbrev Op11264 : Type := (⟨2, ![8192, 11264]⟩ : Shape).Idx → EReal

/-- The two columns of the gate array that column `j` belongs to. -/
abbrev lo (j : Fin 5632) : Fin 11264 := ⟨j.val, by omega⟩
abbrev hi (j : Fin 5632) : Fin 11264 := ⟨5632 + j.val, by omega⟩

/-- The result `gated`, element by element, and as an array. -/
abbrev gatedAt (G : Op11264) (i : Fin 8192) (j : Fin 5632) : EReal := gated (G (ix2 i (lo j))) (G (ix2 i (hi j)))
abbrev gatedArr (G : Op11264) : Op5632 := fun i => gatedAt G (i 0) (i 1)

section Kernel

open Cert.Kernel32Ideal Cert.Kernel32Ideal.Gen

/-- What the body stores for `gated`. -/
theorem pay_gated (g : Vec Ideal S256x11264 .bf16) (a : Fin 256) (b : Fin 5632) :
    k0_pay1 g (ix2 a b) = gated (g (ix2 a (lo b))) (g (ix2 a (hi b))) := by
  pointwise [k0_pay1]
  simp only [lgs_sub]; rfl

/-- Which block of each array a grid point works on. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem t_lt (t : Fin cfg0.N) : t.val < 32 := t.isLt

variable (m : (ℓ : Loc nD τ sig) → Buf (Elt Ideal) ℓ)

/-- The operands. -/
abbrev opG (d : Dev nD) : Op11264 := m ((d.tc : Thread nD τ).loc main_arg0)

theorem V_g (d : Dev nD) : V m d main_v0 = (m ((d.tc : Thread nD τ).loc main_arg0) : FVec Ideal S8192x11264 .f32) := by
  simp only [V, hostOps0]
  after_results_simp <;> rfl

/-- The row of the arrays that row `a` of point `t`'s blocks is. -/
abbrev row (t : Fin cfg0.N) (a : Fin 256) : Fin 8192 := ⟨256 * t.val + a.val, by have := t_lt t; omega⟩

/-- The operand blocks at a grid point. -/
theorem blk0 (d : Dev nD) (t : Fin cfg0.N) (a : Fin 256) (b : Fin 11264) : iblk m d 0 t (ix2 a b) = opG m d (ix2 (row t a) b) := by
  refine Eq.trans ?_ (congrFun (V_g m d) _)
  blk_simp [iblk, index0]
  congr 1; blk_ext [index0]

/-- What a grid point stores for `gated`, at each place of its block. -/
theorem out_gated (d : Dev nD) (t : Fin cfg0.N) (a : Fin 256) (b : Fin 5632) :
    k0_pay1 (iblk m d 0 t) (ix2 a b) = gatedAt (opG m d) (row t a) b := by
  refine (pay_gated _ a b).trans ?_
  exact congrArg₂ gated (blk0 m d t a (lo b)) (blk0 m d t a (hi b))

/-- The result array `gated`. -/
theorem final_gated (d : Dev nD) (i : S8192x5632.Idx) : ((dats m 0 d).arrAt 1 cfg0.N : S8192x5632.Idx → EReal) i = gatedArr (opG m d) i := by
  refine (dats m 0 d).arrAt_forall_of_covers 1 (fun i v => v = gatedArr (opG m d) i) (by decide +kernel) (fun t hf y => ?_) i
  blk_simp [index1]
  rw [after0_1]; frame_out
  refine (congrArg _ (Sums.idx2 y).symm).trans ((out_gated m d t (y 0) (y 1)).trans (congrArg₂ (gatedAt _) (Fin.ext ?_) (Fin.ext ?_)))
  · blk_simp [index1]; try simp only [mul_comm]
  · blk_simp [index1]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v1) = gatedArr (m ((c.tc : Thread nD τ).loc main_arg0))
      ∧ r.2.mem ((c.tc : Thread nD τ).loc main_arg0) = m ((c.tc : Thread nD τ).loc main_arg0)) :=
  (θ_run defs _ _).mono (fun _ h c => ⟨((h c).1 1).trans (funext (final_gated m c)),
    ((h c).2 main_arg0 (Pipeline.mem_restRefs_of main_arg0 (by decide) (by decide))).trans (V_main_arg0 m c)⟩) (run_main m ρ)

end Kernel

section Reference

open Cert.Reference32Ideal Cert.Reference32Ideal.Gen

/-- The reference's result `gated`, element by element. -/
theorem ref_gated (x0 : FVec Ideal S8192x11264 .f32) : Read.val_main_v4 (F := Ideal) x0 = gatedArr x0 := by
  funext i
  idx_vars i
  pointwise [Read.val_main_v4, Read.val_main_v3, Read.val_main_v2, Read.val_main_v0, Read.val_main_call0_v5, Read.val_main_call0_v4, Read.val_main_call0_cst_0, Read.val_main_call0_v3, Read.val_main_call0_v2, Read.val_main_call0_cst, Read.val_main_call0_v1, Read.val_main_call0_v0, Read.val_main_v1]
  rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = gatedArr (m ((c.tc : Thread nD τ).loc main_arg0))
      ∧ r.2.mem ((c.tc : Thread nD τ).loc main_arg0) = m ((c.tc : Thread nD τ).loc main_arg0)) :=
  (θ_run defs _ _).mono (fun _ h c => ⟨(h c).1.trans ((Read.val_main_v4_eq _).trans (ref_gated _)), (h c).2⟩) (Value.run (F := Ideal) m ρ)

end Reference

/-- The kernel ends, with its arguments unchanged. -/
theorem frame_kernel : Cert.quiescent_Kernel32 (hKernel32 := Cert.Kernel32.Gen.facts) := fun m ρ _ => Cert.Kernel32.Gen.frame m ρ
/-- So does the kernel over the extended reals. -/
theorem frame_kernelIdeal : Cert.quiescent_Kernel32Ideal (hKernel32Ideal := Cert.Kernel32Ideal.Gen.facts) := fun m ρ _ => Cert.Kernel32Ideal.Gen.frame m ρ
/-- So does the reference. -/
theorem frame_reference : Cert.quiescent_Reference32Ideal (hReference32Ideal := Cert.Reference32Ideal.Gen.facts) := fun m ρ _ =>
  (θ_run Cert.Reference32Ideal.defs _ _).mono (fun r h => ⟨fun c => (h c).2, sem_eq_zero_of_no_sems (by decide) r.2⟩)
    (Cert.Reference32Ideal.Value.run (F := Ideal) m ρ)
/-- No operation is rewritten. -/
theorem preserves_kernel : Cert.preserves_Kernel32_Kernel32Ideal := trivial

/-- The kernel's results are the reference's. -/
theorem algebraic_kernel : Cert.algebraic_Kernel32Ideal_Reference32Ideal (hKernel32Ideal := Cert.Kernel32Ideal.Gen.facts)
    (hReference32Ideal := Cert.Reference32Ideal.Gen.facts) := by
  intro m g m' g' _ hargs
  refine ⟨fun c => gatedArr (m ((c.tc : Thread Cert.Kernel32Ideal.nD Cert.Kernel32Ideal.τ).loc Cert.Kernel32Ideal.main_arg0)), run_kernel m g,
    (θ_run Cert.Reference32Ideal.defs _ _).mono (fun _ h c => ⟨(h c).1.trans ?_, (h c).2⟩) (run_reference m' g')⟩
  rw [hargs c]

end Cert.Proof.Call32

end
-- ==== Proof.Call33.lean ====
/-
  The forward gates of the two branches over the extended reals: each branch times the logistic function of its gate columns, and their sum.
-/
module

public import proofs.«01_k».proof.Defs
public import proofs.«01_k».proof.Proof.Sums
public import proofs.«01_k».proof.Proof.Gate
public import proofs.«01_k».proof.Proof.Gen.Kernel33.Frame
public import proofs.«01_k».proof.Proof.Gen.Kernel33Ideal.Frame
public import proofs.«01_k».proof.Proof.Gen.Reference33Ideal.Read
public import Idealize.ShloMosaic.Lib.Quiescent

@[expose] public section

set_option maxRecDepth 16384

noncomputable section

namespace Cert.Proof.Call33

open Idealize.ShloMosaic Idealize.SL.Sem

/-- The two branches' values `y` and `u`, gated by `g` and `h`, summed. -/
def merged (g h y u : EReal) : EReal := lgs g * y + lgs h * u

/-- The operands and results, as arrays of extended reals. -/
abbrev Op2048 : Type := (⟨2, ![8192, 2048]⟩ : Shape).Idx → EReal
abbrev Op4096 : Type := (⟨2, ![8192, 4096]⟩ : Shape).Idx → EReal

/-- The two columns of the gate array that column `j` belongs to. -/
abbrev lo (j : Fin 2048) : Fin 4096 := ⟨j.val, by omega⟩
abbrev hi (j : Fin 2048) : Fin 4096 := ⟨2048 + j.val, by omega⟩

/-- The result `merged`, element by element, and as an array. -/
abbrev mergedAt (G : Op4096) (Y : Op2048) (U : Op2048) (i : Fin 8192) (j : Fin 2048) : EReal := merged (G (ix2 i (lo j))) (G (ix2 i (hi j))) (Y (ix2 i j)) (U (ix2 i j))
abbrev mergedArr (G : Op4096) (Y : Op2048) (U : Op2048) : Op2048 := fun i => mergedAt G Y U (i 0) (i 1)

section Kernel

open Cert.Kernel33Ideal Cert.Kernel33Ideal.Gen

/-- What the body stores for `merged`. -/
theorem pay_merged (g : Vec Ideal S512x4096 .bf16) (y : Vec Ideal S512x2048 .bf16) (u : Vec Ideal S512x2048 .bf16) (a : Fin 512) (b : Fin 2048) :
    k0_pay1 g y u (ix2 a b) = merged (g (ix2 a (lo b))) (g (ix2 a (hi b))) (y (ix2 a b)) (u (ix2 a b)) := by
  pointwise [k0_pay1]
  simp only [lgs_sub]; rfl

/-- Which block of each array a grid point works on. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem t_lt (t : Fin cfg0.N) : t.val < 16 := t.isLt

variable (m : (ℓ : Loc nD τ sig) → Buf (Elt Ideal) ℓ)

/-- The operands. -/
abbrev opG (d : Dev nD) : Op4096 := m ((d.tc : Thread nD τ).loc main_arg0)
abbrev opY (d : Dev nD) : Op2048 := m ((d.tc : Thread nD τ).loc main_arg1)
abbrev opU (d : Dev nD) : Op2048 := m ((d.tc : Thread nD τ).loc main_arg2)

theorem V_g (d : Dev nD) : V m d main_v0 = (m ((d.tc : Thread nD τ).loc main_arg0) : FVec Ideal S8192x4096 .f32) := by
  simp only [V, hostOps0]
  after_results_simp <;> rfl
theorem V_y (d : Dev nD) : V m d main_v1 = (m ((d.tc : Thread nD τ).loc main_arg1) : FVec Ideal S8192x2048 .f32) := by
  simp only [V, hostOps0]
  after_results_simp <;> rfl
theorem V_u (d : Dev nD) : V m d main_v2 = (m ((d.tc : Thread nD τ).loc main_arg2) : FVec Ideal S8192x2048 .f32) := by
  simp only [V, hostOps0]
  after_results_simp <;> rfl

/-- The row of the arrays that row `a` of point `t`'s blocks is. -/
abbrev row (t : Fin cfg0.N) (a : Fin 512) : Fin 8192 := ⟨512 * t.val + a.val, by have := t_lt t; omega⟩

/-- The operand blocks at a grid point. -/
theorem blk0 (d : Dev nD) (t : Fin cfg0.N) (a : Fin 512) (b : Fin 4096) : iblk m d 0 t (ix2 a b) = opG m d (ix2 (row t a) b) := by
  refine Eq.trans ?_ (congrFun (V_g m d) _)
  blk_simp [iblk, index0]
  congr 1; blk_ext [index0]
theorem blk1 (d : Dev nD) (t : Fin cfg0.N) (a : Fin 512) (b : Fin 2048) : iblk m d 1 t (ix2 a b) = opY m d (ix2 (row t a) b) := by
  refine Eq.trans ?_ (congrFun (V_y m d) _)
  blk_simp [iblk, index1]
  congr 1; blk_ext [index1]
theorem blk2 (d : Dev nD) (t : Fin cfg0.N) (a : Fin 512) (b : Fin 2048) : iblk m d 2 t (ix2 a b) = opU m d (ix2 (row t a) b) := by
  refine Eq.trans ?_ (congrFun (V_u m d) _)
  blk_simp [iblk, index2]
  congr 1; blk_ext [index2]

/-- What a grid point stores for `merged`, at each place of its block. -/
theorem out_merged (d : Dev nD) (t : Fin cfg0.N) (a : Fin 512) (b : Fin 2048) :
    k0_pay1 (iblk m d 0 t) (iblk m d 1 t) (iblk m d 2 t) (ix2 a b) = mergedAt (opG m d) (opY m d) (opU m d) (row t a) b := by
  refine (pay_merged _ _ _ a b).trans ?_
  exact congr (congr (congrArg₂ merged (blk0 m d t a (lo b)) (blk0 m d t a (hi b))) (blk1 m d t a b)) (blk2 m d t a b)

/-- The result array `merged`. -/
theorem final_merged (d : Dev nD) (i : S8192x2048.Idx) : ((dats m 0 d).arrAt 3 cfg0.N : S8192x2048.Idx → EReal) i = mergedArr (opG m d) (opY m d) (opU m d) i := by
  refine (dats m 0 d).arrAt_forall_of_covers 3 (fun i v => v = mergedArr (opG m d) (opY m d) (opU m d) i) (by decide +kernel) (fun t hf y => ?_) i
  blk_simp [index3]
  rw [after0_3]; frame_out
  refine (congrArg _ (Sums.idx2 y).symm).trans ((out_merged m d t (y 0) (y 1)).trans (congrArg₂ (mergedAt _ _ _) (Fin.ext ?_) (Fin.ext ?_)))
  · blk_simp [index3]; try simp only [mul_comm]
  · blk_simp [index3]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v3) = mergedArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (funext (final_merged m c)),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end Kernel

section Reference

open Cert.Reference33Ideal Cert.Reference33Ideal.Gen

/-- The reference's result `merged`, element by element. -/
theorem ref_merged (x0 : FVec Ideal S8192x4096 .f32) (x1 : FVec Ideal S8192x2048 .f32) (x2 : FVec Ideal S8192x2048 .f32) : Read.val_main_v17 (F := Ideal) x0 x1 x2 = mergedArr x0 x1 x2 := by
  funext i
  idx_vars i
  pointwise [Read.val_main_v17, Read.val_main_v16, Read.val_main_v8, Read.val_main_v7, Read.val_main_v6, Read.val_main_cst_0, Read.val_main_v5, Read.val_main_v4, Read.val_main_cst, Read.val_main_v3, Read.val_main_v2, Read.val_main_v0, Read.val_main_v15, Read.val_main_v14, Read.val_main_v13, Read.val_main_cst_2, Read.val_main_v12, Read.val_main_v11, Read.val_main_cst_1, Read.val_main_v10, Read.val_main_v9, Read.val_main_v1]
  rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v17) = mergedArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans ((Read.val_main_v17_eq _ _ _).trans (ref_merged _ _ _)), (h c).2⟩) (Value.run (F := Ideal) m ρ)

end Reference

/-- The kernel ends, with its arguments unchanged. -/
theorem frame_kernel : Cert.quiescent_Kernel33 (hKernel33 := Cert.Kernel33.Gen.facts) := fun m ρ _ => Cert.Kernel33.Gen.frame m ρ
/-- So does the kernel over the extended reals. -/
theorem frame_kernelIdeal : Cert.quiescent_Kernel33Ideal (hKernel33Ideal := Cert.Kernel33Ideal.Gen.facts) := fun m ρ _ => Cert.Kernel33Ideal.Gen.frame m ρ
/-- So does the reference. -/
theorem frame_reference : Cert.quiescent_Reference33Ideal (hReference33Ideal := Cert.Reference33Ideal.Gen.facts) := fun m ρ _ =>
  (θ_run Cert.Reference33Ideal.defs _ _).mono (fun r h => ⟨fun c => (h c).2, sem_eq_zero_of_no_sems (by decide) r.2⟩)
    (Cert.Reference33Ideal.Value.run (F := Ideal) m ρ)
/-- No operation is rewritten. -/
theorem preserves_kernel : Cert.preserves_Kernel33_Kernel33Ideal := trivial

/-- The kernel's results are the reference's. -/
theorem algebraic_kernel : Cert.algebraic_Kernel33Ideal_Reference33Ideal (hKernel33Ideal := Cert.Kernel33Ideal.Gen.facts)
    (hReference33Ideal := Cert.Reference33Ideal.Gen.facts) := by
  intro m g m' g' _ hargs
  refine ⟨fun c => mergedArr (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)), run_kernel m g,
    (θ_run Cert.Reference33Ideal.defs _ _).mono (fun _ h c => ⟨(h c).1.trans ?_, (h c).2⟩) (run_reference m' g')⟩
  obtain ⟨h0, h1, h2⟩ := hargs c
  rw [h0, h1, h2]

end Cert.Proof.Call33

end
-- ==== Proof.Call34.lean ====
/-
  The forward gated embedding over the extended reals: the residual plus the embedding times the logistic function of its gate.
-/
module

public import proofs.«01_k».proof.Defs
public import proofs.«01_k».proof.Proof.Sums
public import proofs.«01_k».proof.Proof.Gate
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Read
public import Idealize.ShloMosaic.Lib.Quiescent

@[expose] public section

set_option maxRecDepth 16384

noncomputable section

namespace Cert.Proof.Call34

open Idealize.ShloMosaic Idealize.SL.Sem

/-- The residual `x` plus the embedding `p` gated by `z`. -/
def embed (x z p : EReal) : EReal := x + lgs z * p

/-- The operands and results, as arrays of extended reals. -/
abbrev Op2048 : Type := (⟨2, ![8192, 2048]⟩ : Shape).Idx → EReal

/-- The result `embed`, element by element, and as an array. -/
abbrev embedAt (X : Op2048) (Z : Op2048) (P : Op2048) (i : Fin 8192) (j : Fin 2048) : EReal := embed (X (ix2 i j)) (Z (ix2 i j)) (P (ix2 i j))
abbrev embedArr (X : Op2048) (Z : Op2048) (P : Op2048) : Op2048 := fun i => embedAt X Z P (i 0) (i 1)

section Kernel

open Cert.Kernel34Ideal Cert.Kernel34Ideal.Gen

/-- What the body stores for `embed`. -/
theorem pay_embed (x : Vec Ideal S512x2048 .f32) (z : Vec Ideal S512x2048 .bf16) (p : Vec Ideal S512x2048 .bf16) (a : Fin 512) (b : Fin 2048) :
    k0_pay1 x z p (ix2 a b) = embed (x (ix2 a b)) (z (ix2 a b)) (p (ix2 a b)) := by
  pointwise [k0_pay1]
  simp only [lgs_sub]; rfl

/-- Which block of each array a grid point works on. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem t_lt (t : Fin cfg0.N) : t.val < 16 := t.isLt

variable (m : (ℓ : Loc nD τ sig) → Buf (Elt Ideal) ℓ)

/-- The operands. -/
abbrev opX (d : Dev nD) : Op2048 := m ((d.tc : Thread nD τ).loc main_arg0)
abbrev opZ (d : Dev nD) : Op2048 := m ((d.tc : Thread nD τ).loc main_arg1)
abbrev opP (d : Dev nD) : Op2048 := m ((d.tc : Thread nD τ).loc main_arg2)

theorem V_x (d : Dev nD) : V m d main_arg0 = (m ((d.tc : Thread nD τ).loc main_arg0) : FVec Ideal S8192x2048 .f32) := by
  simp only [V, hostOps0]
  after_results_simp <;> rfl
theorem V_z (d : Dev nD) : V m d main_v0 = (m ((d.tc : Thread nD τ).loc main_arg1) : FVec Ideal S8192x2048 .f32) := by
  simp only [V, hostOps0]
  after_results_simp <;> rfl
theorem V_p (d : Dev nD) : V m d main_v1 = (m ((d.tc : Thread nD τ).loc main_arg2) : FVec Ideal S8192x2048 .f32) := by
  simp only [V, hostOps0]
  after_results_simp <;> rfl

/-- The row of the arrays that row `a` of point `t`'s blocks is. -/
abbrev row (t : Fin cfg0.N) (a : Fin 512) : Fin 8192 := ⟨512 * t.val + a.val, by have := t_lt t; omega⟩

/-- The operand blocks at a grid point. -/
theorem blk0 (d : Dev nD) (t : Fin cfg0.N) (a : Fin 512) (b : Fin 2048) : iblk m d 0 t (ix2 a b) = opX m d (ix2 (row t a) b) := by
  refine Eq.trans ?_ (congrFun (V_x m d) _)
  blk_simp [iblk, index0]
  congr 1; blk_ext [index0]
theorem blk1 (d : Dev nD) (t : Fin cfg0.N) (a : Fin 512) (b : Fin 2048) : iblk m d 1 t (ix2 a b) = opZ m d (ix2 (row t a) b) := by
  refine Eq.trans ?_ (congrFun (V_z m d) _)
  blk_simp [iblk, index1]
  congr 1; blk_ext [index1]
theorem blk2 (d : Dev nD) (t : Fin cfg0.N) (a : Fin 512) (b : Fin 2048) : iblk m d 2 t (ix2 a b) = opP m d (ix2 (row t a) b) := by
  refine Eq.trans ?_ (congrFun (V_p m d) _)
  blk_simp [iblk, index2]
  congr 1; blk_ext [index2]

/-- What a grid point stores for `embed`, at each place of its block. -/
theorem out_embed (d : Dev nD) (t : Fin cfg0.N) (a : Fin 512) (b : Fin 2048) :
    k0_pay1 (iblk m d 0 t) (iblk m d 1 t) (iblk m d 2 t) (ix2 a b) = embedAt (opX m d) (opZ m d) (opP m d) (row t a) b := by
  refine (pay_embed _ _ _ a b).trans ?_
  exact congr (congrArg₂ embed (blk0 m d t a b) (blk1 m d t a b)) (blk2 m d t a b)

/-- The result array `embed`. -/
theorem final_embed (d : Dev nD) (i : S8192x2048.Idx) : ((dats m 0 d).arrAt 3 cfg0.N : S8192x2048.Idx → EReal) i = embedArr (opX m d) (opZ m d) (opP m d) i := by
  refine (dats m 0 d).arrAt_forall_of_covers 3 (fun i v => v = embedArr (opX m d) (opZ m d) (opP m d) i) (by decide +kernel) (fun t hf y => ?_) i
  blk_simp [index3]
  rw [after0_3]; frame_out
  refine (congrArg _ (Sums.idx2 y).symm).trans ((out_embed m d t (y 0) (y 1)).trans (congrArg₂ (embedAt _ _ _) (Fin.ext ?_) (Fin.ext ?_)))
  · blk_simp [index3]; try simp only [mul_comm]
  · blk_simp [index3]

/-- The kernel's run. -/
theorem run_kernel (ρ : Dev nD → PrngReg) :
    θ_run defs (onTc (τ := τ) (main (F := Ideal))) ⟨m, fun _ => 0, ρ⟩ (fun r => ∀ c : Dev nD,
      r.2.mem ((c.tc : Thread nD τ).loc main_v2) = embedArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext (final_embed m c)), (h c).2⟩) (Value.run_blocks m ρ)

end Kernel

section Reference

open Cert.Reference34Ideal Cert.Reference34Ideal.Gen

/-- The reference's result `embed`, element by element. -/
theorem ref_embed (x0 : FVec Ideal S8192x2048 .f32) (x1 : FVec Ideal S8192x2048 .f32) (x2 : FVec Ideal S8192x2048 .f32) : Read.val_main_v7 (F := Ideal) x0 x1 x2 = embedArr x0 x1 x2 := by
  funext i
  idx_vars i
  pointwise [Read.val_main_v7, Read.val_main_v6, Read.val_main_v5, Read.val_main_v4, Read.val_main_cst_0, Read.val_main_v3, Read.val_main_v2, Read.val_main_cst, Read.val_main_v1, Read.val_main_v0]
  rfl

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7) = embedArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans ((Read.val_main_v7_eq _ _ _).trans (ref_embed _ _ _)), (h c).2⟩) (Value.run (F := Ideal) m ρ)

end Reference

/-- The kernel ends, with its arguments unchanged. -/
theorem frame_kernel : Cert.quiescent_Kernel34 (hKernel34 := Cert.Kernel34.Gen.facts) := fun m ρ _ => Cert.Kernel34.Gen.frame m ρ
/-- So does the kernel over the extended reals. -/
theorem frame_kernelIdeal : Cert.quiescent_Kernel34Ideal (hKernel34Ideal := Cert.Kernel34Ideal.Gen.facts) := fun m ρ _ => Cert.Kernel34Ideal.Gen.frame m ρ
/-- So does the reference. -/
theorem frame_reference : Cert.quiescent_Reference34Ideal (hReference34Ideal := Cert.Reference34Ideal.Gen.facts) := fun m ρ _ =>
  (θ_run Cert.Reference34Ideal.defs _ _).mono (fun r h => ⟨fun c => (h c).2, sem_eq_zero_of_no_sems (by decide) r.2⟩)
    (Cert.Reference34Ideal.Value.run (F := Ideal) m ρ)
/-- No operation is rewritten. -/
theorem preserves_kernel : Cert.preserves_Kernel34_Kernel34Ideal := trivial

/-- The kernel's results are the reference's. -/
theorem algebraic_kernel : Cert.algebraic_Kernel34Ideal_Reference34Ideal (hKernel34Ideal := Cert.Kernel34Ideal.Gen.facts)
    (hReference34Ideal := Cert.Reference34Ideal.Gen.facts) := by
  intro m g m' g' _ hargs
  refine ⟨fun c => embedArr (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)), run_kernel m g,
    (θ_run Cert.Reference34Ideal.defs _ _).mono (fun _ h c => ⟨(h c).1.trans ?_, (h c).2⟩) (run_reference m' g')⟩
  obtain ⟨h0, h1, h2⟩ := hargs c
  rw [h0, h1, h2]

end Cert.Proof.Call34

end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.FrameBits
public import proofs.«01_k».proof.Proof.Algebraic
public import proofs.«01_k».proof.Proof.Call2
public import proofs.«01_k».proof.Proof.Call3
public import proofs.«01_k».proof.Proof.Call4
public import proofs.«01_k».proof.Proof.Call5
public import proofs.«01_k».proof.Proof.Call6
public import proofs.«01_k».proof.Proof.Call7
public import proofs.«01_k».proof.Proof.Call8
public import proofs.«01_k».proof.Proof.Call9
public import proofs.«01_k».proof.Proof.Call10
public import proofs.«01_k».proof.Proof.Call11
public import proofs.«01_k».proof.Proof.Call12
public import proofs.«01_k».proof.Proof.Call13
public import proofs.«01_k».proof.Proof.Call14
public import proofs.«01_k».proof.Proof.Call15
public import proofs.«01_k».proof.Proof.Call16
public import proofs.«01_k».proof.Proof.Call17
public import proofs.«01_k».proof.Proof.Call18
public import proofs.«01_k».proof.Proof.Call19
public import proofs.«01_k».proof.Proof.Call20
public import proofs.«01_k».proof.Proof.Call21
public import proofs.«01_k».proof.Proof.Call22
public import proofs.«01_k».proof.Proof.Call23
public import proofs.«01_k».proof.Proof.Call24
public import proofs.«01_k».proof.Proof.Call25
public import proofs.«01_k».proof.Proof.Call26
public import proofs.«01_k».proof.Proof.Call27
public import proofs.«01_k».proof.Proof.Call28
public import proofs.«01_k».proof.Proof.Call29
public import proofs.«01_k».proof.Proof.Call30
public import proofs.«01_k».proof.Proof.Call31
public import proofs.«01_k».proof.Proof.Call32
public import proofs.«01_k».proof.Proof.Call33
public import proofs.«01_k».proof.Proof.Call34

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts, Cert.Kernel22.Gen.facts,
  Cert.Kernel22Ideal.Gen.facts, Cert.Reference22Ideal.Gen.facts, Cert.Kernel23.Gen.facts, Cert.Kernel23Ideal.Gen.facts,
  Cert.Reference23Ideal.Gen.facts, Cert.Kernel24.Gen.facts, Cert.Kernel24Ideal.Gen.facts, Cert.Reference24Ideal.Gen.facts,
  Cert.Kernel25.Gen.facts, Cert.Kernel25Ideal.Gen.facts, Cert.Reference25Ideal.Gen.facts, Cert.Kernel26.Gen.facts,
  Cert.Kernel26Ideal.Gen.facts, Cert.Reference26Ideal.Gen.facts, Cert.Kernel27.Gen.facts, Cert.Kernel27Ideal.Gen.facts,
  Cert.Reference27Ideal.Gen.facts, Cert.Kernel28.Gen.facts, Cert.Kernel28Ideal.Gen.facts, Cert.Reference28Ideal.Gen.facts,
  Cert.Kernel29.Gen.facts, Cert.Kernel29Ideal.Gen.facts, Cert.Reference29Ideal.Gen.facts, Cert.Kernel30.Gen.facts,
  Cert.Kernel30Ideal.Gen.facts, Cert.Reference30Ideal.Gen.facts, Cert.Kernel31.Gen.facts, Cert.Kernel31Ideal.Gen.facts,
  Cert.Reference31Ideal.Gen.facts, Cert.Kernel32.Gen.facts, Cert.Kernel32Ideal.Gen.facts, Cert.Reference32Ideal.Gen.facts,
  Cert.Kernel33.Gen.facts, Cert.Kernel33Ideal.Gen.facts, Cert.Reference33Ideal.Gen.facts, Cert.Kernel34.Gen.facts,
  Cert.Kernel34Ideal.Gen.facts, Cert.Reference34Ideal.Gen.facts, Cert.Pre_finite.Gen.facts, Cert.Pre_finite6.Gen.facts,
  frame_kernel, frame_kernelIdeal, fun m ρ _ => frame_kernelIdeal m ρ trivial, frame_referenceIdeal,
  fun m ρ _ => frame_referenceIdeal m ρ trivial, Call2.frame_kernel, Call2.frame_kernelIdeal, Call2.frame_reference,
  Call3.frame_kernel, Call3.frame_kernelIdeal, Call3.frame_reference, Call4.frame_kernel, Call4.frame_kernelIdeal,
  Call4.frame_reference, Call5.frame_kernel, Call5.frame_kernelIdeal, Call5.frame_reference, Call6.frame_kernel,
  Call6.frame_kernelIdeal, fun m ρ _ => Call6.frame_kernelIdeal m ρ trivial, Call6.frame_reference,
  fun m ρ _ => Call6.frame_reference m ρ trivial, Call7.frame_kernel, Call7.frame_kernelIdeal, Call7.frame_reference,
  Call8.frame_kernel, Call8.frame_kernelIdeal, Call8.frame_reference, Call9.frame_kernel, Call9.frame_kernelIdeal,
  Call9.frame_reference, Call10.frame_kernel, Call10.frame_kernelIdeal, Call10.frame_reference, Call11.frame_kernel,
  Call11.frame_kernelIdeal, Call11.frame_reference, Call12.frame_kernel, Call12.frame_kernelIdeal, Call12.frame_reference,
  Call13.frame_kernel, Call13.frame_kernelIdeal, Call13.frame_reference, Call14.frame_kernel, Call14.frame_kernelIdeal,
  Call14.frame_reference, Call15.frame_kernel, Call15.frame_kernelIdeal, Call15.frame_reference, Call16.frame_kernel,
  Call16.frame_kernelIdeal, Call16.frame_reference, Call17.frame_kernel, Call17.frame_kernelIdeal, Call17.frame_reference,
  Call18.frame_kernel, Call18.frame_kernelIdeal, Call18.frame_reference, Call19.frame_kernel, Call19.frame_kernelIdeal,
  Call19.frame_reference, Call20.frame_kernel, Call20.frame_kernelIdeal, Call20.frame_reference, Call21.frame_kernel,
  Call21.frame_kernelIdeal, Call21.frame_reference, Call22.frame_kernel, Call22.frame_kernelIdeal, Call22.frame_reference,
  Call23.frame_kernel, Call23.frame_kernelIdeal, Call23.frame_reference, Call24.frame_kernel, Call24.frame_kernelIdeal,
  Call24.frame_reference, Call25.frame_kernel, Call25.frame_kernelIdeal, Call25.frame_reference, Call26.frame_kernel,
  Call26.frame_kernelIdeal, Call26.frame_reference, Call27.frame_kernel, Call27.frame_kernelIdeal, Call27.frame_reference,
  Call28.frame_kernel, Call28.frame_kernelIdeal, Call28.frame_reference, Call29.frame_kernel, Call29.frame_kernelIdeal,
  Call29.frame_reference, Call30.frame_kernel, Call30.frame_kernelIdeal, Call30.frame_reference, Call31.frame_kernel,
  Call31.frame_kernelIdeal, Call31.frame_reference, Call32.frame_kernel, Call32.frame_kernelIdeal, Call32.frame_reference,
  Call33.frame_kernel, Call33.frame_kernelIdeal, Call33.frame_reference, Call34.frame_kernel, Call34.frame_kernelIdeal,
  Call34.frame_reference, preserves_kernel, algebraic_kernel, Call2.preserves_kernel, Call2.algebraic_kernel,
  Call3.preserves_kernel, Call3.algebraic_kernel, Call4.preserves_kernel, Call4.algebraic_kernel, Call5.preserves_kernel,
  Call5.algebraic_kernel, Call6.preserves_kernel, Call6.algebraic_kernel, Call7.preserves_kernel, Call7.algebraic_kernel,
  Call8.preserves_kernel, Call8.algebraic_kernel, Call9.preserves_kernel, Call9.algebraic_kernel, Call10.preserves_kernel,
  Call10.algebraic_kernel, Call11.preserves_kernel, Call11.algebraic_kernel, Call12.preserves_kernel,
  Call12.algebraic_kernel, Call13.preserves_kernel, Call13.algebraic_kernel, Call14.preserves_kernel,
  Call14.algebraic_kernel, Call15.preserves_kernel, Call15.algebraic_kernel, Call16.preserves_kernel,
  Call16.algebraic_kernel, Call17.preserves_kernel, Call17.algebraic_kernel, Call18.preserves_kernel,
  Call18.algebraic_kernel, Call19.preserves_kernel, Call19.algebraic_kernel, Call20.preserves_kernel,
  Call20.algebraic_kernel, Call21.preserves_kernel, Call21.algebraic_kernel, Call22.preserves_kernel,
  Call22.algebraic_kernel, Call23.preserves_kernel, Call23.algebraic_kernel, Call24.preserves_kernel,
  Call24.algebraic_kernel, Call25.preserves_kernel, Call25.algebraic_kernel, Call26.preserves_kernel,
  Call26.algebraic_kernel, Call27.preserves_kernel, Call27.algebraic_kernel, Call28.preserves_kernel,
  Call28.algebraic_kernel, Call29.preserves_kernel, Call29.algebraic_kernel, Call30.preserves_kernel,
  Call30.algebraic_kernel, Call31.preserves_kernel, Call31.algebraic_kernel, Call32.preserves_kernel,
  Call32.algebraic_kernel, Call33.preserves_kernel, Call33.algebraic_kernel, Call34.preserves_kernel,
  Call34.algebraic_kernel⟩

end Cert.Proof

end
